-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9)
      ∧ r.2.mem ((c.tc : Thread Cert.InBwd.nD Cert.InBwd.τ).loc Cert.InBwd.main_arg10) = m ((c.tc : Thread Cert.InBwd.nD Cert.InBwd.τ).loc Cert.InBwd.main_arg10))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2)
      ∧ r.2.mem ((c.tc : Thread Cert.GradIn.nD Cert.GradIn.τ).loc Cert.GradIn.main_arg3) = m ((c.tc : Thread Cert.GradIn.nD Cert.GradIn.τ).loc Cert.GradIn.main_arg3)
      ∧ r.2.mem ((c.tc : Thread Cert.GradIn.nD Cert.GradIn.τ).loc Cert.GradIn.main_arg4) = m ((c.tc : Thread Cert.GradIn.nD Cert.GradIn.τ).loc Cert.GradIn.main_arg4)
      ∧ r.2.mem ((c.tc : Thread Cert.GradIn.nD Cert.GradIn.τ).loc Cert.GradIn.main_arg5) = m ((c.tc : Thread Cert.GradIn.nD Cert.GradIn.τ).loc Cert.GradIn.main_arg5)
      ∧ r.2.mem ((c.tc : Thread Cert.GradIn.nD Cert.GradIn.τ).loc Cert.GradIn.main_arg6) = m ((c.tc : Thread Cert.GradIn.nD Cert.GradIn.τ).loc Cert.GradIn.main_arg6)
      ∧ r.2.mem ((c.tc : Thread Cert.GradIn.nD Cert.GradIn.τ).loc Cert.GradIn.main_arg7) = m ((c.tc : Thread Cert.GradIn.nD Cert.GradIn.τ).loc Cert.GradIn.main_arg7))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
      ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
      ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4)
      ∧ r.2.mem ((c.tc : Thread Cert.GradInIdeal.nD Cert.GradInIdeal.τ).loc Cert.GradInIdeal.main_arg5) = m ((c.tc : Thread Cert.GradInIdeal.nD Cert.GradInIdeal.τ).loc Cert.GradInIdeal.main_arg5)
      ∧ r.2.mem ((c.tc : Thread Cert.GradInIdeal.nD Cert.GradInIdeal.τ).loc Cert.GradInIdeal.main_arg6) = m ((c.tc : Thread Cert.GradInIdeal.nD Cert.GradInIdeal.τ).loc Cert.GradInIdeal.main_arg6)
      ∧ r.2.mem ((c.tc : Thread Cert.GradInIdeal.nD Cert.GradInIdeal.τ).loc Cert.GradInIdeal.main_arg7) = m ((c.tc : Thread Cert.GradInIdeal.nD Cert.GradInIdeal.τ).loc Cert.GradInIdeal.main_arg7))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1)
      ∧ r.2.mem ((c.tc : Thread Cert.GradInRefIdeal.nD Cert.GradInRefIdeal.τ).loc Cert.GradInRefIdeal.main_arg2) = m ((c.tc : Thread Cert.GradInRefIdeal.nD Cert.GradInRefIdeal.τ).loc Cert.GradInRefIdeal.main_arg2)
      ∧ r.2.mem ((c.tc : Thread Cert.GradInRefIdeal.nD Cert.GradInRefIdeal.τ).loc Cert.GradInRefIdeal.main_arg3) = m ((c.tc : Thread Cert.GradInRefIdeal.nD Cert.GradInRefIdeal.τ).loc Cert.GradInRefIdeal.main_arg3)
      ∧ r.2.mem ((c.tc : Thread Cert.GradInRefIdeal.nD Cert.GradInRefIdeal.τ).loc Cert.GradInRefIdeal.main_arg4) = m ((c.tc : Thread Cert.GradInRefIdeal.nD Cert.GradInRefIdeal.τ).loc Cert.GradInRefIdeal.main_arg4)
      ∧ r.2.mem ((c.tc : Thread Cert.GradInRefIdeal.nD Cert.GradInRefIdeal.τ).loc Cert.GradInRefIdeal.main_arg5) = m ((c.tc : Thread Cert.GradInRefIdeal.nD Cert.GradInRefIdeal.τ).loc Cert.GradInRefIdeal.main_arg5)
      ∧ r.2.mem ((c.tc : Thread Cert.GradInRefIdeal.nD Cert.GradInRefIdeal.τ).loc Cert.GradInRefIdeal.main_arg6) = m ((c.tc : Thread Cert.GradInRefIdeal.nD Cert.GradInRefIdeal.τ).loc Cert.GradInRefIdeal.main_arg6)
      ∧ r.2.mem ((c.tc : Thread Cert.GradInRefIdeal.nD Cert.GradInRefIdeal.τ).loc Cert.GradInRefIdeal.main_arg7) = m ((c.tc : Thread Cert.GradInRefIdeal.nD Cert.GradInRefIdeal.τ).loc Cert.GradInRefIdeal.main_arg7))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_v117) = v4 c
          ∧ r.2.mem ((c.tc : Thread Cert.ReferenceIdeal.nD Cert.ReferenceIdeal.τ).loc Cert.ReferenceIdeal.main_v107) = v5 c
          ∧ r.2.mem ((c.tc : Thread Cert.ReferenceIdeal.nD Cert.ReferenceIdeal.τ).loc Cert.ReferenceIdeal.main_v118) = v6 c
          ∧ r.2.mem ((c.tc : Thread Cert.ReferenceIdeal.nD Cert.ReferenceIdeal.τ).loc Cert.ReferenceIdeal.main_v119) = v7 c
          ∧ r.2.mem ((c.tc : Thread Cert.ReferenceIdeal.nD Cert.ReferenceIdeal.τ).loc Cert.ReferenceIdeal.main_v120) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v7) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v5) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)
      ∧ m' ((c.tc : Thread Cert.InBwdRefIdeal.nD Cert.InBwdRefIdeal.τ).loc Cert.InBwdRefIdeal.main_arg10) = m ((c.tc : Thread Cert.InBwdIdeal.nD Cert.InBwdIdeal.τ).loc Cert.InBwdIdeal.main_arg10)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)) (v2 : (c : Dev Cert.InBwdIdeal.nD) → Buf (Elt Ideal) ((c.tc : Thread Cert.InBwdIdeal.nD Cert.InBwdIdeal.τ).loc Cert.InBwdIdeal.main_v0_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_v0_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
          ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v61) = v0 c
          ∧ r.2.mem ((c.tc : Thread Cert.InBwdRefIdeal.nD Cert.InBwdRefIdeal.τ).loc Cert.InBwdRefIdeal.main_v62) = v1 c
          ∧ r.2.mem ((c.tc : Thread Cert.InBwdRefIdeal.nD Cert.InBwdRefIdeal.τ).loc Cert.InBwdRefIdeal.main_v63) = v2 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9)
          ∧ r.2.mem ((c.tc : Thread Cert.InBwdRefIdeal.nD Cert.InBwdRefIdeal.τ).loc Cert.InBwdRefIdeal.main_arg10) = m' ((c.tc : Thread Cert.InBwdRefIdeal.nD Cert.InBwdRefIdeal.τ).loc Cert.InBwdRefIdeal.main_arg10))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)) →
    ∃ (v0 : (c : Dev Cert.InFwdIdeal.nD) → Buf (Elt Ideal) ((c.tc : Thread Cert.InFwdIdeal.nD Cert.InFwdIdeal.τ).loc Cert.InFwdIdeal.main_v0_0)) (v1 : (c : Dev Cert.InFwdIdeal.nD) → Buf (Elt Ideal) ((c.tc : Thread Cert.InFwdIdeal.nD Cert.InFwdIdeal.τ).loc Cert.InFwdIdeal.main_v0_1)) (v2 : (c : Dev Cert.InFwdIdeal.nD) → Buf (Elt Ideal) ((c.tc : Thread Cert.InFwdIdeal.nD Cert.InFwdIdeal.τ).loc Cert.InFwdIdeal.main_v0_2)) (v3 : (c : Dev Cert.InFwdIdeal.nD) → Buf (Elt Ideal) ((c.tc : Thread Cert.InFwdIdeal.nD Cert.InFwdIdeal.τ).loc Cert.InFwdIdeal.main_v0_3)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0_0) = v0 c
          ∧ r.2.mem ((c.tc : Thread Cert.InFwdIdeal.nD Cert.InFwdIdeal.τ).loc Cert.InFwdIdeal.main_v0_1) = v1 c
          ∧ r.2.mem ((c.tc : Thread Cert.InFwdIdeal.nD Cert.InFwdIdeal.τ).loc Cert.InFwdIdeal.main_v0_2) = v2 c
          ∧ r.2.mem ((c.tc : Thread Cert.InFwdIdeal.nD Cert.InFwdIdeal.τ).loc Cert.InFwdIdeal.main_v0_3) = v3 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v24) = v0 c
          ∧ r.2.mem ((c.tc : Thread Cert.InFwdRefIdeal.nD Cert.InFwdRefIdeal.τ).loc Cert.InFwdRefIdeal.main_v25) = v1 c
          ∧ r.2.mem ((c.tc : Thread Cert.InFwdRefIdeal.nD Cert.InFwdRefIdeal.τ).loc Cert.InFwdRefIdeal.main_v26) = v2 c
          ∧ r.2.mem ((c.tc : Thread Cert.InFwdRefIdeal.nD Cert.InFwdRefIdeal.τ).loc Cert.InFwdRefIdeal.main_v27) = v3 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)) →
    ∃ (v0 : (c : Dev Cert.MixFwdIdeal.nD) → Buf (Elt Ideal) ((c.tc : Thread Cert.MixFwdIdeal.nD Cert.MixFwdIdeal.τ).loc Cert.MixFwdIdeal.main_v0)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v53) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)
      ∧ m' ((c.tc : Thread Cert.GradInRefIdeal.nD Cert.GradInRefIdeal.τ).loc Cert.GradInRefIdeal.main_arg2) = m ((c.tc : Thread Cert.GradInIdeal.nD Cert.GradInIdeal.τ).loc Cert.GradInIdeal.main_arg2)
      ∧ m' ((c.tc : Thread Cert.GradInRefIdeal.nD Cert.GradInRefIdeal.τ).loc Cert.GradInRefIdeal.main_arg3) = m ((c.tc : Thread Cert.GradInIdeal.nD Cert.GradInIdeal.τ).loc Cert.GradInIdeal.main_arg3)
      ∧ m' ((c.tc : Thread Cert.GradInRefIdeal.nD Cert.GradInRefIdeal.τ).loc Cert.GradInRefIdeal.main_arg4) = m ((c.tc : Thread Cert.GradInIdeal.nD Cert.GradInIdeal.τ).loc Cert.GradInIdeal.main_arg4)
      ∧ m' ((c.tc : Thread Cert.GradInRefIdeal.nD Cert.GradInRefIdeal.τ).loc Cert.GradInRefIdeal.main_arg5) = m ((c.tc : Thread Cert.GradInIdeal.nD Cert.GradInIdeal.τ).loc Cert.GradInIdeal.main_arg5)
      ∧ m' ((c.tc : Thread Cert.GradInRefIdeal.nD Cert.GradInRefIdeal.τ).loc Cert.GradInRefIdeal.main_arg6) = m ((c.tc : Thread Cert.GradInIdeal.nD Cert.GradInIdeal.τ).loc Cert.GradInIdeal.main_arg6)
      ∧ m' ((c.tc : Thread Cert.GradInRefIdeal.nD Cert.GradInRefIdeal.τ).loc Cert.GradInRefIdeal.main_arg7) = m ((c.tc : Thread Cert.GradInIdeal.nD Cert.GradInIdeal.τ).loc Cert.GradInIdeal.main_arg7)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
          ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
          ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4)
          ∧ r.2.mem ((c.tc : Thread Cert.GradInIdeal.nD Cert.GradInIdeal.τ).loc Cert.GradInIdeal.main_arg5) = m ((c.tc : Thread Cert.GradInIdeal.nD Cert.GradInIdeal.τ).loc Cert.GradInIdeal.main_arg5)
          ∧ r.2.mem ((c.tc : Thread Cert.GradInIdeal.nD Cert.GradInIdeal.τ).loc Cert.GradInIdeal.main_arg6) = m ((c.tc : Thread Cert.GradInIdeal.nD Cert.GradInIdeal.τ).loc Cert.GradInIdeal.main_arg6)
          ∧ r.2.mem ((c.tc : Thread Cert.GradInIdeal.nD Cert.GradInIdeal.τ).loc Cert.GradInIdeal.main_arg7) = m ((c.tc : Thread Cert.GradInIdeal.nD Cert.GradInIdeal.τ).loc Cert.GradInIdeal.main_arg7))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v19) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1)
          ∧ r.2.mem ((c.tc : Thread Cert.GradInRefIdeal.nD Cert.GradInRefIdeal.τ).loc Cert.GradInRefIdeal.main_arg2) = m' ((c.tc : Thread Cert.GradInRefIdeal.nD Cert.GradInRefIdeal.τ).loc Cert.GradInRefIdeal.main_arg2)
          ∧ r.2.mem ((c.tc : Thread Cert.GradInRefIdeal.nD Cert.GradInRefIdeal.τ).loc Cert.GradInRefIdeal.main_arg3) = m' ((c.tc : Thread Cert.GradInRefIdeal.nD Cert.GradInRefIdeal.τ).loc Cert.GradInRefIdeal.main_arg3)
          ∧ r.2.mem ((c.tc : Thread Cert.GradInRefIdeal.nD Cert.GradInRefIdeal.τ).loc Cert.GradInRefIdeal.main_arg4) = m' ((c.tc : Thread Cert.GradInRefIdeal.nD Cert.GradInRefIdeal.τ).loc Cert.GradInRefIdeal.main_arg4)
          ∧ r.2.mem ((c.tc : Thread Cert.GradInRefIdeal.nD Cert.GradInRefIdeal.τ).loc Cert.GradInRefIdeal.main_arg5) = m' ((c.tc : Thread Cert.GradInRefIdeal.nD Cert.GradInRefIdeal.τ).loc Cert.GradInRefIdeal.main_arg5)
          ∧ r.2.mem ((c.tc : Thread Cert.GradInRefIdeal.nD Cert.GradInRefIdeal.τ).loc Cert.GradInRefIdeal.main_arg6) = m' ((c.tc : Thread Cert.GradInRefIdeal.nD Cert.GradInRefIdeal.τ).loc Cert.GradInRefIdeal.main_arg6)
          ∧ r.2.mem ((c.tc : Thread Cert.GradInRefIdeal.nD Cert.GradInRefIdeal.τ).loc Cert.GradInRefIdeal.main_arg7) = m' ((c.tc : Thread Cert.GradInRefIdeal.nD Cert.GradInRefIdeal.τ).loc Cert.GradInRefIdeal.main_arg7))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v18) = v0 c
          ∧ r.2.mem ((c.tc : Thread Cert.FfnUpRefIdeal.nD Cert.FfnUpRefIdeal.τ).loc Cert.FfnUpRefIdeal.main_v19) = v1 c
          ∧ r.2.mem ((c.tc : Thread Cert.FfnUpRefIdeal.nD Cert.FfnUpRefIdeal.τ).loc Cert.FfnUpRefIdeal.main_v42) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5))

def Claim : Prop :=
  ∃ (hKernel : Cert.Kernel.Facts) (hKernelIdeal : Cert.KernelIdeal.Facts) (hReferenceIdeal : Cert.ReferenceIdeal.Facts) (hGradUp : Cert.GradUp.Facts) (hGradUpIdeal : Cert.GradUpIdeal.Facts) (hGradUpRefIdeal : Cert.GradUpRefIdeal.Facts) (hGradDown : Cert.GradDown.Facts) (hGradDownIdeal : Cert.GradDownIdeal.Facts) (hGradDownRefIdeal : Cert.GradDownRefIdeal.Facts) (hInBwd : Cert.InBwd.Facts) (hInBwdIdeal : Cert.InBwdIdeal.Facts) (hInBwdRefIdeal : Cert.InBwdRefIdeal.Facts) (hInFwd : Cert.InFwd.Facts) (hInFwdIdeal : Cert.InFwdIdeal.Facts) (hInFwdRefIdeal : Cert.InFwdRefIdeal.Facts) (hMixFwd : Cert.MixFwd.Facts) (hMixFwdIdeal : Cert.MixFwdIdeal.Facts) (hMixFwdRefIdeal : Cert.MixFwdRefIdeal.Facts) (hGradIn : Cert.GradIn.Facts) (hGradInIdeal : Cert.GradInIdeal.Facts) (hGradInRefIdeal : Cert.GradInRefIdeal.Facts) (hFfnUp : Cert.FfnUp.Facts) (hFfnUpIdeal : Cert.FfnUpIdeal.Facts) (hFfnUpRefIdeal : Cert.FfnUpRefIdeal.Facts),
    quiescent_Kernel (hKernel := hKernel)
    ∧ quiescent_KernelIdeal (hKernelIdeal := hKernelIdeal)
    ∧ quiescent_ReferenceIdeal (hReferenceIdeal := hReferenceIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ preserves_Kernel_KernelIdeal
    ∧ algebraic_KernelIdeal_ReferenceIdeal (hKernelIdeal := hKernelIdeal) (hReferenceIdeal := hReferenceIdeal)
    ∧ preserves_GradUp_GradUpIdeal
    ∧ algebraic_GradUpIdeal_GradUpRefIdeal (hGradUpIdeal := hGradUpIdeal) (hGradUpRefIdeal := hGradUpRefIdeal)
    ∧ preserves_GradDown_GradDownIdeal
    ∧ algebraic_GradDownIdeal_GradDownRefIdeal (hGradDownIdeal := hGradDownIdeal) (hGradDownRefIdeal := hGradDownRefIdeal)
    ∧ preserves_InBwd_InBwdIdeal
    ∧ algebraic_InBwdIdeal_InBwdRefIdeal (hInBwdIdeal := hInBwdIdeal) (hInBwdRefIdeal := hInBwdRefIdeal)
    ∧ preserves_InFwd_InFwdIdeal
    ∧ algebraic_InFwdIdeal_InFwdRefIdeal (hInFwdIdeal := hInFwdIdeal) (hInFwdRefIdeal := hInFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_GradIn_GradInIdeal
    ∧ algebraic_GradInIdeal_GradInRefIdeal (hGradInIdeal := hGradInIdeal) (hGradInRefIdeal := hGradInRefIdeal)
    ∧ preserves_FfnUp_FfnUpIdeal
    ∧ algebraic_FfnUpIdeal_FfnUpRefIdeal (hFfnUpIdeal := hFfnUpIdeal) (hFfnUpRefIdeal := hFfnUpRefIdeal)
-- ==== Kernel.lean ====
abbrev S4096x1024 : Shape := ⟨2, ![4096, 1024]⟩
abbrev S1024x1024 : Shape := ⟨2, ![1024, 1024]⟩
abbrev S4096x2048 : Shape := ⟨2, ![4096, 2048]⟩
abbrev S4096x512 : Shape := ⟨2, ![4096, 512]⟩
abbrev S512x1024 : Shape := ⟨2, ![512, 1024]⟩
abbrev S4096x1536 : Shape := ⟨2, ![4096, 1536]⟩
abbrev S3x512 : Shape := ⟨2, ![3, 512]⟩
abbrev S256x1024 : Shape := ⟨2, ![256, 1024]⟩
abbrev S256x2048 : Shape := ⟨2, ![256, 2048]⟩
abbrev S256x512 : Shape := ⟨2, ![256, 512]⟩
abbrev S256x1536 : Shape := ⟨2, ![256, 1536]⟩
abbrev S16x1536 : Shape := ⟨2, ![16, 1536]⟩
abbrev S16x512 : Shape := ⟨2, ![16, 512]⟩
abbrev S272x512 : Shape := ⟨2, ![272, 512]⟩
abbrev S1x512 : Shape := ⟨2, ![1, 512]⟩
abbrev S512 : Shape := ⟨1, ![512]⟩

abbrev nBuf : Space → Nat
  | .hbm => 17
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x2048, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S4096x1536, .bf16⟩
  | .hbm, ⟨7, _⟩ => ⟨S3x512, .f32⟩
  | .hbm, ⟨8, _⟩ => ⟨S4096x2048, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S3x512, .f32⟩
  | .hbm, ⟨14, _⟩ => ⟨S1024x1024, .bf16⟩
  | .hbm, ⟨15, _⟩ => ⟨S512x1024, .bf16⟩
  | .hbm, ⟨16, _⟩ => ⟨S512x1024, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x2048, .bf16⟩
  | .local _ .vmem, ⟨4, _⟩ => ⟨S256x2048, .bf16⟩
  | .local _ .vmem, ⟨5, _⟩ => ⟨S256x512, .bf16⟩
  | .local _ .vmem, ⟨6, _⟩ => ⟨S256x512, .bf16⟩
  | .local _ .vmem, ⟨7, _⟩ => ⟨S512x1024, .bf16⟩
  | .local _ .vmem, ⟨8, _⟩ => ⟨S512x1024, .bf16⟩
  | .local _ .vmem, ⟨9, _⟩ => ⟨S256x1536, .bf16⟩
  | .local _ .vmem, ⟨10, _⟩ => ⟨S256x1536, .bf16⟩
  | .local _ .vmem, ⟨11, _⟩ => ⟨S16x1536, .bf16⟩
  | .local _ .vmem, ⟨12, _⟩ => ⟨S16x1536, .bf16⟩
  | .local _ .vmem, ⟨13, _⟩ => ⟨S3x512, .f32⟩
  | .local _ .vmem, ⟨14, _⟩ => ⟨S256x2048, .bf16⟩
  | .local _ .vmem, ⟨15, _⟩ => ⟨S256x2048, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S3x512, .f32⟩
  | .local _ .vmem, ⟨25, _⟩ => ⟨S1024x1024, .bf16⟩
  | .local _ .vmem, ⟨26, _⟩ => ⟨S512x1024, .bf16⟩
  | .local _ .vmem, ⟨27, _⟩ => ⟨S512x1024, .bf16⟩
  | .local _ .vmem, ⟨28, _⟩ => ⟨S1024x1024, .f32⟩
  | .local _ .vmem, ⟨29, _⟩ => ⟨S512x1024, .f32⟩
  | .local _ .vmem, ⟨30, _⟩ => ⟨S512x1024, .f32⟩
  | .local _ .vmem, ⟨31, _⟩ => ⟨S16x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_95 : BitVec 32 := 15#32
  let v161 : BitVec 1 := Scalar.cmpi .eq arg0 c15_i32_95
  let v162 : BitVec 32 := Scalar.extui v161
  let c0_i32_96 : BitVec 32 := 0#32
  let v163 : BitVec 1 := Scalar.cmpi .ne v162 c0_i32_96
  v163

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4096x1024 : Shape := ⟨2, ![4096, 1024]⟩
abbrev S1024x1024 : Shape := ⟨2, ![1024, 1024]⟩
abbrev S4096x2048 : Shape := ⟨2, ![4096, 2048]⟩
abbrev S4096x512 : Shape := ⟨2, ![4096, 512]⟩
abbrev S512x1024 : Shape := ⟨2, ![512, 1024]⟩
abbrev S4096x1536 : Shape := ⟨2, ![4096, 1536]⟩
abbrev S3x512 : Shape := ⟨2, ![3, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S1024x512 : Shape := ⟨2, ![1024, 512]⟩

abbrev nBuf : Space → Nat
  | .hbm => 149
  | .vmem => 0
  | .smem => 0
  | _ => 0

abbrev hbmTy0_0 (i : Nat) : BufTy := match i % 128 with
  | 0 => ⟨S4096x1024, .f32⟩
  | 1 => ⟨S1024x1024, .bf16⟩
  | 2 => ⟨S4096x2048, .bf16⟩
  | 3 => ⟨S4096x512, .bf16⟩
  | 4 => ⟨S512x1024, .bf16⟩
  | 5 => ⟨S512x1024, .bf16⟩
  | 6 => ⟨S4096x1536, .bf16⟩
  | 7 => ⟨S3x512, .f32⟩
  | 8 => ⟨S4096x1536, .f32⟩
  | 9 => ⟨S4096x512, .f32⟩
  | 10 => ⟨S4096x512, .f32⟩
  | 11 => ⟨S4096x512, .f32⟩
  | 12 => ⟨S4096x2048, .f32⟩
  | 13 => ⟨S4096x512, .f32⟩
  | 14 => ⟨S1024x1024, .f32⟩
  | 15 => ⟨S512x1024, .f32⟩
  | 16 => ⟨S512x1024, .f32⟩
  | 17 => ⟨S4096x1024, .f32⟩
  | 18 => ⟨S4096x1024, .f32⟩
  | 19 => ⟨S4096x512, .f32⟩
  | 20 => ⟨S_, .f32⟩
  | 21 => ⟨S2x512, .f32⟩
  | 22 => ⟨S4098x512, .f32⟩
  | 23 => ⟨S_, .f32⟩
  | 24 => ⟨S2x512, .f32⟩
  | 25 => ⟨S1x512, .f32⟩
  | 26 => ⟨S512, .f32⟩
  | 27 => ⟨S4096x512, .f32⟩
  | 28 => ⟨S1x512, .f32⟩
  | 29 => ⟨S4096x512, .f32⟩
  | 30 => ⟨S4096x512, .f32⟩
  | 31 => ⟨S1x512, .f32⟩
  | 32 => ⟨S512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S4096x512, .f32⟩
  | 41 => ⟨S1x512, .f32⟩
  | 42 => ⟨S4096x512, .f32⟩
  | 43 => ⟨S4096x512, .f32⟩
  | 44 => ⟨S4096x512, .f32⟩
  | 45 => ⟨S4096x512, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S1024x1024, .f32⟩
  | 77 => ⟨S1024x1024, .f32⟩
  | 78 => ⟨S4096x1024, .f32⟩
  | 79 => ⟨S4096x1024, .f32⟩
  | 80 => ⟨S4096x1024, .f32⟩
  | 81 => ⟨S1024x512, .f32⟩
  | 82 => ⟨S512x1024, .f32⟩
  | 83 => ⟨S4096x512, .f32⟩
  | 84 => ⟨S4096x1024, .f32⟩
  | 85 => ⟨S4096x1024, .f32⟩
  | 86 => ⟨S4096x1024, .f32⟩
  | 87 => ⟨S1024x512, .f32⟩
  | 88 => ⟨S512x1024, .f32⟩
  | 89 => ⟨S4096x512, .f32⟩
  | 90 => ⟨S4096x1024, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S_, .f32⟩
  | 97 => ⟨S512, .f32⟩
  | 98 => ⟨S1x512, .f32⟩
  | 99 => ⟨S_, .f32⟩
  | 100 => ⟨S512, .f32⟩
  | 101 => ⟨S_, .f32⟩
  | 102 => ⟨S4098x512, .f32⟩
  | 103 => ⟨S1x512, .f32⟩
  | 104 => ⟨S_, .f32⟩
  | 105 => ⟨S3x512, .f32⟩
  | 106 => ⟨S4096x512, .f32⟩
  | 107 => ⟨S4096x512, .f32⟩
  | 108 => ⟨S4096x512, .f32⟩
  | 109 => ⟨S_, .f32⟩
  | 110 => ⟨S512, .f32⟩
  | 111 => ⟨S1x512, .f32⟩
  | 112 => ⟨S_, .f32⟩
  | 113 => ⟨S512, .f32⟩
  | 114 => ⟨S_, .f32⟩
  | 115 => ⟨S4098x512, .f32⟩
  | 116 => ⟨S4098x512, .f32⟩
  | 117 => ⟨S1x512, .f32⟩
  | 118 => ⟨S_, .f32⟩
  | 119 => ⟨S3x512, .f32⟩
  | 120 => ⟨S3x512, .f32⟩
  | 121 => ⟨S4096x512, .f32⟩
  | 122 => ⟨S4096x512, .f32⟩
  | 123 => ⟨S4096x512, .f32⟩
  | 124 => ⟨S_, .f32⟩
  | 125 => ⟨S512, .f32⟩
  | 126 => ⟨S1x512, .f32⟩
  | 127 => ⟨S_, .f32⟩
  | _ => ⟨S4096x1024, .f32⟩

abbrev hbmTy0_1 (i : Nat) : BufTy := match i % 128 with
  | 0 => ⟨S512, .f32⟩
  | 1 => ⟨S_, .f32⟩
  | 2 => ⟨S4098x512, .f32⟩
  | 3 => ⟨S4098x512, .f32⟩
  | 4 => ⟨S1x512, .f32⟩
  | 5 => ⟨S_, .f32⟩
  | 6 => ⟨S3x512, .f32⟩
  | 7 => ⟨S3x512, .f32⟩
  | 8 => ⟨S2x512, .f32⟩
  | 9 => ⟨S4096x512, .f32⟩
  | 10 => ⟨S4096x512, .f32⟩
  | 11 => ⟨S4096x512, .f32⟩
  | 12 => ⟨S4096x2048, .f32⟩
  | 13 => ⟨S4096x2048, .bf16⟩
  | 14 => ⟨S4096x512, .bf16⟩
  | 15 => ⟨S4096x512, .bf16⟩
  | 16 => ⟨S4096x512, .bf16⟩
  | 17 => ⟨S4096x512, .bf16⟩
  | 18 => ⟨S1024x1024, .bf16⟩
  | 19 => ⟨S512x1024, .bf16⟩
  | 20 => ⟨S512x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_7 : Ref sig .tc := ⟨.hbm, 96, rfl⟩
abbrev main_v80 : Ref sig .tc := ⟨.hbm, 97, rfl⟩
abbrev main_v81 : Ref sig .tc := ⟨.hbm, 98, rfl⟩
abbrev main_cst_8 : Ref sig .tc := ⟨.hbm, 99, rfl⟩
abbrev main_v82 : Ref sig .tc := ⟨.hbm, 100, rfl⟩
abbrev main_cst_9 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_11 : Ref sig .tc := ⟨.hbm, 109, rfl⟩
abbrev main_v89 : Ref sig .tc := ⟨.hbm, 110, rfl⟩
abbrev main_v90 : Ref sig .tc := ⟨.hbm, 111, rfl⟩
abbrev main_cst_12 : Ref sig .tc := ⟨.hbm, 112, rfl⟩
abbrev main_v91 : Ref sig .tc := ⟨.hbm, 113, rfl⟩
abbrev main_cst_13 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_14 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_15 : Ref sig .tc := ⟨.hbm, 124, rfl⟩
abbrev main_v100 : Ref sig .tc := ⟨.hbm, 125, rfl⟩
abbrev main_v101 : Ref sig .tc := ⟨.hbm, 126, rfl⟩
abbrev main_cst_16 : Ref sig .tc := ⟨.hbm, 127, rfl⟩
abbrev main_v102 : Ref sig .tc := ⟨.hbm, 128, rfl⟩
abbrev main_cst_17 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_18 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩

abbrev nD : Nat := 1
abbrev τ : Topo := Topo.v7x

variable {F : FTy → Type} [FloatOps F]
-- ==== GradUp.lean ====
abbrev S4096x5632 : Shape := ⟨2, ![4096, 5632]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradUpRefIdeal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InBwd.lean ====
abbrev S4096x512 : Shape := ⟨2, ![4096, 512]⟩
abbrev S4096x128 : Shape := ⟨2, ![4096, 128]⟩
abbrev S4096x2048 : Shape := ⟨2, ![4096, 2048]⟩
abbrev S4352x1024 : Shape := ⟨2, ![4352, 1024]⟩
abbrev S4096x1024 : Shape := ⟨2, ![4096, 1024]⟩
abbrev S1x1024 : Shape := ⟨2, ![1, 1024]⟩
abbrev S8x4352 : Shape := ⟨2, ![8, 4352]⟩
abbrev S8x1024 : Shape := ⟨2, ![8, 1024]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S8x512 : Shape := ⟨2, ![8, 512]⟩
abbrev S512 : Shape := ⟨1, ![512]⟩
abbrev S1x512 : Shape := ⟨2, ![1, 512]⟩
abbrev S8x128 : Shape := ⟨2, ![8, 128]⟩
abbrev S128 : Shape := ⟨1, ![128]⟩
abbrev S1x128 : Shape := ⟨2, ![1, 128]⟩
abbrev S128x1024 : Shape := ⟨2, ![128, 1024]⟩
abbrev S8x2048 : Shape := ⟨2, ![8, 2048]⟩
abbrev S2048 : Shape := ⟨1, ![2048]⟩
abbrev S1x2048 : Shape := ⟨2, ![1, 2048]⟩
abbrev S2048x1024 : Shape := ⟨2, ![2048, 1024]⟩
abbrev S512x1 : Shape := ⟨2, ![512, 1]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S4096x512, .bf16⟩
  | .hbm, ⟨1, _⟩ => ⟨S4096x128, .f32⟩
  | .hbm, ⟨2, _⟩ => ⟨S4096x128, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x2048, .bf16⟩
  | .hbm, ⟨7, _⟩ => ⟨S4352x1024, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S8x4352, .f32⟩
  | .hbm, ⟨13, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | .local _ .vmem, ⟨14, _⟩ => ⟨S4352x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S8x4352, .f32⟩
  | .local _ .vmem, ⟨23, _⟩ => ⟨S8x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x4352 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InBwdRefIdeal.lean ====
abbrev S4096x512 : Shape := ⟨2, ![4096, 512]⟩
abbrev S4096x128 : Shape := ⟨2, ![4096, 128]⟩
abbrev S4096x2048 : Shape := ⟨2, ![4096, 2048]⟩
abbrev S4352x1024 : Shape := ⟨2, ![4352, 1024]⟩
abbrev S4096x1024 : Shape := ⟨2, ![4096, 1024]⟩
abbrev S1x1024 : Shape := ⟨2, ![1, 1024]⟩
abbrev S1024x4352 : Shape := ⟨2, ![1024, 4352]⟩
abbrev S1024 : Shape := ⟨1, ![1024]⟩
abbrev S_ : Shape := ⟨0, ![]⟩
abbrev S4352 : Shape := ⟨1, ![4352]⟩
abbrev S4096 : Shape := ⟨1, ![4096]⟩
abbrev S4096x1 : Shape := ⟨2, ![4096, 1]⟩
abbrev S4096x4352 : Shape := ⟨2, ![4096, 4352]⟩
abbrev S1x4352 : Shape := ⟨2, ![1, 4352]⟩
abbrev S8x4352 : Shape := ⟨2, ![8, 4352]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x128, .f32⟩
  | .hbm, ⟨2, _⟩ => ⟨S4096x128, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x2048, .bf16⟩
  | .hbm, ⟨7, _⟩ => ⟨S4352x1024, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x2048, .f32⟩
  | .hbm, ⟨16, _⟩ => ⟨S4352x1024, .f32⟩
  | .hbm, ⟨17, _⟩ => ⟨S1024x4352, .f32⟩
  | .hbm, ⟨18, _⟩ => ⟨S1024, .f32⟩
  | .hbm, ⟨19, _⟩ => ⟨S_, .f32⟩
  | .hbm, ⟨20, _⟩ => ⟨S4352, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x4352, .f32⟩
  | .hbm, ⟨42, _⟩ => ⟨S1x4352, .f32⟩
  | .hbm, ⟨43, _⟩ => ⟨S4096x4352, .f32⟩
  | .hbm, ⟨44, _⟩ => ⟨S4096x4352, .f32⟩
  | .hbm, ⟨45, _⟩ => ⟨S4096x512, .f32⟩
  | .hbm, ⟨46, _⟩ => ⟨S4096x128, .f32⟩
  | .hbm, ⟨47, _⟩ => ⟨S4096x128, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x2048, .f32⟩
  | .hbm, ⟨52, _⟩ => ⟨S4096x4352, .f32⟩
  | .hbm, ⟨53, _⟩ => ⟨S_, .f32⟩
  | .hbm, ⟨54, _⟩ => ⟨S4352, .f32⟩
  | .hbm, ⟨55, _⟩ => ⟨S1x4352, .f32⟩
  | .hbm, ⟨56, _⟩ => ⟨S_, .f32⟩
  | .hbm, ⟨57, _⟩ => ⟨S4352, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S8x4352, .f32⟩
  | .hbm, ⟨86, _⟩ => ⟨S8x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== InFwd.lean ====
abbrev S4096x1024 : Shape := ⟨2, ![4096, 1024]⟩
abbrev S1x1024 : Shape := ⟨2, ![1, 1024]⟩
abbrev S4352x1024 : Shape := ⟨2, ![4352, 1024]⟩
abbrev S1x4352 : Shape := ⟨2, ![1, 4352]⟩
abbrev S4096x768 : Shape := ⟨2, ![4096, 768]⟩
abbrev S4096x1536 : Shape := ⟨2, ![4096, 1536]⟩
abbrev S4096x2048 : Shape := ⟨2, ![4096, 2048]⟩
abbrev S512x1024 : Shape := ⟨2, ![512, 1024]⟩
abbrev S512x768 : Shape := ⟨2, ![512, 768]⟩
abbrev S512x1536 : Shape := ⟨2, ![512, 1536]⟩
abbrev S512x2048 : Shape := ⟨2, ![512, 2048]⟩
abbrev S512 : Shape := ⟨1, ![512]⟩
abbrev S512x1 : Shape := ⟨2, ![512, 1]⟩
abbrev S768x1024 : Shape := ⟨2, ![768, 1024]⟩
abbrev S1x768 : Shape := ⟨2, ![1, 768]⟩
abbrev S1536x1024 : Shape := ⟨2, ![1536, 1024]⟩
abbrev S1x1536 : Shape := ⟨2, ![1, 1536]⟩
abbrev S2048x1024 : Shape := ⟨2, ![2048, 1024]⟩
abbrev S1x2048 : Shape := ⟨2, ![1, 2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4352x1024, .bf16⟩
  | .hbm, ⟨3, _⟩ => ⟨S1x4352, .f32⟩
  | .hbm, ⟨4, _⟩ => ⟨S4096x1024, .bf16⟩
  | .hbm, ⟨5, _⟩ => ⟨S4096x768, .bf16⟩
  | .hbm, ⟨6, _⟩ => ⟨S4096x1536, .bf16⟩
  | .hbm, ⟨7, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S1x4352, .f32⟩
  | .local _ .vmem, ⟨5, _⟩ => ⟨S512x1024, .bf16⟩
  | .local _ .vmem, ⟨6, _⟩ => ⟨S512x1024, .bf16⟩
  | .local _ .vmem, ⟨7, _⟩ => ⟨S512x768, .bf16⟩
  | .local _ .vmem, ⟨8, _⟩ => ⟨S512x768, .bf16⟩
  | .local _ .vmem, ⟨9, _⟩ => ⟨S512x1536, .bf16⟩
  | .local _ .vmem, ⟨10, _⟩ => ⟨S512x1536, .bf16⟩
  | .local _ .vmem, ⟨11, _⟩ => ⟨S512x2048, .bf16⟩
  | .local _ .vmem, ⟨12, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InFwdRefIdeal.lean ====
abbrev S4096x1024 : Shape := ⟨2, ![4096, 1024]⟩
abbrev S1x1024 : Shape := ⟨2, ![1, 1024]⟩
abbrev S4352x1024 : Shape := ⟨2, ![4352, 1024]⟩
abbrev S1x4352 : Shape := ⟨2, ![1, 4352]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4352 : Shape := ⟨2, ![1024, 4352]⟩
abbrev S4096x4352 : Shape := ⟨2, ![4096, 4352]⟩
abbrev S4352 : Shape := ⟨1, ![4352]⟩
abbrev S4096x768 : Shape := ⟨2, ![4096, 768]⟩
abbrev S4096x1536 : Shape := ⟨2, ![4096, 1536]⟩
abbrev S4096x2048 : Shape := ⟨2, ![4096, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4352x1024, .bf16⟩
  | .hbm, ⟨3, _⟩ => ⟨S1x4352, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4352x1024, .f32⟩
  | .hbm, ⟨22, _⟩ => ⟨S1024x4352, .f32⟩
  | .hbm, ⟨23, _⟩ => ⟨S4096x4352, .f32⟩
  | .hbm, ⟨24, _⟩ => ⟨S4352, .f32⟩
  | .hbm, ⟨25, _⟩ => ⟨S1x4352, .f32⟩
  | .hbm, ⟨26, _⟩ => ⟨S4096x4352, .f32⟩
  | .hbm, ⟨27, _⟩ => ⟨S4096x4352, .f32⟩
  | .hbm, ⟨28, _⟩ => ⟨S4096x768, .f32⟩
  | .hbm, ⟨29, _⟩ => ⟨S4096x1536, .f32⟩
  | .hbm, ⟨30, _⟩ => ⟨S4096x2048, .f32⟩
  | .hbm, ⟨31, _⟩ => ⟨S4096x1024, .bf16⟩
  | .hbm, ⟨32, _⟩ => ⟨S4096x768, .bf16⟩
  | .hbm, ⟨33, _⟩ => ⟨S4096x1536, .bf16⟩
  | .hbm, ⟨34, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== MixFwd.lean ====
abbrev S4096x1024 : Shape := ⟨2, ![4096, 1024]⟩
abbrev S4096x1536 : Shape := ⟨2, ![4096, 1536]⟩
abbrev S4096x2048 : Shape := ⟨2, ![4096, 2048]⟩
abbrev S4096x512 : Shape := ⟨2, ![4096, 512]⟩
abbrev S3x512 : Shape := ⟨2, ![3, 512]⟩
abbrev S512x1024 : Shape := ⟨2, ![512, 1024]⟩
abbrev S1024x1024 : Shape := ⟨2, ![1024, 1024]⟩
abbrev S256x1024 : Shape := ⟨2, ![256, 1024]⟩
abbrev S256x1536 : Shape := ⟨2, ![256, 1536]⟩
abbrev S16x1536 : Shape := ⟨2, ![16, 1536]⟩
abbrev S256x2048 : Shape := ⟨2, ![256, 2048]⟩
abbrev S256x512 : Shape := ⟨2, ![256, 512]⟩
abbrev S16x512 : Shape := ⟨2, ![16, 512]⟩
abbrev S272x512 : Shape := ⟨2, ![272, 512]⟩
abbrev S1x512 : Shape := ⟨2, ![1, 512]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1536, .bf16⟩
  | .hbm, ⟨2, _⟩ => ⟨S4096x2048, .bf16⟩
  | .hbm, ⟨3, _⟩ => ⟨S4096x512, .bf16⟩
  | .hbm, ⟨4, _⟩ => ⟨S3x512, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1536, .bf16⟩
  | .local _ .vmem, ⟨3, _⟩ => ⟨S256x1536, .bf16⟩
  | .local _ .vmem, ⟨4, _⟩ => ⟨S16x1536, .bf16⟩
  | .local _ .vmem, ⟨5, _⟩ => ⟨S16x1536, .bf16⟩
  | .local _ .vmem, ⟨6, _⟩ => ⟨S256x2048, .bf16⟩
  | .local _ .vmem, ⟨7, _⟩ => ⟨S256x2048, .bf16⟩
  | .local _ .vmem, ⟨8, _⟩ => ⟨S256x512, .bf16⟩
  | .local _ .vmem, ⟨9, _⟩ => ⟨S256x512, .bf16⟩
  | .local _ .vmem, ⟨10, _⟩ => ⟨S3x512, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixFwdRefIdeal.lean ====
abbrev S4096x1024 : Shape := ⟨2, ![4096, 1024]⟩
abbrev S4096x1536 : Shape := ⟨2, ![4096, 1536]⟩
abbrev S4096x2048 : Shape := ⟨2, ![4096, 2048]⟩
abbrev S4096x512 : Shape := ⟨2, ![4096, 512]⟩
abbrev S3x512 : Shape := ⟨2, ![3, 512]⟩
abbrev S512x1024 : Shape := ⟨2, ![512, 1024]⟩
abbrev S1024x1024 : Shape := ⟨2, ![1024, 1024]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .bf16⟩
  | .hbm, ⟨2, _⟩ => ⟨S4096x2048, .bf16⟩
  | .hbm, ⟨3, _⟩ => ⟨S4096x512, .bf16⟩
  | .hbm, ⟨4, _⟩ => ⟨S3x512, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x1536, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x2048, .f32⟩
  | .hbm, ⟨13, _⟩ => ⟨S4096x512, .f32⟩
  | .hbm, ⟨14, _⟩ => ⟨S1024x1024, .f32⟩
  | .hbm, ⟨15, _⟩ => ⟨S512x1024, .f32⟩
  | .hbm, ⟨16, _⟩ => ⟨S512x1024, .f32⟩
  | .hbm, ⟨17, _⟩ => ⟨S4096x1024, .f32⟩
  | .hbm, ⟨18, _⟩ => ⟨S4096x1024, .f32⟩
  | .hbm, ⟨19, _⟩ => ⟨S4096x512, .f32⟩
  | .hbm, ⟨20, _⟩ => ⟨S_, .f32⟩
  | .hbm, ⟨21, _⟩ => ⟨S2x512, .f32⟩
  | .hbm, ⟨22, _⟩ => ⟨S4098x512, .f32⟩
  | .hbm, ⟨23, _⟩ => ⟨S1x512, .f32⟩
  | .hbm, ⟨24, _⟩ => ⟨S512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S1x512, .f32⟩
  | .hbm, ⟨30, _⟩ => ⟨S512, .f32⟩
  | .hbm, ⟨31, _⟩ => ⟨S4096x512, .f32⟩
  | .hbm, ⟨32, _⟩ => ⟨S1x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S1x512, .f32⟩
  | .hbm, ⟨37, _⟩ => ⟨S512, .f32⟩
  | .hbm, ⟨38, _⟩ => ⟨S4096x512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_0 : Ref sig .tc := ⟨.hbm, 46, rfl⟩
abbrev main_v37 : Ref sig .tc := ⟨.hbm, 47, rfl⟩
abbrev main_v38 : Ref sig .tc := ⟨.hbm, 48, rfl⟩
abbrev main_cst_1 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== GradIn.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S4352x1024 : Shape := ⟨2, ![4352, 1024]⟩
abbrev S1024x512 : Shape := ⟨2, ![1024, 512]⟩
abbrev S1024x128 : Shape := ⟨2, ![1024, 128]⟩
abbrev S1024x2048 : Shape := ⟨2, ![1024, 2048]⟩
abbrev S1024x1024 : Shape := ⟨2, ![1024, 1024]⟩
abbrev S2304x1024 : Shape := ⟨2, ![2304, 1024]⟩
abbrev S_ : Shape := ⟨0, ![]⟩
abbrev S512x1024 : Shape := ⟨2, ![512, 1024]⟩
abbrev S128x1024 : Shape := ⟨2, ![128, 1024]⟩
abbrev S2048x1024 : Shape := ⟨2, ![2048, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x512, .bf16⟩
  | .hbm, ⟨1, _⟩ => ⟨S4096x128, .f32⟩
  | .hbm, ⟨2, _⟩ => ⟨S4096x128, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x2048, .bf16⟩
  | .hbm, ⟨7, _⟩ => ⟨S4096x1024, .bf16⟩
  | .hbm, ⟨8, _⟩ => ⟨S4352x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S1024x1024, .bf16⟩
  | .local _ .vmem, ⟨15, _⟩ => ⟨S1024x1024, .bf16⟩
  | .local _ .vmem, ⟨16, _⟩ => ⟨S2304x1024, .f32⟩
  | .local _ .vmem, ⟨17, _⟩ => ⟨S2304x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== GradInRefIdeal.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S_ : Shape := ⟨0, ![]⟩
abbrev S1024x4352 : Shape := ⟨2, ![1024, 4352]⟩
abbrev S4096x4352 : Shape := ⟨2, ![4096, 4352]⟩
abbrev S4352x1024 : Shape := ⟨2, ![4352, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x128, .f32⟩
  | .hbm, ⟨2, _⟩ => ⟨S4096x128, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x2048, .bf16⟩
  | .hbm, ⟨7, _⟩ => ⟨S4096x1024, .bf16⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x2048, .f32⟩
  | .hbm, ⟨13, _⟩ => ⟨S_, .f32⟩
  | .hbm, ⟨14, _⟩ => ⟨S1024x4352, .f32⟩
  | .hbm, ⟨15, _⟩ => ⟨S4096x1024, .f32⟩
  | .hbm, ⟨16, _⟩ => ⟨S4096x4352, .f32⟩
  | .hbm, ⟨17, _⟩ => ⟨S4096x512, .f32⟩
  | .hbm, ⟨18, _⟩ => ⟨S4096x128, .f32⟩
  | .hbm, ⟨19, _⟩ => ⟨S4096x128, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x2048, .f32⟩
  | .hbm, ⟨24, _⟩ => ⟨S4096x4352, .f32⟩
  | .hbm, ⟨25, _⟩ => ⟨S4352x1024, .f32⟩
  | .hbm, ⟨26, _⟩ => ⟨S1024x4352, .f32⟩
  | .hbm, ⟨27, _⟩ => ⟨S4352x1024, .f32⟩
  | .hbm, ⟨28, _⟩ => ⟨S4352x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== FfnUp.lean ====
abbrev S4096x1024 : Shape := ⟨2, ![4096, 1024]⟩
abbrev S1x1024 : Shape := ⟨2, ![1, 1024]⟩
abbrev S5632x256 : Shape := ⟨2, ![5632, 256]⟩
abbrev S5632x512 : Shape := ⟨2, ![5632, 512]⟩
abbrev S3x5632 : Shape := ⟨2, ![3, 5632]⟩
abbrev S4096x5632 : Shape := ⟨2, ![4096, 5632]⟩
abbrev S256x1024 : Shape := ⟨2, ![256, 1024]⟩
abbrev S256x5632 : Shape := ⟨2, ![256, 5632]⟩
abbrev S16x5632 : Shape := ⟨2, ![16, 5632]⟩
abbrev S256 : Shape := ⟨1, ![256]⟩
abbrev S256x1 : Shape := ⟨2, ![256, 1]⟩
abbrev S256x256 : Shape := ⟨2, ![256, 256]⟩
abbrev S256x512 : Shape := ⟨2, ![256, 512]⟩
abbrev S16x256 : Shape := ⟨2, ![16, 256]⟩
abbrev S272x256 : Shape := ⟨2, ![272, 256]⟩
abbrev S3x256 : Shape := ⟨2, ![3, 256]⟩
abbrev S1x256 : Shape := ⟨2, ![1, 256]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S5632x256, .bf16⟩
  | .hbm, ⟨3, _⟩ => ⟨S5632x256, .bf16⟩
  | .hbm, ⟨4, _⟩ => ⟨S5632x512, .bf16⟩
  | .hbm, ⟨5, _⟩ => ⟨S3x5632, .f32⟩
  | .hbm, ⟨6, _⟩ => ⟨S4096x1024, .bf16⟩
  | .hbm, ⟨7, _⟩ => ⟨S4096x5632, .bf16⟩
  | .hbm, ⟨8, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x256, .bf16⟩
  | .local _ .vmem, ⟨4, _⟩ => ⟨S5632x256, .bf16⟩
  | .local _ .vmem, ⟨5, _⟩ => ⟨S5632x512, .bf16⟩
  | .local _ .vmem, ⟨6, _⟩ => ⟨S3x5632, .f32⟩
  | .local _ .vmem, ⟨7, _⟩ => ⟨S256x1024, .bf16⟩
  | .local _ .vmem, ⟨8, _⟩ => ⟨S256x1024, .bf16⟩
  | .local _ .vmem, ⟨9, _⟩ => ⟨S256x5632, .bf16⟩
  | .local _ .vmem, ⟨10, _⟩ => ⟨S256x5632, .bf16⟩
  | .local _ .vmem, ⟨11, _⟩ => ⟨S256x5632, .bf16⟩
  | .local _ .vmem, ⟨12, _⟩ => ⟨S256x5632, .bf16⟩
  | .local _ .vmem, ⟨13, _⟩ => ⟨S16x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnUpRefIdeal.lean ====
abbrev S4096x1024 : Shape := ⟨2, ![4096, 1024]⟩
abbrev S1x1024 : Shape := ⟨2, ![1, 1024]⟩
abbrev S5632x256 : Shape := ⟨2, ![5632, 256]⟩
abbrev S5632x512 : Shape := ⟨2, ![5632, 512]⟩
abbrev S3x5632 : Shape := ⟨2, ![3, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S1024x5632 : Shape := ⟨2, ![1024, 5632]⟩
abbrev S4096x5632 : Shape := ⟨2, ![4096, 5632]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S5632x256, .bf16⟩
  | .hbm, ⟨3, _⟩ => ⟨S5632x256, .bf16⟩
  | .hbm, ⟨4, _⟩ => ⟨S5632x512, .bf16⟩
  | .hbm, ⟨5, _⟩ => ⟨S3x5632, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S5632x1024, .bf16⟩
  | .hbm, ⟨24, _⟩ => ⟨S5632x1024, .f32⟩
  | .hbm, ⟨25, _⟩ => ⟨S1024x5632, .f32⟩
  | .hbm, ⟨26, _⟩ => ⟨S4096x5632, .f32⟩
  | .hbm, ⟨27, _⟩ => ⟨S4096x1024, .bf16⟩
  | .hbm, ⟨28, _⟩ => ⟨S4096x5632, .bf16⟩
  | .hbm, ⟨29, _⟩ => ⟨S_, .f32⟩
  | .hbm, ⟨30, _⟩ => ⟨S2x5632, .f32⟩
  | .hbm, ⟨31, _⟩ => ⟨S4098x5632, .f32⟩
  | .hbm, ⟨32, _⟩ => ⟨S1x5632, .f32⟩
  | .hbm, ⟨33, _⟩ => ⟨S5632, .f32⟩
  | .hbm, ⟨34, _⟩ => ⟨S4096x5632, .f32⟩
  | .hbm, ⟨35, _⟩ => ⟨S1x5632, .f32⟩
  | .hbm, ⟨36, _⟩ => ⟨S4096x5632, .f32⟩
  | .hbm, ⟨37, _⟩ => ⟨S4096x5632, .f32⟩
  | .hbm, ⟨38, _⟩ => ⟨S1x5632, .f32⟩
  | .hbm, ⟨39, _⟩ => ⟨S5632, .f32⟩
  | .hbm, ⟨40, _⟩ => ⟨S4096x5632, .f32⟩
  | .hbm, ⟨41, _⟩ => ⟨S1x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S1x5632, .f32⟩
  | .hbm, ⟨46, _⟩ => ⟨S5632, .f32⟩
  | .hbm, ⟨47, _⟩ => ⟨S4096x5632, .f32⟩
  | .hbm, ⟨48, _⟩ => ⟨S1x5632, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Proof.MixSpec.lean ====
module

public import Idealize.ShloMosaic.Lib.Pointwise

@[expose] public section

/-!
# The gradient of the mixing layer, as sums over naturals

The arrays are functions of a row number and a column number, zero outside their extent.  Every
quantity the layer's backward pass forms is written once here, over the extended reals; the two
programs are each shown to compute these.
-/

noncomputable section

open Idealize.ShloMosaic

namespace Cert.MixSpec

/-- A matrix read at a row and a column given as naturals; zero outside it. -/
def rd {a b : ℕ} (A : (⟨2, ![a, b]⟩ : Shape).Idx → EReal) (i j : ℕ) : EReal :=
  if h : i < a ∧ j < b then A (ix2 ⟨i, h.1⟩ ⟨j, h.2⟩) else 0

theorem rd_ix2 {a b : ℕ} (A : (⟨2, ![a, b]⟩ : Shape).Idx → EReal) (i : Fin a) (j : Fin b) :
    A (ix2 i j) = rd A i.val j.val := by
  unfold rd
  rw [dif_pos ⟨i.isLt, j.isLt⟩]

theorem rd_row_out {a b : ℕ} (A : (⟨2, ![a, b]⟩ : Shape).Idx → EReal) {i : ℕ} (j : ℕ) (h : a ≤ i) :
    rd A i j = 0 := by
  unfold rd
  rw [dif_neg (fun hh => absurd hh.1 (Nat.not_lt.mpr h))]

/-- The logistic function as both programs write it. -/
def sg (x : EReal) : EReal := Ideal.div 1 (1 + Ideal.exp (-x))

/-- A sequence delayed by `k` rows, zero before its beginning. -/
def late (k : ℕ) (f : ℕ → ℕ → EReal) (t c : ℕ) : EReal := if k ≤ t then f (t - k) c else 0

/-- The arrays the backward pass reads. -/
structure Args where
  dh : ℕ → ℕ → EReal
  wo : ℕ → ℕ → EReal
  g : ℕ → ℕ → EReal
  at' : ℕ → ℕ → EReal
  wa : ℕ → ℕ → EReal
  wc : ℕ → ℕ → EReal
  bx : ℕ → ℕ → EReal
  cw : ℕ → ℕ → EReal

namespace Args

variable (X : Args)

/-- The sequence the short convolution runs over. -/
def u (t c : ℕ) : EReal := X.bx t (512 + c) * X.bx t (1024 + c)

/-- The short causal convolution. -/
def cv (t c : ℕ) : EReal := (X.cw 0 c * late 2 X.u t c + X.cw 1 c * late 1 X.u t c) + X.cw 2 c * X.u t c

/-- The gated convolution. -/
def conv (t c : ℕ) : EReal := X.bx t c * X.cv t c

/-- The attention branch's projection. -/
def ap (t d : ℕ) : EReal := ∑ k ∈ Finset.range 512, X.at' t k * X.wa k d

/-- The convolution branch's projection. -/
def cp (t d : ℕ) : EReal := ∑ k ∈ Finset.range 512, X.conv t k * X.wc k d

/-- The gate of the attention branch. -/
def sa (t d : ℕ) : EReal := sg (X.g t d)

/-- The gate of the convolution branch. -/
def sc (t d : ℕ) : EReal := sg (X.g t (1024 + d))

/-- The merged branches. -/
def mg (t d : ℕ) : EReal := X.sa t d * X.ap t d + X.sc t d * X.cp t d

/-- The gradient of the merged branches. -/
def dm (t d : ℕ) : EReal := ∑ e ∈ Finset.range 1024, X.dh t e * X.wo d e

/-- The gradient of the attention branch's projection. -/
def da (t d : ℕ) : EReal := X.dm t d * X.sa t d

/-- The gradient of the convolution branch's projection. -/
def dc (t d : ℕ) : EReal := X.dm t d * X.sc t d

/-- The gradient of the attention gate's logit. -/
def dga (t d : ℕ) : EReal := X.dm t d * X.ap t d * X.sa t d * (1 - X.sa t d)

/-- The gradient of the convolution gate's logit. -/
def dgc (t d : ℕ) : EReal := X.dm t d * X.cp t d * X.sc t d * (1 - X.sc t d)

/-- The gradient of the attention output. -/
def dat (t c : ℕ) : EReal := ∑ d ∈ Finset.range 1024, X.da t d * X.wa c d

/-- The gradient of the gated convolution. -/
def dconv (t c : ℕ) : EReal := ∑ d ∈ Finset.range 1024, X.dc t d * X.wc c d

/-- The gradient of the convolution's own gate. -/
def dcb (t c : ℕ) : EReal := X.dconv t c * X.cv t c

/-- The gradient of the convolution's output. -/
def dd (t c : ℕ) : EReal := X.dconv t c * X.bx t c

/-- The gradient of the sequence the convolution runs over. -/
def du (t c : ℕ) : EReal := (X.cw 2 c * X.dd t c + X.cw 1 c * X.dd (t + 1) c) + X.cw 0 c * X.dd (t + 2) c

/-- The gradient of the product's first factor. -/
def dcc (t c : ℕ) : EReal := X.du t c * X.bx t (1024 + c)

/-- The gradient of the product's second factor. -/
def dcx (t c : ℕ) : EReal := X.du t c * X.bx t (512 + c)

/-- One row's part of the gradient of tap `k`. -/
def wk (k t c : ℕ) : EReal := X.dd (t + (2 - k)) c * X.u t c

/-- One row's part of the gradient of the output projection. -/
def wo' (d e t : ℕ) : EReal := X.mg t d * X.dh t e

/-- One row's part of the gradient of the attention branch's projection. -/
def wa' (c d t : ℕ) : EReal := X.at' t c * X.da t d

/-- One row's part of the gradient of the convolution branch's projection. -/
def wc' (c d t : ℕ) : EReal := X.conv t c * X.dc t d

end Args

/-- The sum of a function of the row over the rows from `b` to the end. -/
def tail (b : ℕ) (f : ℕ → EReal) : EReal := ∑ t ∈ Finset.Ico b 4096, f t

theorem tail_end (f : ℕ → EReal) : tail 4096 f = 0 := by
  unfold tail
  rw [Finset.Ico_self, Finset.sum_empty]

theorem tail_zero (f : ℕ → EReal) : tail 0 f = ∑ t ∈ Finset.range 4096, f t := by
  unfold tail
  rw [Finset.range_eq_Ico]

/-- A block of 256 rows added in front of a tail. -/
theorem tail_block (b : ℕ) (hb : b + 256 ≤ 4096) (f : ℕ → EReal) :
    tail (b + 256) f + ∑ r : Fin 256, f (b + r.val) = tail b f := by
  unfold tail
  rw [← Finset.sum_Ico_consecutive f (Nat.le_add_right b 256) hb, add_comm]
  congr 1
  rw [Finset.sum_Ico_eq_sum_range, Nat.add_sub_cancel_left, Finset.sum_range]

theorem sum_fin_range (n : ℕ) (f : ℕ → EReal) : ∑ k : Fin n, f k.val = ∑ k ∈ Finset.range n, f k :=
  (Finset.sum_range f).symm

end Cert.MixSpec
-- ==== Proof.GradSpec.lean ====
module

public import proofs.«01_k».proof.Proof.MixSpec

@[expose] public section

/-!
# The gradient of a weight matrix

For `y = x w` the gradient of `w` sums, over the rows of the sequence, the product of an entry of one
array and an entry of another.  Here that sum is cut after a number of rows.
-/

noncomputable section

open Idealize.ShloMosaic

namespace Cert.GradSpec

open Cert.MixSpec

/-- The first `n` rows' part of the product of `A`, transposed, with `B`. -/
def part {a p b q : ℕ} (A : (⟨2, ![a, p]⟩ : Shape).Idx → EReal) (B : (⟨2, ![b, q]⟩ : Shape).Idx → EReal) (n r c : ℕ) : EReal :=
  ∑ s ∈ Finset.range n, rd A s r * rd B s c

variable {a p b q : ℕ} (A : (⟨2, ![a, p]⟩ : Shape).Idx → EReal) (B : (⟨2, ![b, q]⟩ : Shape).Idx → EReal)

theorem part_zero (r c : ℕ) : part A B 0 r c = 0 := by
  unfold part
  rw [Finset.range_zero, Finset.sum_empty]

/-- A block of `k` more rows. -/
theorem part_add (n k r c : ℕ) :
    part A B n r c + ∑ s : Fin k, rd A (n + s.val) r * rd B (n + s.val) c = part A B (n + k) r c := by
  unfold part
  rw [Finset.sum_range_add, Finset.sum_range (n := k)]

/-- All rows, as one product's sum. -/
theorem part_all (k r c : ℕ) : part A B k r c = ∑ s : Fin k, rd A s.val r * rd B s.val c := by
  unfold part
  rw [Finset.sum_range]

end Cert.GradSpec
-- ==== Proof.GradUpValue.lean ====
module

public import proofs.«01_k».proof.Proof.GradSpec
public import proofs.«01_k».proof.Proof.Gen.GradUpIdeal.Value
public import Idealize.ShloMosaic.Lib.Pointwise

@[expose] public section

set_option maxRecDepth 16384

/-!
# The kernel's gradient of the up projection

The grid goes over blocks of 1408 rows of the result and, for each, over four blocks of 1024 rows of the
sequence.  After each point the accumulator holds the sum over the rows of the sequence seen so far.
-/

noncomputable section

open Idealize.ShloMosaic Idealize.ShloMosaic.TcCoe Idealize.ShloMosaic.Tactic
open Cert.GradUpIdeal Cert.GradUpIdeal.Gen Cert.GradUpIdeal.Value
open Cert.MixSpec Cert.GradSpec

namespace Cert.GradUpValue

theorem hz : (![0, 0] : Fin 2 → Nat) = fun _ => 0 := funext fun a => by fin_cases a <;> rfl

theorem ldw {n k : ℕ} {e : EltTy} (X : (⟨2, ![n, k]⟩ : Shape).Idx → Elt Ideal e)
    (inb : ∀ a, (![0, 0] : Fin 2 → ℕ) a + (![n, k] : Fin 2 → ℕ) a ≤ (![n, k] : Fin 2 → ℕ) a) :
    View.ld X (Rect.unit (s := ⟨2, ![n, k]⟩) ![0, 0] ![n, k] inb) = X :=
  View.ld_unit_zero (S := ⟨2, ![n, k]⟩) hz inb X

theorem covw {n k : ℕ} {e : EltTy} {sp : Space} (v : View sig .tc sp ⟨2, ![n, k]⟩ e) (w : (⟨2, ![n, k]⟩ : Shape).Idx → Elt Ideal e)
    (inb : ∀ a, (![0, 0] : Fin 2 → ℕ) a + (![n, k] : Fin 2 → ℕ) a ≤ (![n, k] : Fin 2 → ℕ) a) :
    v.readCov [(⟨Rect.unit (s := ⟨2, ![n, k]⟩) ![0, 0] ![n, k] inb, w⟩ : View.Piece (Elt Ideal) ⟨2, ![n, k]⟩ e)]
      (Rect.unit (s := ⟨2, ![n, k]⟩) ![0, 0] ![n, k] inb).toLoadRect = w :=
  View.readCov_unit_zero (S := ⟨2, ![n, k]⟩) v hz inb w

variable (m : (ℓ : Loc nD τ sig) → Buf (Elt Ideal) ℓ) (c : Dev nD) (t : Fin cfg0.N)

set_option maxHeartbeats 1000000

theorem stepA (h0 : t.val % 4 = 0) (h1 : ¬t.val % 4 = 3) :
    (outsAt0 m c t.val t.isLt).2 = k0_pay2 (k0_pay1 (F := Ideal)) (iblk m c 0 t) (iblk m c 1 t) := by
  rw [outsAt0_A m c t h0 h1]
  dsimp only
  unfold sout0_A_0
  rw [View.read_writes_eq_canon _ _ _ (scover0_A_0 _ _ _ _ _ _ _ _ _ _ _ _ _ _ )]
  unfold kernelRun0_A
  dsimp only
  sl_unfold_words
  simp only [View.readAt_eq_ld, (hs0_0 t).read_unread, (hs0_1 t).read_unread, (hs0_2 t).read_unread, (Memref.isWhole_whole _).read_unread, ldw, covw]
  rw [View.canon_cons_unit_zero hz]

theorem stepB (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _ )]
  unfold kernelRun0_B
  dsimp only
  sl_unfold_words
  simp only [View.readAt_eq_ld, (hs0_0 t).read_unread, (hs0_1 t).read_unread, (hs0_2 t).read_unread, (Memref.isWhole_whole _).read_unread, ldw, covw]
  rw [View.canon_unit_zero hz]

theorem stepC (h0 : ¬t.val % 4 = 0) (h1 : t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]
  dsimp only
  unfold sout0_C_0
  rw [View.read_writes_eq_canon _ _ _ (scover0_C_0 _ _ _ _ _ _ _ _ _ _ _ _ _ _ _ )]
  unfold kernelRun0_C
  dsimp only
  sl_unfold_words
  simp only [View.readAt_eq_ld, (hs0_0 t).read_unread, (hs0_1 t).read_unread, (hs0_2 t).read_unread, (Memref.isWhole_whole _).read_unread, ldw, covw]
  rw [View.canon_unit_zero hz]

theorem outC (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_C m c t h0 h1]
  dsimp only
  unfold out0_C_2
  rw [View.read_writes_eq_canon _ _ _ (cover0_C_2 _ _ _ _ _ _ _ _ _ _ _ _ _ _ _ )]
  unfold kernelRun0_C
  dsimp only
  sl_unfold_words
  simp only [View.readAt_eq_ld, (hs0_0 t).read_unread, (hs0_1 t).read_unread, (hs0_2 t).read_unread, (Memref.isWhole_whole _).read_unread, ldw, covw]
  rw [View.canon_unit_zero hz]

/-- The two arguments. -/
abbrev A : (⟨2, ![4096, 5632]⟩ : Shape).Idx → EReal := m ((c.tc : Thread nD τ).loc main_arg0)
abbrev B : (⟨2, ![4096, 1024]⟩ : Shape).Idx → EReal := m ((c.tc : Thread nD τ).loc main_arg1)

theorem pt_lt (t : Fin cfg0.N) : t.val < 16 := lt_of_lt_of_eq t.isLt N_0

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)

theorem index1 : ∀ t : Fin cfg0.N, win0_1.index t 0 = t.val % 4 ∧ win0_1.index t 1 = 0 :=
  (by decide +kernel : ∀ t : Fin grid0.N, win0_1.index t 0 = t.val % 4 ∧ win0_1.index t 1 = 0)

theorem blockA (s : Fin 1024) (r : Fin 1408) :
    iblk m c 0 t (ix2 s r) = rd (A m c) (1024 * (t.val % 4) + s.val) (1408 * (t.val / 4) + r.val) := by
  have hi := index0 t
  have ht := pt_lt t
  refine Eq.trans ?_ (rd_ix2 (a := 4096) (b := 5632) (A m c) ⟨1024 * (t.val % 4) + s.val, by have := s.isLt; omega⟩ ⟨1408 * (t.val / 4) + r.val, by have := r.isLt; omega⟩)
  unfold iblk
  rw [View.read_apply]
  show V m c main_arg0 _ = m (c.tc.loc main_arg0) _
  unfold V
  congr 1
  funext a
  apply Fin.ext
  match a with
  | ⟨0, _⟩ =>
    show win0_0.index t 0 * 1024 + 1 * s.val = 1024 * (t.val % 4) + s.val
    rw [hi.1]; omega
  | ⟨1, _⟩ =>
    show win0_0.index t 1 * 1408 + 1 * r.val = 1408 * (t.val / 4) + r.val
    rw [hi.2]; omega

theorem blockB (s : Fin 1024) (k : Fin 1024) :
    iblk m c 1 t (ix2 s k) = rd (B m c) (1024 * (t.val % 4) + s.val) k.val := by
  have hi := index1 t
  have ht := pt_lt t
  refine Eq.trans ?_ (rd_ix2 (a := 4096) (b := 1024) (B m c) ⟨1024 * (t.val % 4) + s.val, by have := s.isLt; omega⟩ k)
  unfold iblk
  rw [View.read_apply]
  show V m c main_arg1 _ = m (c.tc.loc main_arg1) _
  unfold V
  congr 1
  funext a
  apply Fin.ext
  match a with
  | ⟨0, _⟩ =>
    show win0_1.index t 0 * 1024 + 1 * s.val = 1024 * (t.val % 4) + s.val
    rw [hi.1]; omega
  | ⟨1, _⟩ =>
    show win0_1.index t 1 * 1024 + 1 * k.val = k.val
    rw [hi.2]; omega

/-- One step of the accumulation, from what the accumulator held. -/
theorem step (v : Vec Ideal S1408x1024 .f32) (r : Fin 1408) (k : Fin 1024)
    (hv : v (ix2 r k) = part (A m c) (B m c) (1024 * (t.val % 4)) (1408 * (t.val / 4) + r.val) k.val) :
    k0_pay2 v (iblk m c 0 t) (iblk m c 1 t) (ix2 r k)
      = part (A m c) (B m c) (1024 * (t.val % 4) + 1024) (1408 * (t.val / 4) + r.val) k.val := by
  rw [← part_add, ← hv]
  pointwise [k0_pay2]
  refine congrArg _ (Finset.sum_congr rfl fun s _ => ?_)
  rw [blockA m c t s r, blockB m c t s k]

theorem start (r : Fin 1408) (k : Fin 1024) : (k0_pay1 (F := Ideal)) (ix2 r k) = 0 := by
  pointwise [k0_pay1]

/-- What the accumulator holds after a point. -/
theorem acc : ∀ (n : ℕ) (hn : n < cfg0.N) (r : Fin 1408) (k : Fin 1024),
    (outsAt0 m c n hn).2 (ix2 r k) = part (A m c) (B m c) (1024 * (n % 4) + 1024) (1408 * (n / 4) + r.val) k.val := by
  intro n
  induction n with
  | zero =>
    intro hn r k
    rw [stepA m c ⟨0, hn⟩ rfl (by decide : ¬ 0 % 4 = 3)]
    exact step m c ⟨0, hn⟩ _ r k ((start r k).trans (part_zero _ _ _ _).symm)
  | succ n ih =>
    intro hn r k
    by_cases h0 : (n + 1) % 4 = 0
    · rw [stepA m c ⟨n + 1, hn⟩ h0 (by dsimp only; omega)]
      refine step m c ⟨n + 1, hn⟩ _ r k ((start r k).trans ?_)
      dsimp only
      rw [h0]
      exact (part_zero _ _ _ _).symm
    · have e : (outsAt0 m c n (Nat.lt_of_succ_lt hn)).2 (ix2 r k)
          = part (A m c) (B m c) (1024 * ((n + 1) % 4)) (1408 * ((n + 1) / 4) + r.val) k.val := by
        rw [ih (Nat.lt_of_succ_lt hn) r k, show 1024 * (n % 4) + 1024 = 1024 * ((n + 1) % 4) from by omega,
          show n / 4 = (n + 1) / 4 from by omega]
      by_cases h1 : (n + 1) % 4 = 3
      · rw [stepC m c ⟨n + 1, hn⟩ h0 h1]
        exact step m c ⟨n + 1, hn⟩ _ r k e
      · rw [stepB m c ⟨n + 1, hn⟩ h0 h1]
        exact step m c ⟨n + 1, hn⟩ _ r k e

/-- What a last point of four leaves in the result's block. -/
theorem out (h1 : t.val % 4 = 3) (r : Fin 1408) (k : Fin 1024) :
    (outsAt0 m c t.val t.isLt).1 (ix2 r k) = part (A m c) (B m c) 4096 (1408 * (t.val / 4) + r.val) k.val := by
  have h0 : ¬t.val % 4 = 0 := by omega
  have e := acc m c t.val t.isLt r k
  rw [stepC m c t h0 h1] at e
  rw [outC m c t h0 h1]
  pointwise [k0_pay3]
  rw [h1] at e
  exact e

/-- The array the call leaves. -/
theorem final (r : Fin 5632) (k : Fin 1024) : G2 m c (ix2 r k) = part (A m c) (B m c) 4096 r.val k.val := by
  have hr := r.isLt
  have hk := k.isLt
  have e : run2Of (ix2 r k) = r.val / 1408 := by
    show 1 * (r.val / 1408 - 0) + 1 * (k.val / 1024 - 0) = _
    omega
  have hp : pt2Of (ix2 r k) = 4 * (r.val / 1408) + 3 := by
    show 4 * run2Of (ix2 r k) + 3 = _
    rw [e]
  have hN : pt2Of (ix2 r k) < cfg0.N := by
    rw [hp, show cfg0.N = 16 from N_0]; omega
  have h := out m c ⟨pt2Of (ix2 r k), hN⟩ (by dsimp only; rw [hp]; omega) ⟨r.val % 1408, Nat.mod_lt _ (by decide)⟩ k
  dsimp only at h
  rw [outsAt0_sweep] at h
  have hl : loc2Of (ix2 r k) = ix2 ⟨r.val % 1408, Nat.mod_lt _ (by decide)⟩ k := by
    funext a
    apply Fin.ext
    match a with
    | ⟨0, _⟩ => rfl
    | ⟨1, _⟩ => exact Nat.mod_eq_of_lt hk
  unfold G2
  rw [dif_pos hN, hl]
  refine h.trans ?_
  rw [hp, show 1408 * ((4 * (r.val / 1408) + 3) / 4) + r.val % 1408 = r.val from by omega]

end Cert.GradUpValue
-- ==== Proof.GradUpEq.lean ====
module

public import proofs.«01_k».proof.Proof.GradUpValue
public import proofs.«01_k».proof.Defs
public import proofs.«01_k».proof.Proof.Gen.GradUpRefIdeal.Run
public import Idealize.ShloMosaic.Lib.Claim

@[expose] public section

set_option maxRecDepth 16384

/-!
# The gradient of the up projection: the kernel and the reference
-/

noncomputable section

open Idealize.ShloMosaic Idealize.ShloMosaic.TcCoe Idealize.SL.Sem
open Cert.MixSpec Cert.GradSpec

namespace Cert.GradUpRef

open Cert.GradUpRefIdeal Cert.GradUpRefIdeal.Gen

/-- What the reference computes from its two arguments. -/
def val (a : FVec Ideal S4096x5632 .bf16) (b : FVec Ideal S4096x1024 .bf16) : FVec Ideal S5632x1024 .bf16 :=
  truncf .bf16 (transpose S5632x1024 [1, 0] (transpose S1024x5632 [1, 0] (Host.dotGeneral dot_S4096x5632_S4096x1024_S5632x1024_0_0_1_1_n_n none (extf .f32 a bitsLt_bf16_f32) (extf .f32 b bitsLt_bf16_f32)) transposes_S5632x1024_S1024x5632_1_0) transposes_S1024x5632_S5632x1024_1_0) bitsLt_bf16_f32

theorem val_apply (a : FVec Ideal S4096x5632 .bf16) (b : FVec Ideal S4096x1024 .bf16) (r : Fin 5632) (k : Fin 1024) :
    val a b (ix2 r k) = part (a := 4096) (p := 5632) (b := 4096) (q := 1024) a b 4096 r.val k.val := by
  rw [part_all]
  pointwise [val]
  exact Finset.sum_congr rfl fun s _ => congrArg₂ (fun x y : EReal => x * y) (rd_ix2 a s r) (rd_ix2 b s k)

/-- The reference leaves its arguments as they were, and every counter at zero. -/
theorem frame : @Cert.quiescent_GradUpRefIdeal Cert.GradUpRefIdeal.Gen.facts := fun m ρ _ =>
  (θ_run Cert.GradUpRefIdeal.defs _ _).mono (fun r h => ⟨fun c => (h c).2,
      Idealize.ShloMosaic.sem_eq_zero_of_no_sems (by decide) r.2⟩)
    (Cert.GradUpRefIdeal.Value.run (F := Ideal) m ρ)

end Cert.GradUpRef

namespace Cert.GradUpEq

open Cert.GradUpIdeal Cert.GradUpIdeal.Gen

variable (m : (ℓ : Loc nD τ sig) → Buf (Elt Ideal) ℓ) (c : Dev nD)

/-- The result, as the reference's value at the kernel's arguments. -/
def res := Cert.GradUpRef.val (m ((c.tc : Thread nD τ).loc main_arg0)) (m ((c.tc : Thread nD τ).loc main_arg1))

theorem final : Cert.GradUpIdeal.Value.G2 m c = res m c :=
  funext fun i => by
    rw [show i = ix2 (i 0) (i 1) from eq_ix2 i]
    exact (Cert.GradUpValue.final m c (i 0) (i 1)).trans (Cert.GradUpRef.val_apply _ _ (i 0) (i 1)).symm

/-- The value claim: on the extended reals the kernel's result is the reference's. -/
theorem algebraic : @Cert.algebraic_GradUpIdeal_GradUpRefIdeal Cert.GradUpIdeal.Gen.facts Cert.GradUpRefIdeal.Gen.facts := by
  intro m g m' g' _ hm
  refine ⟨fun c => res m c, (θ_run defs _ _).mono (fun r h c => ⟨(h c).1.trans (final m c), (h c).2⟩) (Cert.GradUpIdeal.Value.run m g), ?_⟩
  refine (θ_run Cert.GradUpRefIdeal.defs _ _).mono (fun r h c => ?_) (Cert.GradUpRefIdeal.Value.run m' g')
  obtain ⟨e0, e1⟩ := hm c
  exact ⟨(h c).1.trans (congrArg₂ Cert.GradUpRef.val e0 e1), (h c).2⟩

end Cert.GradUpEq
-- ==== Proof.GradDownValue.lean ====
module

public import proofs.«01_k».proof.Proof.GradSpec
public import proofs.«01_k».proof.Proof.Gen.GradDownIdeal.Value
public import Idealize.ShloMosaic.Lib.Pointwise

@[expose] public section

set_option maxRecDepth 16384

/-!
# The kernel's gradient of the down projection

The grid goes over blocks of 1408 rows of the result and, for each, over four blocks of 1024 rows of the
sequence.  After each point the accumulator holds the sum over the rows of the sequence seen so far.
-/

noncomputable section

open Idealize.ShloMosaic Idealize.ShloMosaic.TcCoe Idealize.ShloMosaic.Tactic
open Cert.GradDownIdeal Cert.GradDownIdeal.Gen Cert.GradDownIdeal.Value
open Cert.MixSpec Cert.GradSpec

namespace Cert.GradDownValue

theorem hz : (![0, 0] : Fin 2 → Nat) = fun _ => 0 := funext fun a => by fin_cases a <;> rfl

theorem ldw {n k : ℕ} {e : EltTy} (X : (⟨2, ![n, k]⟩ : Shape).Idx → Elt Ideal e)
    (inb : ∀ a, (![0, 0] : Fin 2 → ℕ) a + (![n, k] : Fin 2 → ℕ) a ≤ (![n, k] : Fin 2 → ℕ) a) :
    View.ld X (Rect.unit (s := ⟨2, ![n, k]⟩) ![0, 0] ![n, k] inb) = X :=
  View.ld_unit_zero (S := ⟨2, ![n, k]⟩) hz inb X

theorem covw {n k : ℕ} {e : EltTy} {sp : Space} (v : View sig .tc sp ⟨2, ![n, k]⟩ e) (w : (⟨2, ![n, k]⟩ : Shape).Idx → Elt Ideal e)
    (inb : ∀ a, (![0, 0] : Fin 2 → ℕ) a + (![n, k] : Fin 2 → ℕ) a ≤ (![n, k] : Fin 2 → ℕ) a) :
    v.readCov [(⟨Rect.unit (s := ⟨2, ![n, k]⟩) ![0, 0] ![n, k] inb, w⟩ : View.Piece (Elt Ideal) ⟨2, ![n, k]⟩ e)]
      (Rect.unit (s := ⟨2, ![n, k]⟩) ![0, 0] ![n, k] inb).toLoadRect = w :=
  View.readCov_unit_zero (S := ⟨2, ![n, k]⟩) v hz inb w

variable (m : (ℓ : Loc nD τ sig) → Buf (Elt Ideal) ℓ) (c : Dev nD) (t : Fin cfg0.N)

set_option maxHeartbeats 1000000

theorem stepA (h0 : t.val % 4 = 0) (h1 : ¬t.val % 4 = 3) :
    (outsAt0 m c t.val t.isLt).2 = k0_pay2 (k0_pay1 (F := Ideal)) (iblk m c 0 t) (iblk m c 1 t) := by
  rw [outsAt0_A m c t h0 h1]
  dsimp only
  unfold sout0_A_0
  rw [View.read_writes_eq_canon _ _ _ (scover0_A_0 _ _ _ _ _ _ _ _ _ _ _ _ _ _ )]
  unfold kernelRun0_A
  dsimp only
  sl_unfold_words
  simp only [View.readAt_eq_ld, (hs0_0 t).read_unread, (hs0_1 t).read_unread, (hs0_2 t).read_unread, (Memref.isWhole_whole _).read_unread, ldw, covw]
  rw [View.canon_cons_unit_zero hz]

theorem stepB (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _ )]
  unfold kernelRun0_B
  dsimp only
  sl_unfold_words
  simp only [View.readAt_eq_ld, (hs0_0 t).read_unread, (hs0_1 t).read_unread, (hs0_2 t).read_unread, (Memref.isWhole_whole _).read_unread, ldw, covw]
  rw [View.canon_unit_zero hz]

theorem stepC (h0 : ¬t.val % 4 = 0) (h1 : t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]
  dsimp only
  unfold sout0_C_0
  rw [View.read_writes_eq_canon _ _ _ (scover0_C_0 _ _ _ _ _ _ _ _ _ _ _ _ _ _ _ )]
  unfold kernelRun0_C
  dsimp only
  sl_unfold_words
  simp only [View.readAt_eq_ld, (hs0_0 t).read_unread, (hs0_1 t).read_unread, (hs0_2 t).read_unread, (Memref.isWhole_whole _).read_unread, ldw, covw]
  rw [View.canon_unit_zero hz]

theorem outC (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_C m c t h0 h1]
  dsimp only
  unfold out0_C_2
  rw [View.read_writes_eq_canon _ _ _ (cover0_C_2 _ _ _ _ _ _ _ _ _ _ _ _ _ _ _ )]
  unfold kernelRun0_C
  dsimp only
  sl_unfold_words
  simp only [View.readAt_eq_ld, (hs0_0 t).read_unread, (hs0_1 t).read_unread, (hs0_2 t).read_unread, (Memref.isWhole_whole _).read_unread, ldw, covw]
  rw [View.canon_unit_zero hz]

/-- The two arguments. -/
abbrev A : (⟨2, ![4096, 2816]⟩ : Shape).Idx → EReal := m ((c.tc : Thread nD τ).loc main_arg0)
abbrev B : (⟨2, ![4096, 1024]⟩ : Shape).Idx → EReal := m ((c.tc : Thread nD τ).loc main_arg1)

theorem pt_lt (t : Fin cfg0.N) : t.val < 8 := lt_of_lt_of_eq t.isLt N_0

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)

theorem index1 : ∀ t : Fin cfg0.N, win0_1.index t 0 = t.val % 4 ∧ win0_1.index t 1 = 0 :=
  (by decide +kernel : ∀ t : Fin grid0.N, win0_1.index t 0 = t.val % 4 ∧ win0_1.index t 1 = 0)

theorem blockA (s : Fin 1024) (r : Fin 1408) :
    iblk m c 0 t (ix2 s r) = rd (A m c) (1024 * (t.val % 4) + s.val) (1408 * (t.val / 4) + r.val) := by
  have hi := index0 t
  have ht := pt_lt t
  refine Eq.trans ?_ (rd_ix2 (a := 4096) (b := 2816) (A m c) ⟨1024 * (t.val % 4) + s.val, by have := s.isLt; omega⟩ ⟨1408 * (t.val / 4) + r.val, by have := r.isLt; omega⟩)
  unfold iblk
  rw [View.read_apply]
  show V m c main_arg0 _ = m (c.tc.loc main_arg0) _
  unfold V
  congr 1
  funext a
  apply Fin.ext
  match a with
  | ⟨0, _⟩ =>
    show win0_0.index t 0 * 1024 + 1 * s.val = 1024 * (t.val % 4) + s.val
    rw [hi.1]; omega
  | ⟨1, _⟩ =>
    show win0_0.index t 1 * 1408 + 1 * r.val = 1408 * (t.val / 4) + r.val
    rw [hi.2]; omega

theorem blockB (s : Fin 1024) (k : Fin 1024) :
    iblk m c 1 t (ix2 s k) = rd (B m c) (1024 * (t.val % 4) + s.val) k.val := by
  have hi := index1 t
  have ht := pt_lt t
  refine Eq.trans ?_ (rd_ix2 (a := 4096) (b := 1024) (B m c) ⟨1024 * (t.val % 4) + s.val, by have := s.isLt; omega⟩ k)
  unfold iblk
  rw [View.read_apply]
  show V m c main_arg1 _ = m (c.tc.loc main_arg1) _
  unfold V
  congr 1
  funext a
  apply Fin.ext
  match a with
  | ⟨0, _⟩ =>
    show win0_1.index t 0 * 1024 + 1 * s.val = 1024 * (t.val % 4) + s.val
    rw [hi.1]; omega
  | ⟨1, _⟩ =>
    show win0_1.index t 1 * 1024 + 1 * k.val = k.val
    rw [hi.2]; omega

/-- One step of the accumulation, from what the accumulator held. -/
theorem step (v : Vec Ideal S1408x1024 .f32) (r : Fin 1408) (k : Fin 1024)
    (hv : v (ix2 r k) = part (A m c) (B m c) (1024 * (t.val % 4)) (1408 * (t.val / 4) + r.val) k.val) :
    k0_pay2 v (iblk m c 0 t) (iblk m c 1 t) (ix2 r k)
      = part (A m c) (B m c) (1024 * (t.val % 4) + 1024) (1408 * (t.val / 4) + r.val) k.val := by
  rw [← part_add, ← hv]
  pointwise [k0_pay2]
  refine congrArg _ (Finset.sum_congr rfl fun s _ => ?_)
  rw [blockA m c t s r, blockB m c t s k]

theorem start (r : Fin 1408) (k : Fin 1024) : (k0_pay1 (F := Ideal)) (ix2 r k) = 0 := by
  pointwise [k0_pay1]

/-- What the accumulator holds after a point. -/
theorem acc : ∀ (n : ℕ) (hn : n < cfg0.N) (r : Fin 1408) (k : Fin 1024),
    (outsAt0 m c n hn).2 (ix2 r k) = part (A m c) (B m c) (1024 * (n % 4) + 1024) (1408 * (n / 4) + r.val) k.val := by
  intro n
  induction n with
  | zero =>
    intro hn r k
    rw [stepA m c ⟨0, hn⟩ rfl (by decide : ¬ 0 % 4 = 3)]
    exact step m c ⟨0, hn⟩ _ r k ((start r k).trans (part_zero _ _ _ _).symm)
  | succ n ih =>
    intro hn r k
    by_cases h0 : (n + 1) % 4 = 0
    · rw [stepA m c ⟨n + 1, hn⟩ h0 (by dsimp only; omega)]
      refine step m c ⟨n + 1, hn⟩ _ r k ((start r k).trans ?_)
      dsimp only
      rw [h0]
      exact (part_zero _ _ _ _).symm
    · have e : (outsAt0 m c n (Nat.lt_of_succ_lt hn)).2 (ix2 r k)
          = part (A m c) (B m c) (1024 * ((n + 1) % 4)) (1408 * ((n + 1) / 4) + r.val) k.val := by
        rw [ih (Nat.lt_of_succ_lt hn) r k, show 1024 * (n % 4) + 1024 = 1024 * ((n + 1) % 4) from by omega,
          show n / 4 = (n + 1) / 4 from by omega]
      by_cases h1 : (n + 1) % 4 = 3
      · rw [stepC m c ⟨n + 1, hn⟩ h0 h1]
        exact step m c ⟨n + 1, hn⟩ _ r k e
      · rw [stepB m c ⟨n + 1, hn⟩ h0 h1]
        exact step m c ⟨n + 1, hn⟩ _ r k e

/-- What a last point of four leaves in the result's block. -/
theorem out (h1 : t.val % 4 = 3) (r : Fin 1408) (k : Fin 1024) :
    (outsAt0 m c t.val t.isLt).1 (ix2 r k) = part (A m c) (B m c) 4096 (1408 * (t.val / 4) + r.val) k.val := by
  have h0 : ¬t.val % 4 = 0 := by omega
  have e := acc m c t.val t.isLt r k
  rw [stepC m c t h0 h1] at e
  rw [outC m c t h0 h1]
  pointwise [k0_pay3]
  rw [h1] at e
  exact e

/-- The array the call leaves. -/
theorem final (r : Fin 2816) (k : Fin 1024) : G2 m c (ix2 r k) = part (A m c) (B m c) 4096 r.val k.val := by
  have hr := r.isLt
  have hk := k.isLt
  have e : run2Of (ix2 r k) = r.val / 1408 := by
    show 1 * (r.val / 1408 - 0) + 1 * (k.val / 1024 - 0) = _
    omega
  have hp : pt2Of (ix2 r k) = 4 * (r.val / 1408) + 3 := by
    show 4 * run2Of (ix2 r k) + 3 = _
    rw [e]
  have hN : pt2Of (ix2 r k) < cfg0.N := by
    rw [hp, show cfg0.N = 8 from N_0]; omega
  have h := out m c ⟨pt2Of (ix2 r k), hN⟩ (by dsimp only; rw [hp]; omega) ⟨r.val % 1408, Nat.mod_lt _ (by decide)⟩ k
  dsimp only at h
  rw [outsAt0_sweep] at h
  have hl : loc2Of (ix2 r k) = ix2 ⟨r.val % 1408, Nat.mod_lt _ (by decide)⟩ k := by
    funext a
    apply Fin.ext
    match a with
    | ⟨0, _⟩ => rfl
    | ⟨1, _⟩ => exact Nat.mod_eq_of_lt hk
  unfold G2
  rw [dif_pos hN, hl]
  refine h.trans ?_
  rw [hp, show 1408 * ((4 * (r.val / 1408) + 3) / 4) + r.val % 1408 = r.val from by omega]

end Cert.GradDownValue
-- ==== Proof.GradDownEq.lean ====
module

public import proofs.«01_k».proof.Proof.GradDownValue
public import proofs.«01_k».proof.Defs
public import proofs.«01_k».proof.Proof.Gen.GradDownRefIdeal.Run
public import Idealize.ShloMosaic.Lib.Claim

@[expose] public section

set_option maxRecDepth 16384

/-!
# The gradient of the down projection: the kernel and the reference
-/

noncomputable section

open Idealize.ShloMosaic Idealize.ShloMosaic.TcCoe Idealize.SL.Sem
open Cert.MixSpec Cert.GradSpec

namespace Cert.GradDownRef

open Cert.GradDownRefIdeal Cert.GradDownRefIdeal.Gen

/-- What the reference computes from its two arguments. -/
def val (a : FVec Ideal S4096x2816 .bf16) (b : FVec Ideal S4096x1024 .f32) : FVec Ideal S2816x1024 .bf16 :=
  truncf .bf16 (transpose S2816x1024 [1, 0] (Host.dotGeneral dot_S4096x1024_S4096x2816_S1024x2816_0_0_1_1_n_n none b (extf .f32 a bitsLt_bf16_f32)) transposes_S1024x2816_S2816x1024_1_0) bitsLt_bf16_f32

theorem val_apply (a : FVec Ideal S4096x2816 .bf16) (b : FVec Ideal S4096x1024 .f32) (r : Fin 2816) (k : Fin 1024) :
    val a b (ix2 r k) = part (a := 4096) (p := 2816) (b := 4096) (q := 1024) a b 4096 r.val k.val := by
  rw [part_all]
  pointwise [val]
  exact Finset.sum_congr rfl fun s _ => (congrArg₂ (fun x y : EReal => x * y) (rd_ix2 b s k) (rd_ix2 a s r)).trans (mul_comm _ _)

/-- The reference leaves its arguments as they were, and every counter at zero. -/
theorem frame : @Cert.quiescent_GradDownRefIdeal Cert.GradDownRefIdeal.Gen.facts := fun m ρ _ =>
  (θ_run Cert.GradDownRefIdeal.defs _ _).mono (fun r h => ⟨fun c => (h c).2,
      Idealize.ShloMosaic.sem_eq_zero_of_no_sems (by decide) r.2⟩)
    (Cert.GradDownRefIdeal.Value.run (F := Ideal) m ρ)

end Cert.GradDownRef

namespace Cert.GradDownEq

open Cert.GradDownIdeal Cert.GradDownIdeal.Gen

variable (m : (ℓ : Loc nD τ sig) → Buf (Elt Ideal) ℓ) (c : Dev nD)

/-- The result, as the reference's value at the kernel's arguments. -/
def res := Cert.GradDownRef.val (m ((c.tc : Thread nD τ).loc main_arg0)) (m ((c.tc : Thread nD τ).loc main_arg1))

theorem final : Cert.GradDownIdeal.Value.G2 m c = res m c :=
  funext fun i => by
    rw [show i = ix2 (i 0) (i 1) from eq_ix2 i]
    exact (Cert.GradDownValue.final m c (i 0) (i 1)).trans (Cert.GradDownRef.val_apply _ _ (i 0) (i 1)).symm

/-- The value claim: on the extended reals the kernel's result is the reference's. -/
theorem algebraic : @Cert.algebraic_GradDownIdeal_GradDownRefIdeal Cert.GradDownIdeal.Gen.facts Cert.GradDownRefIdeal.Gen.facts := by
  intro m g m' g' _ hm
  refine ⟨fun c => res m c, (θ_run defs _ _).mono (fun r h c => ⟨(h c).1.trans (final m c), (h c).2⟩) (Cert.GradDownIdeal.Value.run m g), ?_⟩
  refine (θ_run Cert.GradDownRefIdeal.defs _ _).mono (fun r h c => ?_) (Cert.GradDownRefIdeal.Value.run m' g')
  obtain ⟨e0, e1⟩ := hm c
  exact ⟨(h c).1.trans (congrArg₂ Cert.GradDownRef.val e0 e1), (h c).2⟩

end Cert.GradDownEq
-- ==== Proof.MixConv.lean ====
module

public import proofs.«01_k».proof.Proof.MixSpec
public import proofs.«01_k».proof.Proof.Gen.KernelIdeal.Skeleton

@[expose] public section

set_option maxRecDepth 16384

/-!
# The block's convolution

What one block of 256 rows computes of the short convolution, row by row of the whole sequence: the
block's own product of the two gates, the sixteen rows before it, and the two delays.
-/

noncomputable section

open Idealize.ShloMosaic Cert.KernelIdeal Cert.KernelIdeal.Gen

namespace Cert.MixBlock

open Cert.MixSpec

/-- The matrix `v` holds the rows of `f` from row `b`. -/
def Rows {n m : ℕ} (b : ℕ) (v : (⟨2, ![n, m]⟩ : Shape).Idx → EReal) (f : ℕ → ℕ → EReal) : Prop :=
  ∀ (r : Fin n) (c : Fin m), v (ix2 r c) = f (b + r.val) c.val

variable {X : Args} {b : ℕ}

theorem rows13 {v4 : Vec Ideal S256x512 .bf16} {f : ℕ → ℕ → EReal} (h : Rows b v4 f) : Rows b (k0_pay13 v4) f := by
  intro r c
  pointwise [k0_pay13]
  exact h r c

theorem rows14 {v4 : Vec Ideal S256x512 .bf16} {f : ℕ → ℕ → EReal} (h : Rows b v4 f) : Rows b (k0_pay14 v4) f := by
  intro r c
  pointwise [k0_pay14]
  exact h r c

theorem rows15 {v4 : Vec Ideal S256x512 .bf16} {f : ℕ → ℕ → EReal} (h : Rows b v4 f) : Rows b (k0_pay15 v4) f := by
  intro r c
  pointwise [k0_pay15]
  exact h r c

theorem rows16 {v6 v8 : Vec Ideal S256x512 .bf16} (h6 : Rows b v6 (fun t c => X.bx t (512 + c)))
    (h8 : Rows b v8 (fun t c => X.bx t (1024 + c))) : Rows b (k0_pay16 v6 v8) X.u := by
  intro r c
  pointwise [k0_pay16, k0_pay14, k0_pay15]
  rw [h6 r c, h8 r c]
  rfl

/-- The grid's first sequence block reads zeros for the rows before it, the others what is there. -/
theorem sel_first {n : ℕ} (hn : n < 16) (x y : EReal) :
    Scalar.select (Scalar.cmpi .eq (BitVec.ofNat 32 n) 15#32) x y = if n = 15 then x else y := by
  interval_cases n <;> rfl

/-- A row of the block delayed by `k` rows, read from the sixteen rows before the block and the block. -/
theorem late_read {v11 v13 : Vec Ideal S16x512 .bf16} {v : Vec Ideal S256x512 .f32} {n : ℕ} (hn : n < 16) (k : ℕ)
    (hk0 : 1 ≤ k) (hk : k ≤ 2) (hb0 : n = 15 → b = 0) (hb1 : n ≠ 15 → 16 ≤ b)
    (h11 : n ≠ 15 → Rows (b - 16) v11 (fun t c => X.bx t (512 + c)))
    (h13 : n ≠ 15 → Rows (b - 16) v13 (fun t c => X.bx t (1024 + c))) (hv : Rows b v X.u)
    (r : Fin 256) (c : Fin 512) (h272 : (16 + r.val + 272 - k) % 272 - 16 < 256) :
    (if h : (16 + r.val + 272 - k) % 272 < 16 then
        Scalar.select (Scalar.cmpi .eq (BitVec.ofNat 32 n) 15#32) 0
          (v11 (ix2 ⟨(16 + r.val + 272 - k) % 272, h⟩ c) * v13 (ix2 ⟨(16 + r.val + 272 - k) % 272, h⟩ c))
      else v (ix2 ⟨(16 + r.val + 272 - k) % 272 - 16, h272⟩ c)) = late k X.u (b + r.val) c.val := by
  have hr := r.isLt
  have e : (16 + r.val + 272 - k) % 272 = 16 + r.val - k := by omega
  by_cases h : r.val < k
  · rw [dif_pos (by omega), sel_first hn]
    unfold late
    by_cases h15 : n = 15
    · rw [if_pos h15, if_neg (by have := hb0 h15; omega)]
    · have hb := hb1 h15
      rw [if_neg h15, if_pos (by omega), h11 h15, h13 h15]
      unfold Args.u
      rw [show b - 16 + (16 + r.val + 272 - k) % 272 = b + r.val - k by omega]
  · rw [dif_neg (by omega), hv]
    unfold late
    rw [if_pos (by omega)]
    congr 1
    dsimp only
    omega

theorem rows17 {i : grid0.Coords} {v6 v8 : Vec Ideal S256x512 .bf16} {v11 v13 : Vec Ideal S16x512 .bf16}
    {v23 v26 v30 : Vec Ideal S1x512 .f32} (h6 : Rows b v6 (fun t c => X.bx t (512 + c)))
    (h8 : Rows b v8 (fun t c => X.bx t (1024 + c)))
    (hb0 : (i 0).val = 15 → b = 0) (hb1 : (i 0).val ≠ 15 → 16 ≤ b)
    (h11 : (i 0).val ≠ 15 → Rows (b - 16) v11 (fun t c => X.bx t (512 + c)))
    (h13 : (i 0).val ≠ 15 → Rows (b - 16) v13 (fun t c => X.bx t (1024 + c)))
    (h23 : Rows 0 v23 X.cw) (h26 : Rows 1 v26 X.cw) (h30 : Rows 2 v30 X.cw) :
    Rows b (k0_pay17 i v6 v8 v11 v13 v23 v26 v30) X.cv := by
  intro r c
  have hi : (i 0).val < 16 := (i 0).isLt
  have hu := rows16 h6 h8
  pointwise [k0_pay17]
  have e2 := late_read hi 2 (by decide) (by decide) hb0 hb1 h11 h13 hu r c (by omega)
  have e1 := late_read hi 1 (by decide) (by decide) hb0 hb1 h11 h13 hu r c (by omega)
  have e := congrArg₂ (fun x y : EReal => x + y) (congrArg₂ (fun x y : EReal => x + y)
    (congrArg₂ (fun x y : EReal => x * y) (h23 0 c) e2) (congrArg₂ (fun x y : EReal => x * y) (h26 0 c) e1))
    (congrArg₂ (fun x y : EReal => x * y) (h30 0 c) (hu r c))
  exact e

end Cert.MixBlock
-- ==== Proof.MixBlock.lean ====
module

public import proofs.«01_k».proof.Proof.MixConv

@[expose] public section

set_option maxRecDepth 16384

/-!
# What one block computes

Each value the kernel's body forms for a block of 256 rows is the corresponding row of the layer's
gradient.  `b` is the first row of the block in the whole sequence.
-/

noncomputable section

open Idealize.ShloMosaic Cert.KernelIdeal Cert.KernelIdeal.Gen

namespace Cert.MixBlock

open Cert.MixSpec

variable {X : Args} {b : ℕ}

theorem rows18 {v5 v33 : FVec Ideal S256x512 .f32} (h5 : Rows b v5 X.bx) (h33 : Rows b v33 X.cv) :
    Rows b (k0_pay18 v5 v33) X.conv := by
  intro r c
  pointwise [k0_pay18]
  exact congrArg₂ (fun x y : EReal => x * y) (h5 r c) (h33 r c)

theorem rows19 {v34 : Vec Ideal S256x512 .bf16} {v37 : Vec Ideal S512x1024 .bf16} (h34 : Rows b v34 X.at')
    (h37 : Rows 0 v37 X.wa) : Rows b (k0_pay19 v34 v37) X.ap := by
  intro r d
  pointwise [k0_pay19]
  unfold Args.ap
  rw [← sum_fin_range]
  exact Finset.sum_congr rfl fun k _ => by rw [h34 r k, h37 k d, Nat.zero_add]

theorem rows20 {v5 v33 : FVec Ideal S256x512 .f32} {v39 : Vec Ideal S512x1024 .bf16} (h5 : Rows b v5 X.bx)
    (h33 : Rows b v33 X.cv) (h39 : Rows 0 v39 X.wc) : Rows b (k0_pay20 v5 v33 v39) X.cp := by
  intro r d
  have h := rows18 h5 h33
  pointwise [k0_pay20]
  unfold Args.cp
  rw [← sum_fin_range]
  exact Finset.sum_congr rfl fun k _ => by rw [h r k, h39 k d, Nat.zero_add]

theorem rows21 {v41 : Vec Ideal S256x1024 .f32} (h41 : Rows b v41 X.dh) : Rows b (k0_pay21 v41) X.dh := by
  intro r d
  pointwise [k0_pay21]
  exact h41 r d

theorem rows22 {v41 : Vec Ideal S256x1024 .f32} {v43 : Vec Ideal S1024x1024 .bf16} (h41 : Rows b v41 X.dh)
    (h43 : Rows 0 v43 X.wo) : Rows b (k0_pay22 v41 v43) X.dm := by
  intro r d
  have h := rows21 h41
  pointwise [k0_pay22]
  unfold Args.dm
  rw [← sum_fin_range]
  exact Finset.sum_congr rfl fun k _ => by rw [h r k, h43 d k, Nat.zero_add]

theorem rows23 {v45 : Vec Ideal S256x1024 .bf16} {f : ℕ → ℕ → EReal} (h : Rows b v45 f) :
    Rows b (k0_pay23 v45) (fun t d => sg (f t d)) := by
  intro r d
  pointwise [k0_pay23]
  rw [h r d]
  unfold sg
  first | rfl | rw [zero_sub]

theorem rows24 {v54 : Vec Ideal S256x1024 .bf16} {f : ℕ → ℕ → EReal} (h : Rows b v54 f) :
    Rows b (k0_pay24 v54) (fun t d => sg (f t d)) := by
  intro r d
  pointwise [k0_pay24]
  rw [h r d]
  unfold sg
  first | rfl | rw [zero_sub]

section

variable {v5 v33 : FVec Ideal S256x512 .f32} {v34 : Vec Ideal S256x512 .bf16} {v37 v39 : Vec Ideal S512x1024 .bf16}
  {v41 : Vec Ideal S256x1024 .f32} {v43 : Vec Ideal S1024x1024 .bf16} {v45 v54 : Vec Ideal S256x1024 .bf16}

theorem rows25 (h5 : Rows b v5 X.bx) (h33 : Rows b v33 X.cv) (h34 : Rows b v34 X.at') (h37 : Rows 0 v37 X.wa)
    (h39 : Rows 0 v39 X.wc) (h45 : Rows b v45 X.g) (h54 : Rows b v54 (fun t d => X.g t (1024 + d))) :
    Rows b (k0_pay25 v5 v33 v34 v37 v39 v45 v54) X.mg := by
  intro r d
  have e1 := rows23 h45 r d
  have e2 := rows24 h54 r d
  have e3 := rows19 h34 h37 r d
  have e4 := rows20 h5 h33 h39 r d
  pointwise [k0_pay25]
  rw [e1, e2, e3, e4]
  rfl

theorem rows26 (h41 : Rows b v41 X.dh) (h43 : Rows 0 v43 X.wo) (h45 : Rows b v45 X.g) :
    Rows b (k0_pay26 v41 v43 v45) X.da := by
  intro r d
  have e1 := rows23 h45 r d
  have e2 := rows22 h41 h43 r d
  pointwise [k0_pay26]
  rw [e1, e2]
  rfl

theorem rows27 (h41 : Rows b v41 X.dh) (h43 : Rows 0 v43 X.wo) (h54 : Rows b v54 (fun t d => X.g t (1024 + d))) :
    Rows b (k0_pay27 v41 v43 v54) X.dc := by
  intro r d
  have e1 := rows24 h54 r d
  have e2 := rows22 h41 h43 r d
  pointwise [k0_pay27]
  rw [e1, e2]
  rfl

/-- The gradient of the attention gate's logit. -/
theorem rows29 (h34 : Rows b v34 X.at') (h37 : Rows 0 v37 X.wa) (h41 : Rows b v41 X.dh) (h43 : Rows 0 v43 X.wo)
    (h45 : Rows b v45 X.g) : Rows b (k0_pay29 (k0_pay23 v45) (k0_pay28 v34 v37 v41 v43 v45)) X.dga := by
  intro r d
  have e1 := rows23 h45 r d
  have e2 := rows22 h41 h43 r d
  have e3 := rows19 h34 h37 r d
  pointwise [k0_pay29, k0_pay28]
  rw [e1, e2, e3]
  rfl

/-- The gradient of the convolution gate's logit. -/
theorem rows30 (h5 : Rows b v5 X.bx) (h33 : Rows b v33 X.cv) (h39 : Rows 0 v39 X.wc) (h41 : Rows b v41 X.dh)
    (h43 : Rows 0 v43 X.wo) (h54 : Rows b v54 (fun t d => X.g t (1024 + d))) :
    Rows b (k0_pay30 (k0_pay20 v5 v33 v39) (k0_pay22 v41 v43) (k0_pay24 v54)) X.dgc := by
  intro r d
  have e1 := rows24 h54 r d
  have e2 := rows22 h41 h43 r d
  have e3 := rows20 h5 h33 h39 r d
  pointwise [k0_pay30]
  rw [e1, e2, e3]
  rfl

theorem rows31 {v68 : FVec Ideal S256x1024 .bf16} {v85 : Vec Ideal S512x1024 .bf16} (h68 : Rows b v68 X.da)
    (h85 : Rows 0 v85 X.wa) : Rows b (k0_pay31 v68 v85) X.dat := by
  intro r c
  pointwise [k0_pay31]
  unfold Args.dat
  rw [← sum_fin_range]
  exact Finset.sum_congr rfl fun k _ => by rw [h68 r k, h85 c k, Nat.zero_add]

variable {v70 : FVec Ideal S256x1024 .bf16} {v89 : Vec Ideal S512x1024 .bf16}

theorem rows32 (h70 : Rows b v70 X.dc) (h89 : Rows 0 v89 X.wc) : Rows b (k0_pay32 v70 v89) X.dconv := by
  intro r c
  pointwise [k0_pay32]
  unfold Args.dconv
  rw [← sum_fin_range]
  exact Finset.sum_congr rfl fun k _ => by rw [h70 r k, h89 c k, Nat.zero_add]

theorem rows33 (h33 : Rows b v33 X.cv) (h70 : Rows b v70 X.dc) (h89 : Rows 0 v89 X.wc) :
    Rows b (k0_pay33 v33 v70 v89) X.dcb := by
  intro r c
  have e := rows32 h70 h89 r c
  pointwise [k0_pay33]
  rw [e, h33 r c]
  rfl

theorem rows34 (h5 : Rows b v5 X.bx) (h70 : Rows b v70 X.dc) (h89 : Rows 0 v89 X.wc) :
    Rows b (k0_pay34 v5 v70 v89) X.dd := by
  intro r c
  have e := rows32 h70 h89 r c
  pointwise [k0_pay34]
  rw [e, h5 r c]
  rfl

/-- The first sixteen rows, which the block before will need. -/
theorem rows35 (h5 : Rows b v5 X.bx) (h70 : Rows b v70 X.dc) (h89 : Rows 0 v89 X.wc) :
    Rows b (k0_pay35 v5 v70 v89) X.dd := by
  intro r c
  have e := rows34 h5 h70 h89
  pointwise [k0_pay35]
  exact e _ c

/-- The block's rows followed by the sixteen rows after it. -/
theorem rows36 {v95 : Vec Ideal S16x512 .f32} (h5 : Rows b v5 X.bx) (h70 : Rows b v70 X.dc) (h89 : Rows 0 v89 X.wc)
    (h95 : Rows (b + 256) v95 X.dd) : Rows b (k0_pay36 v5 v70 v89 v95) X.dd := by
  intro r c
  have e := rows34 h5 h70 h89
  pointwise [k0_pay36]
  by_cases h : r.val < 256
  · rw [dif_pos h, e]
  · rw [dif_neg h, h95]
    congr 1
    dsimp only
    omega

theorem rows37 {v95 : Vec Ideal S16x512 .f32} (h5 : Rows b v5 X.bx) (h70 : Rows b v70 X.dc) (h89 : Rows 0 v89 X.wc)
    (h95 : Rows (b + 256) v95 X.dd) : Rows b (k0_pay37 v5 v70 v89 v95) (fun t c => X.dd (t + 1) c) := by
  intro r c
  have e := rows36 h5 h70 h89 h95
  have hr := r.isLt
  pointwise [k0_pay37]
  rw [e]
  congr 1
  dsimp only
  omega

theorem rows38 {v95 : Vec Ideal S16x512 .f32} (h5 : Rows b v5 X.bx) (h70 : Rows b v70 X.dc) (h89 : Rows 0 v89 X.wc)
    (h95 : Rows (b + 256) v95 X.dd) : Rows b (k0_pay38 v5 v70 v89 v95) (fun t c => X.dd (t + 2) c) := by
  intro r c
  have e := rows36 h5 h70 h89 h95
  have hr := r.isLt
  pointwise [k0_pay38]
  rw [e]
  congr 1
  dsimp only
  omega

end

section

variable {v94 v102 v104 : FVec Ideal S256x512 .f32} {v105 v108 v112 : Vec Ideal S1x512 .f32}

theorem rows39 (h94 : Rows b v94 X.dd) (h102 : Rows b v102 (fun t c => X.dd (t + 1) c))
    (h104 : Rows b v104 (fun t c => X.dd (t + 2) c)) (h105 : Rows 2 v105 X.cw) (h108 : Rows 1 v108 X.cw)
    (h112 : Rows 0 v112 X.cw) : Rows b (k0_pay39 v94 v102 v104 v105 v108 v112) X.du := by
  intro r c
  pointwise [k0_pay39]
  rw [h94 r c, h102 r c, h104 r c, h105 0 c, h108 0 c, h112 0 c]
  rfl

theorem rows40 {v9 : FVec Ideal S256x512 .f32} (h9 : Rows b v9 (fun t c => X.bx t (1024 + c))) (h94 : Rows b v94 X.dd)
    (h102 : Rows b v102 (fun t c => X.dd (t + 1) c)) (h104 : Rows b v104 (fun t c => X.dd (t + 2) c))
    (h105 : Rows 2 v105 X.cw) (h108 : Rows 1 v108 X.cw) (h112 : Rows 0 v112 X.cw) :
    Rows b (k0_pay40 v9 v94 v102 v104 v105 v108 v112) X.dcc := by
  intro r c
  have e := rows39 h94 h102 h104 h105 h108 h112 r c
  pointwise [k0_pay40]
  rw [e, h9 r c]
  rfl

theorem rows41 {v7 : FVec Ideal S256x512 .f32} (h7 : Rows b v7 (fun t c => X.bx t (512 + c))) (h94 : Rows b v94 X.dd)
    (h102 : Rows b v102 (fun t c => X.dd (t + 1) c)) (h104 : Rows b v104 (fun t c => X.dd (t + 2) c))
    (h105 : Rows 2 v105 X.cw) (h108 : Rows 1 v108 X.cw) (h112 : Rows 0 v112 X.cw) :
    Rows b (k0_pay41 v7 v94 v102 v104 v105 v108 v112) X.dcx := by
  intro r c
  have e := rows39 h94 h102 h104 h105 h108 h112 r c
  pointwise [k0_pay41]
  rw [e, h7 r c]
  rfl

end

end Cert.MixBlock
-- ==== Proof.MixAcc.lean ====
module

public import proofs.«01_k».proof.Proof.MixBlock

@[expose] public section

set_option maxRecDepth 16384

/-!
# The sums over the rows

The weight gradients are sums over all 4096 rows, gathered block by block from the last block to the
first.  Before a block the accumulator holds the sum over the rows after the block; after it, the sum over
the rows from the block's first row on.
-/

noncomputable section

open Idealize.ShloMosaic Cert.KernelIdeal Cert.KernelIdeal.Gen

namespace Cert.MixBlock

open Cert.MixSpec

variable {X : Args} {b : ℕ}

/-- The matrix `v` holds, at `i`, `j`, the sum of `f i j` over the rows from `b` to the end. -/
def Sums (b : ℕ) {m n : ℕ} (v : (⟨2, ![m, n]⟩ : Shape).Idx → EReal) (f : ℕ → ℕ → ℕ → EReal) : Prop :=
  ∀ (r : Fin m) (c : Fin n), v (ix2 r c) = tail b (f r.val c.val)

theorem sums_zero9 (f : ℕ → ℕ → ℕ → EReal) : Sums 4096 (k0_pay9 (F := Ideal)) f := by
  intro r c
  pointwise [k0_pay9]
  rw [tail_end]

theorem sums_zero10 (f : ℕ → ℕ → ℕ → EReal) : Sums 4096 (k0_pay10 (F := Ideal)) f := by
  intro r c
  pointwise [k0_pay10]
  rw [tail_end]

theorem sums_zero11 (f : ℕ → ℕ → ℕ → EReal) : Sums 4096 (k0_pay11 (F := Ideal)) f := by
  intro r c
  pointwise [k0_pay11]
  rw [tail_end]

theorem sums_zero8 (f : ℕ → ℕ → ℕ → EReal) : Sums 4096 (k0_pay8 (F := Ideal)) f := by
  intro r c
  pointwise [k0_pay8]
  rw [tail_end]

theorem sums2 (hb : b + 256 ≤ 4096) {v42 v66 : FVec Ideal S256x1024 .bf16} {v143 : Vec Ideal S1024x1024 .f32}
    (h42 : Rows b v42 X.dh) (h66 : Rows b v66 X.mg) (h143 : Sums (b + 256) v143 X.wo') :
    Sums b (k0_pay2 v42 v66 v143) X.wo' := by
  intro r c
  pointwise [k0_pay2]
  rw [h143 r c, ← tail_block b hb]
  exact congrArg _ (Finset.sum_congr rfl fun k _ => by rw [h42 k c, h66 k r]; rfl)

theorem sums3 (hb : b + 256 ≤ 4096) {v34 : Vec Ideal S256x512 .bf16} {v68 : FVec Ideal S256x1024 .bf16}
    {v149 : Vec Ideal S512x1024 .f32} (h34 : Rows b v34 X.at') (h68 : Rows b v68 X.da)
    (h149 : Sums (b + 256) v149 X.wa') : Sums b (k0_pay3 v34 v68 v149) X.wa' := by
  intro r c
  pointwise [k0_pay3]
  rw [h149 r c, ← tail_block b hb]
  exact congrArg _ (Finset.sum_congr rfl fun k _ => by rw [h34 k r, h68 k c]; rfl)

theorem sums4 (hb : b + 256 ≤ 4096) {v36 : FVec Ideal S256x512 .bf16} {v70 : FVec Ideal S256x1024 .bf16}
    {v155 : Vec Ideal S512x1024 .f32} (h36 : Rows b v36 X.conv) (h70 : Rows b v70 X.dc)
    (h155 : Sums (b + 256) v155 X.wc') : Sums b (k0_pay4 v36 v70 v155) X.wc' := by
  intro r c
  pointwise [k0_pay4]
  rw [h155 r c, ← tail_block b hb]
  exact congrArg _ (Finset.sum_congr rfl fun k _ => by rw [h36 k r, h70 k c]; rfl)

theorem sums42 (hb : b + 256 ≤ 4096) {v10 v104 : FVec Ideal S256x512 .f32} {v122 : Vec Ideal S1x512 .f32}
    (h10 : Rows b v10 X.u) (h104 : Rows b v104 (fun t c => X.dd (t + 2) c))
    (h : Sums (b + 256) v122 (fun _ c t => X.wk 0 t c)) :
    Sums b (k0_pay42 v10 v104 v122) (fun _ c t => X.wk 0 t c) := by
  intro r c
  pointwise [k0_pay42]
  refine (congrArg₂ (fun x y : EReal => x + y) (h r c) (Finset.sum_congr rfl fun k _ => ?_)).trans (tail_block b hb _)
  rw [h10 k c, h104 k c]
  rfl

theorem sums43 (hb : b + 256 ≤ 4096) {v10 v102 : FVec Ideal S256x512 .f32} {v129 : Vec Ideal S1x512 .f32}
    (h10 : Rows b v10 X.u) (h102 : Rows b v102 (fun t c => X.dd (t + 1) c))
    (h : Sums (b + 256) v129 (fun _ c t => X.wk 1 t c)) :
    Sums b (k0_pay43 v10 v102 v129) (fun _ c t => X.wk 1 t c) := by
  intro r c
  pointwise [k0_pay43]
  refine (congrArg₂ (fun x y : EReal => x + y) (h r c) (Finset.sum_congr rfl fun k _ => ?_)).trans (tail_block b hb _)
  rw [h10 k c, h102 k c]
  rfl

theorem sums45 (hb : b + 256 ≤ 4096) {v10 v94 : FVec Ideal S256x512 .f32} {v136 : Vec Ideal S1x512 .f32}
    (h10 : Rows b v10 X.u) (h94 : Rows b v94 X.dd)
    (h : Sums (b + 256) v136 (fun _ c t => X.wk 2 t c)) :
    Sums b (k0_pay1 (k0_pay44 v136) (k0_pay45 v10 v94)) (fun _ c t => X.wk 2 t c) := by
  intro r c
  pointwise [k0_pay1, k0_pay44, k0_pay45]
  refine (congrArg₂ (fun x y : EReal => x + y) (h r c) (Finset.sum_congr rfl fun k _ => ?_)).trans (tail_block b hb _)
  rw [h10 k c, h94 k c]
  rfl

/-- The carried rows before the first block are zero. -/
theorem rows12 (h0 : ∀ t c, 4096 ≤ t → X.dd t c = 0) : Rows 4096 (k0_pay12 (F := Ideal)) X.dd := by
  intro r c
  pointwise [k0_pay12]
  rw [h0 _ _ (Nat.le_add_right _ _)]

theorem sums5 {v : Vec Ideal S1024x1024 .f32} {f : ℕ → ℕ → ℕ → EReal} (h : Sums b v f) : Sums b (k0_pay5 v) f := by
  intro r c
  pointwise [k0_pay5]
  exact h r c

theorem sums6 {v : Vec Ideal S512x1024 .f32} {f : ℕ → ℕ → ℕ → EReal} (h : Sums b v f) : Sums b (k0_pay6 v) f := by
  intro r c
  pointwise [k0_pay6]
  exact h r c

theorem sums7 {v : Vec Ideal S512x1024 .f32} {f : ℕ → ℕ → ℕ → EReal} (h : Sums b v f) : Sums b (k0_pay7 v) f := by
  intro r c
  pointwise [k0_pay7]
  exact h r c

end Cert.MixBlock
-- ==== Proof.MixPiece.lean ====
module

public import proofs.«01_k».proof.Proof.MixAcc
public import Idealize.ShloMosaic.Lib.Pipeline.Value
public import Idealize.ShloMosaic.Lib.Pointwise

@[expose] public section

set_option maxRecDepth 16384

/-!
# Parts of a matrix

Reading a rectangle of a matrix, and a matrix written rectangle by rectangle.
-/

noncomputable section

open Idealize.ShloMosaic

namespace Cert.MixBlock

open Cert.MixSpec

theorem hz : (![0, 0] : Fin 2 → Nat) = fun _ => 0 := funext fun a => by fin_cases a <;> rfl

section

variable {n m n' m' : ℕ} {e : EltTy}

theorem emb_ix2 (r0 c0 : ℕ) (h : ∀ a, (![r0, c0] : Fin 2 → ℕ) a + (![n', m'] : Fin 2 → ℕ) a ≤ (![n, m] : Fin 2 → ℕ) a)
    (r : Fin n) (c : Fin m) (r' : Fin n') (c' : Fin m') (hr : r.val = r0 + r'.val) (hc : c.val = c0 + c'.val) :
    (Rect.unit (s := ⟨2, ![n, m]⟩) ![r0, c0] ![n', m'] h).emb (ix2 r' c') = ix2 r c := by
  funext a
  apply Fin.ext
  match a with
  | ⟨0, _⟩ => show r0 + 1 * r'.val = r.val; omega
  | ⟨1, _⟩ => show c0 + 1 * c'.val = c.val; omega

/-- Where the last rectangle written holds the place, its entry is what is there. -/
theorem canon_on {Val : EltTy → Type} [∀ e, Nonempty (Val e)] (r0 c0 : ℕ)
    (h : ∀ a, (![r0, c0] : Fin 2 → ℕ) a + (![n', m'] : Fin 2 → ℕ) a ≤ (![n, m] : Fin 2 → ℕ) a)
    (w : (⟨2, ![n', m']⟩ : Shape).Idx → Val e) (L : List (View.Piece Val ⟨2, ![n, m]⟩ e))
    (r : Fin n) (c : Fin m) (r' : Fin n') (c' : Fin m') (hr : r.val = r0 + r'.val) (hc : c.val = c0 + c'.val) :
    View.canon (⟨Rect.unit (s := ⟨2, ![n, m]⟩) ![r0, c0] ![n', m'] h, w⟩ :: L) (ix2 r c) = w (ix2 r' c') := by
  rw [← emb_ix2 r0 c0 h r c r' c' hr hc]
  exact View.canon_cons_emb _ _ _ _

/-- Elsewhere, what was there before it. -/
theorem canon_off {Val : EltTy → Type} [∀ e, Nonempty (Val e)] (r0 c0 : ℕ)
    (h : ∀ a, (![r0, c0] : Fin 2 → ℕ) a + (![n', m'] : Fin 2 → ℕ) a ≤ (![n, m] : Fin 2 → ℕ) a)
    (w : (⟨2, ![n', m']⟩ : Shape).Idx → Val e) (L : List (View.Piece Val ⟨2, ![n, m]⟩ e))
    (r : Fin n) (c : Fin m) (ho : ¬((r0 ≤ r.val ∧ r.val < r0 + n') ∧ c0 ≤ c.val ∧ c.val < c0 + m')) :
    View.canon (⟨Rect.unit (s := ⟨2, ![n, m]⟩) ![r0, c0] ![n', m'] h, w⟩ :: L) (ix2 r c) = View.canon L (ix2 r c) := by
  apply View.canon_cons_of_not_mem
  rw [Rect.mem_set_unit]
  intro hh
  exact ho ⟨hh 0, hh 1⟩

theorem ld_ix2 {Val : EltTy → Type} (v : (⟨2, ![n, m]⟩ : Shape).Idx → Val e) (r0 c0 : ℕ)
    (h : ∀ a, (![r0, c0] : Fin 2 → ℕ) a + (![n', m'] : Fin 2 → ℕ) a ≤ (![n, m] : Fin 2 → ℕ) a)
    (r' : Fin n') (c' : Fin m') (h0 : r0 + r'.val < n) (h1 : c0 + c'.val < m) :
    View.ld v (Rect.unit (s := ⟨2, ![n, m]⟩) ![r0, c0] ![n', m'] h) (ix2 r' c') = v (ix2 ⟨r0 + r'.val, h0⟩ ⟨c0 + c'.val, h1⟩) :=
  congrArg v (emb_ix2 r0 c0 h ⟨r0 + r'.val, h0⟩ ⟨c0 + c'.val, h1⟩ r' c' rfl rfl)

variable {b : ℕ} {f : ℕ → ℕ → EReal}

/-- A rectangle read from a matrix's rows. -/
theorem rows_ld16 {v : Vec Ideal ⟨2, ![n, m]⟩ .bf16} (r0 c0 : ℕ)
    (h : ∀ a, (![r0, c0] : Fin 2 → ℕ) a + (![n', m'] : Fin 2 → ℕ) a ≤ (![n, m] : Fin 2 → ℕ) a) (hv : Rows b v f) :
    Rows (b + r0) (n := n') (m := m') (View.ld v (Rect.unit (s := ⟨2, ![n, m]⟩) ![r0, c0] ![n', m'] h)) (fun t c => f t (c0 + c)) := by
  intro r c
  have h0 : r0 + n' ≤ n := h 0
  have h1 : c0 + m' ≤ m := h 1
  have hr := r.isLt
  have hc := c.isLt
  refine (ld_ix2 v r0 c0 h r c (by omega) (by omega)).trans ((hv _ _).trans ?_)
  dsimp only
  rw [Nat.add_assoc]

theorem rows_ld32 {v : Vec Ideal ⟨2, ![n, m]⟩ .f32} (r0 c0 : ℕ)
    (h : ∀ a, (![r0, c0] : Fin 2 → ℕ) a + (![n', m'] : Fin 2 → ℕ) a ≤ (![n, m] : Fin 2 → ℕ) a) (hv : Rows b v f) :
    Rows (b + r0) (n := n') (m := m') (View.ld v (Rect.unit (s := ⟨2, ![n, m]⟩) ![r0, c0] ![n', m'] h)) (fun t c => f t (c0 + c)) :=
  rows_ld16 (v := v) r0 c0 h hv

theorem rows_off {n m b : ℕ} {v : (⟨2, ![n, m]⟩ : Shape).Idx → EReal} {f : ℕ → ℕ → EReal}
    (h : Rows (b + 0) v (fun t c => f t (0 + c))) : Rows b v f := by
  intro r c
  have := h r c
  dsimp only at this
  rwa [Nat.add_zero, Nat.zero_add] at this

/-- The whole matrix read. -/
theorem rows_all16 {v : Vec Ideal ⟨2, ![n, m]⟩ .bf16}
    (h : ∀ a, (![0, 0] : Fin 2 → ℕ) a + (![n', m'] : Fin 2 → ℕ) a ≤ (![n, m] : Fin 2 → ℕ) a) (hv : Rows b v f) :
    Rows b (n := n') (m := m') (View.ld v (Rect.unit (s := ⟨2, ![n, m]⟩) ![0, 0] ![n', m'] h)) f :=
  rows_off (rows_ld16 0 0 h hv)

theorem rows_all32 {v : Vec Ideal ⟨2, ![n, m]⟩ .f32}
    (h : ∀ a, (![0, 0] : Fin 2 → ℕ) a + (![n', m'] : Fin 2 → ℕ) a ≤ (![n, m] : Fin 2 → ℕ) a) (hv : Rows b v f) :
    Rows b (n := n') (m := m') (View.ld v (Rect.unit (s := ⟨2, ![n, m]⟩) ![0, 0] ![n', m'] h)) f :=
  rows_off (rows_ld32 0 0 h hv)

end

end Cert.MixBlock
-- ==== Proof.MixRef.lean ====
module

public import proofs.«01_k».proof.Proof.MixSpec
public import proofs.«01_k».proof.Proof.Gen.ReferenceIdeal.Read
public import Idealize.ShloMosaic.Lib.Pointwise

@[expose] public section

set_option maxRecDepth 16384

/-!
# What the reference computes

Every array of the reference, read at a row and a column, is the value the specification names.  The
derivative of the shifted slices comes out as three padded arrays added up, which is the sum over the
three taps; the derivative of a tap sums over the row that receives, where the specification sums over
the row that is read.
-/

noncomputable section

open Idealize.ShloMosaic Cert.ReferenceIdeal Cert.ReferenceIdeal.Gen Cert.ReferenceIdeal.Read

namespace Cert.MixRef

open Cert.MixSpec

/-- The matrix `v` holds `f`. -/
def Holds {n m : ℕ} (v : (⟨2, ![n, m]⟩ : Shape).Idx → EReal) (f : ℕ → ℕ → EReal) : Prop :=
  ∀ (r : Fin n) (c : Fin m), v (ix2 r c) = f r.val c.val

theorem holds_rd {n m : ℕ} (v : (⟨2, ![n, m]⟩ : Shape).Idx → EReal) : Holds v (rd v) :=
  fun r c => rd_ix2 v r c

variable (x0 : S4096x1024.Idx → EReal) (x1 : S1024x1024.Idx → EReal) (x2 : S4096x2048.Idx → EReal)
  (x3 : S4096x512.Idx → EReal) (x4 x5 : S512x1024.Idx → EReal) (x6 : S4096x1536.Idx → EReal)
  (x7 : S3x512.Idx → EReal)

/-- The arguments as matrices read at numbers. -/
def args : Args := ⟨rd x0, rd x1, rd x2, rd x3, rd x4, rd x5, rd x6, rd x7⟩

local notation "X" => args x0 x1 x2 x3 x4 x5 x6 x7

theorem dd_out (t c : ℕ) (h : 4096 ≤ t) : (X).dd t c = 0 := by
  unfold Args.dd
  rw [show (X).bx t c = 0 from rd_row_out x6 c h, mul_zero]

theorem h1 : Holds (val_main_v1 (F := Ideal) x6) (X).bx := by
  intro r c
  pointwise [val_main_v1, val_main_v0]
  exact (rd_ix2 x6 _ _)

theorem h2 : Holds (val_main_v2 (F := Ideal) x6) (fun t c => (X).bx t (512 + c)) := by
  intro r c
  pointwise [val_main_v2, val_main_v0]
  exact (rd_ix2 x6 _ _)

theorem h3 : Holds (val_main_v3 (F := Ideal) x6) (fun t c => (X).bx t (1024 + c)) := by
  intro r c
  pointwise [val_main_v3, val_main_v0]
  exact (rd_ix2 x6 _ _)

theorem h11 : Holds (val_main_v11 (F := Ideal) x6) (X).u := by
  intro r c
  have e2 := h2 x0 x1 x2 x3 x4 x5 x6 x7 r c
  have e3 := h3 x0 x1 x2 x3 x4 x5 x6 x7 r c
  pointwise [val_main_v11]
  rw [e2, e3]
  rfl

theorem h13 : Holds (val_main_v13 (F := Ideal) x6) (late 2 (X).u) := by
  intro r c
  have e := h11 x0 x1 x2 x3 x4 x5 x6 x7
  have hr := r.isLt
  pointwise [val_main_v13, val_main_v12, val_main_cst]
  unfold late
  by_cases h : r.val < 2
  · rw [dif_pos h, if_neg (by omega)]
  · rw [dif_neg h]
    exact (e _ c).trans (if_pos (by omega)).symm

theorem h17 : Holds (val_main_v17 (F := Ideal) x6) (late 2 (X).u) := by
  intro r c
  have e := h13 x0 x1 x2 x3 x4 x5 x6 x7
  pointwise [val_main_v17]
  exact e _ c

theorem h23 : Holds (val_main_v23 (F := Ideal) x6) (late 1 (X).u) := by
  intro r c
  have e := h13 x0 x1 x2 x3 x4 x5 x6 x7
  pointwise [val_main_v23]
  rw [e]
  unfold late
  dsimp only
  by_cases h : 1 ≤ r.val
  · rw [if_pos (by omega), if_pos h]
    congr 1
    omega
  · rw [if_neg (by omega), if_neg h]

theorem h30 : Holds (val_main_v30 (F := Ideal) x6) (X).u := by
  intro r c
  have e := h13 x0 x1 x2 x3 x4 x5 x6 x7
  pointwise [val_main_v30]
  rw [e]
  unfold late
  dsimp only
  rw [if_pos (by omega)]
  congr 1
  omega

theorem h19 : Holds (val_main_v19 (F := Ideal) x7) (fun _ c => (X).cw 0 c) := by
  intro r c
  pointwise [val_main_v19, val_main_v18, val_main_v16, val_main_v15]
  exact (rd_ix2 x7 _ _)

theorem h97 : Holds (val_main_v97 (F := Ideal) x7) (fun _ c => (X).cw 0 c) := by
  intro r c
  pointwise [val_main_v97, val_main_v18, val_main_v16, val_main_v15]
  exact (rd_ix2 x7 _ _)

theorem h25 : Holds (val_main_v25 (F := Ideal) x7) (fun _ c => (X).cw 1 c) := by
  intro r c
  pointwise [val_main_v25, val_main_v24, val_main_v22, val_main_v21]
  exact (rd_ix2 x7 _ _)

theorem h86 : Holds (val_main_v86 (F := Ideal) x7) (fun _ c => (X).cw 1 c) := by
  intro r c
  pointwise [val_main_v86, val_main_v24, val_main_v22, val_main_v21]
  exact (rd_ix2 x7 _ _)

theorem h32 : Holds (val_main_v32 (F := Ideal) x7) (fun _ c => (X).cw 2 c) := by
  intro r c
  pointwise [val_main_v32, val_main_v31, val_main_v29, val_main_v28]
  exact (rd_ix2 x7 _ _)

theorem h77 : Holds (val_main_v77 (F := Ideal) x7) (fun _ c => (X).cw 2 c) := by
  intro r c
  pointwise [val_main_v77, val_main_v31, val_main_v29, val_main_v28]
  exact (rd_ix2 x7 _ _)

theorem h34 : Holds (val_main_v34 (F := Ideal) x6 x7) (X).cv := by
  intro r c
  have e17 := h17 x0 x1 x2 x3 x4 x5 x6 x7 r c
  have e23 := h23 x0 x1 x2 x3 x4 x5 x6 x7 r c
  have e30 := h30 x0 x1 x2 x3 x4 x5 x6 x7 r c
  have e19 := h19 x0 x1 x2 x3 x4 x5 x6 x7 r c
  have e25 := h25 x0 x1 x2 x3 x4 x5 x6 x7 r c
  have e32 := h32 x0 x1 x2 x3 x4 x5 x6 x7 r c
  pointwise [val_main_v34, val_main_v33, val_main_v27, val_main_v26, val_main_v20]
  rw [e17, e23, e30, e19, e25, e32]
  rfl

theorem h35 : Holds (val_main_v35 (F := Ideal) x6 x7) (X).conv := by
  intro r c
  have e1 := h1 x0 x1 x2 x3 x4 x5 x6 x7 r c
  have e2 := h34 x0 x1 x2 x3 x4 x5 x6 x7 r c
  pointwise [val_main_v35]
  rw [e1, e2]
  rfl

theorem h41 : Holds (val_main_v41 (F := Ideal) x2) (X).sa := by
  intro r d
  pointwise [val_main_v41, val_main_v40, val_main_v39, val_main_v38, val_main_v37, val_main_v36, val_main_v9, val_main_v4,
    val_main_cst_1, val_main_cst_2]
  rw [rd_ix2 x2]
  rfl

theorem h52 : Holds (val_main_v52 (F := Ideal) x2) (X).sc := by
  intro r d
  pointwise [val_main_v52, val_main_v51, val_main_v50, val_main_v49, val_main_v48, val_main_v47, val_main_v10, val_main_v4,
    val_main_cst_4, val_main_cst_5]
  rw [rd_ix2 x2]
  rfl

theorem h45 : Holds (val_main_v45 (F := Ideal) x3 x4) (X).ap := by
  intro r d
  pointwise [val_main_v45, val_main_v5, val_main_v7]
  unfold Args.ap
  rw [← sum_fin_range]
  exact Finset.sum_congr rfl fun k _ => by rw [rd_ix2 x3, rd_ix2 x4]; rfl

theorem h56 : Holds (val_main_v56 (F := Ideal) x5 x6 x7) (X).cp := by
  intro r d
  have e := h35 x0 x1 x2 x3 x4 x5 x6 x7
  pointwise [val_main_v56, val_main_v8]
  unfold Args.cp
  rw [← sum_fin_range]
  exact Finset.sum_congr rfl fun k _ => by rw [e r k, rd_ix2 x5]; rfl

theorem h58 : Holds (val_main_v58 (F := Ideal) x2 x3 x4 x5 x6 x7) (X).mg := by
  intro r d
  have e1 := h41 x0 x1 x2 x3 x4 x5 x6 x7 r d
  have e2 := h45 x0 x1 x2 x3 x4 x5 x6 x7 r d
  have e3 := h52 x0 x1 x2 x3 x4 x5 x6 x7 r d
  have e4 := h56 x0 x1 x2 x3 x4 x5 x6 x7 r d
  pointwise [val_main_v58, val_main_v57, val_main_v46]
  rw [e1, e2, e3, e4]
  rfl

theorem h62 : Holds (val_main_v62 (F := Ideal) x0 x1) (X).dm := by
  intro r d
  pointwise [val_main_v62, val_main_v6]
  unfold Args.dm
  rw [← sum_fin_range]
  exact Finset.sum_congr rfl fun k _ => by rw [rd_ix2 x0, rd_ix2 x1]; rfl

theorem h63 : Holds (val_main_v63 (F := Ideal) x0 x1 x2) (X).dc := by
  intro r d
  have e1 := h52 x0 x1 x2 x3 x4 x5 x6 x7 r d
  have e2 := h62 x0 x1 x2 x3 x4 x5 x6 x7 r d
  pointwise [val_main_v63]
  rw [e1, e2]
  exact mul_comm _ _

theorem h69 : Holds (val_main_v69 (F := Ideal) x0 x1 x2) (X).da := by
  intro r d
  have e1 := h41 x0 x1 x2 x3 x4 x5 x6 x7 r d
  have e2 := h62 x0 x1 x2 x3 x4 x5 x6 x7 r d
  pointwise [val_main_v69]
  rw [e1, e2]
  exact mul_comm _ _

theorem h73 : Holds (val_main_v73 (F := Ideal) x0 x1 x2 x4) (X).dat := by
  intro r c
  have e := h69 x0 x1 x2 x3 x4 x5 x6 x7
  pointwise [val_main_v73, val_main_v7]
  unfold Args.dat
  rw [← sum_fin_range]
  exact Finset.sum_congr rfl fun k _ => by rw [e r k, rd_ix2 x4]; rfl

theorem h67 : Holds (val_main_v67 (F := Ideal) x0 x1 x2 x5) (X).dconv := by
  intro r c
  have e := h63 x0 x1 x2 x3 x4 x5 x6 x7
  pointwise [val_main_v67, val_main_v8]
  unfold Args.dconv
  rw [← sum_fin_range]
  exact Finset.sum_congr rfl fun k _ => by rw [e r k, rd_ix2 x5]; rfl

theorem h74 : Holds (val_main_v74 (F := Ideal) x0 x1 x2 x3 x4) (X).dga := by
  intro r d
  have e1 := h41 x0 x1 x2 x3 x4 x5 x6 x7 r d
  have e2 := h62 x0 x1 x2 x3 x4 x5 x6 x7 r d
  have e3 := h45 x0 x1 x2 x3 x4 x5 x6 x7 r d
  pointwise [val_main_v74, val_main_v70, val_main_v44, val_main_v43, val_main_v42, val_main_cst_3]
  rw [e1, e2, e3]
  exact (mul_assoc _ _ _).symm

theorem h68 : Holds (val_main_v68 (F := Ideal) x0 x1 x2 x5 x6 x7) (X).dgc := by
  intro r d
  have e1 := h52 x0 x1 x2 x3 x4 x5 x6 x7 r d
  have e2 := h62 x0 x1 x2 x3 x4 x5 x6 x7 r d
  have e3 := h56 x0 x1 x2 x3 x4 x5 x6 x7 r d
  pointwise [val_main_v68, val_main_v64, val_main_v55, val_main_v54, val_main_v53, val_main_cst_6]
  rw [e1, e2, e3]
  exact (mul_assoc _ _ _).symm

theorem h75 : Holds (val_main_v75 (F := Ideal) x0 x1 x2 x5 x6) (X).dd := by
  intro r c
  have e1 := h1 x0 x1 x2 x3 x4 x5 x6 x7 r c
  have e2 := h67 x0 x1 x2 x3 x4 x5 x6 x7 r c
  pointwise [val_main_v75]
  rw [e1, e2]
  exact mul_comm _ _

theorem h76 : Holds (val_main_v76 (F := Ideal) x0 x1 x2 x5 x6 x7) (X).dcb := by
  intro r c
  have e1 := h67 x0 x1 x2 x3 x4 x5 x6 x7 r c
  have e2 := h34 x0 x1 x2 x3 x4 x5 x6 x7 r c
  pointwise [val_main_v76]
  rw [e1, e2]
  rfl

theorem h78 : Holds (val_main_v78 (F := Ideal) x0 x1 x2 x5 x6 x7) (fun t c => (X).cw 2 c * (X).dd t c) := by
  intro r c
  have e1 := h77 x0 x1 x2 x3 x4 x5 x6 x7 r c
  have e2 := h75 x0 x1 x2 x3 x4 x5 x6 x7 r c
  pointwise [val_main_v78]
  rw [e1, e2]

theorem h87 : Holds (val_main_v87 (F := Ideal) x0 x1 x2 x5 x6 x7) (fun t c => (X).cw 1 c * (X).dd t c) := by
  intro r c
  have e1 := h86 x0 x1 x2 x3 x4 x5 x6 x7 r c
  have e2 := h75 x0 x1 x2 x3 x4 x5 x6 x7 r c
  pointwise [val_main_v87]
  rw [e1, e2]

theorem h98 : Holds (val_main_v98 (F := Ideal) x0 x1 x2 x5 x6 x7) (fun t c => (X).cw 0 c * (X).dd t c) := by
  intro r c
  have e1 := h97 x0 x1 x2 x3 x4 x5 x6 x7 r c
  have e2 := h75 x0 x1 x2 x3 x4 x5 x6 x7 r c
  pointwise [val_main_v98]
  rw [e1, e2]

theorem h109 : Holds (val_main_v109 (F := Ideal) x0 x1 x2 x5 x6 x7) (X).du := by
  intro r c
  have e1 := h78 x0 x1 x2 x3 x4 x5 x6 x7
  have e2 := h87 x0 x1 x2 x3 x4 x5 x6 x7
  have e3 := h98 x0 x1 x2 x3 x4 x5 x6 x7
  have hr := r.isLt
  pointwise [val_main_v109, val_main_v104, val_main_v93, val_main_v83, val_main_v92, val_main_v103, val_main_cst_9,
    val_main_cst_13, val_main_cst_17]
  have d1 : (if h : 1 ≤ 2 + r.val ∧ 2 + r.val - 1 < 4096 then
      val_main_v87 (F := Ideal) x0 x1 x2 x5 x6 x7 (ix2 ⟨2 + r.val - 1, h.2⟩ c) else 0) =
      (X).cw 1 c * (X).dd (r.val + 1) c := by
    by_cases h : r.val + 1 < 4096
    · rw [dif_pos (by omega), e2]
      congr 2
      dsimp only
      omega
    · rw [dif_neg (by omega), dd_out _ _ _ _ _ _ _ _ _ _ (by omega), mul_zero]
  have d2 : (if h : 2 + r.val < 4096 then
      val_main_v98 (F := Ideal) x0 x1 x2 x5 x6 x7 (ix2 ⟨2 + r.val, h⟩ c) else 0) =
      (X).cw 0 c * (X).dd (r.val + 2) c := by
    by_cases h : r.val + 2 < 4096
    · rw [dif_pos (by omega), e3]
      congr 2
      dsimp only
      omega
    · rw [dif_neg (by omega), dd_out _ _ _ _ _ _ _ _ _ _ (by omega), mul_zero]
  exact congrArg₂ (fun x y : EReal => x + y) (congrArg₂ (fun x y : EReal => x + y) (e1 r c) d1) d2

/-- A sum over the rows that receive, as the sum over the rows that are read. -/
theorem sum_late (n j : ℕ) (f g : ℕ → EReal) (hf : ∀ t, n ≤ t → f t = 0) :
    (∑ t ∈ Finset.range n, f t * (if j ≤ t then g (t - j) else 0)) = ∑ t ∈ Finset.range n, f (t + j) * g t := by
  have a : (∑ t ∈ Finset.range (n + j), f t * (if j ≤ t then g (t - j) else 0)) =
      ∑ t ∈ Finset.range n, f t * (if j ≤ t then g (t - j) else 0) := by
    rw [Finset.sum_range_add]
    rw [Finset.sum_eq_zero (s := Finset.range j) fun t _ => by rw [hf _ (Nat.le_add_right n t), zero_mul], add_zero]
  rw [← a, Nat.add_comm n j, Finset.sum_range_add]
  rw [Finset.sum_eq_zero (s := Finset.range j) fun t ht => by
    rw [if_neg (Nat.not_le.mpr (Finset.mem_range.mp ht)), mul_zero], zero_add]
  exact Finset.sum_congr rfl fun t _ => by
    rw [if_pos (Nat.le_add_right j t), Nat.add_sub_cancel_left, Nat.add_comm j t]

theorem h84 (r : Fin 1) (c : Fin 512) : val_main_v84 (F := Ideal) x0 x1 x2 x5 x6 (ix2 r c) =
    ∑ t ∈ Finset.range 4096, (X).wk 2 t c := by
  have e1 := h75 x0 x1 x2 x3 x4 x5 x6 x7
  have e2 := h30 x0 x1 x2 x3 x4 x5 x6 x7
  pointwise [val_main_v84, val_main_v82, val_main_v81, val_main_v80, val_main_v79, val_main_cst_7, val_main_cst_8]
  refine (Fin.sum_univ_one _).trans ?_
  rw [← sum_fin_range]
  exact Finset.sum_congr rfl fun k _ => by rw [e1 k c, e2 k c]; rfl

theorem h94 (r : Fin 1) (c : Fin 512) : val_main_v94 (F := Ideal) x0 x1 x2 x5 x6 (ix2 r c) =
    ∑ t ∈ Finset.range 4096, (X).wk 1 t c := by
  have e1 := h75 x0 x1 x2 x3 x4 x5 x6 x7
  have e2 := h23 x0 x1 x2 x3 x4 x5 x6 x7
  pointwise [val_main_v94, val_main_v91, val_main_v90, val_main_v89, val_main_v88, val_main_cst_11, val_main_cst_12]
  refine (Fin.sum_univ_one _).trans ?_
  refine Eq.trans ?_ (sum_late 4096 1 (fun t => (X).dd t c) (fun t => (X).u t c)
    fun t ht => dd_out x0 x1 x2 x3 x4 x5 x6 x7 t c ht)
  rw [← sum_fin_range]
  exact Finset.sum_congr rfl fun k _ => by rw [e1 k c, e2 k c]; rfl

theorem h105 (r : Fin 1) (c : Fin 512) : val_main_v105 (F := Ideal) x0 x1 x2 x5 x6 (ix2 r c) =
    ∑ t ∈ Finset.range 4096, (X).wk 0 t c := by
  have e1 := h75 x0 x1 x2 x3 x4 x5 x6 x7
  have e2 := h17 x0 x1 x2 x3 x4 x5 x6 x7
  pointwise [val_main_v105, val_main_v102, val_main_v101, val_main_v100, val_main_v99, val_main_cst_15, val_main_cst_16]
  refine (Fin.sum_univ_one _).trans ?_
  refine Eq.trans ?_ (sum_late 4096 2 (fun t => (X).dd t c) (fun t => (X).u t c)
    fun t ht => dd_out x0 x1 x2 x3 x4 x5 x6 x7 t c ht)
  rw [← sum_fin_range]
  exact Finset.sum_congr rfl fun k _ => by rw [e1 k c, e2 k c]; rfl

/-- The gradient of the taps. -/
theorem h107 : Holds (val_main_v107 (F := Ideal) x0 x1 x2 x5 x6)
    (fun k c => ∑ t ∈ Finset.range 4096, (X).wk k t c) := by
  intro r c
  have e1 := h84 x0 x1 x2 x3 x4 x5 x6 x7
  have e2 := h94 x0 x1 x2 x3 x4 x5 x6 x7
  have e3 := h105 x0 x1 x2 x3 x4 x5 x6 x7
  pointwise [val_main_v107, val_main_v106, val_main_v96, val_main_v85, val_main_v95, val_main_cst_10, val_main_cst_14,
    val_main_cst_18]
  have hr := r.isLt
  have d1 : (if h : 2 ≤ r.val ∧ r.val - 2 < 1 then
      val_main_v84 (F := Ideal) x0 x1 x2 x5 x6 (ix2 ⟨r.val - 2, h.2⟩ c) else 0) =
      if r.val = 2 then ∑ t ∈ Finset.range 4096, (X).wk r.val t c else 0 := by
    by_cases h : r.val = 2
    · rw [dif_pos (by omega), e1, if_pos h, h]
    · rw [dif_neg (by omega), if_neg h]
  have d2 : (if h : 1 ≤ r.val ∧ r.val - 1 < 1 then
      val_main_v94 (F := Ideal) x0 x1 x2 x5 x6 (ix2 ⟨r.val - 1, h.2⟩ c) else 0) =
      if r.val = 1 then ∑ t ∈ Finset.range 4096, (X).wk r.val t c else 0 := by
    by_cases h : r.val = 1
    · rw [dif_pos (by omega), e2, if_pos h, h]
    · rw [dif_neg (by omega), if_neg h]
  have d3 : (if h : r.val < 1 then
      val_main_v105 (F := Ideal) x0 x1 x2 x5 x6 (ix2 ⟨r.val, h⟩ c) else 0) =
      if r.val = 0 then ∑ t ∈ Finset.range 4096, (X).wk r.val t c else 0 := by
    by_cases h : r.val = 0
    · rw [dif_pos (by omega), e3, if_pos h, h]
    · rw [dif_neg (by omega), if_neg h]
  refine (congrArg₂ (fun x y : EReal => x + y) (congrArg₂ (fun x y : EReal => x + y) d1 d2) d3).trans ?_
  have hc : r.val = 0 ∨ r.val = 1 ∨ r.val = 2 := by omega
  rcases hc with h | h | h <;> simp [h]

theorem h111 : Holds (val_main_v116 (F := Ideal) x0 x1 x2 x5 x6 x7) (X).dcc := by
  intro r c
  have e1 := h109 x0 x1 x2 x3 x4 x5 x6 x7 r c
  have e2 := h3 x0 x1 x2 x3 x4 x5 x6 x7 r c
  pointwise [val_main_v116, val_main_v111]
  rw [e1, e2]
  rfl

theorem h117 : Holds (val_main_v117 (F := Ideal) x0 x1 x2 x5 x6 x7) (X).dcx := by
  intro r c
  have e1 := h109 x0 x1 x2 x3 x4 x5 x6 x7 r c
  have e2 := h2 x0 x1 x2 x3 x4 x5 x6 x7 r c
  pointwise [val_main_v117, val_main_v110]
  rw [e1, e2]
  exact mul_comm _ _

theorem h115 : Holds (val_main_v115 (F := Ideal) x0 x1 x2 x5 x6 x7) (X).dcb := by
  intro r c
  have e := h76 x0 x1 x2 x3 x4 x5 x6 x7 r c
  pointwise [val_main_v115]
  exact e

theorem h114 : Holds (val_main_v114 (F := Ideal) x0 x1 x2 x4) (X).dat := by
  intro r c
  have e := h73 x0 x1 x2 x3 x4 x5 x6 x7 r c
  pointwise [val_main_v114]
  exact e

/-- The gradient of the two gates side by side. -/
theorem h113 : Holds (val_main_v113 (F := Ideal) x0 x1 x2 x3 x4 x5 x6 x7)
    (fun t d => if d < 1024 then (X).dga t d else (X).dgc t (d - 1024)) := by
  intro r d
  have e1 := h74 x0 x1 x2 x3 x4 x5 x6 x7
  have e2 := h68 x0 x1 x2 x3 x4 x5 x6 x7
  pointwise [val_main_v113, val_main_v112]
  by_cases h : d.val < 1024
  · rw [dif_pos h, if_pos h]
    exact e1 r _
  · rw [dif_neg h, if_neg h]
    exact e2 r _

theorem h118 : Holds (val_main_v118 (F := Ideal) x0 x2 x3 x4 x5 x6 x7)
    (fun d e => ∑ t ∈ Finset.range 4096, (X).wo' d e t) := by
  intro r c
  have e := h58 x0 x1 x2 x3 x4 x5 x6 x7
  pointwise [val_main_v118, val_main_v61, val_main_v60]
  rw [← sum_fin_range]
  exact Finset.sum_congr rfl fun k _ => by rw [e k r, rd_ix2 x0]; exact mul_comm _ _

theorem h119 : Holds (val_main_v119 (F := Ideal) x0 x1 x2 x3)
    (fun c d => ∑ t ∈ Finset.range 4096, (X).wa' c d t) := by
  intro r c
  have e := h69 x0 x1 x2 x3 x4 x5 x6 x7
  pointwise [val_main_v119, val_main_v72, val_main_v71, val_main_v5]
  rw [← sum_fin_range]
  exact Finset.sum_congr rfl fun k _ => by rw [e k c, rd_ix2 x3]; exact mul_comm _ _

theorem h120 : Holds (val_main_v120 (F := Ideal) x0 x1 x2 x6 x7)
    (fun c d => ∑ t ∈ Finset.range 4096, (X).wc' c d t) := by
  intro r c
  have e1 := h63 x0 x1 x2 x3 x4 x5 x6 x7
  have e2 := h35 x0 x1 x2 x3 x4 x5 x6 x7
  pointwise [val_main_v120, val_main_v66, val_main_v65]
  rw [← sum_fin_range]
  exact Finset.sum_congr rfl fun k _ => by rw [e1 k c, e2 k r]; exact mul_comm _ _

end Cert.MixRef
-- ==== Proof.NormSpec.lean ====
module

public import proofs.«01_k».proof.Proof.MixPiece
public import proofs.«01_k».proof.Proof.MixRef

@[expose] public section

set_option maxRecDepth 16384

/-!
# The root-mean-square norm and the projections behind it, as sums over naturals
-/

noncomputable section

open Idealize.ShloMosaic

namespace Cert.NormSpec

open Cert.MixSpec

/-- The width of a row, as both programs write it. -/
def width : EReal := Ideal.ofBits .f32 0x44800000#32

/-- What is added to a mean square before its root is taken. -/
def eps : EReal := Ideal.ofBits .f32 0x3727C5AC#32

/-- The reciprocal of a row's root mean square. -/
def rn (x : ℕ → ℕ → EReal) (t : ℕ) : EReal :=
  Ideal.rsqrt (Ideal.div (∑ k ∈ Finset.range 1024, x t k * x t k) width + eps)

/-- The rows normed and scaled. -/
def xn (x g : ℕ → ℕ → EReal) (t d : ℕ) : EReal := x t d * rn x t * g 0 d

/-- The rows' projections. -/
def proj (x g w b : ℕ → ℕ → EReal) (t p : ℕ) : EReal :=
  (∑ k ∈ Finset.range 1024, xn x g t k * w p k) + b 0 p

end Cert.NormSpec
-- ==== Proof.NormGrad.lean ====
/- The gradient of a root-mean-square norm on extended reals: the kernel's form and the form `jax.vjp` writes agree on
   every input, infinite ones included. -/
module

public import proofs.«01_k».proof.Proof.NormSpec

open Idealize.ShloMosaic Finset

namespace Cert.NormGrad

open Cert.NormSpec

/-- The constant minus one half of the rule for the inverse root. -/
@[expose] public noncomputable def negHalf : EReal := Ideal.ofBits .f32 0xBF000000#32

theorem width_eq : width = ((1024 : ℝ) : EReal) := by
  unfold width
  simp [Ideal.ofBits, Ideal.ieee]
  rw [← EReal.coe_mul]
  norm_num

theorem negHalf_eq : negHalf = ((-(1 / 2) : ℝ) : EReal) := by
  unfold negHalf
  simp [Ideal.ofBits, Ideal.ieee]
  rw [← EReal.coe_mul]
  norm_num

theorem eps_eq : ∃ e : ℝ, 0 < e ∧ eps = ((e : ℝ) : EReal) := by
  refine ⟨10995116 * (2 ^ 40)⁻¹, by norm_num, ?_⟩
  unfold eps
  simp [Ideal.ofBits, Ideal.ieee]

/-- Division by a real that is not zero. -/
theorem div_real (x : EReal) (w : ℝ) (h : w ≠ 0) : Ideal.div x (w : EReal) = x * ((w⁻¹ : ℝ) : EReal) := by
  unfold Ideal.div
  rw [if_neg (by exact_mod_cast h), EReal.coe_inv]

theorem div_width (x : EReal) : Ideal.div x width = x * (((1024 : ℝ)⁻¹ : ℝ) : EReal) := by
  rw [width_eq]
  exact div_real x 1024 (by norm_num)

/-- A real multiplier that is not negative goes through a finite sum. -/
theorem sum_mul_real (n : ℕ) (f : ℕ → EReal) (r : ℝ) (h : 0 ≤ r) :
    ∑ j ∈ range n, f j * (r : EReal) = (∑ j ∈ range n, f j) * (r : EReal) := by
  induction n with
  | zero => simp
  | succ n ih =>
    rw [sum_range_succ, sum_range_succ, ih,
      EReal.right_distrib_of_nonneg_of_ne_top (by exact_mod_cast h) (EReal.coe_ne_top r)]

/-- The two equal halves of a real multiple of an extended real. -/
theorem halves (s : EReal) (k : ℝ) : s * (k : EReal) + s * (k : EReal) = s * ((2 * k : ℝ) : EReal) := by
  induction s using EReal.rec with
  | coe s => rw [← EReal.coe_mul, ← EReal.coe_add, ← EReal.coe_mul]; congr 1; ring
  | top =>
    rcases lt_trichotomy k 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy k 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem sq_nonneg' (x : EReal) : 0 ≤ x * x := by
  induction x using EReal.rec with
  | coe x => rw [← EReal.coe_mul]; exact_mod_cast mul_self_nonneg x
  | top => simp
  | bot => simp

/-- A row with an infinite entry has an infinite sum of squares. -/
theorem sum_sq_top (n : ℕ) (x : ℕ → EReal) (i : ℕ) (hi : i < n) (h : x i = ⊤ ∨ x i = ⊥) :
    ∑ j ∈ range n, x j * x j = ⊤ := by
  have hs : x i * x i = ⊤ := by rcases h with h | h <;> rw [h] <;> simp
  exact top_le_iff.mp (hs ▸ single_le_sum (f := fun j => x j * x j) (fun j _ => sq_nonneg' (x j)) (mem_range.mpr hi))

theorem sum_coe (n : ℕ) (f : ℕ → ℝ) : ∑ j ∈ range n, ((f j : ℝ) : EReal) = ((∑ j ∈ range n, f j : ℝ) : EReal) := by
  induction n with
  | zero => simp
  | succ n ih => rw [sum_range_succ, sum_range_succ, ih, EReal.coe_add]

/-- The mean square with its small constant. -/
@[expose] public noncomputable def vr (x : ℕ → EReal) : EReal := Ideal.div (∑ k ∈ range 1024, x k * x k) width + eps

/-- The inverse root of the mean square. -/
@[expose] public noncomputable def rr (x : ℕ → EReal) : EReal := Ideal.rsqrt (vr x)

/-- The kernel's gradient of the norm, for one entry. -/
@[expose] public noncomputable def kern (a : EReal) (x y : ℕ → EReal) (i : ℕ) : EReal :=
  a + rr x * (y i - x i * rr x * Ideal.div (∑ j ∈ range 1024, y j * (x j * rr x)) width)

/-- What the chain rule hands to the square of each entry. -/
@[expose] public noncomputable def coef (x y : ℕ → EReal) : EReal :=
  Ideal.div ((∑ j ∈ range 1024, x j * y j) * (negHalf * Ideal.div (rr x) (vr x))) width

/-- The chain rule's gradient of the norm, for one entry. -/
@[expose] public noncomputable def chain (a : EReal) (x y : ℕ → EReal) (i : ℕ) : EReal :=
  a + y i * rr x + x i * coef x y + coef x y * x i

theorem infinite (a : EReal) (x y : ℕ → EReal) (i k : ℕ) (hk : k < 1024) (h : x k = ⊤ ∨ x k = ⊥) :
    kern a x y i = chain a x y i := by
  have hv : vr x = ⊤ := by
    obtain ⟨e, he, hee⟩ := eps_eq
    unfold vr
    rw [sum_sq_top 1024 x k hk h, div_width, hee, EReal.top_mul_coe_of_pos (by norm_num), EReal.top_add_coe]
  have hr : rr x = 0 := by
    unfold rr
    rw [hv]
    rfl
  have hd : Ideal.div 0 (⊤ : EReal) = 0 := by
    unfold Ideal.div
    rw [if_neg (by simp), zero_mul]
  have hc : coef x y = 0 := by
    unfold coef
    rw [hr, hv, hd, mul_zero, mul_zero, div_width, zero_mul]
  unfold kern chain
  rw [hc, hr]
  simp

theorem finite (a : EReal) (x y : ℕ → EReal) (i : ℕ) (hi : i < 1024)
    (h : ∀ k < 1024, ¬(x k = ⊤ ∨ x k = ⊥)) : kern a x y i = chain a x y i := by
  obtain ⟨e, he, hee⟩ := eps_eq
  have hx : ∀ k, k < 1024 → x k = (((x k).toReal : ℝ) : EReal) := fun k hk =>
    (EReal.coe_toReal (fun q => h k hk (.inl q)) (fun q => h k hk (.inr q))).symm
  obtain ⟨v, hv0, hv⟩ : ∃ v : ℝ, 0 < v ∧ vr x = (v : EReal) := by
    refine ⟨(∑ k ∈ range 1024, (x k).toReal * (x k).toReal) * (1024 : ℝ)⁻¹ + e, ?_, ?_⟩
    · have : 0 ≤ ∑ k ∈ range 1024, (x k).toReal * (x k).toReal := sum_nonneg fun k _ => mul_self_nonneg _
      positivity
    · unfold vr
      have hq : ∑ k ∈ range 1024, x k * x k = ((∑ k ∈ range 1024, (x k).toReal * (x k).toReal : ℝ) : EReal) := by
        rw [← sum_coe]
        exact sum_congr rfl fun k hk => by rw [EReal.coe_mul, ← hx k (mem_range.mp hk)]
      rw [div_width, hee, hq, ← EReal.coe_mul, ← EReal.coe_add]
  have hs : 0 < √v := Real.sqrt_pos.mpr hv0
  have hr : rr x = (((√v)⁻¹ : ℝ) : EReal) := by
    unfold rr
    rw [hv]
    change (if v < 0 then (⊥ : EReal) else if v = 0 then ⊤ else (((√v)⁻¹ : ℝ) : EReal)) = _
    rw [if_neg (not_lt.mpr hv0.le), if_neg hv0.ne']
  obtain ⟨r, hrr⟩ : ∃ r : ℝ, r = (√v)⁻¹ := ⟨_, rfl⟩
  rw [← hrr] at hr
  have hr0 : 0 < r := hrr ▸ inv_pos.mpr hs
  have hvr : v⁻¹ = r * r := by
    rw [hrr, ← mul_inv, Real.mul_self_sqrt hv0.le]
  obtain ⟨S, hS⟩ : ∃ S : EReal, S = ∑ j ∈ range 1024, x j * y j := ⟨_, rfl⟩
  have hsum : ∑ j ∈ range 1024, y j * (x j * (r : EReal)) = S * (r : EReal) := by
    rw [hS, ← sum_mul_real 1024 _ r hr0.le]
    exact sum_congr rfl fun j _ => by rw [← mul_assoc, mul_comm (y j)]
  have hc : coef x y = S * ((-(1 / 2) * (r * (r * r)) * (1024 : ℝ)⁻¹ : ℝ) : EReal) := by
    unfold coef
    rw [hr, hv, div_real _ v hv0.ne', div_width, negHalf_eq, ← hS, hvr, ← EReal.coe_mul, ← EReal.coe_mul, mul_assoc,
      ← EReal.coe_mul]
  obtain ⟨z, hz⟩ : ∃ z : ℝ, x i = (z : EReal) := ⟨_, hx i hi⟩
  unfold kern chain
  rw [hc, hr, hsum, div_width, hz, mul_comm _ (z : EReal), add_assoc, add_assoc]
  congr 1
  rw [sub_eq_add_neg, EReal.left_distrib_of_nonneg_of_ne_top (by exact_mod_cast hr0.le) (EReal.coe_ne_top r),
    mul_comm (r : EReal) (y i)]
  congr 1
  have e1 : (z : EReal) * (S * ((-(1 / 2) * (r * (r * r)) * (1024 : ℝ)⁻¹ : ℝ) : EReal))
      = S * ((z * (-(1 / 2) * (r * (r * r)) * (1024 : ℝ)⁻¹) : ℝ) : EReal) := by
    rw [EReal.coe_mul z, mul_left_comm]
  have e2 : (r : EReal) * -((z : EReal) * (r : EReal) * (S * (r : EReal) * (((1024 : ℝ)⁻¹ : ℝ) : EReal)))
      = S * ((-(r * (z * r * (r * (1024 : ℝ)⁻¹))) : ℝ) : EReal) := by
    rw [mul_neg, EReal.coe_neg, mul_neg, mul_assoc S, ← EReal.coe_mul, ← EReal.coe_mul, mul_left_comm _ S,
      mul_left_comm _ S, ← EReal.coe_mul, ← EReal.coe_mul]
  rw [e1, e2, halves]
  congr 2
  ring

/-- The two forms agree. -/
public theorem agree (a : EReal) (x y : ℕ → EReal) (i : ℕ) (hi : i < 1024) : kern a x y i = chain a x y i := by
  by_cases h : ∃ k, k < 1024 ∧ (x k = ⊤ ∨ x k = ⊥)
  · obtain ⟨k, hk, hx⟩ := h
    exact infinite a x y i k hk hx
  · exact finite a x y i hi fun k hk q => h ⟨k, hk, q⟩

end Cert.NormGrad
-- ==== Proof.InBwdSpec.lean ====
module

public import proofs.«01_k».proof.Proof.MixPiece
public import proofs.«01_k».proof.Proof.MixRef
public import proofs.«01_k».proof.Proof.NormGrad

@[expose] public section

/-!
# The gradients behind the input projections, as sums over naturals

The projections' gradient comes in seven pieces that lie side by side.
-/

noncomputable section

open Idealize.ShloMosaic

namespace Cert.InBwdSpec

open Cert.MixSpec Cert.NormGrad

/-- The seven pieces. -/
structure Pieces where
  q : ℕ → ℕ → EReal
  k : ℕ → ℕ → EReal
  v : ℕ → ℕ → EReal
  b : ℕ → ℕ → EReal
  c : ℕ → ℕ → EReal
  x : ℕ → ℕ → EReal
  g : ℕ → ℕ → EReal

/-- The pieces side by side. -/
def dp (D : Pieces) (t p : ℕ) : EReal :=
  if p < 512 then D.q t p else if p < 640 then D.k t (p - 512) else if p < 768 then D.v t (p - 640)
  else if p < 1280 then D.b t (p - 768) else if p < 1792 then D.c t (p - 1280) else if p < 2304 then D.x t (p - 1792)
  else D.g t (p - 2304)

variable (D : Pieces) (t p : ℕ)

theorem dp0 (h : p < 512) : dp D t p = D.q t p := if_pos h

theorem dp1 (h : p < 128) : dp D t (512 + p) = D.k t p := by
  unfold dp
  rw [if_neg (by omega), if_pos (by omega), Nat.add_sub_cancel_left]

theorem dp2 (h : p < 128) : dp D t (640 + p) = D.v t p := by
  unfold dp
  rw [if_neg (by omega), if_neg (by omega), if_pos (by omega), Nat.add_sub_cancel_left]

theorem dp3 (h : p < 512) : dp D t (768 + p) = D.b t p := by
  unfold dp
  rw [if_neg (by omega), if_neg (by omega), if_neg (by omega), if_pos (by omega), Nat.add_sub_cancel_left]

theorem dp4 (h : p < 512) : dp D t (1280 + p) = D.c t p := by
  unfold dp
  rw [if_neg (by omega), if_neg (by omega), if_neg (by omega), if_neg (by omega), if_pos (by omega), Nat.add_sub_cancel_left]

theorem dp5 (h : p < 512) : dp D t (1792 + p) = D.x t p := by
  unfold dp
  rw [if_neg (by omega), if_neg (by omega), if_neg (by omega), if_neg (by omega), if_neg (by omega), if_pos (by omega),
    Nat.add_sub_cancel_left]

theorem dp6 : dp D t (2304 + p) = D.g t p := by
  unfold dp
  rw [if_neg (by omega), if_neg (by omega), if_neg (by omega), if_neg (by omega), if_neg (by omega), if_neg (by omega),
    Nat.add_sub_cancel_left]

/-- The gradient of the normed rows. -/
def dy (w : ℕ → ℕ → EReal) (t d : ℕ) : EReal := ∑ p ∈ Finset.range 4352, dp D t p * w p d

/-- A sum over all columns, one piece after the other. -/
theorem dy_pieces (w : ℕ → ℕ → EReal) (d : ℕ) :
    dy D w t d = ((((((∑ p : Fin 512, D.q t p.val * w p.val d) + ∑ p : Fin 128, D.k t p.val * w (512 + p.val) d)
      + ∑ p : Fin 128, D.v t p.val * w (640 + p.val) d) + ∑ p : Fin 512, D.b t p.val * w (768 + p.val) d)
      + ∑ p : Fin 512, D.c t p.val * w (1280 + p.val) d) + ∑ p : Fin 512, D.x t p.val * w (1792 + p.val) d)
      + ∑ p : Fin 2048, D.g t p.val * w (2304 + p.val) d := by
  unfold dy
  have cut (f : ℕ → EReal) : ∑ p ∈ Finset.range 4352, f p
      = ((((((∑ p : Fin 512, f p.val) + ∑ p : Fin 128, f (512 + p.val)) + ∑ p : Fin 128, f (640 + p.val))
        + ∑ p : Fin 512, f (768 + p.val)) + ∑ p : Fin 512, f (1280 + p.val)) + ∑ p : Fin 512, f (1792 + p.val))
        + ∑ p : Fin 2048, f (2304 + p.val) := by
    rw [Finset.sum_range_add f 2304 2048, Finset.sum_range_add f 1792 512, Finset.sum_range_add f 1280 512,
      Finset.sum_range_add f 768 512, Finset.sum_range_add f 640 128, Finset.sum_range_add f 512 128]
    simp only [Finset.sum_range]
  rw [cut]
  simp only [dp6, dp5 D t _ (Fin.isLt _), dp4 D t _ (Fin.isLt _), dp3 D t _ (Fin.isLt _), dp2 D t _ (Fin.isLt _), dp1 D t _ (Fin.isLt _),
    dp0 D t _ (Fin.isLt _)]

/-- The gradient of the layer's input. -/
def dx (w x g h : ℕ → ℕ → EReal) (t d : ℕ) : EReal := kern (h t d) (x t) (fun j => dy D w t j * g 0 j) d

/-- The gradient of the bias over the first `n` rows. -/
def db (n p : ℕ) : EReal := ∑ s ∈ Finset.range n, dp D s p

/-- The gradient of the norm's scale over the first `n` rows. -/
def dg (w x : ℕ → ℕ → EReal) (n d : ℕ) : EReal := ∑ s ∈ Finset.range n, dy D w s d * (x s d * rr (x s))

theorem db_add (n k : ℕ) : db D n p + ∑ s : Fin k, dp D (n + s.val) p = db D (n + k) p := by
  unfold db
  rw [Finset.sum_range_add, Finset.sum_range (n := k)]

theorem dg_add (w x : ℕ → ℕ → EReal) (n k d : ℕ) :
    dg D w x n d + ∑ s : Fin k, dy D w (n + s.val) d * (x (n + s.val) d * rr (x (n + s.val))) = dg D w x (n + k) d := by
  unfold dg
  rw [Finset.sum_range_add, Finset.sum_range (n := k)]

end Cert.InBwdSpec
-- ==== Proof.InBwdPoint.lean ====
module

public import proofs.«01_k».proof.Proof.InBwdSpec
public import proofs.«01_k».proof.Proof.Gen.InBwdIdeal.Value
public import Idealize.ShloMosaic.Lib.Pointwise
public import Idealize.ShloMosaic.Lib.Pipeline.ReadBack

@[expose] public section

set_option maxRecDepth 16384

/-!
# One point of the kernel behind the input projections

What a point of 512 rows adds to the bias's and the scale's gradient, and the rows of the input's gradient.
-/

noncomputable section

open Idealize.ShloMosaic Idealize.ShloMosaic.TcCoe Idealize.ShloMosaic.Tactic
open Cert.InBwdIdeal Cert.InBwdIdeal.Gen
open Cert.MixSpec Cert.InBwdSpec Cert.NormGrad
open Cert.MixBlock (ld_ix2 hz Rows canon_on canon_off rows_ld16 rows_all16)

namespace Cert.InBwdPoint

theorem col7 (q : Vec Ideal S512x512 .bf16) (v : Vec Ideal S8x512 .f32) (r : Fin 8) (k : Fin 512) :
    k0_pay7 q v (ix2 r k) = v (ix2 r k) + ∑ s : Fin 512, q (ix2 s k) := by
  pointwise [k0_pay7]

theorem col9 (q : Vec Ideal S512x128 .f32) (v : Vec Ideal S8x128 .f32) (r : Fin 8) (k : Fin 128) :
    k0_pay9 q v (ix2 r k) = v (ix2 r k) + ∑ s : Fin 512, q (ix2 s k) := by
  pointwise [k0_pay9, k0_pay8]

theorem col13 (q : Vec Ideal S512x512 .bf16) (v : Vec Ideal S8x512 .f32) (r : Fin 8) (k : Fin 512) :
    k0_pay13 q v (ix2 r k) = v (ix2 r k) + ∑ s : Fin 512, q (ix2 s k) := by
  pointwise [k0_pay13]

theorem col15 (q : Vec Ideal S512x512 .bf16) (v : Vec Ideal S8x512 .f32) (r : Fin 8) (k : Fin 512) :
    k0_pay15 q v (ix2 r k) = v (ix2 r k) + ∑ s : Fin 512, q (ix2 s k) := by
  pointwise [k0_pay15]

theorem col16 (q : Vec Ideal S512x512 .bf16) (v : Vec Ideal S8x512 .f32) (r : Fin 8) (k : Fin 512) :
    k0_pay16 q v (ix2 r k) = v (ix2 r k) + ∑ s : Fin 512, q (ix2 s k) := by
  pointwise [k0_pay16]

theorem col17 (q : Vec Ideal S512x2048 .bf16) (v : Vec Ideal S8x2048 .f32) (r : Fin 8) (k : Fin 2048) :
    k0_pay17 q v (ix2 r k) = v (ix2 r k) + ∑ s : Fin 512, q (ix2 s k) := by
  pointwise [k0_pay17]

theorem col12 (q : Vec Ideal S512x128 .f32) (v : Vec Ideal S8x128 .f32) (r : Fin 8) (k : Fin 128) :
    k0_pay12 (k0_pay11 q) v (ix2 r k) = v (ix2 r k) + ∑ s : Fin 512, q (ix2 s k) := by
  pointwise [k0_pay12, k0_pay11]

theorem zero5 (r : Fin 8) (k : Fin 4352) : (k0_pay5 (F := Ideal)) (ix2 r k) = 0 := by
  pointwise [k0_pay5]

theorem zero6 (r : Fin 8) (k : Fin 1024) : (k0_pay6 (F := Ideal)) (ix2 r k) = 0 := by
  pointwise [k0_pay6]

variable {D : Pieces} {w x g h : ℕ → ℕ → EReal} {b : ℕ}
variable {q : Vec Ideal S512x512 .bf16} {k v : Vec Ideal S512x128 .f32} {cb cc cx : Vec Ideal S512x512 .bf16}
variable {gt : Vec Ideal S512x2048 .bf16} {W : Vec Ideal S4352x1024 .bf16} {X H : Vec Ideal S512x1024 .f32} {G : Vec Ideal S1x1024 .f32}

/-- The point's blocks of the seven pieces. -/
structure Blocks (D : Pieces) (b : ℕ) (q : Vec Ideal S512x512 .bf16) (k v : Vec Ideal S512x128 .f32)
    (cb cc cx : Vec Ideal S512x512 .bf16) (gt : Vec Ideal S512x2048 .bf16) : Prop where
  hq : Rows b q D.q
  hk : Rows b k D.k
  hv : Rows b v D.v
  hb : Rows b cb D.b
  hc : Rows b cc D.c
  hx : Rows b cx D.x
  hg : Rows b gt D.g

/-- What the point writes over the bias's gradient, the last piece first. -/
abbrev stack (q : Vec Ideal S512x512 .bf16) (k v : Vec Ideal S512x128 .f32)
    (cb cc cx : Vec Ideal S512x512 .bf16) (gt : Vec Ideal S512x2048 .bf16) (P : Vec Ideal S8x4352 .f32)
    (L : List (View.Piece (Elt Ideal) S8x4352 .f32)) : List (View.Piece (Elt Ideal) S8x4352 .f32) :=
  ⟨Rect.unit (s := S8x4352) ![0, 2304] ![8, 2048] inb_S8x4352_S8x2048_0_2304, k0_pay17 gt (View.ld P (Rect.unit (s := S8x4352) ![0, 2304] ![8, 2048] inb_S8x4352_S8x2048_0_2304))⟩ ::
  ⟨Rect.unit (s := S8x4352) ![0, 1792] ![8, 512] inb_S8x4352_S8x512_0_1792, k0_pay16 cx (View.ld P (Rect.unit (s := S8x4352) ![0, 1792] ![8, 512] inb_S8x4352_S8x512_0_1792))⟩ ::
  ⟨Rect.unit (s := S8x4352) ![0, 1280] ![8, 512] inb_S8x4352_S8x512_0_1280, k0_pay15 cc (View.ld P (Rect.unit (s := S8x4352) ![0, 1280] ![8, 512] inb_S8x4352_S8x512_0_1280))⟩ ::
  ⟨Rect.unit (s := S8x4352) ![0, 768] ![8, 512] inb_S8x4352_S8x512_0_768, k0_pay13 cb (View.ld P (Rect.unit (s := S8x4352) ![0, 768] ![8, 512] inb_S8x4352_S8x512_0_768))⟩ ::
  ⟨Rect.unit (s := S8x4352) ![0, 640] ![8, 128] inb_S8x4352_S8x128_0_640, k0_pay12 (k0_pay11 v) (View.ld P (Rect.unit (s := S8x4352) ![0, 640] ![8, 128] inb_S8x4352_S8x128_0_640))⟩ ::
  ⟨Rect.unit (s := S8x4352) ![0, 512] ![8, 128] inb_S8x4352_S8x128_0_512, k0_pay9 k (View.ld P (Rect.unit (s := S8x4352) ![0, 512] ![8, 128] inb_S8x4352_S8x128_0_512))⟩ ::
  ⟨Rect.unit (s := S8x4352) ![0, 0] ![8, 512] inb_S8x4352_S8x512_0_0, k0_pay7 q (View.ld P (Rect.unit (s := S8x4352) ![0, 0] ![8, 512] inb_S8x4352_S8x512_0_0))⟩ :: L

/-- One more point in the bias's gradient. -/
theorem bias (B : Blocks D b q k v cb cc cx gt) (P : Vec Ideal S8x4352 .f32) (L : List (View.Piece (Elt Ideal) S8x4352 .f32))
    (r : Fin 8) (p : Fin 4352) (hP : P (ix2 r p) = db D b p.val) :
    View.canon (stack q k v cb cc cx gt P L) (ix2 r p) = db D (b + 512) p.val := by
  rw [← db_add, ← hP]
  have hr := r.isLt
  have hp := p.isLt
  by_cases c2304 : 2304 ≤ p.val
  · clear hr
    have hr := r.isLt
    obtain ⟨j, hj⟩ : ∃ j : Fin 2048, p.val = 2304 + j.val := ⟨⟨p.val - 2304, by omega⟩, by dsimp only; omega⟩
    have ep : (⟨2304 + j.val, by omega⟩ : Fin 4352) = p := Fin.ext hj.symm
    have er : (⟨0 + r.val, by omega⟩ : Fin 8) = r := Fin.ext (Nat.zero_add _)
    rw [canon_on 0 2304 _ _ _ r p r j (by omega) hj, col17, ld_ix2 P 0 2304 _ r j (by omega) (by omega), ep, er]
    refine congrArg _ (Finset.sum_congr rfl fun s _ => ?_)
    rw [B.hg s j, hj]
    exact (dp6 D _ _).symm
  rw [canon_off 0 2304 _ _ _ r p (by omega)]
  by_cases c1792 : 1792 ≤ p.val
  · clear hr
    have hr := r.isLt
    obtain ⟨j, hj⟩ : ∃ j : Fin 512, p.val = 1792 + j.val := ⟨⟨p.val - 1792, by omega⟩, by dsimp only; omega⟩
    have ep : (⟨1792 + j.val, by omega⟩ : Fin 4352) = p := Fin.ext hj.symm
    have er : (⟨0 + r.val, by omega⟩ : Fin 8) = r := Fin.ext (Nat.zero_add _)
    rw [canon_on 0 1792 _ _ _ r p r j (by omega) hj, col16, ld_ix2 P 0 1792 _ r j (by omega) (by omega), ep, er]
    refine congrArg _ (Finset.sum_congr rfl fun s _ => ?_)
    rw [B.hx s j, hj]
    exact (dp5 D _ _ j.isLt).symm
  rw [canon_off 0 1792 _ _ _ r p (by omega)]
  by_cases c1280 : 1280 ≤ p.val
  · clear hr
    have hr := r.isLt
    obtain ⟨j, hj⟩ : ∃ j : Fin 512, p.val = 1280 + j.val := ⟨⟨p.val - 1280, by omega⟩, by dsimp only; omega⟩
    have ep : (⟨1280 + j.val, by omega⟩ : Fin 4352) = p := Fin.ext hj.symm
    have er : (⟨0 + r.val, by omega⟩ : Fin 8) = r := Fin.ext (Nat.zero_add _)
    rw [canon_on 0 1280 _ _ _ r p r j (by omega) hj, col15, ld_ix2 P 0 1280 _ r j (by omega) (by omega), ep, er]
    refine congrArg _ (Finset.sum_congr rfl fun s _ => ?_)
    rw [B.hc s j, hj]
    exact (dp4 D _ _ j.isLt).symm
  rw [canon_off 0 1280 _ _ _ r p (by omega)]
  by_cases c768 : 768 ≤ p.val
  · clear hr
    have hr := r.isLt
    obtain ⟨j, hj⟩ : ∃ j : Fin 512, p.val = 768 + j.val := ⟨⟨p.val - 768, by omega⟩, by dsimp only; omega⟩
    have ep : (⟨768 + j.val, by omega⟩ : Fin 4352) = p := Fin.ext hj.symm
    have er : (⟨0 + r.val, by omega⟩ : Fin 8) = r := Fin.ext (Nat.zero_add _)
    rw [canon_on 0 768 _ _ _ r p r j (by omega) hj, col13, ld_ix2 P 0 768 _ r j (by omega) (by omega), ep, er]
    refine congrArg _ (Finset.sum_congr rfl fun s _ => ?_)
    rw [B.hb s j, hj]
    exact (dp3 D _ _ j.isLt).symm
  rw [canon_off 0 768 _ _ _ r p (by omega)]
  by_cases c640 : 640 ≤ p.val
  · clear hr
    have hr := r.isLt
    obtain ⟨j, hj⟩ : ∃ j : Fin 128, p.val = 640 + j.val := ⟨⟨p.val - 640, by omega⟩, by dsimp only; omega⟩
    have ep : (⟨640 + j.val, by omega⟩ : Fin 4352) = p := Fin.ext hj.symm
    have er : (⟨0 + r.val, by omega⟩ : Fin 8) = r := Fin.ext (Nat.zero_add _)
    rw [canon_on 0 640 _ _ _ r p r j (by omega) hj, col12, ld_ix2 P 0 640 _ r j (by omega) (by omega), ep, er]
    refine congrArg _ (Finset.sum_congr rfl fun s _ => ?_)
    rw [B.hv s j, hj]
    exact (dp2 D _ _ j.isLt).symm
  rw [canon_off 0 640 _ _ _ r p (by omega)]
  by_cases c512 : 512 ≤ p.val
  · clear hr
    have hr := r.isLt
    obtain ⟨j, hj⟩ : ∃ j : Fin 128, p.val = 512 + j.val := ⟨⟨p.val - 512, by omega⟩, by dsimp only; omega⟩
    have ep : (⟨512 + j.val, by omega⟩ : Fin 4352) = p := Fin.ext hj.symm
    have er : (⟨0 + r.val, by omega⟩ : Fin 8) = r := Fin.ext (Nat.zero_add _)
    rw [canon_on 0 512 _ _ _ r p r j (by omega) hj, col9, ld_ix2 P 0 512 _ r j (by omega) (by omega), ep, er]
    refine congrArg _ (Finset.sum_congr rfl fun s _ => ?_)
    rw [B.hk s j, hj]
    exact (dp1 D _ _ j.isLt).symm
  rw [canon_off 0 512 _ _ _ r p (by omega)]
  obtain ⟨j, hj⟩ : ∃ j : Fin 512, p.val = 0 + j.val := ⟨⟨p.val - 0, by omega⟩, by dsimp only; omega⟩
  have ep : (⟨0 + j.val, by omega⟩ : Fin 4352) = p := Fin.ext hj.symm
  have er : (⟨0 + r.val, by omega⟩ : Fin 8) = r := Fin.ext (Nat.zero_add _)
  rw [canon_on 0 0 _ _ _ r p r j (by omega) hj, col7, ld_ix2 P 0 0 _ r j (by omega) (by omega), ep, er]
  refine congrArg _ (Finset.sum_congr rfl fun s _ => ?_)
  rw [B.hq s j, hj, Nat.zero_add]
  exact (dp0 D _ _ j.isLt).symm

/-- The point's rows of the normed rows' gradient. -/
abbrev sums (q : Vec Ideal S512x512 .bf16) (k v : Vec Ideal S512x128 .f32)
    (cb cc cx : Vec Ideal S512x512 .bf16) (gt : Vec Ideal S512x2048 .bf16) (W : Vec Ideal S4352x1024 .bf16) : FVec Ideal S512x1024 .f32 :=
  k0_pay18
    (k0_pay14
      (k0_pay10 q (View.ld W (Rect.unit (s := S4352x1024) ![0, 0] ![512, 1024] inb_S4352x1024_S512x1024_0_0)) k
        (View.ld W (Rect.unit (s := S4352x1024) ![512, 0] ![128, 1024] inb_S4352x1024_S128x1024_512_0)))
      (k0_pay11 v) (View.ld W (Rect.unit (s := S4352x1024) ![640, 0] ![128, 1024] inb_S4352x1024_S128x1024_640_0))
      cb (View.ld W (Rect.unit (s := S4352x1024) ![768, 0] ![512, 1024] inb_S4352x1024_S512x1024_768_0)))
    cc (View.ld W (Rect.unit (s := S4352x1024) ![1280, 0] ![512, 1024] inb_S4352x1024_S512x1024_1280_0))
    cx (View.ld W (Rect.unit (s := S4352x1024) ![1792, 0] ![512, 1024] inb_S4352x1024_S512x1024_1792_0))
    gt (View.ld W (Rect.unit (s := S4352x1024) ![2304, 0] ![2048, 1024] inb_S4352x1024_S2048x1024_2304_0))

theorem part10 (q : Vec Ideal S512x512 .bf16) (k : Vec Ideal S512x128 .f32) (w0 : Vec Ideal S512x1024 .bf16) (w1 : Vec Ideal S128x1024 .bf16)
    (r : Fin 512) (d : Fin 1024) :
    k0_pay10 q w0 k w1 (ix2 r d) = (∑ p : Fin 512, q (ix2 r p) * w0 (ix2 p d)) + ∑ p : Fin 128, k (ix2 r p) * w1 (ix2 p d) := by
  pointwise [k0_pay10, k0_pay8]

theorem part14 (u : FVec Ideal S512x1024 .f32) (v : Vec Ideal S512x128 .f32) (cb : Vec Ideal S512x512 .bf16)
    (w2 : Vec Ideal S128x1024 .bf16) (w3 : Vec Ideal S512x1024 .bf16) (r : Fin 512) (d : Fin 1024) :
    k0_pay14 u (k0_pay11 v) w2 cb w3 (ix2 r d)
      = (u (ix2 r d) + ∑ p : Fin 128, v (ix2 r p) * w2 (ix2 p d)) + ∑ p : Fin 512, cb (ix2 r p) * w3 (ix2 p d) := by
  pointwise [k0_pay14, k0_pay11]

theorem part18 (u : FVec Ideal S512x1024 .f32) (cc cx : Vec Ideal S512x512 .bf16) (gt : Vec Ideal S512x2048 .bf16)
    (w4 w5 : Vec Ideal S512x1024 .bf16) (w6 : Vec Ideal S2048x1024 .bf16) (r : Fin 512) (d : Fin 1024) :
    k0_pay18 u cc w4 cx w5 gt w6 (ix2 r d)
      = ((u (ix2 r d) + ∑ p : Fin 512, cc (ix2 r p) * w4 (ix2 p d)) + ∑ p : Fin 512, cx (ix2 r p) * w5 (ix2 p d))
        + ∑ p : Fin 2048, gt (ix2 r p) * w6 (ix2 p d) := by
  pointwise [k0_pay18]

/-- Rows of the weights read from a place on. -/
theorem wrows {n : ℕ} (o : ℕ) (hW : Rows 0 W w)
    (hb : ∀ a, (![o, 0] : Fin 2 → ℕ) a + (![n, 1024] : Fin 2 → ℕ) a ≤ (![4352, 1024] : Fin 2 → ℕ) a) (p : Fin n) (d : Fin 1024) :
    View.ld W (Rect.unit (s := S4352x1024) ![o, 0] ![n, 1024] hb) (ix2 p d) = w (o + p.val) d.val := by
  have hn : o + n ≤ 4352 := hb 0
  have hp := p.isLt
  have hd := d.isLt
  rw [ld_ix2 W o 0 hb p d (by omega) (by omega)]
  refine (hW _ _).trans ?_
  dsimp only
  rw [Nat.zero_add, Nat.zero_add]

theorem summed (B : Blocks D b q k v cb cc cx gt) (hW : Rows 0 W w) (r : Fin 512) (d : Fin 1024) :
    sums q k v cb cc cx gt W (ix2 r d) = dy D w (b + r.val) d.val := by
  rw [dy_pieces, sums, part18, part14, part10]
  simp only [wrows _ hW, Nat.zero_add, B.hq _ _, B.hk _ _, B.hv _ _, B.hb _ _, B.hc _ _, B.hx _ _, B.hg _ _]

/-- The point's rows of the input's gradient. -/
theorem rows (u : FVec Ideal S512x1024 .f32) (hu : ∀ (r : Fin 512) (d : Fin 1024), u (ix2 r d) = dy D w (b + r.val) d.val)
    (hX : Rows b X x) (hG : Rows 0 G g) (hH : Rows b H h) (r : Fin 512) (d : Fin 1024) :
    k0_pay4 u X G (k0_pay19 X) H (ix2 r d) = dx D w x g h (b + r.val) d.val := by
  pointwise [k0_pay4, k0_pay2, k0_pay1, k0_pay19]
  simp only [hu, hX _ _, hG _ _, hH _ _]
  unfold dx kern rr vr
  simp only [Finset.sum_range]
  rfl

/-- One more point in the gradient of the norm's scale. -/
theorem scale (u : FVec Ideal S512x1024 .f32) (hu : ∀ (r : Fin 512) (d : Fin 1024), u (ix2 r d) = dy D w (b + r.val) d.val)
    (hX : Rows b X x) (P : Vec Ideal S8x1024 .f32) (r : Fin 8) (d : Fin 1024) (hP : P (ix2 r d) = dg D w x b d.val) :
    k0_pay3 u X (k0_pay19 X) P (ix2 r d) = dg D w x (b + 512) d.val := by
  rw [← dg_add, ← hP]
  pointwise [k0_pay3, k0_pay2, k0_pay1, k0_pay19]
  simp only [hu, hX _ _]
  unfold rr vr
  simp only [Finset.sum_range]
  rfl

end Cert.InBwdPoint
-- ==== Proof.InBwdValue.lean ====
module

public import proofs.«01_k».proof.Proof.InBwdPoint

@[expose] public section

set_option maxRecDepth 16384

/-!
# The kernel's gradients behind the input projections

Each of the eight points takes 512 rows.  The input's gradient is written block by block; the gradients of the bias and
of the norm's scale stay in their blocks and grow from point to point.
-/

noncomputable section

open Idealize.ShloMosaic Idealize.ShloMosaic.TcCoe Idealize.ShloMosaic.Tactic
open Cert.InBwdIdeal Cert.InBwdIdeal.Gen Cert.InBwdIdeal.Value
open Cert.MixSpec Cert.InBwdSpec Cert.InBwdPoint
open Cert.MixBlock (hz Rows)
open Cert.MixRef (Holds)

namespace Cert.InBwdValue

theorem ldw {n k : ℕ} {e : EltTy} (X : (⟨2, ![n, k]⟩ : Shape).Idx → Elt Ideal e)
    (inb : ∀ a, (![0, 0] : Fin 2 → ℕ) a + (![n, k] : Fin 2 → ℕ) a ≤ (![n, k] : Fin 2 → ℕ) a) :
    View.ld X (Rect.unit (s := ⟨2, ![n, k]⟩) ![0, 0] ![n, k] inb) = X :=
  View.ld_unit_zero (S := ⟨2, ![n, k]⟩) hz inb X

theorem covw {n k : ℕ} {e : EltTy} {sp : Space} (v : View sig .tc sp ⟨2, ![n, k]⟩ e) (w : (⟨2, ![n, k]⟩ : Shape).Idx → Elt Ideal e)
    (inb : ∀ a, (![0, 0] : Fin 2 → ℕ) a + (![n, k] : Fin 2 → ℕ) a ≤ (![n, k] : Fin 2 → ℕ) a) :
    v.readCov [(⟨Rect.unit (s := ⟨2, ![n, k]⟩) ![0, 0] ![n, k] inb, w⟩ : View.Piece (Elt Ideal) ⟨2, ![n, k]⟩ e)]
      (Rect.unit (s := ⟨2, ![n, k]⟩) ![0, 0] ![n, k] inb).toLoadRect = w :=
  View.readCov_unit_zero (S := ⟨2, ![n, k]⟩) v hz inb w

theorem z4352 : ∀ a, (![0, 0] : Fin 2 → ℕ) a = 0 := by decide

/-- A piece read from the bias's gradient just filled. -/
theorem fillw {sp : Space} (v : View sig .tc sp S8x4352 .f32) (Z : S8x4352.Idx → Elt Ideal .f32) (r : Rect S8x4352) :
    v.readCov [(⟨Rect.unit (s := S8x4352) ![0, 0] ![8, 4352] inb_S8x4352_S8x4352_0_0, Z⟩ : View.Piece (Elt Ideal) S8x4352 .f32)] r.toLoadRect
      = View.ld Z r :=
  View.readCov_fill (s := S8x4352) v inb_S8x4352_S8x4352_0_0 Z [] r z4352

variable (m : (ℓ : Loc nD τ sig) → Buf (Elt Ideal) ℓ) (c : Dev nD) (t : Fin cfg0.N)

/-- The point's sums. -/
abbrev U : FVec Ideal S512x1024 .f32 := sums (iblk m c 0 t) (iblk m c 1 t) (iblk m c 2 t) (iblk m c 3 t) (iblk m c 4 t) (iblk m c 5 t) (iblk m c 6 t) (iblk m c 7 t)

set_option maxHeartbeats 1000000

theorem oA11 (h0 : t.val % 8 = 0) :
    (outsAt0 m c t.val t.isLt).1 = k0_pay4 (U m c t) (iblk m c 8 t) (iblk m c 9 t) (k0_pay19 (iblk m c 8 t)) (iblk m c 10 t) := by
  rw [outsAt0_A m c t h0]
  dsimp only
  unfold out0_A_11
  rw [View.read_writes_eq_canon _ _ _ (cover0_A_11 _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (Memref.isWhole_whole _).read_unread, ldw, covw]
  rw [View.canon_unit_zero hz]

theorem oA12 (h0 : t.val % 8 = 0) :
    (outsAt0 m c t.val t.isLt).2.1 = View.canon (stack (iblk m c 0 t) (iblk m c 1 t) (iblk m c 2 t) (iblk m c 3 t) (iblk m c 4 t) (iblk m c 5 t) (iblk m c 6 t) (k0_pay5 (F := Ideal)) [⟨Rect.unit (s := S8x4352) ![0, 0] ![8, 4352] inb_S8x4352_S8x4352_0_0, k0_pay5 (F := Ideal)⟩]) := by
  rw [outsAt0_A m c t h0]
  dsimp only
  unfold out0_A_12
  rw [View.read_writes_eq_canon _ _ _ (cover0_A_12 _ _ _ _ _ _ _ _ _ _ _ _ _ _ _ _ _ _ _ _ _ _ _ _ _ _ _ _ _ _ _ _ _ _ _ _ _ _ _ _ _ _)]
  unfold kernelRun0_A
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (Memref.isWhole_whole _).read_unread, ldw, covw, ↓View.readCov_skip, ↓fillw]

theorem oA13 (h0 : t.val % 8 = 0) :
    (outsAt0 m c t.val t.isLt).2.2 = k0_pay3 (U m c t) (iblk m c 8 t) (k0_pay19 (iblk m c 8 t)) (k0_pay6 (F := Ideal)) := by
  rw [outsAt0_A m c t h0]
  dsimp only
  unfold out0_A_13
  rw [View.read_writes_eq_canon _ _ _ (cover0_A_13 _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (Memref.isWhole_whole _).read_unread, ldw, covw]
  rw [View.canon_cons_unit_zero hz]

theorem oB11 (h0 : ¬t.val % 8 = 0) :
    (outsAt0 m c t.val t.isLt).1 = k0_pay4 (U m c t) (iblk m c 8 t) (iblk m c 9 t) (k0_pay19 (iblk m c 8 t)) (iblk m c 10 t) := by
  rw [outsAt0_B m c t h0]
  dsimp only
  unfold out0_B_11
  rw [View.read_writes_eq_canon _ _ _ (cover0_B_11 _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (Memref.isWhole_whole _).read_unread, ldw, covw]
  rw [View.canon_unit_zero hz]

theorem oB12 (h0 : ¬t.val % 8 = 0) :
    (outsAt0 m c t.val t.isLt).2.1 = View.canon (stack (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 []) := by
  rw [outsAt0_B m c t h0]
  dsimp only
  unfold out0_B_12
  rw [View.read_writes_eq_canon _ _ _ (cover0_B_12 _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (Memref.isWhole_whole _).read_unread, ldw, covw]

theorem oB13 (h0 : ¬t.val % 8 = 0) :
    (outsAt0 m c t.val t.isLt).2.2 = k0_pay3 (U m c t) (iblk m c 8 t) (k0_pay19 (iblk m c 8 t)) (outsAt0 m c (t.val - 1) (Nat.lt_of_le_of_lt (Nat.sub_le _ _) t.isLt)).2.2 := by
  rw [outsAt0_B m c t h0]
  dsimp only
  unfold out0_B_13
  rw [View.read_writes_eq_canon _ _ _ (cover0_B_13 _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (Memref.isWhole_whole _).read_unread, ldw, covw]
  rw [View.canon_unit_zero hz]

/-- The arguments. -/
abbrev a0 : (⟨2, ![4096, 512]⟩ : Shape).Idx → EReal := m ((c.tc : Thread nD τ).loc main_arg0)
abbrev a1 : (⟨2, ![4096, 128]⟩ : Shape).Idx → EReal := m ((c.tc : Thread nD τ).loc main_arg1)
abbrev a2 : (⟨2, ![4096, 128]⟩ : Shape).Idx → EReal := m ((c.tc : Thread nD τ).loc main_arg2)
abbrev a3 : (⟨2, ![4096, 512]⟩ : Shape).Idx → EReal := m ((c.tc : Thread nD τ).loc main_arg3)
abbrev a4 : (⟨2, ![4096, 512]⟩ : Shape).Idx → EReal := m ((c.tc : Thread nD τ).loc main_arg4)
abbrev a5 : (⟨2, ![4096, 512]⟩ : Shape).Idx → EReal := m ((c.tc : Thread nD τ).loc main_arg5)
abbrev a6 : (⟨2, ![4096, 2048]⟩ : Shape).Idx → EReal := m ((c.tc : Thread nD τ).loc main_arg6)
abbrev a7 : (⟨2, ![4352, 1024]⟩ : Shape).Idx → EReal := m ((c.tc : Thread nD τ).loc main_arg7)
abbrev a8 : (⟨2, ![4096, 1024]⟩ : Shape).Idx → EReal := m ((c.tc : Thread nD τ).loc main_arg8)
abbrev a9 : (⟨2, ![1, 1024]⟩ : Shape).Idx → EReal := m ((c.tc : Thread nD τ).loc main_arg9)
abbrev a10 : (⟨2, ![4096, 1024]⟩ : Shape).Idx → EReal := m ((c.tc : Thread nD τ).loc main_arg10)

/-- The seven pieces as matrices read at numbers. -/
abbrev DD : Pieces := ⟨rd (a0 m c), rd (a1 m c), rd (a2 m c), rd (a3 m c), rd (a4 m c), rd (a5 m c), rd (a6 m c)⟩

theorem pt_lt (t : Fin cfg0.N) : t.val < 8 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

theorem block0 : Rows (n := 512) (m := 512) (512 * t.val) (iblk m c 0 t) (rd (a0 m c)) := by
  intro r k
  have hi := index0 t
  have ht := pt_lt t
  have hr := r.isLt
  refine Eq.trans ?_ (rd_ix2 (a := 4096) (b := 512) (a0 m c) ⟨512 * t.val + r.val, by omega⟩ k)
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [hi.1]; omega
  | ⟨1, _⟩ => show win0_0.index t 1 * 512 + 1 * k.val = k.val; rw [hi.2]; omega

theorem index1 : ∀ t : Fin cfg0.N, win0_1.index t 0 = t.val ∧ win0_1.index t 1 = 0 :=
  (by decide +kernel : ∀ t : Fin grid0.N, win0_1.index t 0 = t.val ∧ win0_1.index t 1 = 0)

theorem block1 : Rows (n := 512) (m := 128) (512 * t.val) (iblk m c 1 t) (rd (a1 m c)) := by
  intro r k
  have hi := index1 t
  have ht := pt_lt t
  have hr := r.isLt
  refine Eq.trans ?_ (rd_ix2 (a := 4096) (b := 128) (a1 m c) ⟨512 * t.val + r.val, by omega⟩ k)
  unfold iblk
  rw [View.read_apply]
  show V m c main_arg1 _ = m (c.tc.loc main_arg1) _
  unfold V
  congr 1
  funext a
  apply Fin.ext
  match a with
  | ⟨0, _⟩ => show win0_1.index t 0 * 512 + 1 * r.val = 512 * t.val + r.val; rw [hi.1]; omega
  | ⟨1, _⟩ => show win0_1.index t 1 * 128 + 1 * k.val = k.val; rw [hi.2]; omega

theorem index2 : ∀ t : Fin cfg0.N, win0_2.index t 0 = t.val ∧ win0_2.index t 1 = 0 :=
  (by decide +kernel : ∀ t : Fin grid0.N, win0_2.index t 0 = t.val ∧ win0_2.index t 1 = 0)

theorem block2 : Rows (n := 512) (m := 128) (512 * t.val) (iblk m c 2 t) (rd (a2 m c)) := by
  intro r k
  have hi := index2 t
  have ht := pt_lt t
  have hr := r.isLt
  refine Eq.trans ?_ (rd_ix2 (a := 4096) (b := 128) (a2 m c) ⟨512 * t.val + r.val, by omega⟩ k)
  unfold iblk
  rw [View.read_apply]
  show V m c main_arg2 _ = m (c.tc.loc main_arg2) _
  unfold V
  congr 1
  funext a
  apply Fin.ext
  match a with
  | ⟨0, _⟩ => show win0_2.index t 0 * 512 + 1 * r.val = 512 * t.val + r.val; rw [hi.1]; omega
  | ⟨1, _⟩ => show win0_2.index t 1 * 128 + 1 * k.val = k.val; rw [hi.2]; omega

theorem index3 : ∀ t : Fin cfg0.N, win0_3.index t 0 = t.val ∧ win0_3.index t 1 = 0 :=
  (by decide +kernel : ∀ t : Fin grid0.N, win0_3.index t 0 = t.val ∧ win0_3.index t 1 = 0)

theorem block3 : Rows (n := 512) (m := 512) (512 * t.val) (iblk m c 3 t) (rd (a3 m c)) := by
  intro r k
  have hi := index3 t
  have ht := pt_lt t
  have hr := r.isLt
  refine Eq.trans ?_ (rd_ix2 (a := 4096) (b := 512) (a3 m c) ⟨512 * t.val + r.val, by omega⟩ k)
  unfold iblk
  rw [View.read_apply]
  show V m c main_arg3 _ = m (c.tc.loc main_arg3) _
  unfold V
  congr 1
  funext a
  apply Fin.ext
  match a with
  | ⟨0, _⟩ => show win0_3.index t 0 * 512 + 1 * r.val = 512 * t.val + r.val; rw [hi.1]; omega
  | ⟨1, _⟩ => show win0_3.index t 1 * 512 + 1 * k.val = k.val; rw [hi.2]; omega

theorem index4 : ∀ t : Fin cfg0.N, win0_4.index t 0 = t.val ∧ win0_4.index t 1 = 0 :=
  (by decide +kernel : ∀ t : Fin grid0.N, win0_4.index t 0 = t.val ∧ win0_4.index t 1 = 0)

theorem block4 : Rows (n := 512) (m := 512) (512 * t.val) (iblk m c 4 t) (rd (a4 m c)) := by
  intro r k
  have hi := index4 t
  have ht := pt_lt t
  have hr := r.isLt
  refine Eq.trans ?_ (rd_ix2 (a := 4096) (b := 512) (a4 m c) ⟨512 * t.val + r.val, by omega⟩ k)
  unfold iblk
  rw [View.read_apply]
  show V m c main_arg4 _ = m (c.tc.loc main_arg4) _
  unfold V
  congr 1
  funext a
  apply Fin.ext
  match a with
  | ⟨0, _⟩ => show win0_4.index t 0 * 512 + 1 * r.val = 512 * t.val + r.val; rw [hi.1]; omega
  | ⟨1, _⟩ => show win0_4.index t 1 * 512 + 1 * k.val = k.val; rw [hi.2]; omega

theorem index5 : ∀ t : Fin cfg0.N, win0_5.index t 0 = t.val ∧ win0_5.index t 1 = 0 :=
  (by decide +kernel : ∀ t : Fin grid0.N, win0_5.index t 0 = t.val ∧ win0_5.index t 1 = 0)

theorem block5 : Rows (n := 512) (m := 512) (512 * t.val) (iblk m c 5 t) (rd (a5 m c)) := by
  intro r k
  have hi := index5 t
  have ht := pt_lt t
  have hr := r.isLt
  refine Eq.trans ?_ (rd_ix2 (a := 4096) (b := 512) (a5 m c) ⟨512 * t.val + r.val, by omega⟩ k)
  unfold iblk
  rw [View.read_apply]
  show V m c main_arg5 _ = m (c.tc.loc main_arg5) _
  unfold V
  congr 1
  funext a
  apply Fin.ext
  match a with
  | ⟨0, _⟩ => show win0_5.index t 0 * 512 + 1 * r.val = 512 * t.val + r.val; rw [hi.1]; omega
  | ⟨1, _⟩ => show win0_5.index t 1 * 512 + 1 * k.val = k.val; rw [hi.2]; omega

theorem index6 : ∀ t : Fin cfg0.N, win0_6.index t 0 = t.val ∧ win0_6.index t 1 = 0 :=
  (by decide +kernel : ∀ t : Fin grid0.N, win0_6.index t 0 = t.val ∧ win0_6.index t 1 = 0)

theorem block6 : Rows (n := 512) (m := 2048) (512 * t.val) (iblk m c 6 t) (rd (a6 m c)) := by
  intro r k
  have hi := index6 t
  have ht := pt_lt t
  have hr := r.isLt
  refine Eq.trans ?_ (rd_ix2 (a := 4096) (b := 2048) (a6 m c) ⟨512 * t.val + r.val, by omega⟩ k)
  unfold iblk
  rw [View.read_apply]
  show V m c main_arg6 _ = m (c.tc.loc main_arg6) _
  unfold V
  congr 1
  funext a
  apply Fin.ext
  match a with
  | ⟨0, _⟩ => show win0_6.index t 0 * 512 + 1 * r.val = 512 * t.val + r.val; rw [hi.1]; omega
  | ⟨1, _⟩ => show win0_6.index t 1 * 2048 + 1 * k.val = k.val; rw [hi.2]; omega

theorem index7 : ∀ t : Fin cfg0.N, win0_7.index t 0 = 0 ∧ win0_7.index t 1 = 0 :=
  (by decide +kernel : ∀ t : Fin grid0.N, win0_7.index t 0 = 0 ∧ win0_7.index t 1 = 0)

theorem block7 : Rows (n := 4352) (m := 1024) (0) (iblk m c 7 t) (rd (a7 m c)) := by
  intro r k
  have hi := index7 t
  have ht := pt_lt t
  have hr := r.isLt
  refine Eq.trans ?_ (rd_ix2 (a := 4352) (b := 1024) (a7 m c) ⟨0 + r.val, by omega⟩ k)
  unfold iblk
  rw [View.read_apply]
  show V m c main_arg7 _ = m (c.tc.loc main_arg7) _
  unfold V
  congr 1
  funext a
  apply Fin.ext
  match a with
  | ⟨0, _⟩ => show win0_7.index t 0 * 4352 + 1 * r.val = 0 + r.val; rw [hi.1]; omega
  | ⟨1, _⟩ => show win0_7.index t 1 * 1024 + 1 * k.val = k.val; rw [hi.2]; omega

theorem index8 : ∀ t : Fin cfg0.N, win0_8.index t 0 = t.val ∧ win0_8.index t 1 = 0 :=
  (by decide +kernel : ∀ t : Fin grid0.N, win0_8.index t 0 = t.val ∧ win0_8.index t 1 = 0)

theorem block8 : Rows (n := 512) (m := 1024) (512 * t.val) (iblk m c 8 t) (rd (a8 m c)) := by
  intro r k
  have hi := index8 t
  have ht := pt_lt t
  have hr := r.isLt
  refine Eq.trans ?_ (rd_ix2 (a := 4096) (b := 1024) (a8 m c) ⟨512 * t.val + r.val, by omega⟩ k)
  unfold iblk
  rw [View.read_apply]
  show V m c main_arg8 _ = m (c.tc.loc main_arg8) _
  unfold V
  congr 1
  funext a
  apply Fin.ext
  match a with
  | ⟨0, _⟩ => show win0_8.index t 0 * 512 + 1 * r.val = 512 * t.val + r.val; rw [hi.1]; omega
  | ⟨1, _⟩ => show win0_8.index t 1 * 1024 + 1 * k.val = k.val; rw [hi.2]; omega

theorem index9 : ∀ t : Fin cfg0.N, win0_9.index t 0 = 0 ∧ win0_9.index t 1 = 0 :=
  (by decide +kernel : ∀ t : Fin grid0.N, win0_9.index t 0 = 0 ∧ win0_9.index t 1 = 0)

theorem block9 : Rows (n := 1) (m := 1024) (0) (iblk m c 9 t) (rd (a9 m c)) := by
  intro r k
  have hi := index9 t
  have ht := pt_lt t
  have hr := r.isLt
  refine Eq.trans ?_ (rd_ix2 (a := 1) (b := 1024) (a9 m c) ⟨0 + r.val, by omega⟩ k)
  unfold iblk
  rw [View.read_apply]
  show V m c main_arg9 _ = m (c.tc.loc main_arg9) _
  unfold V
  congr 1
  funext a
  apply Fin.ext
  match a with
  | ⟨0, _⟩ => show win0_9.index t 0 * 1 + 1 * r.val = 0 + r.val; rw [hi.1]; omega
  | ⟨1, _⟩ => show win0_9.index t 1 * 1024 + 1 * k.val = k.val; rw [hi.2]; omega

theorem index10 : ∀ t : Fin cfg0.N, win0_10.index t 0 = t.val ∧ win0_10.index t 1 = 0 :=
  (by decide +kernel : ∀ t : Fin grid0.N, win0_10.index t 0 = t.val ∧ win0_10.index t 1 = 0)

theorem block10 : Rows (n := 512) (m := 1024) (512 * t.val) (iblk m c 10 t) (rd (a10 m c)) := by
  intro r k
  have hi := index10 t
  have ht := pt_lt t
  have hr := r.isLt
  refine Eq.trans ?_ (rd_ix2 (a := 4096) (b := 1024) (a10 m c) ⟨512 * t.val + r.val, by omega⟩ k)
  unfold iblk
  rw [View.read_apply]
  show V m c main_arg10 _ = m (c.tc.loc main_arg10) _
  unfold V
  congr 1
  funext a
  apply Fin.ext
  match a with
  | ⟨0, _⟩ => show win0_10.index t 0 * 512 + 1 * r.val = 512 * t.val + r.val; rw [hi.1]; omega
  | ⟨1, _⟩ => show win0_10.index t 1 * 1024 + 1 * k.val = k.val; rw [hi.2]; omega

theorem blocks : Blocks (DD m c) (512 * t.val) (iblk m c 0 t) (iblk m c 1 t) (iblk m c 2 t) (iblk m c 3 t) (iblk m c 4 t) (iblk m c 5 t) (iblk m c 6 t) :=
  ⟨block0 m c t, block1 m c t, block2 m c t, block3 m c t, block4 m c t, block5 m c t, block6 m c t⟩

theorem U_eq (r : Fin 512) (d : Fin 1024) : U m c t (ix2 r d) = dy (DD m c) (rd (a7 m c)) (512 * t.val + r.val) d.val :=
  summed (blocks m c t) (block7 m c t) r d

theorem out11 (r : Fin 512) (d : Fin 1024) :
    (outsAt0 m c t.val t.isLt).1 (ix2 r d)
      = dx (DD m c) (rd (a7 m c)) (rd (a8 m c)) (rd (a9 m c)) (rd (a10 m c)) (512 * t.val + r.val) d.val := by
  by_cases h0 : t.val % 8 = 0
  · rw [oA11 m c t h0]
    exact rows (U m c t) (U_eq m c t) (block8 m c t) (block9 m c t) (block10 m c t) r d
  · rw [oB11 m c t h0]
    exact rows (U m c t) (U_eq m c t) (block8 m c t) (block9 m c t) (block10 m c t) r d

theorem acc12 : ∀ (n : ℕ) (hn : n < cfg0.N) (r : Fin 8) (p : Fin 4352),
    (outsAt0 m c n hn).2.1 (ix2 r p) = db (DD m c) (512 * n + 512) p.val := by
  intro n
  induction n with
  | zero =>
    intro hn r p
    rw [oA12 m c ⟨0, hn⟩ rfl]
    exact bias (blocks m c ⟨0, hn⟩) _ _ r p (zero5 r p)
  | succ n ih =>
    intro hn r p
    have h8 : n + 1 < 8 := pt_lt ⟨n + 1, hn⟩
    rw [oB12 m c ⟨n + 1, hn⟩ (by dsimp only; omega)]
    exact bias (blocks m c ⟨n + 1, hn⟩) _ _ r p (ih (Nat.lt_of_succ_lt hn) r p)

theorem acc13 : ∀ (n : ℕ) (hn : n < cfg0.N) (r : Fin 8) (d : Fin 1024),
    (outsAt0 m c n hn).2.2 (ix2 r d) = dg (DD m c) (rd (a7 m c)) (rd (a8 m c)) (512 * n + 512) d.val := by
  intro n
  induction n with
  | zero =>
    intro hn r d
    rw [oA13 m c ⟨0, hn⟩ rfl]
    exact scale (U m c ⟨0, hn⟩) (U_eq m c ⟨0, hn⟩) (block8 m c ⟨0, hn⟩) _ r d (zero6 r d)
  | succ n ih =>
    intro hn r d
    have h8 : n + 1 < 8 := pt_lt ⟨n + 1, hn⟩
    rw [oB13 m c ⟨n + 1, hn⟩ (by dsimp only; omega)]
    exact scale (U m c ⟨n + 1, hn⟩) (U_eq m c ⟨n + 1, hn⟩) (block8 m c ⟨n + 1, hn⟩) _ r d (ih (Nat.lt_of_succ_lt hn) r d)

theorem index11 : ∀ t : Fin cfg0.N, win0_11.index t 0 = t.val ∧ win0_11.index t 1 = 0 :=
  (by decide +kernel : ∀ t : Fin grid0.N, win0_11.index t 0 = t.val ∧ win0_11.index t 1 = 0)

theorem emb11 (t : Fin cfg0.N) (r : Fin 512) (k : Fin 1024) (h : 512 * t.val + r.val < 4096) :
    ((View.whole main_v0_0).slice (win0_11.rect t)).emb (ix2 r k) = ix2 ⟨512 * t.val + r.val, h⟩ k := by
  have hi := index11 t
  funext a
  apply Fin.ext
  match a with
  | ⟨0, _⟩ => show win0_11.index t 0 * 512 + 1 * r.val = 512 * t.val + r.val; rw [hi.1]; omega
  | ⟨1, _⟩ => show win0_11.index t 1 * 1024 + 1 * k.val = k.val; rw [hi.2]; omega

theorem final11 (v : S4096x1024.Idx → EReal) (hv : Holds v (dx (DD m c) (rd (a7 m c)) (rd (a8 m c)) (rd (a9 m c)) (rd (a10 m c)))) : (dats m 0 c).arrAt 11 cfg0.N = v :=
  (dats m 0 c).arrAt_eq_of_cover 11 v (fun t hf => by
    have ht := pt_lt t
    rw [flushed11 m c t]
    funext j
    rw [View.read_apply]
    obtain ⟨r, k, rfl⟩ : ∃ (r : Fin 512) (k : Fin 1024), j = ix2 r k := ⟨j 0, j 1, eq_ix2 j⟩
    have hr := r.isLt
    refine (out11 m c t r k).trans ?_
    refine ((hv ⟨512 * t.val + r.val, by omega⟩ k).symm.trans (congrArg v ?_))
    exact (emb11 t r k (by omega)).symm) fun i => by
    have h0 : (i 0 : Nat) < 4096 := (i 0).isLt
    have h1 : (i 1 : Nat) < 1024 := (i 1).isLt
    obtain ⟨t, ht⟩ : ∃ t : Fin cfg0.N, t.val = (i 0 : Nat) / 512 :=
      ⟨⟨(i 0 : Nat) / 512, by show _ < grid0.N; rw [N_0]; omega⟩, rfl⟩
    refine ⟨t, flush0_11 _, ?_⟩
    show i ∈ ((View.whole main_v0_0).slice (win0_11.rect t)).set
    rw [View.set_slice_whole, Rect.mem_set_unit]
    have hi := index11 t
    intro a
    match a with
    | ⟨0, _⟩ =>
      show win0_11.index t 0 * 512 ≤ (i 0 : Nat) ∧ (i 0 : Nat) < win0_11.index t 0 * 512 + 512
      rw [hi.1]; omega
    | ⟨1, _⟩ =>
      show win0_11.index t 1 * 1024 ≤ (i 1 : Nat) ∧ (i 1 : Nat) < win0_11.index t 1 * 1024 + 1024
      rw [hi.2]; omega

theorem index12 : ∀ t : Fin cfg0.N, win0_12.index t 0 = 0 ∧ win0_12.index t 1 = 0 :=
  (by decide +kernel : ∀ t : Fin grid0.N, win0_12.index t 0 = 0 ∧ win0_12.index t 1 = 0)

theorem emb12 (t : Fin cfg0.N) (r : Fin 8) (k : Fin 4352) (h : r.val < 8) :
    ((View.whole main_v0_1).slice (win0_12.rect t)).emb (ix2 r k) = ix2 ⟨r.val, h⟩ k := by
  have hi := index12 t
  funext a
  apply Fin.ext
  match a with
  | ⟨0, _⟩ => show win0_12.index t 0 * 8 + 1 * r.val = r.val; rw [hi.1]; omega
  | ⟨1, _⟩ => show win0_12.index t 1 * 4352 + 1 * k.val = k.val; rw [hi.2]; omega

theorem final12 (v : S8x4352.Idx → EReal) (hv : Holds v (fun _ => db (DD m c) 4096)) : (dats m 0 c).arrAt 12 cfg0.N = v :=
  (dats m 0 c).arrAt_eq_of_cover 12 v (fun t hf => by
    have ht := pt_lt t
    rw [flushed12 m c t]
    funext j
    rw [View.read_apply]
    obtain ⟨r, k, rfl⟩ : ∃ (r : Fin 8) (k : Fin 4352), j = ix2 r k := ⟨j 0, j 1, eq_ix2 j⟩
    have hr := r.isLt
    have h7 : t.val = 7 := by
      have := (flush0_12 t).mp hf
      omega
    refine (acc12 m c t.val t.isLt r k).trans ?_
    rw [h7]
    refine ((hv r k).symm.trans (congrArg v ?_))
    exact (emb12 t r k hr).symm) fun i => by
    have h0 : (i 0 : Nat) < 8 := (i 0).isLt
    have h1 : (i 1 : Nat) < 4352 := (i 1).isLt
    obtain ⟨t, ht⟩ : ∃ t : Fin cfg0.N, t.val = 7 := ⟨⟨7, by show _ < grid0.N; rw [N_0]; omega⟩, rfl⟩
    refine ⟨t, (flush0_12 t).mpr (by omega), ?_⟩
    show i ∈ ((View.whole main_v0_1).slice (win0_12.rect t)).set
    rw [View.set_slice_whole, Rect.mem_set_unit]
    have hi := index12 t
    intro a
    match a with
    | ⟨0, _⟩ =>
      show win0_12.index t 0 * 8 ≤ (i 0 : Nat) ∧ (i 0 : Nat) < win0_12.index t 0 * 8 + 8
      rw [hi.1]; omega
    | ⟨1, _⟩ =>
      show win0_12.index t 1 * 4352 ≤ (i 1 : Nat) ∧ (i 1 : Nat) < win0_12.index t 1 * 4352 + 4352
      rw [hi.2]; omega

theorem index13 : ∀ t : Fin cfg0.N, win0_13.index t 0 = 0 ∧ win0_13.index t 1 = 0 :=
  (by decide +kernel : ∀ t : Fin grid0.N, win0_13.index t 0 = 0 ∧ win0_13.index t 1 = 0)

theorem emb13 (t : Fin cfg0.N) (r : Fin 8) (k : Fin 1024) (h : r.val < 8) :
    ((View.whole main_v0_2).slice (win0_13.rect t)).emb (ix2 r k) = ix2 ⟨r.val, h⟩ k := by
  have hi := index13 t
  funext a
  apply Fin.ext
  match a with
  | ⟨0, _⟩ => show win0_13.index t 0 * 8 + 1 * r.val = r.val; rw [hi.1]; omega
  | ⟨1, _⟩ => show win0_13.index t 1 * 1024 + 1 * k.val = k.val; rw [hi.2]; omega

theorem final13 (v : S8x1024.Idx → EReal) (hv : Holds v (fun _ => dg (DD m c) (rd (a7 m c)) (rd (a8 m c)) 4096)) : (dats m 0 c).arrAt 13 cfg0.N = v :=
  (dats m 0 c).arrAt_eq_of_cover 13 v (fun t hf => by
    have ht := pt_lt t
    rw [flushed13 m c t]
    funext j
    rw [View.read_apply]
    obtain ⟨r, k, rfl⟩ : ∃ (r : Fin 8) (k : Fin 1024), j = ix2 r k := ⟨j 0, j 1, eq_ix2 j⟩
    have hr := r.isLt
    have h7 : t.val = 7 := by
      have := (flush0_13 t).mp hf
      omega
    refine (acc13 m c t.val t.isLt r k).trans ?_
    rw [h7]
    refine ((hv r k).symm.trans (congrArg v ?_))
    exact (emb13 t r k hr).symm) fun i => by
    have h0 : (i 0 : Nat) < 8 := (i 0).isLt
    have h1 : (i 1 : Nat) < 1024 := (i 1).isLt
    obtain ⟨t, ht⟩ : ∃ t : Fin cfg0.N, t.val = 7 := ⟨⟨7, by show _ < grid0.N; rw [N_0]; omega⟩, rfl⟩
    refine ⟨t, (flush0_13 t).mpr (by omega), ?_⟩
    show i ∈ ((View.whole main_v0_2).slice (win0_13.rect t)).set
    rw [View.set_slice_whole, Rect.mem_set_unit]
    have hi := index13 t
    intro a
    match a with
    | ⟨0, _⟩ =>
      show win0_13.index t 0 * 8 ≤ (i 0 : Nat) ∧ (i 0 : Nat) < win0_13.index t 0 * 8 + 8
      rw [hi.1]; omega
    | ⟨1, _⟩ =>
      show win0_13.index t 1 * 1024 ≤ (i 1 : Nat) ∧ (i 1 : Nat) < win0_13.index t 1 * 1024 + 1024
      rw [hi.2]; omega

end Cert.InBwdValue
-- ==== Proof.InBwdEq.lean ====
module

public import proofs.«01_k».proof.Proof.InBwdValue
public import proofs.«01_k».proof.Defs
public import proofs.«01_k».proof.Proof.Gen.InBwdRefIdeal.Run
public import Idealize.ShloMosaic.Lib.Claim

@[expose] public section

set_option maxRecDepth 16384

/-!
# The gradients behind the input projections: the kernel and the reference
-/

noncomputable section

open Idealize.ShloMosaic Idealize.ShloMosaic.TcCoe Idealize.SL.Sem
open Cert.MixSpec Cert.InBwdSpec Cert.NormGrad
open Cert.MixRef (Holds)

namespace Cert.InBwdRef

open Cert.InBwdRefIdeal Cert.InBwdRefIdeal.Gen

variable (x0 : FVec Ideal S4096x512 .bf16)
variable (x1 : FVec Ideal S4096x128 .f32)
variable (x2 : FVec Ideal S4096x128 .f32)
variable (x3 : FVec Ideal S4096x512 .bf16)
variable (x4 : FVec Ideal S4096x512 .bf16)
variable (x5 : FVec Ideal S4096x512 .bf16)
variable (x6 : FVec Ideal S4096x2048 .bf16)
variable (x7 : FVec Ideal S4352x1024 .bf16)
variable (x8 : FVec Ideal S4096x1024 .f32)
variable (x9 : FVec Ideal S1x1024 .f32)
variable (x10 : FVec Ideal S4096x1024 .f32)

/-- The seven pieces side by side. -/
def dpv : FVec Ideal S4096x4352 .f32 := ((concatenate S4096x4352 1 [⟨S4096x512, ((extf .f32 x0 bitsLt_bf16_f32) : (⟨S4096x512, .f32⟩ : BufTy).Contents (Elt Ideal))⟩, ⟨S4096x128, (x1 : (⟨S4096x128, .f32⟩ : BufTy).Contents (Elt Ideal))⟩, ⟨S4096x128, (x2 : (⟨S4096x128, .f32⟩ : BufTy).Contents (Elt Ideal))⟩, ⟨S4096x512, ((extf .f32 x3 bitsLt_bf16_f32) : (⟨S4096x512, .f32⟩ : BufTy).Contents (Elt Ideal))⟩, ⟨S4096x512, ((extf .f32 x4 bitsLt_bf16_f32) : (⟨S4096x512, .f32⟩ : BufTy).Contents (Elt Ideal))⟩, ⟨S4096x512, ((extf .f32 x5 bitsLt_bf16_f32) : (⟨S4096x512, .f32⟩ : BufTy).Contents (Elt Ideal))⟩, ⟨S4096x2048, ((extf .f32 x6 bitsLt_bf16_f32) : (⟨S4096x2048, .f32⟩ : BufTy).Contents (Elt Ideal))⟩] concatenates_S4096x512_S4096x128_S4096x128_S4096x512_S4096x512_S4096x512_S4096x2048_S4096x4352_d1 : (⟨S4096x4352, .f32⟩ : BufTy).Contents (Elt Ideal)))

/-- The gradient of the normed rows. -/
def dyv : FVec Ideal S4096x1024 .f32 := (Host.dotGeneral dot_S4096x4352_S1024x4352_S4096x1024_1_1_0_0_n_n none (dpv x0 x1 x2 x3 x4 x5 x6) (transpose S1024x4352 [1, 0] (extf .f32 x7 bitsLt_bf16_f32) transposes_S4352x1024_S1024x4352_1_0))

/-- It, scaled. -/
def yhv : FVec Ideal S4096x1024 .f32 := (mulf (dyv x0 x1 x2 x3 x4 x5 x6 x7) (broadcastInDim S4096x1024 ![0, 1] bcast_S1x1024_S4096x1024_0_1 (broadcastInDim S1x1024 ![1] bcast_S1024_S1x1024_1 (shapeCast _ x9 shapeCasts_S1x1024_S1024))))

/-- The mean squares and the small constant. -/
def vrv : FVec Ideal S4096x1 .f32 := (addf (Host.divf (broadcastInDim S4096x1 ![0] bcast_S4096_S4096x1_0 (Host.reduceAdd (mulf x8 x8) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))

/-- Their inverse roots. -/
def rrv : FVec Ideal S4096x1 .f32 := (Host.rsqrt (vrv x8))

/-- What the chain rule hands to each square. -/
def cov : FVec Ideal S4096x1024 .f32 := (broadcastInDim S4096x1024 ![0] bcast_S4096_S4096x1024_0 (Host.reduceAdd (Host.divf (mulf (shapeCast _ (Host.reduceAdd (mulf x8 (yhv x0 x1 x2 x3 x4 x5 x6 x7 x9)) (constant S_ .f32 0x00000000#32) reducesTo_S4096x1024_S4096_d1 h_S_) shapeCasts_S4096_S4096x1) (mulf (broadcastInDim S4096x1 ![] bcast_S_S4096x1 (constant S_ .f32 0xBF000000#32)) (Host.divf (rrv x8) (vrv x8)))) (broadcastInDim S4096x1 ![] bcast_S_S4096x1 (constant S_ .f32 0x44800000#32))) (constant S_ .f32 0x00000000#32) reducesTo_S4096x1_S4096_d1 h_S_))

/-- The three results. -/
def val0 : FVec Ideal S4096x1024 .f32 := addf (addf (addf x10 (mulf (yhv x0 x1 x2 x3 x4 x5 x6 x7 x9) (broadcastInDim S4096x1024 ![0, 1] bcast_S4096x1_S4096x1024_0_1 (rrv x8)))) (mulf x8 (cov x0 x1 x2 x3 x4 x5 x6 x7 x8 x9))) (mulf (cov x0 x1 x2 x3 x4 x5 x6 x7 x8 x9) x8)
def val1 : FVec Ideal S8x4352 .f32 := broadcastInDim S8x4352 ![1] bcast_S4352_S8x4352_1 (Host.reduceAdd (shapeCast _ (Host.reduceAdd (dpv x0 x1 x2 x3 x4 x5 x6) (constant S_ .f32 0x00000000#32) reducesTo_S4096x4352_S4352_d0 h_S_) shapeCasts_S4352_S1x4352) (constant S_ .f32 0x00000000#32) reducesTo_S1x4352_S4352_d0 h_S_)
def val2 : FVec Ideal S8x1024 .f32 := broadcastInDim S8x1024 ![1] bcast_S1024_S8x1024_1 (Host.reduceAdd (shapeCast _ (Host.reduceAdd (mulf (mulf x8 (broadcastInDim S4096x1024 ![0, 1] bcast_S4096x1_S4096x1024_0_1 (rrv x8))) (dyv x0 x1 x2 x3 x4 x5 x6 x7)) (constant S_ .f32 0x00000000#32) reducesTo_S4096x1024_S1024_d0 h_S_) shapeCasts_S1024_S1x1024) (constant S_ .f32 0x00000000#32) reducesTo_S1x1024_S1024_d0 h_S_)

theorem h_dp (r : Fin 4096) (p : Fin 4352) : dpv x0 x1 x2 x3 x4 x5 x6 (ix2 r p) = dp ⟨rd x0, rd x1, rd x2, rd x3, rd x4, rd x5, rd x6⟩ r.val p.val := by
  pointwise [dpv]
  simp only [rd_ix2]
  have hp := p.isLt
  unfold dp
  split_ifs <;> first | (exfalso; omega) | rfl | simp only [Nat.sub_sub]

theorem h_dy (r : Fin 4096) (d : Fin 1024) : dyv x0 x1 x2 x3 x4 x5 x6 x7 (ix2 r d) = dy ⟨rd x0, rd x1, rd x2, rd x3, rd x4, rd x5, rd x6⟩ (rd x7) r.val d.val := by
  pointwise [dyv]
  simp only [h_dp]
  unfold dy
  rw [Finset.sum_range]
  simp only [rd_ix2]

theorem h_yh (r : Fin 4096) (d : Fin 1024) :
    yhv x0 x1 x2 x3 x4 x5 x6 x7 x9 (ix2 r d) = dy ⟨rd x0, rd x1, rd x2, rd x3, rd x4, rd x5, rd x6⟩ (rd x7) r.val d.val * rd x9 0 d.val := by
  have g : rd x9 0 d.val = x9 (ix2 0 d) := (rd_ix2 (a := 1) (b := 1024) x9 0 d).symm
  pointwise [yhv]
  rw [h_dy, g]

theorem h_vr (r : Fin 4096) : vrv x8 (ix2 r 0) = vr (rd x8 r.val) := by
  pointwise [vrv]
  unfold vr
  rw [Finset.sum_range]
  simp only [rd_ix2]
  rfl

theorem h_rr (r : Fin 4096) : rrv x8 (ix2 r 0) = rr (rd x8 r.val) := by
  have h := h_vr x8 r
  pointwise [rrv]
  rw [h]
  rfl

theorem h_co (r : Fin 4096) (d : Fin 1024) :
    cov x0 x1 x2 x3 x4 x5 x6 x7 x8 x9 (ix2 r d) = coef (rd x8 r.val) (fun j => dy ⟨rd x0, rd x1, rd x2, rd x3, rd x4, rd x5, rd x6⟩ (rd x7) r.val j * rd x9 0 j) := by
  pointwise [cov]
  simp only [Fin.sum_univ_one, h_yh, h_rr, h_vr]
  unfold coef
  rw [Finset.sum_range]
  simp only [rd_ix2]
  rfl

theorem h0 : Holds (val0 x0 x1 x2 x3 x4 x5 x6 x7 x8 x9 x10) (dx ⟨rd x0, rd x1, rd x2, rd x3, rd x4, rd x5, rd x6⟩ (rd x7) (rd x8) (rd x9) (rd x10)) := by
  intro r d
  unfold dx
  rw [agree _ _ _ _ d.isLt]
  pointwise [val0]
  rw [h_yh, h_rr, h_co]
  unfold chain
  simp only [rd_ix2]

theorem h1 : Holds (val1 x0 x1 x2 x3 x4 x5 x6) (fun _ => db ⟨rd x0, rd x1, rd x2, rd x3, rd x4, rd x5, rd x6⟩ 4096) := by
  intro r p
  pointwise [val1]
  simp only [Fin.sum_univ_one, h_dp]
  unfold db
  rw [Finset.sum_range]

theorem h2 : Holds (val2 x0 x1 x2 x3 x4 x5 x6 x7 x8) (fun _ => dg ⟨rd x0, rd x1, rd x2, rd x3, rd x4, rd x5, rd x6⟩ (rd x7) (rd x8) 4096) := by
  intro r d
  pointwise [val2]
  simp only [Fin.sum_univ_one, h_dy, h_rr]
  unfold dg
  rw [Finset.sum_range]
  simp only [rd_ix2]
  exact Finset.sum_congr rfl fun s _ => mul_comm _ _

/-- The reference leaves its arguments as they were, and every counter at zero. -/
theorem frame : @Cert.quiescent_InBwdRefIdeal Cert.InBwdRefIdeal.Gen.facts := fun m ρ _ =>
  (θ_run Cert.InBwdRefIdeal.defs _ _).mono (fun r h => ⟨fun c => (h c).2.2.2,
      Idealize.ShloMosaic.sem_eq_zero_of_no_sems (by decide) r.2⟩)
    (Cert.InBwdRefIdeal.Value.run (F := Ideal) m ρ)

end Cert.InBwdRef

namespace Cert.InBwdEq

open Cert.InBwdIdeal Cert.InBwdIdeal.Gen

variable (m : (ℓ : Loc nD τ sig) → Buf (Elt Ideal) ℓ) (c : Dev nD)

/-- The results, as the reference's values at the kernel's arguments. -/
def r0 := Cert.InBwdRef.val0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
def r1 := Cert.InBwdRef.val1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
def r2 := Cert.InBwdRef.val2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The value claim: on the extended reals the kernel's three results are the reference's. -/
theorem algebraic : @Cert.algebraic_InBwdIdeal_InBwdRefIdeal Cert.InBwdIdeal.Gen.facts Cert.InBwdRefIdeal.Gen.facts := by
  intro m g m' g' _ hm
  refine ⟨fun c => r0 m c, fun c => r1 m c, fun c => r2 m c, (θ_run defs _ _).mono (fun r h c => ?_) (Cert.InBwdIdeal.Value.run_blocks m g), ?_⟩
  · obtain ⟨a0, a1, a2, rest⟩ := h c
    exact ⟨a0.trans (Cert.InBwdValue.final11 m c _ (Cert.InBwdRef.h0 _ _ _ _ _ _ _ _ _ _ _)), a1.trans (Cert.InBwdValue.final12 m c _ (Cert.InBwdRef.h1 _ _ _ _ _ _ _)),
      a2.trans (Cert.InBwdValue.final13 m c _ (Cert.InBwdRef.h2 _ _ _ _ _ _ _ _ _)), rest⟩
  refine (θ_run Cert.InBwdRefIdeal.defs _ _).mono (fun r h c => ?_) (Cert.InBwdRefIdeal.Value.run m' g')
  obtain ⟨e0, e1, e2, e3, e4, e5, e6, e7, e8, e9, e10⟩ := hm c
  obtain ⟨a0, a1, a2, rest⟩ := h c
  have q0 := congr (congr (congr (congr (congr (congr (congr (congr (congr (congr (congrArg Cert.InBwdRef.val0 e0) e1) e2) e3) e4) e5) e6) e7) e8) e9) e10
  have q1 := congr (congr (congr (congr (congr (congr (congrArg Cert.InBwdRef.val1 e0) e1) e2) e3) e4) e5) e6
  have q2 := congr (congr (congr (congr (congr (congr (congr (congr (congrArg Cert.InBwdRef.val2 e0) e1) e2) e3) e4) e5) e6) e7) e8
  exact ⟨a0.trans q0, a1.trans q1, a2.trans q2, rest⟩

end Cert.InBwdEq
-- ==== Proof.InFwdValue.lean ====
module

public import proofs.«01_k».proof.Proof.NormSpec
public import proofs.«01_k».proof.Proof.Gen.InFwdIdeal.Value

@[expose] public section

set_option maxRecDepth 16384

/-!
# The kernel's norm and projections

Each of the eight points takes 512 rows: it norms them, and multiplies them by three bands of the weight.
-/

noncomputable section

open Idealize.ShloMosaic Idealize.ShloMosaic.TcCoe Idealize.ShloMosaic.Tactic
open Cert.InFwdIdeal Cert.InFwdIdeal.Gen Cert.InFwdIdeal.Value
open Cert.MixSpec Cert.NormSpec
open Cert.MixBlock (ld_ix2 hz)
open Cert.MixRef (Holds)

namespace Cert.InFwdValue

section

variable {t : ℕ} {x g w b : ℕ → ℕ → EReal}
  {v0 : Vec Ideal S512x1024 .f32} {v1 : Vec Ideal S1x1024 .f32}

theorem normed (h0 : ∀ (r : Fin 512) (k : Fin 1024), v0 (ix2 r k) = x (512 * t + r.val) k.val)
    (h1 : ∀ (r : Fin 1) (k : Fin 1024), v1 (ix2 r k) = g 0 k.val) (r : Fin 512) (k : Fin 1024) :
    k0_pay2 v0 v1 (ix2 r k) = xn x g (512 * t + r.val) k.val := by
  pointwise [k0_pay2]
  simp only [h0, h1]
  unfold xn rn
  rw [Finset.sum_range]
  rfl

theorem qkv (h0 : ∀ (r : Fin 512) (k : Fin 1024), v0 (ix2 r k) = x (512 * t + r.val) k.val)
    (h1 : ∀ (r : Fin 1) (k : Fin 1024), v1 (ix2 r k) = g 0 k.val) {v2 : Vec Ideal S768x1024 .bf16} {v3 : Vec Ideal S1x768 .f32}
    (h2 : ∀ (p : Fin 768) (k : Fin 1024), v2 (ix2 p k) = w p.val k.val)
    (h3 : ∀ (r : Fin 1) (p : Fin 768), v3 (ix2 r p) = b 0 p.val) (r : Fin 512) (p : Fin 768) :
    k0_pay3 v0 v1 v2 v3 (ix2 r p) = proj x g w b (512 * t + r.val) p.val := by
  have h := normed h0 h1
  pointwise [k0_pay3]
  simp only [h, h2, h3]
  unfold proj
  rw [Finset.sum_range]

theorem cbx (h0 : ∀ (r : Fin 512) (k : Fin 1024), v0 (ix2 r k) = x (512 * t + r.val) k.val)
    (h1 : ∀ (r : Fin 1) (k : Fin 1024), v1 (ix2 r k) = g 0 k.val) {v2 : Vec Ideal S1536x1024 .bf16} {v3 : Vec Ideal S1x1536 .f32}
    (h2 : ∀ (p : Fin 1536) (k : Fin 1024), v2 (ix2 p k) = w (768 + p.val) k.val)
    (h3 : ∀ (r : Fin 1) (p : Fin 1536), v3 (ix2 r p) = b 0 (768 + p.val)) (r : Fin 512) (p : Fin 1536) :
    k0_pay4 v0 v1 v2 v3 (ix2 r p) = proj x g w b (512 * t + r.val) (768 + p.val) := by
  have h := normed h0 h1
  pointwise [k0_pay4]
  simp only [h, h2, h3]
  unfold proj
  rw [Finset.sum_range]

theorem gates (h0 : ∀ (r : Fin 512) (k : Fin 1024), v0 (ix2 r k) = x (512 * t + r.val) k.val)
    (h1 : ∀ (r : Fin 1) (k : Fin 1024), v1 (ix2 r k) = g 0 k.val) {v2 : Vec Ideal S2048x1024 .bf16} {v3 : Vec Ideal S1x2048 .f32}
    (h2 : ∀ (p : Fin 2048) (k : Fin 1024), v2 (ix2 p k) = w (2304 + p.val) k.val)
    (h3 : ∀ (r : Fin 1) (p : Fin 2048), v3 (ix2 r p) = b 0 (2304 + p.val)) (r : Fin 512) (p : Fin 2048) :
    k0_pay1 (k0_pay2 v0 v1) v2 v3 (ix2 r p) = proj x g w b (512 * t + r.val) (2304 + p.val) := by
  have h := normed h0 h1
  pointwise [k0_pay1]
  simp only [h, h2, h3]
  unfold proj
  rw [Finset.sum_range]

end

variable (m : (ℓ : Loc nD τ sig) → Buf (Elt Ideal) ℓ) (c : Dev nD) (t : Fin cfg0.N)

abbrev a0 : (⟨2, ![4096, 1024]⟩ : Shape).Idx → EReal := m ((c.tc : Thread nD τ).loc main_arg0)
abbrev a1 : (⟨2, ![1, 1024]⟩ : Shape).Idx → EReal := m ((c.tc : Thread nD τ).loc main_arg1)
abbrev a2 : (⟨2, ![4352, 1024]⟩ : Shape).Idx → EReal := m ((c.tc : Thread nD τ).loc main_arg2)
abbrev a3 : (⟨2, ![1, 4352]⟩ : Shape).Idx → EReal := m ((c.tc : Thread nD τ).loc main_arg3)

theorem pt_lt (t : Fin cfg0.N) : t.val < 8 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

theorem block0 (r : Fin 512) (k : Fin 1024) : iblk m c 0 t (ix2 r k) = rd (a0 m c) (512 * t.val + r.val) k.val := by
  have hi := index0 t
  have ht := pt_lt t
  refine Eq.trans ?_ (rd_ix2 (a := 4096) (b := 1024) (a0 m c) ⟨512 * t.val + r.val, by have := r.isLt; omega⟩ k)
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem block1 (r : Fin 1) (k : Fin 1024) : iblk m c 1 t (ix2 r k) = rd (a1 m c) 0 k.val := by
  have hi := index1 t
  refine Eq.trans ?_ (rd_ix2 (a := 1) (b := 1024) (a1 m c) 0 k)
  unfold iblk
  rw [View.read_apply]
  show V m c main_arg1 _ = m (c.tc.loc main_arg1) _
  unfold V
  congr 1
  funext a
  apply Fin.ext
  match a with
  | ⟨0, _⟩ => show win0_1.index t 0 * 1 + 1 * r.val = 0; rw [hi.1]; omega
  | ⟨1, _⟩ => show win0_1.index t 1 * 1024 + 1 * k.val = k.val; rw [hi.2]; omega

theorem block2 (r : Fin 4352) (k : Fin 1024) : iblk m c 2 t (ix2 r k) = rd (a2 m c) r.val k.val := by
  have hi := index2 t
  refine Eq.trans ?_ (rd_ix2 (a := 4352) (b := 1024) (a2 m c) r k)
  unfold iblk
  rw [View.read_apply]
  show V m c main_arg2 _ = m (c.tc.loc main_arg2) _
  unfold V
  congr 1
  funext a
  apply Fin.ext
  match a with
  | ⟨0, _⟩ => show win0_2.index t 0 * 4352 + 1 * r.val = r.val; rw [hi.1]; omega
  | ⟨1, _⟩ => show win0_2.index t 1 * 1024 + 1 * k.val = k.val; rw [hi.2]; omega

theorem block3 (r : Fin 1) (k : Fin 4352) : iblk m c 3 t (ix2 r k) = rd (a3 m c) 0 k.val := by
  have hi := index3 t
  refine Eq.trans ?_ (rd_ix2 (a := 1) (b := 4352) (a3 m c) 0 k)
  unfold iblk
  rw [View.read_apply]
  show V m c main_arg3 _ = m (c.tc.loc main_arg3) _
  unfold V
  congr 1
  funext a
  apply Fin.ext
  match a with
  | ⟨0, _⟩ => show win0_3.index t 0 * 1 + 1 * r.val = 0; rw [hi.1]; omega
  | ⟨1, _⟩ => show win0_3.index t 1 * 4352 + 1 * k.val = k.val; rw [hi.2]; omega

/-- The arguments as matrices read at numbers. -/
abbrev x := rd (a0 m c)
abbrev g := rd (a1 m c)
abbrev w := rd (a2 m c)
abbrev b := rd (a3 m c)

theorem ld0 (r : Fin 512) (k : Fin 1024) : View.ld (iblk m c 0 t) r0_0 (ix2 r k) = x m c (512 * t.val + r.val) k.val := by
  have hr := r.isLt
  have hk := k.isLt
  refine (ld_ix2 (iblk m c 0 t) 0 0 inb_S512x1024_S512x1024_0_0 r k (by omega) (by omega)).trans ((block0 m c t _ _).trans ?_)
  simp only [Nat.zero_add]

theorem ld1 (r : Fin 1) (k : Fin 1024) : View.ld (iblk m c 1 t) r0_1 (ix2 r k) = g m c 0 k.val := by
  have hr := r.isLt
  have hk := k.isLt
  refine (ld_ix2 (iblk m c 1 t) 0 0 inb_S1x1024_S1x1024_0_0 r k (by omega) (by omega)).trans ((block1 m c t _ _).trans ?_)
  simp only [Nat.zero_add]

theorem out4 (r : Fin 512) (k : Fin 1024) :
    out0_4 (iblk m c 0 t) (iblk m c 1 t) (iblk m c 2 t) (iblk m c 3 t) (ix2 r k) = xn (x m c) (g m c) (512 * t.val + r.val) k.val := by
  unfold out0_4
  rw [View.canon_unit_zero hz]
  exact normed (ld0 m c t) (ld1 m c t) r k

theorem out5 (r : Fin 512) (k : Fin 768) :
    out0_5 (iblk m c 0 t) (iblk m c 1 t) (iblk m c 2 t) (iblk m c 3 t) (ix2 r k) = proj (x m c) (g m c) (w m c) (b m c) (512 * t.val + r.val) k.val := by
  unfold out0_5
  rw [View.canon_unit_zero hz]
  refine qkv (ld0 m c t) (ld1 m c t) (fun p q => ?_) (fun p q => ?_) r k
  · have hp := p.isLt
    have hq := q.isLt
    refine (ld_ix2 (iblk m c 2 t) 0 0 inb_S4352x1024_S768x1024_0_0 p q (by omega) (by omega)).trans ((block2 m c t _ _).trans ?_)
    simp only [Nat.zero_add]
  · have hp := p.isLt
    have hq := q.isLt
    refine (ld_ix2 (iblk m c 3 t) 0 0 inb_S1x4352_S1x768_0_0 p q (by omega) (by omega)).trans ((block3 m c t _ _).trans ?_)
    simp only [Nat.zero_add]

theorem out6 (r : Fin 512) (k : Fin 1536) :
    out0_6 (iblk m c 0 t) (iblk m c 1 t) (iblk m c 2 t) (iblk m c 3 t) (ix2 r k) = proj (x m c) (g m c) (w m c) (b m c) (512 * t.val + r.val) (768 + k.val) := by
  unfold out0_6
  rw [View.canon_unit_zero hz]
  refine cbx (ld0 m c t) (ld1 m c t) (fun p q => ?_) (fun p q => ?_) r k
  · have hp := p.isLt
    have hq := q.isLt
    refine (ld_ix2 (iblk m c 2 t) 768 0 inb_S4352x1024_S1536x1024_768_0 p q (by omega) (by omega)).trans ((block2 m c t _ _).trans ?_)
    simp only [Nat.zero_add]
  · have hp := p.isLt
    have hq := q.isLt
    refine (ld_ix2 (iblk m c 3 t) 0 768 inb_S1x4352_S1x1536_0_768 p q (by omega) (by omega)).trans ((block3 m c t _ _).trans ?_)
    simp only [Nat.zero_add]

theorem out7 (r : Fin 512) (k : Fin 2048) :
    out0_7 (iblk m c 0 t) (iblk m c 1 t) (iblk m c 2 t) (iblk m c 3 t) (ix2 r k) = proj (x m c) (g m c) (w m c) (b m c) (512 * t.val + r.val) (2304 + k.val) := by
  unfold out0_7
  rw [View.canon_unit_zero hz]
  refine gates (ld0 m c t) (ld1 m c t) (fun p q => ?_) (fun p q => ?_) r k
  · have hp := p.isLt
    have hq := q.isLt
    refine (ld_ix2 (iblk m c 2 t) 2304 0 inb_S4352x1024_S2048x1024_2304_0 p q (by omega) (by omega)).trans ((block2 m c t _ _).trans ?_)
    simp only [Nat.zero_add]
  · have hp := p.isLt
    have hq := q.isLt
    refine (ld_ix2 (iblk m c 3 t) 0 2304 inb_S1x4352_S1x2048_0_2304 p q (by omega) (by omega)).trans ((block3 m c t _ _).trans ?_)
    simp only [Nat.zero_add]

theorem index4 : ∀ t : Fin cfg0.N, win0_4.index t 0 = t.val ∧ win0_4.index t 1 = 0 :=
  (by decide +kernel : ∀ t : Fin grid0.N, win0_4.index t 0 = t.val ∧ win0_4.index t 1 = 0)

theorem emb4 (t : Fin cfg0.N) (r : Fin 512) (k : Fin 1024) (h : 512 * t.val + r.val < 4096) :
    ((View.whole main_v0_0).slice (win0_4.rect t)).emb (ix2 r k) = ix2 ⟨512 * t.val + r.val, h⟩ k := by
  have hi := index4 t
  funext a
  apply Fin.ext
  match a with
  | ⟨0, _⟩ => show win0_4.index t 0 * 512 + 1 * r.val = 512 * t.val + r.val; rw [hi.1]; omega
  | ⟨1, _⟩ => show win0_4.index t 1 * 1024 + 1 * k.val = k.val; rw [hi.2]; omega

theorem final4 (v : S4096x1024.Idx → EReal) (hv : Holds v (xn (x m c) (g m c))) : (dats m 0 c).arrAt 4 cfg0.N = v :=
  (dats m 0 c).arrAt_eq_of_cover 4 v (fun t _ => by
    have ht := pt_lt t
    rw [flushed4 m c t]
    funext j
    rw [View.read_apply]
    obtain ⟨r, k, rfl⟩ : ∃ (r : Fin 512) (k : Fin 1024), j = ix2 r k := ⟨j 0, j 1, eq_ix2 j⟩
    have hr := r.isLt
    refine (out4 m c t r k).trans ?_
    refine ((hv ⟨512 * t.val + r.val, by omega⟩ k).symm.trans (congrArg v ?_))
    exact (emb4 t r k (by omega)).symm) fun i => by
    have h0 : (i 0 : Nat) < 4096 := (i 0).isLt
    have h1 : (i 1 : Nat) < 1024 := (i 1).isLt
    obtain ⟨t, ht⟩ : ∃ t : Fin cfg0.N, t.val = (i 0 : Nat) / 512 :=
      ⟨⟨(i 0 : Nat) / 512, by show _ < grid0.N; rw [N_0]; omega⟩, rfl⟩
    refine ⟨t, flush0_4 _, ?_⟩
    show i ∈ ((View.whole main_v0_0).slice (win0_4.rect t)).set
    rw [View.set_slice_whole, Rect.mem_set_unit]
    have hi := index4 t
    intro a
    match a with
    | ⟨0, _⟩ =>
      show win0_4.index t 0 * 512 ≤ (i 0 : Nat) ∧ (i 0 : Nat) < win0_4.index t 0 * 512 + 512
      rw [hi.1]; omega
    | ⟨1, _⟩ =>
      show win0_4.index t 1 * 1024 ≤ (i 1 : Nat) ∧ (i 1 : Nat) < win0_4.index t 1 * 1024 + 1024
      rw [hi.2]; omega

theorem index5 : ∀ t : Fin cfg0.N, win0_5.index t 0 = t.val ∧ win0_5.index t 1 = 0 :=
  (by decide +kernel : ∀ t : Fin grid0.N, win0_5.index t 0 = t.val ∧ win0_5.index t 1 = 0)

theorem emb5 (t : Fin cfg0.N) (r : Fin 512) (k : Fin 768) (h : 512 * t.val + r.val < 4096) :
    ((View.whole main_v0_1).slice (win0_5.rect t)).emb (ix2 r k) = ix2 ⟨512 * t.val + r.val, h⟩ k := by
  have hi := index5 t
  funext a
  apply Fin.ext
  match a with
  | ⟨0, _⟩ => show win0_5.index t 0 * 512 + 1 * r.val = 512 * t.val + r.val; rw [hi.1]; omega
  | ⟨1, _⟩ => show win0_5.index t 1 * 768 + 1 * k.val = k.val; rw [hi.2]; omega

theorem final5 (v : S4096x768.Idx → EReal) (hv : Holds v (proj (x m c) (g m c) (w m c) (b m c))) : (dats m 0 c).arrAt 5 cfg0.N = v :=
  (dats m 0 c).arrAt_eq_of_cover 5 v (fun t _ => by
    have ht := pt_lt t
    rw [flushed5 m c t]
    funext j
    rw [View.read_apply]
    obtain ⟨r, k, rfl⟩ : ∃ (r : Fin 512) (k : Fin 768), j = ix2 r k := ⟨j 0, j 1, eq_ix2 j⟩
    have hr := r.isLt
    refine (out5 m c t r k).trans ?_
    refine ((hv ⟨512 * t.val + r.val, by omega⟩ k).symm.trans (congrArg v ?_))
    exact (emb5 t r k (by omega)).symm) fun i => by
    have h0 : (i 0 : Nat) < 4096 := (i 0).isLt
    have h1 : (i 1 : Nat) < 768 := (i 1).isLt
    obtain ⟨t, ht⟩ : ∃ t : Fin cfg0.N, t.val = (i 0 : Nat) / 512 :=
      ⟨⟨(i 0 : Nat) / 512, by show _ < grid0.N; rw [N_0]; omega⟩, rfl⟩
    refine ⟨t, flush0_5 _, ?_⟩
    show i ∈ ((View.whole main_v0_1).slice (win0_5.rect t)).set
    rw [View.set_slice_whole, Rect.mem_set_unit]
    have hi := index5 t
    intro a
    match a with
    | ⟨0, _⟩ =>
      show win0_5.index t 0 * 512 ≤ (i 0 : Nat) ∧ (i 0 : Nat) < win0_5.index t 0 * 512 + 512
      rw [hi.1]; omega
    | ⟨1, _⟩ =>
      show win0_5.index t 1 * 768 ≤ (i 1 : Nat) ∧ (i 1 : Nat) < win0_5.index t 1 * 768 + 768
      rw [hi.2]; omega

theorem index6 : ∀ t : Fin cfg0.N, win0_6.index t 0 = t.val ∧ win0_6.index t 1 = 0 :=
  (by decide +kernel : ∀ t : Fin grid0.N, win0_6.index t 0 = t.val ∧ win0_6.index t 1 = 0)

theorem emb6 (t : Fin cfg0.N) (r : Fin 512) (k : Fin 1536) (h : 512 * t.val + r.val < 4096) :
    ((View.whole main_v0_2).slice (win0_6.rect t)).emb (ix2 r k) = ix2 ⟨512 * t.val + r.val, h⟩ k := by
  have hi := index6 t
  funext a
  apply Fin.ext
  match a with
  | ⟨0, _⟩ => show win0_6.index t 0 * 512 + 1 * r.val = 512 * t.val + r.val; rw [hi.1]; omega
  | ⟨1, _⟩ => show win0_6.index t 1 * 1536 + 1 * k.val = k.val; rw [hi.2]; omega

theorem final6 (v : S4096x1536.Idx → EReal) (hv : Holds v (fun t p => proj (x m c) (g m c) (w m c) (b m c) t (768 + p))) : (dats m 0 c).arrAt 6 cfg0.N = v :=
  (dats m 0 c).arrAt_eq_of_cover 6 v (fun t _ => by
    have ht := pt_lt t
    rw [flushed6 m c t]
    funext j
    rw [View.read_apply]
    obtain ⟨r, k, rfl⟩ : ∃ (r : Fin 512) (k : Fin 1536), j = ix2 r k := ⟨j 0, j 1, eq_ix2 j⟩
    have hr := r.isLt
    refine (out6 m c t r k).trans ?_
    refine ((hv ⟨512 * t.val + r.val, by omega⟩ k).symm.trans (congrArg v ?_))
    exact (emb6 t r k (by omega)).symm) fun i => by
    have h0 : (i 0 : Nat) < 4096 := (i 0).isLt
    have h1 : (i 1 : Nat) < 1536 := (i 1).isLt
    obtain ⟨t, ht⟩ : ∃ t : Fin cfg0.N, t.val = (i 0 : Nat) / 512 :=
      ⟨⟨(i 0 : Nat) / 512, by show _ < grid0.N; rw [N_0]; omega⟩, rfl⟩
    refine ⟨t, flush0_6 _, ?_⟩
    show i ∈ ((View.whole main_v0_2).slice (win0_6.rect t)).set
    rw [View.set_slice_whole, Rect.mem_set_unit]
    have hi := index6 t
    intro a
    match a with
    | ⟨0, _⟩ =>
      show win0_6.index t 0 * 512 ≤ (i 0 : Nat) ∧ (i 0 : Nat) < win0_6.index t 0 * 512 + 512
      rw [hi.1]; omega
    | ⟨1, _⟩ =>
      show win0_6.index t 1 * 1536 ≤ (i 1 : Nat) ∧ (i 1 : Nat) < win0_6.index t 1 * 1536 + 1536
      rw [hi.2]; omega

theorem index7 : ∀ t : Fin cfg0.N, win0_7.index t 0 = t.val ∧ win0_7.index t 1 = 0 :=
  (by decide +kernel : ∀ t : Fin grid0.N, win0_7.index t 0 = t.val ∧ win0_7.index t 1 = 0)

theorem emb7 (t : Fin cfg0.N) (r : Fin 512) (k : Fin 2048) (h : 512 * t.val + r.val < 4096) :
    ((View.whole main_v0_3).slice (win0_7.rect t)).emb (ix2 r k) = ix2 ⟨512 * t.val + r.val, h⟩ k := by
  have hi := index7 t
  funext a
  apply Fin.ext
  match a with
  | ⟨0, _⟩ => show win0_7.index t 0 * 512 + 1 * r.val = 512 * t.val + r.val; rw [hi.1]; omega
  | ⟨1, _⟩ => show win0_7.index t 1 * 2048 + 1 * k.val = k.val; rw [hi.2]; omega

theorem final7 (v : S4096x2048.Idx → EReal) (hv : Holds v (fun t p => proj (x m c) (g m c) (w m c) (b m c) t (2304 + p))) : (dats m 0 c).arrAt 7 cfg0.N = v :=
  (dats m 0 c).arrAt_eq_of_cover 7 v (fun t _ => by
    have ht := pt_lt t
    rw [flushed7 m c t]
    funext j
    rw [View.read_apply]
    obtain ⟨r, k, rfl⟩ : ∃ (r : Fin 512) (k : Fin 2048), j = ix2 r k := ⟨j 0, j 1, eq_ix2 j⟩
    have hr := r.isLt
    refine (out7 m c t r k).trans ?_
    refine ((hv ⟨512 * t.val + r.val, by omega⟩ k).symm.trans (congrArg v ?_))
    exact (emb7 t r k (by omega)).symm) fun i => by
    have h0 : (i 0 : Nat) < 4096 := (i 0).isLt
    have h1 : (i 1 : Nat) < 2048 := (i 1).isLt
    obtain ⟨t, ht⟩ : ∃ t : Fin cfg0.N, t.val = (i 0 : Nat) / 512 :=
      ⟨⟨(i 0 : Nat) / 512, by show _ < grid0.N; rw [N_0]; omega⟩, rfl⟩
    refine ⟨t, flush0_7 _, ?_⟩
    show i ∈ ((View.whole main_v0_3).slice (win0_7.rect t)).set
    rw [View.set_slice_whole, Rect.mem_set_unit]
    have hi := index7 t
    intro a
    match a with
    | ⟨0, _⟩ =>
      show win0_7.index t 0 * 512 ≤ (i 0 : Nat) ∧ (i 0 : Nat) < win0_7.index t 0 * 512 + 512
      rw [hi.1]; omega
    | ⟨1, _⟩ =>
      show win0_7.index t 1 * 2048 ≤ (i 1 : Nat) ∧ (i 1 : Nat) < win0_7.index t 1 * 2048 + 2048
      rw [hi.2]; omega

end Cert.InFwdValue
-- ==== Proof.InFwdEq.lean ====
module

public import proofs.«01_k».proof.Proof.InFwdValue
public import proofs.«01_k».proof.Defs
public import proofs.«01_k».proof.Proof.Gen.InFwdRefIdeal.Run
public import Idealize.ShloMosaic.Lib.Claim

@[expose] public section

set_option maxRecDepth 16384

/-!
# The norm and the projections: the kernel and the reference
-/

noncomputable section

open Idealize.ShloMosaic Idealize.ShloMosaic.TcCoe Idealize.SL.Sem
open Cert.MixSpec Cert.NormSpec
open Cert.MixRef (Holds)

namespace Cert.InFwdRef

open Cert.InFwdRefIdeal Cert.InFwdRefIdeal.Gen

variable (x0 : FVec Ideal S4096x1024 .f32) (x1 : FVec Ideal S1x1024 .f32) (x2 : FVec Ideal S4352x1024 .bf16) (x3 : FVec Ideal S1x4352 .f32)

/-- The normed rows. -/
def normed : FVec Ideal S4096x1024 .f32 := (mulf (mulf x0 (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 (shapeCast _ x1 shapeCasts_S1x1024_S1024))))

/-- All the projections. -/
def projs : FVec Ideal S4096x4352 .f32 := (addf (Host.dotGeneral dot_S4096x1024_S1024x4352_S4096x4352_1_0_0_1_n_n none (normed x0 x1) (transpose S1024x4352 [1, 0] (extf .f32 x2 bitsLt_bf16_f32) transposes_S4352x1024_S1024x4352_1_0)) (broadcastInDim S4096x4352 ![0, 1] bcast_S1x4352_S4096x4352_0_1 (broadcastInDim S1x4352 ![1] bcast_S4352_S1x4352_1 (shapeCast _ x3 shapeCasts_S1x4352_S4352))))

/-- The four results. -/
def val0 : FVec Ideal S4096x1024 .bf16 := truncf .bf16 (normed x0 x1) bitsLt_bf16_f32
def val1 : FVec Ideal S4096x768 .bf16 := truncf .bf16 (extractStridedSlice S4096x768 ![0, 0] (projs x0 x1 x2 x3) slices_S4096x4352_S4096x768_0_0) bitsLt_bf16_f32
def val2 : FVec Ideal S4096x1536 .bf16 := truncf .bf16 (extractStridedSlice S4096x1536 ![0, 768] (projs x0 x1 x2 x3) slices_S4096x4352_S4096x1536_0_768) bitsLt_bf16_f32
def val3 : FVec Ideal S4096x2048 .bf16 := truncf .bf16 (extractStridedSlice S4096x2048 ![0, 2304] (projs x0 x1 x2 x3) slices_S4096x4352_S4096x2048_0_2304) bitsLt_bf16_f32

theorem h_normed : Holds (normed x0 x1) (xn (rd x0) (rd x1)) := by
  intro r k
  pointwise [normed]
  unfold xn rn
  rw [Finset.sum_range]
  simp only [rd_ix2]
  rfl

theorem h_projs : Holds (projs x0 x1 x2 x3) (proj (rd x0) (rd x1) (rd x2) (rd x3)) := by
  intro r k
  have h : ∀ (r : Fin 4096) (k : Fin 1024), normed x0 x1 (ix2 r k) = _ := h_normed x0 x1
  pointwise [projs]
  unfold proj
  rw [Finset.sum_range]
  simp only [h]
  simp only [rd_ix2]
  rfl

theorem h0 : Holds (val0 x0 x1) (xn (rd x0) (rd x1)) := by
  intro r k
  have h := h_normed x0 x1
  pointwise [val0]
  exact h r k

theorem h1 : Holds (val1 x0 x1 x2 x3) (proj (rd x0) (rd x1) (rd x2) (rd x3)) := by
  intro r k
  have h := h_projs x0 x1 x2 x3
  pointwise [val1]
  exact h _ _

theorem h2 : Holds (val2 x0 x1 x2 x3) (fun t p => proj (rd x0) (rd x1) (rd x2) (rd x3) t (768 + p)) := by
  intro r k
  have h := h_projs x0 x1 x2 x3
  pointwise [val2]
  exact h _ _

theorem h3 : Holds (val3 x0 x1 x2 x3) (fun t p => proj (rd x0) (rd x1) (rd x2) (rd x3) t (2304 + p)) := by
  intro r k
  have h := h_projs x0 x1 x2 x3
  pointwise [val3]
  exact h _ _

/-- The reference leaves its arguments as they were, and every counter at zero. -/
theorem frame : @Cert.quiescent_InFwdRefIdeal Cert.InFwdRefIdeal.Gen.facts := fun m ρ _ =>
  (θ_run Cert.InFwdRefIdeal.defs _ _).mono (fun r h => ⟨fun c => (h c).2.2.2.2,
      Idealize.ShloMosaic.sem_eq_zero_of_no_sems (by decide) r.2⟩)
    (Cert.InFwdRefIdeal.Value.run (F := Ideal) m ρ)

end Cert.InFwdRef

namespace Cert.InFwdEq

open Cert.InFwdIdeal Cert.InFwdIdeal.Gen

variable (m : (ℓ : Loc nD τ sig) → Buf (Elt Ideal) ℓ) (c : Dev nD)

/-- The results, as the reference's values at the kernel's arguments. -/
def r0 := Cert.InFwdRef.val0 (m ((c.tc : Thread nD τ).loc main_arg0)) (m ((c.tc : Thread nD τ).loc main_arg1))
def r1 := Cert.InFwdRef.val1 (m ((c.tc : Thread nD τ).loc main_arg0)) (m ((c.tc : Thread nD τ).loc main_arg1)) (m ((c.tc : Thread nD τ).loc main_arg2)) (m ((c.tc : Thread nD τ).loc main_arg3))
def r2 := Cert.InFwdRef.val2 (m ((c.tc : Thread nD τ).loc main_arg0)) (m ((c.tc : Thread nD τ).loc main_arg1)) (m ((c.tc : Thread nD τ).loc main_arg2)) (m ((c.tc : Thread nD τ).loc main_arg3))
def r3 := Cert.InFwdRef.val3 (m ((c.tc : Thread nD τ).loc main_arg0)) (m ((c.tc : Thread nD τ).loc main_arg1)) (m ((c.tc : Thread nD τ).loc main_arg2)) (m ((c.tc : Thread nD τ).loc main_arg3))

/-- The value claim: on the extended reals the kernel's four results are the reference's. -/
theorem algebraic : @Cert.algebraic_InFwdIdeal_InFwdRefIdeal Cert.InFwdIdeal.Gen.facts Cert.InFwdRefIdeal.Gen.facts := by
  intro m g m' g' _ hm
  refine ⟨fun c => r0 m c, fun c => r1 m c, fun c => r2 m c, fun c => r3 m c, (θ_run defs _ _).mono (fun r h c => ?_) (Cert.InFwdIdeal.Value.run_blocks m g), ?_⟩
  · obtain ⟨a0, a1, a2, a3, rest⟩ := h c
    exact ⟨a0.trans (Cert.InFwdValue.final4 m c _ (Cert.InFwdRef.h0 _ _)), a1.trans (Cert.InFwdValue.final5 m c _ (Cert.InFwdRef.h1 _ _ _ _)),
      a2.trans (Cert.InFwdValue.final6 m c _ (Cert.InFwdRef.h2 _ _ _ _)), a3.trans (Cert.InFwdValue.final7 m c _ (Cert.InFwdRef.h3 _ _ _ _)), rest⟩
  refine (θ_run Cert.InFwdRefIdeal.defs _ _).mono (fun r h c => ?_) (Cert.InFwdRefIdeal.Value.run m' g')
  obtain ⟨e0, e1, e2, e3⟩ := hm c
  obtain ⟨a0, a1, a2, a3, rest⟩ := h c
  have q0 := congr (congrArg Cert.InFwdRef.val0 e0) e1
  have q1 := congr (congr (congr (congrArg Cert.InFwdRef.val1 e0) e1) e2) e3
  have q2 := congr (congr (congr (congrArg Cert.InFwdRef.val2 e0) e1) e2) e3
  have q3 := congr (congr (congr (congrArg Cert.InFwdRef.val3 e0) e1) e2) e3
  exact ⟨a0.trans q0, a1.trans q1, a2.trans q2, a3.trans q3, rest⟩

end Cert.InFwdEq
-- ==== Proof.MixFwdValue.lean ====
module

public import proofs.«01_k».proof.Proof.MixRef
public import proofs.«01_k».proof.Proof.MixPiece
public import proofs.«01_k».proof.Proof.Gen.MixFwdIdeal.Value

@[expose] public section

set_option maxRecDepth 16384

/-!
# The kernel's mixing layer, forwards

Each of the sixteen points takes 256 rows; the short convolution also reads the sixteen rows before them.
-/

noncomputable section

open Idealize.ShloMosaic Idealize.ShloMosaic.TcCoe Idealize.ShloMosaic.Tactic
open Cert.MixFwdIdeal Cert.MixFwdIdeal.Gen Cert.MixFwdIdeal.Value
open Cert.MixSpec
open Cert.MixBlock (ld_ix2 hz Rows rows_ld16 rows_all16 rows_all32)
open Cert.MixRef (Holds)

namespace Cert.MixFwdValue

/-- The layer's result: its input and the merged branches' projection. -/
def h1 (x : ℕ → ℕ → EReal) (X : Args) (t d : ℕ) : EReal := x t d + ∑ e ∈ Finset.range 1024, X.mg t e * X.wo e d

/-- One row read from a matrix. -/
theorem rows_row {n k : ℕ} {v : Vec Ideal ⟨2, ![n, k]⟩ .f32} {f : ℕ → ℕ → EReal} (i : ℕ)
    (h : ∀ a, (![i, 0] : Fin 2 → ℕ) a + (![1, k] : Fin 2 → ℕ) a ≤ (![n, k] : Fin 2 → ℕ) a) (hv : Rows 0 v f) :
    Rows i (n := 1) (m := k) (View.ld v (Rect.unit (s := ⟨2, ![n, k]⟩) ![i, 0] ![1, k] h)) f := by
  intro r c
  have h' := Cert.MixBlock.rows_ld32 (b := 0) i 0 h hv r c
  dsimp only at h'
  rwa [Nat.zero_add, Nat.zero_add] at h'

section

variable {X : Args} {x : ℕ → ℕ → EReal} {b : ℕ}

/-- The first block reads zeros for the rows before it, the others what is there. -/
theorem sel_first {n : ℕ} (hn : n < 16) (x y : EReal) :
    Scalar.select (Scalar.cmpi .eq (BitVec.ofNat 32 n) 0#32) x y = if n = 0 then x else y := by
  interval_cases n <;> rfl

/-- A row of the block delayed by `k` rows, read from the sixteen rows before the block and the block. -/
theorem late_read {v11 v13 : Vec Ideal S16x512 .bf16} {v w : Vec Ideal S256x512 .bf16} {n : ℕ} (hn : n < 16) (k : ℕ)
    (hk0 : 1 ≤ k) (hk : k ≤ 2) (hb0 : n = 0 → b = 0) (hb1 : n ≠ 0 → 16 ≤ b)
    (h11 : n ≠ 0 → Rows (b - 16) v11 (fun t c => X.bx t (512 + c)))
    (h13 : n ≠ 0 → Rows (b - 16) v13 (fun t c => X.bx t (1024 + c)))
    (hv : Rows b v (fun t c => X.bx t (512 + c))) (hw : Rows b w (fun t c => X.bx t (1024 + c)))
    (r : Fin 256) (c : Fin 512) (h272 : (16 + r.val + 272 - k) % 272 - 16 < 256) :
    (if h : (16 + r.val + 272 - k) % 272 < 16 then
        Scalar.select (Scalar.cmpi .eq (BitVec.ofNat 32 n) 0#32) 0
          (v11 (ix2 ⟨(16 + r.val + 272 - k) % 272, h⟩ c) * v13 (ix2 ⟨(16 + r.val + 272 - k) % 272, h⟩ c))
      else v (ix2 ⟨(16 + r.val + 272 - k) % 272 - 16, h272⟩ c) * w (ix2 ⟨(16 + r.val + 272 - k) % 272 - 16, h272⟩ c))
      = late k X.u (b + r.val) c.val := by
  have hr := r.isLt
  have e : (16 + r.val + 272 - k) % 272 = 16 + r.val - k := by omega
  by_cases h : r.val < k
  · rw [dif_pos (by omega), sel_first hn]
    unfold late
    by_cases h15 : n = 0
    · rw [if_pos h15, if_neg (by have := hb0 h15; omega)]
    · have hb := hb1 h15
      rw [if_neg h15, if_pos (by omega), h11 h15, h13 h15]
      unfold Args.u
      rw [show b - 16 + (16 + r.val + 272 - k) % 272 = b + r.val - k by omega]
  · rw [dif_neg (by omega), hv, hw]
    unfold late
    rw [if_pos (by omega)]
    unfold Args.u
    rw [show b + ((16 + r.val + 272 - k) % 272 - 16) = b + r.val - k by omega]

/-- The gated convolution of a block. -/
theorem conv {i : grid0.Coords} {v4 v6 v8 : Vec Ideal S256x512 .bf16} {v11 v13 : Vec Ideal S16x512 .bf16}
    {v23 v26 v30 : Vec Ideal S1x512 .f32} (h4 : Rows b v4 X.bx) (h6 : Rows b v6 (fun t c => X.bx t (512 + c)))
    (h8 : Rows b v8 (fun t c => X.bx t (1024 + c)))
    (hb0 : (i 0).val = 0 → b = 0) (hb1 : (i 0).val ≠ 0 → 16 ≤ b)
    (h11 : (i 0).val ≠ 0 → Rows (b - 16) v11 (fun t c => X.bx t (512 + c)))
    (h13 : (i 0).val ≠ 0 → Rows (b - 16) v13 (fun t c => X.bx t (1024 + c)))
    (h23 : Rows 0 v23 X.cw) (h26 : Rows 1 v26 X.cw) (h30 : Rows 2 v30 X.cw) :
    Rows b (k0_pay2 i v4 v6 v8 v11 v13 v23 v26 v30) X.conv := by
  intro r c
  have hi : (i 0).val < 16 := (i 0).isLt
  pointwise [k0_pay2]
  have e2 := late_read hi 2 (by decide) (by decide) hb0 hb1 h11 h13 h6 h8 r c (by omega)
  have e1 := late_read hi 1 (by decide) (by decide) hb0 hb1 h11 h13 h6 h8 r c (by omega)
  have e := congrArg₂ (fun x y : EReal => x * y) (h4 r c) (congrArg₂ (fun x y : EReal => x + y) (congrArg₂ (fun x y : EReal => x + y)
    (congrArg₂ (fun x y : EReal => x * y) (h23 0 c) e2) (congrArg₂ (fun x y : EReal => x * y) (h26 0 c) e1))
    (congrArg₂ (fun x y : EReal => x * y) (h30 0 c) (congrArg₂ (fun x y : EReal => x * y) (h6 r c) (h8 r c))))
  exact e

/-- The merged branches of a block, projected and added to the input. -/
theorem merged {v32 v33 : Vec Ideal S256x512 .bf16} {v34 v36 : Vec Ideal S512x1024 .bf16} {v38 v40 : Vec Ideal S256x1024 .bf16}
    {v60 : Vec Ideal S256x1024 .f32} {v61 : Vec Ideal S1024x1024 .bf16} (h32 : Rows b v32 X.conv) (h33 : Rows b v33 X.at')
    (h34 : Rows 0 v34 X.wa) (h36 : Rows 0 v36 X.wc) (h38 : Rows b v38 X.g) (h40 : Rows b v40 (fun t d => X.g t (1024 + d)))
    (h60 : Rows b v60 x) (h61 : Rows 0 v61 X.wo) : Rows b (k0_pay1 v32 v33 v34 v36 v38 v40 v60 v61) (h1 x X) := by
  intro r c
  pointwise [k0_pay1]
  unfold Rows at h32 h33 h34 h36 h38 h40 h60 h61
  simp only [h32, h33, h34, h36, h38, h40, h60, h61, zero_sub, Nat.zero_add]
  unfold h1 Args.mg Args.sa Args.sc Args.ap Args.cp sg
  simp only [Finset.sum_range]

end

variable (m : (ℓ : Loc nD τ sig) → Buf (Elt Ideal) ℓ) (c : Dev nD) (t : Fin cfg0.N)

abbrev a0 : (⟨2, ![4096, 1024]⟩ : Shape).Idx → EReal := m ((c.tc : Thread nD τ).loc main_arg0)
abbrev a1 : (⟨2, ![4096, 1536]⟩ : Shape).Idx → EReal := m ((c.tc : Thread nD τ).loc main_arg1)
abbrev a2 : (⟨2, ![4096, 2048]⟩ : Shape).Idx → EReal := m ((c.tc : Thread nD τ).loc main_arg2)
abbrev a3 : (⟨2, ![4096, 512]⟩ : Shape).Idx → EReal := m ((c.tc : Thread nD τ).loc main_arg3)
abbrev a4 : (⟨2, ![3, 512]⟩ : Shape).Idx → EReal := m ((c.tc : Thread nD τ).loc main_arg4)
abbrev a5 : (⟨2, ![512, 1024]⟩ : Shape).Idx → EReal := m ((c.tc : Thread nD τ).loc main_arg5)
abbrev a6 : (⟨2, ![512, 1024]⟩ : Shape).Idx → EReal := m ((c.tc : Thread nD τ).loc main_arg6)
abbrev a7 : (⟨2, ![1024, 1024]⟩ : Shape).Idx → EReal := m ((c.tc : Thread nD τ).loc main_arg7)

theorem pt_lt (t : Fin cfg0.N) : t.val < 16 := lt_of_lt_of_eq t.isLt N_0

theorem coord : ∀ t : Fin cfg0.N, (grid0.coords t 0).val = t.val :=
  (by decide +kernel : ∀ t : Fin grid0.N, (grid0.coords t 0).val = t.val)

theorem index0 : ∀ t : Fin cfg0.N, win0_0.index t 0 = t.val ∧ win0_0.index t 1 = 0 :=
  (by decide +kernel : ∀ t : Fin grid0.N, win0_0.index t 0 = t.val ∧ win0_0.index t 1 = 0)

theorem block0 : Rows (n := 256) (m := 1024) (256 * t.val) (iblk m c 0 t) (rd (a0 m c)) := by
  intro r k
  have hi := index0 t
  have ht := pt_lt t
  have hr := r.isLt
  refine Eq.trans ?_ (rd_ix2 (a := 4096) (b := 1024) (a0 m c) ⟨256 * t.val + r.val, by omega⟩ k)
  unfold iblk
  rw [View.read_apply]
  show V m c main_arg0 _ = m (c.tc.loc main_arg0) _
  unfold V
  congr 1
  funext a
  apply Fin.ext
  match a with
  | ⟨0, _⟩ => show win0_0.index t 0 * 256 + 1 * r.val = 256 * t.val + r.val; rw [hi.1]; omega
  | ⟨1, _⟩ => show win0_0.index t 1 * 1024 + 1 * k.val = k.val; rw [hi.2]; omega

theorem index1 : ∀ t : Fin cfg0.N, win0_1.index t 0 = t.val ∧ win0_1.index t 1 = 0 :=
  (by decide +kernel : ∀ t : Fin grid0.N, win0_1.index t 0 = t.val ∧ win0_1.index t 1 = 0)

theorem block1 : Rows (n := 256) (m := 1536) (256 * t.val) (iblk m c 1 t) (rd (a1 m c)) := by
  intro r k
  have hi := index1 t
  have ht := pt_lt t
  have hr := r.isLt
  refine Eq.trans ?_ (rd_ix2 (a := 4096) (b := 1536) (a1 m c) ⟨256 * t.val + r.val, by omega⟩ k)
  unfold iblk
  rw [View.read_apply]
  show V m c main_arg1 _ = m (c.tc.loc main_arg1) _
  unfold V
  congr 1
  funext a
  apply Fin.ext
  match a with
  | ⟨0, _⟩ => show win0_1.index t 0 * 256 + 1 * r.val = 256 * t.val + r.val; rw [hi.1]; omega
  | ⟨1, _⟩ => show win0_1.index t 1 * 1536 + 1 * k.val = k.val; rw [hi.2]; omega

theorem index3 : ∀ t : Fin cfg0.N, win0_3.index t 0 = t.val ∧ win0_3.index t 1 = 0 :=
  (by decide +kernel : ∀ t : Fin grid0.N, win0_3.index t 0 = t.val ∧ win0_3.index t 1 = 0)

theorem block3 : Rows (n := 256) (m := 2048) (256 * t.val) (iblk m c 3 t) (rd (a2 m c)) := by
  intro r k
  have hi := index3 t
  have ht := pt_lt t
  have hr := r.isLt
  refine Eq.trans ?_ (rd_ix2 (a := 4096) (b := 2048) (a2 m c) ⟨256 * t.val + r.val, by omega⟩ k)
  unfold iblk
  rw [View.read_apply]
  show V m c main_arg2 _ = m (c.tc.loc main_arg2) _
  unfold V
  congr 1
  funext a
  apply Fin.ext
  match a with
  | ⟨0, _⟩ => show win0_3.index t 0 * 256 + 1 * r.val = 256 * t.val + r.val; rw [hi.1]; omega
  | ⟨1, _⟩ => show win0_3.index t 1 * 2048 + 1 * k.val = k.val; rw [hi.2]; omega

theorem index4 : ∀ t : Fin cfg0.N, win0_4.index t 0 = t.val ∧ win0_4.index t 1 = 0 :=
  (by decide +kernel : ∀ t : Fin grid0.N, win0_4.index t 0 = t.val ∧ win0_4.index t 1 = 0)

theorem block4 : Rows (n := 256) (m := 512) (256 * t.val) (iblk m c 4 t) (rd (a3 m c)) := by
  intro r k
  have hi := index4 t
  have ht := pt_lt t
  have hr := r.isLt
  refine Eq.trans ?_ (rd_ix2 (a := 4096) (b := 512) (a3 m c) ⟨256 * t.val + r.val, by omega⟩ k)
  unfold iblk
  rw [View.read_apply]
  show V m c main_arg3 _ = m (c.tc.loc main_arg3) _
  unfold V
  congr 1
  funext a
  apply Fin.ext
  match a with
  | ⟨0, _⟩ => show win0_4.index t 0 * 256 + 1 * r.val = 256 * t.val + r.val; rw [hi.1]; omega
  | ⟨1, _⟩ => show win0_4.index t 1 * 512 + 1 * k.val = k.val; rw [hi.2]; omega

theorem index5 : ∀ t : Fin cfg0.N, win0_5.index t 0 = 0 ∧ win0_5.index t 1 = 0 :=
  (by decide +kernel : ∀ t : Fin grid0.N, win0_5.index t 0 = 0 ∧ win0_5.index t 1 = 0)

theorem block5 : Rows (n := 3) (m := 512) (0) (iblk m c 5 t) (rd (a4 m c)) := by
  intro r k
  have hi := index5 t
  have ht := pt_lt t
  have hr := r.isLt
  refine Eq.trans ?_ (rd_ix2 (a := 3) (b := 512) (a4 m c) ⟨0 + r.val, by omega⟩ k)
  unfold iblk
  rw [View.read_apply]
  show V m c main_arg4 _ = m (c.tc.loc main_arg4) _
  unfold V
  congr 1
  funext a
  apply Fin.ext
  match a with
  | ⟨0, _⟩ => show win0_5.index t 0 * 3 + 1 * r.val = 0 + r.val; rw [hi.1]; omega
  | ⟨1, _⟩ => show win0_5.index t 1 * 512 + 1 * k.val = k.val; rw [hi.2]; omega

theorem index6 : ∀ t : Fin cfg0.N, win0_6.index t 0 = 0 ∧ win0_6.index t 1 = 0 :=
  (by decide +kernel : ∀ t : Fin grid0.N, win0_6.index t 0 = 0 ∧ win0_6.index t 1 = 0)

theorem block6 : Rows (n := 512) (m := 1024) (0) (iblk m c 6 t) (rd (a5 m c)) := by
  intro r k
  have hi := index6 t
  have ht := pt_lt t
  have hr := r.isLt
  refine Eq.trans ?_ (rd_ix2 (a := 512) (b := 1024) (a5 m c) ⟨0 + r.val, by omega⟩ k)
  unfold iblk
  rw [View.read_apply]
  show V m c main_arg5 _ = m (c.tc.loc main_arg5) _
  unfold V
  congr 1
  funext a
  apply Fin.ext
  match a with
  | ⟨0, _⟩ => show win0_6.index t 0 * 512 + 1 * r.val = 0 + r.val; rw [hi.1]; omega
  | ⟨1, _⟩ => show win0_6.index t 1 * 1024 + 1 * k.val = k.val; rw [hi.2]; omega

theorem index7 : ∀ t : Fin cfg0.N, win0_7.index t 0 = 0 ∧ win0_7.index t 1 = 0 :=
  (by decide +kernel : ∀ t : Fin grid0.N, win0_7.index t 0 = 0 ∧ win0_7.index t 1 = 0)

theorem block7 : Rows (n := 512) (m := 1024) (0) (iblk m c 7 t) (rd (a6 m c)) := by
  intro r k
  have hi := index7 t
  have ht := pt_lt t
  have hr := r.isLt
  refine Eq.trans ?_ (rd_ix2 (a := 512) (b := 1024) (a6 m c) ⟨0 + r.val, by omega⟩ k)
  unfold iblk
  rw [View.read_apply]
  show V m c main_arg6 _ = m (c.tc.loc main_arg6) _
  unfold V
  congr 1
  funext a
  apply Fin.ext
  match a with
  | ⟨0, _⟩ => show win0_7.index t 0 * 512 + 1 * r.val = 0 + r.val; rw [hi.1]; omega
  | ⟨1, _⟩ => show win0_7.index t 1 * 1024 + 1 * k.val = k.val; rw [hi.2]; omega

theorem index8 : ∀ t : Fin cfg0.N, win0_8.index t 0 = 0 ∧ win0_8.index t 1 = 0 :=
  (by decide +kernel : ∀ t : Fin grid0.N, win0_8.index t 0 = 0 ∧ win0_8.index t 1 = 0)

theorem block8 : Rows (n := 1024) (m := 1024) (0) (iblk m c 8 t) (rd (a7 m c)) := by
  intro r k
  have hi := index8 t
  have ht := pt_lt t
  have hr := r.isLt
  refine Eq.trans ?_ (rd_ix2 (a := 1024) (b := 1024) (a7 m c) ⟨0 + r.val, by omega⟩ k)
  unfold iblk
  rw [View.read_apply]
  show V m c main_arg7 _ = m (c.tc.loc main_arg7) _
  unfold V
  congr 1
  funext a
  apply Fin.ext
  match a with
  | ⟨0, _⟩ => show win0_8.index t 0 * 1024 + 1 * r.val = 0 + r.val; rw [hi.1]; omega
  | ⟨1, _⟩ => show win0_8.index t 1 * 1024 + 1 * k.val = k.val; rw [hi.2]; omega

theorem index2 : ∀ t : Fin cfg0.N, win0_2.index t 0 = 16 * t.val - 1 ∧ win0_2.index t 1 = 0 :=
  (by decide +kernel : ∀ t : Fin grid0.N, win0_2.index t 0 = 16 * t.val - 1 ∧ win0_2.index t 1 = 0)

theorem block2 (h : t.val ≠ 0) : Rows (n := 16) (m := 1536) (256 * t.val - 16) (iblk m c 2 t) (rd (a1 m c)) := by
  intro r k
  have hi := index2 t
  have ht := pt_lt t
  have hr := r.isLt
  refine Eq.trans ?_ (rd_ix2 (a := 4096) (b := 1536) (a1 m c) ⟨256 * t.val - 16 + r.val, by omega⟩ k)
  unfold iblk
  rw [View.read_apply]
  show V m c main_arg1 _ = m (c.tc.loc main_arg1) _
  unfold V
  congr 1
  funext a
  apply Fin.ext
  match a with
  | ⟨0, _⟩ => show win0_2.index t 0 * 16 + 1 * r.val = 256 * t.val - 16 + r.val; rw [hi.1]; omega
  | ⟨1, _⟩ => show win0_2.index t 1 * 1536 + 1 * k.val = k.val; rw [hi.2]; omega

/-- The arguments as matrices read at numbers; the incoming gradient is not read. -/
abbrev XX : Args := ⟨fun _ _ => 0, rd (a7 m c), rd (a2 m c), rd (a3 m c), rd (a5 m c), rd (a6 m c), rd (a1 m c), rd (a4 m c)⟩

theorem out9 : Rows (n := 256) (m := 1024) (256 * t.val) (out0_9 (grid0.coords t) (iblk m c 0 t) (iblk m c 1 t) (iblk m c 2 t) (iblk m c 3 t) (iblk m c 4 t) (iblk m c 5 t) (iblk m c 6 t) (iblk m c 7 t) (iblk m c 8 t))
    (h1 (rd (a0 m c)) (XX m c)) := by
  unfold out0_9
  rw [View.canon_unit_zero hz]
  have hc := coord t
  refine merged (X := XX m c) (conv (X := XX m c) ?_ ?_ ?_ ?_ ?_ ?_ ?_ ?_ ?_ ?_) ?_ ?_ ?_ ?_ ?_ ?_ ?_
  · exact rows_all16 inb_S256x1536_S256x512_0_0 (block1 m c t)
  · exact rows_ld16 0 512 inb_S256x1536_S256x512_0_512 (block1 m c t)
  · exact rows_ld16 0 1024 inb_S256x1536_S256x512_0_1024 (block1 m c t)
  · intro h; omega
  · intro h; omega
  · intro h; exact rows_ld16 0 512 inb_S16x1536_S16x512_0_512 (block2 m c t (by omega))
  · intro h; exact rows_ld16 0 1024 inb_S16x1536_S16x512_0_1024 (block2 m c t (by omega))
  · exact rows_row 0 inb_S3x512_S1x512_0_0 (block5 m c t)
  · exact rows_row 1 inb_S3x512_S1x512_1_0 (block5 m c t)
  · exact rows_row 2 inb_S3x512_S1x512_2_0 (block5 m c t)
  · exact rows_all16 inb_S256x512_S256x512_0_0 (block4 m c t)
  · exact rows_all16 inb_S512x1024_S512x1024_0_0 (block6 m c t)
  · exact rows_all16 inb_S512x1024_S512x1024_0_0 (block7 m c t)
  · exact rows_all16 inb_S256x2048_S256x1024_0_0 (block3 m c t)
  · exact rows_ld16 0 1024 inb_S256x2048_S256x1024_0_1024 (block3 m c t)
  · exact rows_all32 inb_S256x1024_S256x1024_0_0 (block0 m c t)
  · exact rows_all16 inb_S1024x1024_S1024x1024_0_0 (block8 m c t)

theorem index9 : ∀ t : Fin cfg0.N, win0_9.index t 0 = t.val ∧ win0_9.index t 1 = 0 :=
  (by decide +kernel : ∀ t : Fin grid0.N, win0_9.index t 0 = t.val ∧ win0_9.index t 1 = 0)

theorem emb9 (t : Fin cfg0.N) (r : Fin 256) (k : Fin 1024) (h : 256 * t.val + r.val < 4096) :
    ((View.whole main_v0).slice (win0_9.rect t)).emb (ix2 r k) = ix2 ⟨256 * t.val + r.val, h⟩ k := by
  have hi := index9 t
  funext a
  apply Fin.ext
  match a with
  | ⟨0, _⟩ => show win0_9.index t 0 * 256 + 1 * r.val = 256 * t.val + r.val; rw [hi.1]; omega
  | ⟨1, _⟩ => show win0_9.index t 1 * 1024 + 1 * k.val = k.val; rw [hi.2]; omega

theorem final9 (v : S4096x1024.Idx → EReal) (hv : Holds v (h1 (rd (a0 m c)) (XX m c))) : (dats m 0 c).arrAt 9 cfg0.N = v :=
  (dats m 0 c).arrAt_eq_of_cover 9 v (fun t _ => by
    have ht := pt_lt t
    rw [flushed9 m c t]
    funext j
    rw [View.read_apply]
    obtain ⟨r, k, rfl⟩ : ∃ (r : Fin 256) (k : Fin 1024), j = ix2 r k := ⟨j 0, j 1, eq_ix2 j⟩
    have hr := r.isLt
    refine (out9 m c t r k).trans ?_
    refine ((hv ⟨256 * t.val + r.val, by omega⟩ k).symm.trans (congrArg v ?_))
    exact (emb9 t r k (by omega)).symm) fun i => by
    have h0 : (i 0 : Nat) < 4096 := (i 0).isLt
    have h1 : (i 1 : Nat) < 1024 := (i 1).isLt
    obtain ⟨t, ht⟩ : ∃ t : Fin cfg0.N, t.val = (i 0 : Nat) / 256 :=
      ⟨⟨(i 0 : Nat) / 256, by show _ < grid0.N; rw [N_0]; omega⟩, rfl⟩
    refine ⟨t, flush0_9 _, ?_⟩
    show i ∈ ((View.whole main_v0).slice (win0_9.rect t)).set
    rw [View.set_slice_whole, Rect.mem_set_unit]
    have hi := index9 t
    intro a
    match a with
    | ⟨0, _⟩ =>
      show win0_9.index t 0 * 256 ≤ (i 0 : Nat) ∧ (i 0 : Nat) < win0_9.index t 0 * 256 + 256
      rw [hi.1]; omega
    | ⟨1, _⟩ =>
      show win0_9.index t 1 * 1024 ≤ (i 1 : Nat) ∧ (i 1 : Nat) < win0_9.index t 1 * 1024 + 1024
      rw [hi.2]; omega

end Cert.MixFwdValue
-- ==== Proof.MixFwdEq.lean ====
module

public import proofs.«01_k».proof.Proof.MixFwdValue
public import proofs.«01_k».proof.Defs
public import proofs.«01_k».proof.Proof.Gen.MixFwdRefIdeal.Run
public import Idealize.ShloMosaic.Lib.Claim

@[expose] public section

set_option maxRecDepth 16384

/-!
# The mixing layer, forwards: the kernel and the reference
-/

noncomputable section

open Idealize.ShloMosaic Idealize.ShloMosaic.TcCoe Idealize.SL.Sem
open Cert.MixSpec
open Cert.MixRef (Holds)

namespace Cert.MixFwdRef

open Cert.MixFwdRefIdeal Cert.MixFwdRefIdeal.Gen

variable (x0 : FVec Ideal S4096x1024 .f32) (x1 : FVec Ideal S4096x1536 .bf16) (x2 : FVec Ideal S4096x2048 .bf16) (x3 : FVec Ideal S4096x512 .bf16)
  (x4 : FVec Ideal S3x512 .f32) (x5 x6 : FVec Ideal S512x1024 .bf16) (x7 : FVec Ideal S1024x1024 .bf16)

/-- The sequence the convolution runs over. -/
def useq : FVec Ideal S4096x512 .f32 := (mulf (extractStridedSlice S4096x512 ![0, 512] (extf .f32 x1 bitsLt_bf16_f32) slices_S4096x1536_S4096x512_0_512) (extractStridedSlice S4096x512 ![0, 1024] (extf .f32 x1 bitsLt_bf16_f32) slices_S4096x1536_S4096x512_0_1024))

/-- It behind two rows of zeros. -/
def pad : FVec Ideal S4098x512 .f32 := (concatenate S4098x512 0 [⟨S2x512, (broadcastInDim S2x512 ![] bcast_S_S2x512 (constant S_ .f32 0x00000000#32))⟩, ⟨S4096x512, (useq x1)⟩] concatenates_S2x512_S4096x512_S4098x512_d0)

/-- The gated convolution. -/
def conv : FVec Ideal S4096x512 .f32 := (mulf (extractStridedSlice S4096x512 ![0, 0] (extf .f32 x1 bitsLt_bf16_f32) slices_S4096x1536_S4096x512_0_0) (addf (addf (mulf (broadcastInDim S4096x512 ![0, 1] bcast_S1x512_S4096x512_0_1 (broadcastInDim S1x512 ![1] bcast_S512_S1x512_1 (shapeCast _ (extractStridedSlice S1x512 ![0, 0] x4 slices_S3x512_S1x512_0_0) shapeCasts_S1x512_S512))) (extractStridedSlice S4096x512 ![0, 0] (pad x1) slices_S4098x512_S4096x512_0_0)) (mulf (broadcastInDim S4096x512 ![0, 1] bcast_S1x512_S4096x512_0_1 (broadcastInDim S1x512 ![1] bcast_S512_S1x512_1 (shapeCast _ (extractStridedSlice S1x512 ![1, 0] x4 slices_S3x512_S1x512_1_0) shapeCasts_S1x512_S512))) (extractStridedSlice S4096x512 ![1, 0] (pad x1) slices_S4098x512_S4096x512_1_0))) (mulf (broadcastInDim S4096x512 ![0, 1] bcast_S1x512_S4096x512_0_1 (broadcastInDim S1x512 ![1] bcast_S512_S1x512_1 (shapeCast _ (extractStridedSlice S1x512 ![2, 0] x4 slices_S3x512_S1x512_2_0) shapeCasts_S1x512_S512))) (extractStridedSlice S4096x512 ![2, 0] (pad x1) slices_S4098x512_S4096x512_2_0))))

/-- The merged branches. -/
def merged : FVec Ideal S4096x1024 .f32 := (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 x2 bitsLt_bf16_f32) slices_S4096x2048_S4096x1024_0_0))))) (Host.dotGeneral dot_S4096x512_S512x1024_S4096x1024_1_0_0_1_n_n none (extf .f32 x3 bitsLt_bf16_f32) (extf .f32 x5 bitsLt_bf16_f32))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 x2 bitsLt_bf16_f32) slices_S4096x2048_S4096x1024_0_1024))))) (Host.dotGeneral dot_S4096x512_S512x1024_S4096x1024_1_0_0_1_n_n none (conv x1 x4) (extf .f32 x6 bitsLt_bf16_f32))))

/-- The result. -/
def val : FVec Ideal S4096x1024 .f32 := addf x0 (Host.dotGeneral dot_S4096x1024_S1024x1024_S4096x1024_1_0_0_1_n_n none (merged x1 x2 x3 x4 x5 x6) (extf .f32 x7 bitsLt_bf16_f32))

/-- The arguments as matrices read at numbers; the incoming gradient is not read. -/
def args : Args := ⟨fun _ _ => 0, rd x7, rd x2, rd x3, rd x5, rd x6, rd x1, rd x4⟩

local notation "X" => args x1 x2 x3 x4 x5 x6 x7

theorem h_useq : Holds (useq x1) (X).u := by
  intro r c
  pointwise [useq]
  exact congrArg₂ (fun x y : EReal => x * y) (rd_ix2 x1 _ _) (rd_ix2 x1 _ _)

theorem h_pad : ∀ (r : Fin 4098) (c : Fin 512), pad x1 (ix2 r c) = late 2 (X).u r.val c.val := by
  intro r c
  have e := h_useq x1 x2 x3 x4 x5 x6 x7
  have hr := r.isLt
  pointwise [pad]
  unfold late
  by_cases h : r.val < 2
  · rw [dif_pos h, if_neg (by omega)]
  · rw [dif_neg h]
    exact (e _ c).trans (if_pos (by omega)).symm

theorem h_conv : Holds (conv x1 x4) (X).conv := by
  intro r c
  have e : ∀ (i : ℕ) (_ : i < 4098) (c : Fin 512), rd (a := 4098) (b := 512) (pad x1) i c.val = late 2 (X).u i c.val := fun i hi c =>
    (rd_ix2 (a := 4098) (b := 512) (pad x1) ⟨i, hi⟩ c).symm.trans (h_pad x1 x2 x3 x4 x5 x6 x7 ⟨i, hi⟩ c)
  have hr := r.isLt
  pointwise [conv]
  simp only [rd_ix2]
  rw [e _ (by omega), e _ (by omega), e _ (by omega)]
  unfold Args.conv Args.cv late
  rw [if_pos (show 2 ≤ 2 + r.val by omega), Nat.add_sub_cancel_left]
  by_cases h1 : 1 ≤ r.val
  · rw [if_pos (show 2 ≤ 1 + r.val by omega), if_pos h1, show 1 + r.val - 2 = r.val - 1 by omega]
    rfl
  · rw [if_neg (show ¬2 ≤ 1 + r.val by omega), if_neg h1]
    rfl

theorem h_merged : Holds (merged x1 x2 x3 x4 x5 x6) (X).mg := by
  intro r c
  have e : ∀ (r : Fin 4096) (c : Fin 512), rd (a := 4096) (b := 512) (conv x1 x4) r.val c.val = (X).conv r.val c.val := fun r c =>
    (rd_ix2 (a := 4096) (b := 512) (conv x1 x4) r c).symm.trans (h_conv x1 x2 x3 x4 x5 x6 x7 r c)
  pointwise [merged]
  simp only [rd_ix2]
  simp only [e]
  unfold Args.mg Args.sa Args.sc Args.ap Args.cp sg
  simp only [Finset.sum_range]
  rfl

theorem h_val : Holds (val x0 x1 x2 x3 x4 x5 x6 x7) (Cert.MixFwdValue.h1 (rd x0) (X)) := by
  intro r c
  have e : ∀ (r : Fin 4096) (c : Fin 1024), rd (a := 4096) (b := 1024) (merged x1 x2 x3 x4 x5 x6) r.val c.val = (X).mg r.val c.val := fun r c =>
    (rd_ix2 (a := 4096) (b := 1024) (merged x1 x2 x3 x4 x5 x6) r c).symm.trans (h_merged x1 x2 x3 x4 x5 x6 x7 r c)
  pointwise [val]
  simp only [rd_ix2]
  simp only [e]
  unfold Cert.MixFwdValue.h1
  simp only [Finset.sum_range]
  rfl

/-- The reference leaves its arguments as they were, and every counter at zero. -/
theorem frame : @Cert.quiescent_MixFwdRefIdeal Cert.MixFwdRefIdeal.Gen.facts := fun m ρ _ =>
  (θ_run Cert.MixFwdRefIdeal.defs _ _).mono (fun r h => ⟨fun c => (h c).2,
      Idealize.ShloMosaic.sem_eq_zero_of_no_sems (by decide) r.2⟩)
    (Cert.MixFwdRefIdeal.Value.run (F := Ideal) m ρ)

end Cert.MixFwdRef

namespace Cert.MixFwdEq

open Cert.MixFwdIdeal Cert.MixFwdIdeal.Gen

variable (m : (ℓ : Loc nD τ sig) → Buf (Elt Ideal) ℓ) (c : Dev nD)

/-- The result, as the reference's value at the kernel's arguments. -/
def res := Cert.MixFwdRef.val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The value claim: on the extended reals the kernel's result is the reference's. -/
theorem algebraic : @Cert.algebraic_MixFwdIdeal_MixFwdRefIdeal Cert.MixFwdIdeal.Gen.facts Cert.MixFwdRefIdeal.Gen.facts := by
  intro m g m' g' _ hm
  refine ⟨fun c => res m c, (θ_run defs _ _).mono (fun r h c => ?_) (Cert.MixFwdIdeal.Value.run_blocks m g), ?_⟩
  · obtain ⟨a0, rest⟩ := h c
    exact ⟨a0.trans (Cert.MixFwdValue.final9 m c _ (Cert.MixFwdRef.h_val _ _ _ _ _ _ _ _)), rest⟩
  refine (θ_run Cert.MixFwdRefIdeal.defs _ _).mono (fun r h c => ?_) (Cert.MixFwdRefIdeal.Value.run m' g')
  obtain ⟨e0, e1, e2, e3, e4, e5, e6, e7⟩ := hm c
  obtain ⟨a0, rest⟩ := h c
  have q := congr (congr (congr (congr (congr (congr (congr (congrArg Cert.MixFwdRef.val e0) e1) e2) e3) e4) e5) e6) e7
  exact ⟨a0.trans q, rest⟩

end Cert.MixFwdEq
-- ==== Proof.GradInRunA.lean ====
module

public import proofs.«01_k».proof.Proof.Gen.GradIn.Frame

@[expose] public section

set_option maxRecDepth 16384

/-!
# The body of the gradient of the input projections' weights, at the first point
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GradIn Cert.GradIn.Gen

namespace Cert.GradInRun

variable {F : FTy → Type} [FloatOps F]

local notation "𝕄" => MT nD τ sig Unit (Elt F) ℕ (Pipeline.UD sig nD τ) ℕ

set_option maxHeartbeats 1000000 in
/-- What the body leaves at the first point: the pieces it stores into the accumulator, with the
    triple of its run, which leaves the result as it was. -/
noncomputable def runA (c : Dev nD) (i : grid0.Coords) (arg2 : Memref sig .tc .vmem S1024x512 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x1024 .bf16) (harg9 : arg9.IsWhole) (arg11 : Memref sig .tc .vmem S2304x1024 .f32) (harg11 : arg11.IsWhole) (arg12 : Memref sig .tc .vmem S2304x1024 .bf16) (harg12 : arg12.IsWhole) (hc0 : cond0_0 i) (hc1 : cond0_1 i) (hc2 : ¬cond0_2 i) (hc3 : ¬cond0_3 i)
    (x0 : Vec F S1024x512 .bf16) (x1 : Vec F S1024x128 .f32) (x2 : Vec F S1024x128 .f32) (x3 : Vec F S1024x512 .bf16) (x4 : Vec F S1024x512 .bf16) (x5 : Vec F S1024x512 .bf16) (x6 : Vec F S1024x2048 .bf16) (x7 : Vec F S1024x1024 .bf16) (y : Vec F S2304x1024 .bf16) (z : HbBuf0 (F := F) c hbM0_0) :
    { L : List (View.Piece (Elt F) S2304x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg11 fullShare d) ∗ owns (c : Thread nD τ) arg12 fullShare y ∗ semVal ((c : Thread nD τ), SemLoc.dma 16) 0 ∗ hbPt0 c hbM0_0 z ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg11.view.loc (c : Thread nD τ) ↦[arg11.view.set]{fullShare} arg11.view.writes (Elt F) f L) ∗ (∃ d, owns (c : Thread nD τ) arg12 fullShare d) ∗ semVal ((c : Thread nD τ), SemLoc.dma 16) 0 ∗ hbPt0 c hbM0_0 z ∗ (∃ W', owes (c : Thread nD τ) 0 W')) -∗ K ⟨⟩))
          ⊢ wp frame (wpE (defs₀ (F := F)) Variants.none c none) Set.univ (cc0_grad_w_in i arg2 harg2 arg3 harg3 arg4 harg4 arg5 harg5 arg6 harg6 arg7 harg7 arg8 harg8 arg9 harg9 (Memref.whole main_v0) (Memref.isWhole_whole _) arg11 harg11 arg12 harg12 cc0_scratch2) K } := by
  refine ⟨?_, fun W K => ?run⟩
  case run =>
    simp only [cc0_grad_w_in_eq_skeleton]; unfold cc0_grad_w_in_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hq0, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]
    · iexists _, _; isplitr; swap; · iexact HS1
      ipureintro; rfl
    isplitl [Hq0]; · iexact Hq0
    isplitl [Hh0]; · iexact Hh0
    iexists _; iexact HW

end Cert.GradInRun

end
-- ==== Proof.GradInRunB.lean ====
module

public import proofs.«01_k».proof.Proof.Gen.GradIn.Frame

@[expose] public section

set_option maxRecDepth 16384

/-!
# The body of the gradient of the input projections' weights, at a point within the first sweep
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GradIn Cert.GradIn.Gen

namespace Cert.GradInRun

variable {F : FTy → Type} [FloatOps F]

local notation "𝕄" => MT nD τ sig Unit (Elt F) ℕ (Pipeline.UD sig nD τ) ℕ

set_option maxHeartbeats 1000000 in
/-- What the body leaves at a point within the first sweep: the pieces it stores into the accumulator, with the
    triple of its run, which leaves the result as it was. -/
noncomputable def runB (c : Dev nD) (i : grid0.Coords) (arg2 : Memref sig .tc .vmem S1024x512 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x1024 .bf16) (harg9 : arg9.IsWhole) (arg11 : Memref sig .tc .vmem S2304x1024 .f32) (harg11 : arg11.IsWhole) (arg12 : Memref sig .tc .vmem S2304x1024 .bf16) (harg12 : arg12.IsWhole) (hc0 : ¬cond0_0 i) (hc1 : cond0_1 i) (hc2 : ¬cond0_2 i) (hc3 : ¬cond0_3 i)
    (x0 : Vec F S1024x512 .bf16) (x1 : Vec F S1024x128 .f32) (x2 : Vec F S1024x128 .f32) (x3 : Vec F S1024x512 .bf16) (x4 : Vec F S1024x512 .bf16) (x5 : Vec F S1024x512 .bf16) (x6 : Vec F S1024x2048 .bf16) (x7 : Vec F S1024x1024 .bf16) (xs0 : Vec F S2304x1024 .f32) (y : Vec F S2304x1024 .bf16) (z : HbBuf0 (F := F) c hbM0_0) :
    { L : List (View.Piece (Elt F) S2304x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare xs0 ∗ owns (c : Thread nD τ) arg12 fullShare y ∗ semVal ((c : Thread nD τ), SemLoc.dma 16) 0 ∗ hbPt0 c hbM0_0 z ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg11.view.loc (c : Thread nD τ) ↦[arg11.view.set]{fullShare} arg11.view.writes (Elt F) f L) ∗ (∃ d, owns (c : Thread nD τ) arg12 fullShare d) ∗ semVal ((c : Thread nD τ), SemLoc.dma 16) 0 ∗ hbPt0 c hbM0_0 z ∗ (∃ W', owes (c : Thread nD τ) 0 W')) -∗ K ⟨⟩))
          ⊢ wp frame (wpE (defs₀ (F := F)) Variants.none c none) Set.univ (cc0_grad_w_in i arg2 harg2 arg3 harg3 arg4 harg4 arg5 harg5 arg6 harg6 arg7 harg7 arg8 harg8 arg9 harg9 (Memref.whole main_v0) (Memref.isWhole_whole _) arg11 harg11 arg12 harg12 cc0_scratch2) K } := by
  refine ⟨?_, fun W K => ?run⟩
  case run =>
    simp only [cc0_grad_w_in_eq_skeleton]; unfold cc0_grad_w_in_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hq0, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs1; obtain rfl := harg11.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]
    · iexists _, _; isplitr; swap; · iexact HS1
      ipureintro; rfl
    isplitl [Hq0]; · iexact Hq0
    isplitl [Hh0]; · iexact Hh0
    iexists _; iexact HW

end Cert.GradInRun

end
-- ==== Proof.GradInRunC.lean ====
module

public import proofs.«01_k».proof.Proof.Gen.GradIn.Frame

@[expose] public section

set_option maxRecDepth 16384

/-!
# The body of the gradient of the input projections' weights, at the last point of the first sweep
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GradIn Cert.GradIn.Gen

namespace Cert.GradInRun

variable {F : FTy → Type} [FloatOps F]

local notation "𝕄" => MT nD τ sig Unit (Elt F) ℕ (Pipeline.UD sig nD τ) ℕ

set_option maxHeartbeats 1000000 in
/-- What the body leaves at the last point of the first sweep: the pieces it stores into the accumulator and the contents of the result, with the
    triple of its run. -/
noncomputable def runC (c : Dev nD) (i : grid0.Coords) (arg2 : Memref sig .tc .vmem S1024x512 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x1024 .bf16) (harg9 : arg9.IsWhole) (arg11 : Memref sig .tc .vmem S2304x1024 .f32) (harg11 : arg11.IsWhole) (arg12 : Memref sig .tc .vmem S2304x1024 .bf16) (harg12 : arg12.IsWhole) (hc0 : ¬cond0_0 i) (hc1 : cond0_1 i) (hc2 : cond0_2 i) (hc3 : ¬cond0_3 i)
    (x0 : Vec F S1024x512 .bf16) (x1 : Vec F S1024x128 .f32) (x2 : Vec F S1024x128 .f32) (x3 : Vec F S1024x512 .bf16) (x4 : Vec F S1024x512 .bf16) (x5 : Vec F S1024x512 .bf16) (x6 : Vec F S1024x2048 .bf16) (x7 : Vec F S1024x1024 .bf16) (xs0 : Vec F S2304x1024 .f32) (y : Vec F S2304x1024 .bf16) (z : HbBuf0 (F := F) c hbM0_0) :
    { L : List (View.Piece (Elt F) S2304x1024 .f32) × HbBuf0 (F := F) c hbM0_0 //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare xs0 ∗ owns (c : Thread nD τ) arg12 fullShare y ∗ semVal ((c : Thread nD τ), SemLoc.dma 16) 0 ∗ hbPt0 c hbM0_0 z ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg11.view.loc (c : Thread nD τ) ↦[arg11.view.set]{fullShare} arg11.view.writes (Elt F) f L.1) ∗ (∃ d, owns (c : Thread nD τ) arg12 fullShare d) ∗ semVal ((c : Thread nD τ), SemLoc.dma 16) 0 ∗ hbPt0 c hbM0_0 L.2 ∗ (∃ W', owes (c : Thread nD τ) 0 W')) -∗ K ⟨⟩))
          ⊢ wp frame (wpE (defs₀ (F := F)) Variants.none c none) Set.univ (cc0_grad_w_in i arg2 harg2 arg3 harg3 arg4 harg4 arg5 harg5 arg6 harg6 arg7 harg7 arg8 harg8 arg9 harg9 (Memref.whole main_v0) (Memref.isWhole_whole _) arg11 harg11 arg12 harg12 cc0_scratch2) K } := by
  refine ⟨(?_, ?_), fun W K => ?run⟩
  case run =>
    simp only [cc0_grad_w_in_eq_skeleton]; unfold cc0_grad_w_in_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hq0, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs1; obtain rfl := harg11.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]
    · iexists _, _; isplitr; swap; · iexact HS1
      ipureintro; rfl
    isplitl [Hq0]; · iexact Hq0
    isplitl [Hh0]; · iexact Hh0
    iexists _; iexact HW

end Cert.GradInRun

end
-- ==== Proof.GradInRunD.lean ====
module

public import proofs.«01_k».proof.Proof.Gen.GradIn.Frame

@[expose] public section

set_option maxRecDepth 16384

/-!
# The body of the gradient of the input projections' weights, at the first point of the second sweep
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GradIn Cert.GradIn.Gen

namespace Cert.GradInRun

variable {F : FTy → Type} [FloatOps F]

local notation "𝕄" => MT nD τ sig Unit (Elt F) ℕ (Pipeline.UD sig nD τ) ℕ

set_option maxHeartbeats 1000000 in
/-- What the body leaves at the first point of the second sweep: the pieces it stores into the accumulator, with the
    triple of its run, which leaves the result as it was. -/
noncomputable def runD (c : Dev nD) (i : grid0.Coords) (arg2 : Memref sig .tc .vmem S1024x512 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x1024 .bf16) (harg9 : arg9.IsWhole) (arg11 : Memref sig .tc .vmem S2304x1024 .f32) (harg11 : arg11.IsWhole) (arg12 : Memref sig .tc .vmem S2304x1024 .bf16) (harg12 : arg12.IsWhole) (hc0 : cond0_0 i) (hc1 : ¬cond0_1 i) (hc3 : cond0_3 i) (hc4 : ¬cond0_4 i)
    (x0 : Vec F S1024x512 .bf16) (x1 : Vec F S1024x128 .f32) (x2 : Vec F S1024x128 .f32) (x3 : Vec F S1024x512 .bf16) (x4 : Vec F S1024x512 .bf16) (x5 : Vec F S1024x512 .bf16) (x6 : Vec F S1024x2048 .bf16) (x7 : Vec F S1024x1024 .bf16) (y : Vec F S2304x1024 .bf16) (z : HbBuf0 (F := F) c hbM0_0) :
    { L : List (View.Piece (Elt F) S2304x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg11 fullShare d) ∗ owns (c : Thread nD τ) arg12 fullShare y ∗ semVal ((c : Thread nD τ), SemLoc.dma 16) 0 ∗ hbPt0 c hbM0_0 z ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg11.view.loc (c : Thread nD τ) ↦[arg11.view.set]{fullShare} arg11.view.writes (Elt F) f L) ∗ (∃ d, owns (c : Thread nD τ) arg12 fullShare d) ∗ semVal ((c : Thread nD τ), SemLoc.dma 16) 0 ∗ hbPt0 c hbM0_0 z ∗ (∃ W', owes (c : Thread nD τ) 0 W')) -∗ K ⟨⟩))
          ⊢ wp frame (wpE (defs₀ (F := F)) Variants.none c none) Set.univ (cc0_grad_w_in i arg2 harg2 arg3 harg3 arg4 harg4 arg5 harg5 arg6 harg6 arg7 harg7 arg8 harg8 arg9 harg9 (Memref.whole main_v0) (Memref.isWhole_whole _) arg11 harg11 arg12 harg12 cc0_scratch2) K } := by
  refine ⟨?_, fun W K => ?run⟩
  case run =>
    simp only [cc0_grad_w_in_eq_skeleton]; unfold cc0_grad_w_in_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hq0, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs1
    sl_exec (disch := first | sl_exact hc0 | sl_exact hc1 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]
    · iexists _, _; isplitr; swap; · iexact HS1
      ipureintro; rfl
    isplitl [Hq0]; · iexact Hq0
    isplitl [Hh0]; · iexact Hh0
    iexists _; iexact HW

end Cert.GradInRun

end
-- ==== Proof.GradInRunE.lean ====
module

public import proofs.«01_k».proof.Proof.Gen.GradIn.Frame

@[expose] public section

set_option maxRecDepth 16384

/-!
# The body of the gradient of the input projections' weights, at a point within the second sweep
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GradIn Cert.GradIn.Gen

namespace Cert.GradInRun

variable {F : FTy → Type} [FloatOps F]

local notation "𝕄" => MT nD τ sig Unit (Elt F) ℕ (Pipeline.UD sig nD τ) ℕ

set_option maxHeartbeats 1000000 in
/-- What the body leaves at a point within the second sweep: the pieces it stores into the accumulator, with the
    triple of its run, which leaves the result as it was. -/
noncomputable def runE (c : Dev nD) (i : grid0.Coords) (arg2 : Memref sig .tc .vmem S1024x512 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x1024 .bf16) (harg9 : arg9.IsWhole) (arg11 : Memref sig .tc .vmem S2304x1024 .f32) (harg11 : arg11.IsWhole) (arg12 : Memref sig .tc .vmem S2304x1024 .bf16) (harg12 : arg12.IsWhole) (hc0 : ¬cond0_0 i) (hc1 : ¬cond0_1 i) (hc3 : cond0_3 i) (hc4 : ¬cond0_4 i)
    (x0 : Vec F S1024x512 .bf16) (x1 : Vec F S1024x128 .f32) (x2 : Vec F S1024x128 .f32) (x3 : Vec F S1024x512 .bf16) (x4 : Vec F S1024x512 .bf16) (x5 : Vec F S1024x512 .bf16) (x6 : Vec F S1024x2048 .bf16) (x7 : Vec F S1024x1024 .bf16) (xs0 : Vec F S2304x1024 .f32) (y : Vec F S2304x1024 .bf16) (z : HbBuf0 (F := F) c hbM0_0) :
    { L : List (View.Piece (Elt F) S2304x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare xs0 ∗ owns (c : Thread nD τ) arg12 fullShare y ∗ semVal ((c : Thread nD τ), SemLoc.dma 16) 0 ∗ hbPt0 c hbM0_0 z ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg11.view.loc (c : Thread nD τ) ↦[arg11.view.set]{fullShare} arg11.view.writes (Elt F) (harg11.unread xs0) L) ∗ (∃ d, owns (c : Thread nD τ) arg12 fullShare d) ∗ semVal ((c : Thread nD τ), SemLoc.dma 16) 0 ∗ hbPt0 c hbM0_0 z ∗ (∃ W', owes (c : Thread nD τ) 0 W')) -∗ K ⟨⟩))
          ⊢ wp frame (wpE (defs₀ (F := F)) Variants.none c none) Set.univ (cc0_grad_w_in i arg2 harg2 arg3 harg3 arg4 harg4 arg5 harg5 arg6 harg6 arg7 harg7 arg8 harg8 arg9 harg9 (Memref.whole main_v0) (Memref.isWhole_whole _) arg11 harg11 arg12 harg12 cc0_scratch2) K } := by
  refine ⟨?_, fun W K => ?run⟩
  case run =>
    simp only [cc0_grad_w_in_eq_skeleton]; unfold cc0_grad_w_in_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hq0, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs1; obtain rfl := harg11.eq_unread hfs0
    sl_exec (disch := first | sl_exact hc0 | sl_exact hc1 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    isplitl [HS1]
    · iexists _, _; isplitr; swap; · iexact HS1
      ipureintro; rfl
    isplitl [Hq0]; · iexact Hq0
    isplitl [Hh0]; · iexact Hh0
    iexists _; iexact HW

end Cert.GradInRun

end
-- ==== Proof.GradInRunF.lean ====
module

public import proofs.«01_k».proof.Proof.Gen.GradIn.Frame

@[expose] public section

set_option maxRecDepth 16384

/-!
# The body of the gradient of the input projections' weights, at the last point
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GradIn Cert.GradIn.Gen

namespace Cert.GradInRun

variable {F : FTy → Type} [FloatOps F]

local notation "𝕄" => MT nD τ sig Unit (Elt F) ℕ (Pipeline.UD sig nD τ) ℕ

set_option maxHeartbeats 1000000 in
/-- What the body leaves at the last point: the pieces it stores into the accumulator and the contents of the result, with the
    triple of its run. -/
noncomputable def runF (c : Dev nD) (i : grid0.Coords) (arg2 : Memref sig .tc .vmem S1024x512 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .bf16) (harg8 : arg8.IsWhole) (arg9 : Memref sig .tc .vmem S1024x1024 .bf16) (harg9 : arg9.IsWhole) (arg11 : Memref sig .tc .vmem S2304x1024 .f32) (harg11 : arg11.IsWhole) (arg12 : Memref sig .tc .vmem S2304x1024 .bf16) (harg12 : arg12.IsWhole) (hc0 : ¬cond0_0 i) (hc1 : ¬cond0_1 i) (hc3 : cond0_3 i) (hc4 : cond0_4 i)
    (x0 : Vec F S1024x512 .bf16) (x1 : Vec F S1024x128 .f32) (x2 : Vec F S1024x128 .f32) (x3 : Vec F S1024x512 .bf16) (x4 : Vec F S1024x512 .bf16) (x5 : Vec F S1024x512 .bf16) (x6 : Vec F S1024x2048 .bf16) (x7 : Vec F S1024x1024 .bf16) (xs0 : Vec F S2304x1024 .f32) (y : Vec F S2304x1024 .bf16) (z : HbBuf0 (F := F) c hbM0_0) :
    { L : List (View.Piece (Elt F) S2304x1024 .f32) × HbBuf0 (F := F) c hbM0_0 //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare xs0 ∗ owns (c : Thread nD τ) arg12 fullShare y ∗ semVal ((c : Thread nD τ), SemLoc.dma 16) 0 ∗ hbPt0 c hbM0_0 z ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg11.view.loc (c : Thread nD τ) ↦[arg11.view.set]{fullShare} arg11.view.writes (Elt F) (harg11.unread xs0) L.1) ∗ (∃ d, owns (c : Thread nD τ) arg12 fullShare d) ∗ semVal ((c : Thread nD τ), SemLoc.dma 16) 0 ∗ hbPt0 c hbM0_0 L.2 ∗ (∃ W', owes (c : Thread nD τ) 0 W')) -∗ K ⟨⟩))
          ⊢ wp frame (wpE (defs₀ (F := F)) Variants.none c none) Set.univ (cc0_grad_w_in i arg2 harg2 arg3 harg3 arg4 harg4 arg5 harg5 arg6 harg6 arg7 harg7 arg8 harg8 arg9 harg9 (Memref.whole main_v0) (Memref.isWhole_whole _) arg11 harg11 arg12 harg12 cc0_scratch2) K } := by
  refine ⟨(?_, ?_), fun W K => ?run⟩
  case run =>
    simp only [cc0_grad_w_in_eq_skeleton]; unfold cc0_grad_w_in_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hq0, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs1; obtain rfl := harg11.eq_unread hfs0
    sl_exec (disch := first | sl_exact hc0 | sl_exact hc1 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    isplitl [HS1]
    · iexists _, _; isplitr; swap; · iexact HS1
      ipureintro; rfl
    isplitl [Hq0]; · iexact Hq0
    isplitl [Hh0]; · iexact Hh0
    iexists _; iexact HW

end Cert.GradInRun

end
-- ==== Proof.GradInValue.lean ====
module

public import proofs.«01_k».proof.Proof.GradInRunA
public import proofs.«01_k».proof.Proof.GradInRunB
public import proofs.«01_k».proof.Proof.GradInRunC
public import proofs.«01_k».proof.Proof.GradInRunD
public import proofs.«01_k».proof.Proof.GradInRunE
public import proofs.«01_k».proof.Proof.GradInRunF
public import proofs.«01_k».proof.Proof.MixPiece
public import proofs.«01_k».proof.Proof.GradSpec
public import Idealize.ShloMosaic.Lib.WritesUnit

@[expose] public section

set_option maxRecDepth 16384

/-!
# The kernel's gradient of the input projection's weights

The first four points of the grid gather the first 2304 rows of the result, the last four the other 2048.
After each point the accumulator holds the sums over the rows of the sequence seen so far.
-/

noncomputable section

open Idealize.ShloMosaic Idealize.ShloMosaic.TcCoe Idealize.ShloMosaic.Tactic
open Cert.GradIn Cert.GradIn.Gen Cert.MixSpec Cert.GradSpec

namespace Cert.GradInValue

section

variable {n m n' : ℕ} {e : EltTy} {sg : RefSig} {κ : Kind} {sp : Space} (v : View sg κ sp ⟨2, ![n, m]⟩ e) (f : v.ty.Contents (Elt Ideal))

/-- Rows the last piece written holds read as that piece. -/
theorem rows_on (r0 : ℕ) (h : ∀ a, (![r0, 0] : Fin 2 → ℕ) a + (![n', m] : Fin 2 → ℕ) a ≤ (![n, m] : Fin 2 → ℕ) a)
    (w : (⟨2, ![n', m]⟩ : Shape).Idx → Elt Ideal e) (L : List (View.Piece (Elt Ideal) ⟨2, ![n, m]⟩ e))
    (r : Fin n) (c : Fin m) (r' : Fin n') (hr : r.val = r0 + r'.val) :
    v.read (Elt Ideal) (v.writes (Elt Ideal) f (⟨Rect.unit (s := ⟨2, ![n, m]⟩) ![r0, 0] ![n', m] h, w⟩ :: L)) (ix2 r c) = w (ix2 r' c) :=
  View.read_writes_cons_rows_of_mem v f h w L (ix2 r c) (ix2 r' c) rfl hr rfl

/-- Other rows read as what was there before it. -/
theorem rows_off (r0 : ℕ) (h : ∀ a, (![r0, 0] : Fin 2 → ℕ) a + (![n', m] : Fin 2 → ℕ) a ≤ (![n, m] : Fin 2 → ℕ) a)
    (w : (⟨2, ![n', m]⟩ : Shape).Idx → Elt Ideal e) (L : List (View.Piece (Elt Ideal) ⟨2, ![n, m]⟩ e))
    (r : Fin n) (c : Fin m) (hr : r.val < r0 ∨ r0 + n' ≤ r.val) :
    v.read (Elt Ideal) (v.writes (Elt Ideal) f (⟨Rect.unit (s := ⟨2, ![n, m]⟩) ![r0, 0] ![n', m] h, w⟩ :: L)) (ix2 r c)
      = v.read (Elt Ideal) (v.writes (Elt Ideal) f L) (ix2 r c) :=
  View.read_writes_cons_rows_of_not_mem v f h w L (ix2 r c) rfl rfl hr

/-- Rows read back from pieces written. -/
theorem rows_cov (r0 : ℕ) (h : ∀ a, (![r0, 0] : Fin 2 → ℕ) a + (![n', m] : Fin 2 → ℕ) a ≤ (![n, m] : Fin 2 → ℕ) a)
    (L : List (View.Piece (Elt Ideal) ⟨2, ![n, m]⟩ e)) (r' : Fin n') (c : Fin m) (r : Fin n) (hr : r.val = r0 + r'.val) :
    v.readCov L (Rect.unit (s := ⟨2, ![n, m]⟩) ![r0, 0] ![n', m] h).toLoadRect (ix2 r' c)
      = v.read (Elt Ideal) (v.writes (Elt Ideal) v.junk L) (ix2 r c) :=
  (congrArg (fun g => g (ix2 r' c)) (View.readCov_eq_canon' v L (Rect.unit (s := ⟨2, ![n, m]⟩) ![r0, 0] ![n', m] h).toLoadRect)).trans
    ((congrArg (View.canon L) (show (Rect.unit (s := ⟨2, ![n, m]⟩) ![r0, 0] ![n', m] h).toLoadRect.idx (ix2 r' c) = ix2 r c from
        Cert.MixBlock.emb_ix2 r0 0 h r c r' c hr (Nat.zero_add _).symm)).trans
      (View.read_writes_junk_apply_eq_canon v (ix2 r c) L).symm)

theorem rows_ld (x : (⟨2, ![n, m]⟩ : Shape).Idx → Elt Ideal e) (r0 : ℕ)
    (h : ∀ a, (![r0, 0] : Fin 2 → ℕ) a + (![n', m] : Fin 2 → ℕ) a ≤ (![n, m] : Fin 2 → ℕ) a) (r' : Fin n') (c : Fin m) (r : Fin n) (hr : r.val = r0 + r'.val) :
    View.ld x (Rect.unit (s := ⟨2, ![n, m]⟩) ![r0, 0] ![n', m] h) (ix2 r' c) = x (ix2 r c) :=
  congrArg x (Cert.MixBlock.emb_ix2 r0 0 h r c r' c hr (Nat.zero_add _).symm)

end

theorem hz : (![0, 0] : Fin 2 → Nat) = fun _ => 0 := funext fun a => by fin_cases a <;> rfl

theorem ldw {n k : ℕ} {e : EltTy} (X : (⟨2, ![n, k]⟩ : Shape).Idx → Elt Ideal e)
    (inb : ∀ a, (![0, 0] : Fin 2 → ℕ) a + (![n, k] : Fin 2 → ℕ) a ≤ (![n, k] : Fin 2 → ℕ) a) :
    View.ld X (Rect.unit (s := ⟨2, ![n, k]⟩) ![0, 0] ![n, k] inb) = X :=
  View.ld_unit_zero (S := ⟨2, ![n, k]⟩) hz inb X

variable (m : (ℓ : Loc nD τ sig) → Buf (Elt Ideal) ℓ) (c : Dev nD) (t : Fin cfg0.N)

theorem pt_lt (t : Fin cfg0.N) : t.val < 8 := lt_of_lt_of_eq t.isLt N_0

/-! ## The arguments and their blocks -/

abbrev A0 : (⟨2, ![4096, 512]⟩ : Shape).Idx → EReal := m ((c.tc : Thread nD τ).loc main_arg0)

abbrev A1 : (⟨2, ![4096, 128]⟩ : Shape).Idx → EReal := m ((c.tc : Thread nD τ).loc main_arg1)

abbrev A2 : (⟨2, ![4096, 128]⟩ : Shape).Idx → EReal := m ((c.tc : Thread nD τ).loc main_arg2)

abbrev A3 : (⟨2, ![4096, 512]⟩ : Shape).Idx → EReal := m ((c.tc : Thread nD τ).loc main_arg3)

abbrev A4 : (⟨2, ![4096, 512]⟩ : Shape).Idx → EReal := m ((c.tc : Thread nD τ).loc main_arg4)

abbrev A5 : (⟨2, ![4096, 512]⟩ : Shape).Idx → EReal := m ((c.tc : Thread nD τ).loc main_arg5)

abbrev A6 : (⟨2, ![4096, 2048]⟩ : Shape).Idx → EReal := m ((c.tc : Thread nD τ).loc main_arg6)

abbrev A7 : (⟨2, ![4096, 1024]⟩ : Shape).Idx → EReal := m ((c.tc : Thread nD τ).loc main_arg7)

theorem index0 : ∀ t : Fin cfg0.N, t.val < 4 → win0_0.index t 0 = t.val ∧ win0_0.index t 1 = 0 :=
  (by decide +kernel : ∀ t : Fin grid0.N, t.val < 4 → win0_0.index t 0 = t.val ∧ win0_0.index t 1 = 0)

theorem block0 (h : t.val < 4) (s : Fin 1024) (r : Fin 512) :
    iblk m c 0 t (ix2 s r) = rd (A0 m c) (1024 * t.val + s.val) r.val := by
  have hi := index0 t h
  have ht := pt_lt t
  refine Eq.trans ?_ (rd_ix2 (a := 4096) (b := 512) (A0 m c) ⟨1024 * t.val + s.val, by have := s.isLt; omega⟩ r)
  unfold iblk
  rw [View.read_apply]
  show V m c main_arg0 _ = m (c.tc.loc main_arg0) _
  unfold V
  congr 1
  funext a
  apply Fin.ext
  match a with
  | ⟨0, _⟩ =>
    show win0_0.index t 0 * 1024 + 1 * s.val = 1024 * t.val + s.val
    rw [hi.1]; omega
  | ⟨1, _⟩ =>
    show win0_0.index t 1 * 512 + 1 * r.val = r.val
    rw [hi.2]; omega

theorem index1 : ∀ t : Fin cfg0.N, t.val < 4 → win0_1.index t 0 = t.val ∧ win0_1.index t 1 = 0 :=
  (by decide +kernel : ∀ t : Fin grid0.N, t.val < 4 → win0_1.index t 0 = t.val ∧ win0_1.index t 1 = 0)

theorem block1 (h : t.val < 4) (s : Fin 1024) (r : Fin 128) :
    iblk m c 1 t (ix2 s r) = rd (A1 m c) (1024 * t.val + s.val) r.val := by
  have hi := index1 t h
  have ht := pt_lt t
  refine Eq.trans ?_ (rd_ix2 (a := 4096) (b := 128) (A1 m c) ⟨1024 * t.val + s.val, by have := s.isLt; omega⟩ r)
  unfold iblk
  rw [View.read_apply]
  show V m c main_arg1 _ = m (c.tc.loc main_arg1) _
  unfold V
  congr 1
  funext a
  apply Fin.ext
  match a with
  | ⟨0, _⟩ =>
    show win0_1.index t 0 * 1024 + 1 * s.val = 1024 * t.val + s.val
    rw [hi.1]; omega
  | ⟨1, _⟩ =>
    show win0_1.index t 1 * 128 + 1 * r.val = r.val
    rw [hi.2]; omega

theorem index2 : ∀ t : Fin cfg0.N, t.val < 4 → win0_2.index t 0 = t.val ∧ win0_2.index t 1 = 0 :=
  (by decide +kernel : ∀ t : Fin grid0.N, t.val < 4 → win0_2.index t 0 = t.val ∧ win0_2.index t 1 = 0)

theorem block2 (h : t.val < 4) (s : Fin 1024) (r : Fin 128) :
    iblk m c 2 t (ix2 s r) = rd (A2 m c) (1024 * t.val + s.val) r.val := by
  have hi := index2 t h
  have ht := pt_lt t
  refine Eq.trans ?_ (rd_ix2 (a := 4096) (b := 128) (A2 m c) ⟨1024 * t.val + s.val, by have := s.isLt; omega⟩ r)
  unfold iblk
  rw [View.read_apply]
  show V m c main_arg2 _ = m (c.tc.loc main_arg2) _
  unfold V
  congr 1
  funext a
  apply Fin.ext
  match a with
  | ⟨0, _⟩ =>
    show win0_2.index t 0 * 1024 + 1 * s.val = 1024 * t.val + s.val
    rw [hi.1]; omega
  | ⟨1, _⟩ =>
    show win0_2.index t 1 * 128 + 1 * r.val = r.val
    rw [hi.2]; omega

theorem index3 : ∀ t : Fin cfg0.N, t.val < 4 → win0_3.index t 0 = t.val ∧ win0_3.index t 1 = 0 :=
  (by decide +kernel : ∀ t : Fin grid0.N, t.val < 4 → win0_3.index t 0 = t.val ∧ win0_3.index t 1 = 0)

theorem block3 (h : t.val < 4) (s : Fin 1024) (r : Fin 512) :
    iblk m c 3 t (ix2 s r) = rd (A3 m c) (1024 * t.val + s.val) r.val := by
  have hi := index3 t h
  have ht := pt_lt t
  refine Eq.trans ?_ (rd_ix2 (a := 4096) (b := 512) (A3 m c) ⟨1024 * t.val + s.val, by have := s.isLt; omega⟩ r)
  unfold iblk
  rw [View.read_apply]
  show V m c main_arg3 _ = m (c.tc.loc main_arg3) _
  unfold V
  congr 1
  funext a
  apply Fin.ext
  match a with
  | ⟨0, _⟩ =>
    show win0_3.index t 0 * 1024 + 1 * s.val = 1024 * t.val + s.val
    rw [hi.1]; omega
  | ⟨1, _⟩ =>
    show win0_3.index t 1 * 512 + 1 * r.val = r.val
    rw [hi.2]; omega

theorem index4 : ∀ t : Fin cfg0.N, t.val < 4 → win0_4.index t 0 = t.val ∧ win0_4.index t 1 = 0 :=
  (by decide +kernel : ∀ t : Fin grid0.N, t.val < 4 → win0_4.index t 0 = t.val ∧ win0_4.index t 1 = 0)

theorem block4 (h : t.val < 4) (s : Fin 1024) (r : Fin 512) :
    iblk m c 4 t (ix2 s r) = rd (A4 m c) (1024 * t.val + s.val) r.val := by
  have hi := index4 t h
  have ht := pt_lt t
  refine Eq.trans ?_ (rd_ix2 (a := 4096) (b := 512) (A4 m c) ⟨1024 * t.val + s.val, by have := s.isLt; omega⟩ r)
  unfold iblk
  rw [View.read_apply]
  show V m c main_arg4 _ = m (c.tc.loc main_arg4) _
  unfold V
  congr 1
  funext a
  apply Fin.ext
  match a with
  | ⟨0, _⟩ =>
    show win0_4.index t 0 * 1024 + 1 * s.val = 1024 * t.val + s.val
    rw [hi.1]; omega
  | ⟨1, _⟩ =>
    show win0_4.index t 1 * 512 + 1 * r.val = r.val
    rw [hi.2]; omega

theorem index5 : ∀ t : Fin cfg0.N, t.val < 4 → win0_5.index t 0 = t.val ∧ win0_5.index t 1 = 0 :=
  (by decide +kernel : ∀ t : Fin grid0.N, t.val < 4 → win0_5.index t 0 = t.val ∧ win0_5.index t 1 = 0)

theorem block5 (h : t.val < 4) (s : Fin 1024) (r : Fin 512) :
    iblk m c 5 t (ix2 s r) = rd (A5 m c) (1024 * t.val + s.val) r.val := by
  have hi := index5 t h
  have ht := pt_lt t
  refine Eq.trans ?_ (rd_ix2 (a := 4096) (b := 512) (A5 m c) ⟨1024 * t.val + s.val, by have := s.isLt; omega⟩ r)
  unfold iblk
  rw [View.read_apply]
  show V m c main_arg5 _ = m (c.tc.loc main_arg5) _
  unfold V
  congr 1
  funext a
  apply Fin.ext
  match a with
  | ⟨0, _⟩ =>
    show win0_5.index t 0 * 1024 + 1 * s.val = 1024 * t.val + s.val
    rw [hi.1]; omega
  | ⟨1, _⟩ =>
    show win0_5.index t 1 * 512 + 1 * r.val = r.val
    rw [hi.2]; omega

theorem index6 : ∀ t : Fin cfg0.N, 4 ≤ t.val → win0_6.index t 0 = (t.val - 4) ∧ win0_6.index t 1 = 0 :=
  (by decide +kernel : ∀ t : Fin grid0.N, 4 ≤ t.val → win0_6.index t 0 = (t.val - 4) ∧ win0_6.index t 1 = 0)

theorem block6 (h : 4 ≤ t.val) (s : Fin 1024) (r : Fin 2048) :
    iblk m c 6 t (ix2 s r) = rd (A6 m c) (1024 * (t.val - 4) + s.val) r.val := by
  have hi := index6 t h
  have ht := pt_lt t
  refine Eq.trans ?_ (rd_ix2 (a := 4096) (b := 2048) (A6 m c) ⟨1024 * (t.val - 4) + s.val, by have := s.isLt; omega⟩ r)
  unfold iblk
  rw [View.read_apply]
  show V m c main_arg6 _ = m (c.tc.loc main_arg6) _
  unfold V
  congr 1
  funext a
  apply Fin.ext
  match a with
  | ⟨0, _⟩ =>
    show win0_6.index t 0 * 1024 + 1 * s.val = 1024 * (t.val - 4) + s.val
    rw [hi.1]; omega
  | ⟨1, _⟩ =>
    show win0_6.index t 1 * 2048 + 1 * r.val = r.val
    rw [hi.2]; omega

theorem index7 : ∀ t : Fin cfg0.N, 0 ≤ t.val → win0_7.index t 0 = (t.val % 4) ∧ win0_7.index t 1 = 0 :=
  (by decide +kernel : ∀ t : Fin grid0.N, 0 ≤ t.val → win0_7.index t 0 = (t.val % 4) ∧ win0_7.index t 1 = 0)

theorem block7 (h : 0 ≤ t.val) (s : Fin 1024) (r : Fin 1024) :
    iblk m c 7 t (ix2 s r) = rd (A7 m c) (1024 * (t.val % 4) + s.val) r.val := by
  have hi := index7 t h
  have ht := pt_lt t
  refine Eq.trans ?_ (rd_ix2 (a := 4096) (b := 1024) (A7 m c) ⟨1024 * (t.val % 4) + s.val, by have := s.isLt; omega⟩ r)
  unfold iblk
  rw [View.read_apply]
  show V m c main_arg7 _ = m (c.tc.loc main_arg7) _
  unfold V
  congr 1
  funext a
  apply Fin.ext
  match a with
  | ⟨0, _⟩ =>
    show win0_7.index t 0 * 1024 + 1 * s.val = 1024 * (t.val % 4) + s.val
    rw [hi.1]; omega
  | ⟨1, _⟩ =>
    show win0_7.index t 1 * 1024 + 1 * r.val = r.val
    rw [hi.2]; omega

/-! ## One block's part of each product -/

theorem step0 (h : t.val < 4) (v : Vec Ideal S512x1024 .f32) (r : Fin 512) (k : Fin 1024)
    (hv : v (ix2 r k) = part (A0 m c) (A7 m c) (1024 * t.val) r.val k.val) :
    k0_pay8 (iblk m c 7 t) v (iblk m c 0 t) (ix2 r k)
      = part (A0 m c) (A7 m c) (1024 * t.val + 1024) r.val k.val := by
  have ht := pt_lt t
  rw [← part_add, ← hv]
  pointwise [k0_pay8]
  refine congrArg _ (Finset.sum_congr rfl fun s _ => ?_)
  rw [block0 m c t h s r, block7 m c t (Nat.zero_le _) s k, show t.val % 4 = t.val from by omega]

theorem step1 (h : t.val < 4) (v : Vec Ideal S128x1024 .f32) (r : Fin 128) (k : Fin 1024)
    (hv : v (ix2 r k) = part (A1 m c) (A7 m c) (1024 * t.val) r.val k.val) :
    k0_pay9 (iblk m c 7 t) v (iblk m c 1 t) (ix2 r k)
      = part (A1 m c) (A7 m c) (1024 * t.val + 1024) r.val k.val := by
  have ht := pt_lt t
  rw [← part_add, ← hv]
  pointwise [k0_pay9]
  refine congrArg _ (Finset.sum_congr rfl fun s _ => ?_)
  rw [block1 m c t h s r, block7 m c t (Nat.zero_le _) s k, show t.val % 4 = t.val from by omega]

theorem step2 (h : t.val < 4) (v : Vec Ideal S128x1024 .f32) (r : Fin 128) (k : Fin 1024)
    (hv : v (ix2 r k) = part (A2 m c) (A7 m c) (1024 * t.val) r.val k.val) :
    k0_pay10 (iblk m c 7 t) v (iblk m c 2 t) (ix2 r k)
      = part (A2 m c) (A7 m c) (1024 * t.val + 1024) r.val k.val := by
  have ht := pt_lt t
  rw [← part_add, ← hv]
  pointwise [k0_pay10]
  refine congrArg _ (Finset.sum_congr rfl fun s _ => ?_)
  rw [block2 m c t h s r, block7 m c t (Nat.zero_le _) s k, show t.val % 4 = t.val from by omega]

theorem step3 (h : t.val < 4) (v : Vec Ideal S512x1024 .f32) (r : Fin 512) (k : Fin 1024)
    (hv : v (ix2 r k) = part (A3 m c) (A7 m c) (1024 * t.val) r.val k.val) :
    k0_pay2 (k0_pay11 (iblk m c 7 t) v (iblk m c 3 t)) (ix2 r k)
      = part (A3 m c) (A7 m c) (1024 * t.val + 1024) r.val k.val := by
  have ht := pt_lt t
  rw [← part_add, ← hv]
  pointwise [k0_pay2, k0_pay11]
  refine congrArg _ (Finset.sum_congr rfl fun s _ => ?_)
  rw [block3 m c t h s r, block7 m c t (Nat.zero_le _) s k, show t.val % 4 = t.val from by omega]

theorem step4 (h : t.val < 4) (v : Vec Ideal S512x1024 .f32) (r : Fin 512) (k : Fin 1024)
    (hv : v (ix2 r k) = part (A4 m c) (A7 m c) (1024 * t.val) r.val k.val) :
    k0_pay3 (iblk m c 7 t) v (iblk m c 4 t) (ix2 r k)
      = part (A4 m c) (A7 m c) (1024 * t.val + 1024) r.val k.val := by
  have ht := pt_lt t
  rw [← part_add, ← hv]
  pointwise [k0_pay3]
  refine congrArg _ (Finset.sum_congr rfl fun s _ => ?_)
  rw [block4 m c t h s r, block7 m c t (Nat.zero_le _) s k, show t.val % 4 = t.val from by omega]

theorem step5 (h : t.val < 4) (v : Vec Ideal S512x1024 .f32) (r : Fin 512) (k : Fin 1024)
    (hv : v (ix2 r k) = part (A5 m c) (A7 m c) (1024 * t.val) r.val k.val) :
    k0_pay4 (iblk m c 7 t) v (iblk m c 5 t) (ix2 r k)
      = part (A5 m c) (A7 m c) (1024 * t.val + 1024) r.val k.val := by
  have ht := pt_lt t
  rw [← part_add, ← hv]
  pointwise [k0_pay4]
  refine congrArg _ (Finset.sum_congr rfl fun s _ => ?_)
  rw [block5 m c t h s r, block7 m c t (Nat.zero_le _) s k, show t.val % 4 = t.val from by omega]

theorem step6 (h : 4 ≤ t.val) (v : Vec Ideal S2048x1024 .f32) (r : Fin 2048) (k : Fin 1024)
    (hv : v (ix2 r k) = part (A6 m c) (A7 m c) (1024 * (t.val - 4)) r.val k.val) :
    k0_pay6 (iblk m c 7 t) v (iblk m c 6 t) (ix2 r k)
      = part (A6 m c) (A7 m c) (1024 * (t.val - 4) + 1024) r.val k.val := by
  have ht := pt_lt t
  rw [← part_add, ← hv]
  pointwise [k0_pay6]
  refine congrArg _ (Finset.sum_congr rfl fun s _ => ?_)
  rw [block6 m c t h s r, block7 m c t (Nat.zero_le _) s k, show t.val % 4 = t.val - 4 from by omega]

theorem start (r : Fin 2304) (k : Fin 1024) : (k0_pay1 (F := Ideal)) (ix2 r k) = 0 := by
  pointwise [k0_pay1]

/-- The result's rows, each a sum over the first `n` rows of the sequence. -/
def total (n r k : ℕ) : EReal :=
  if r < 512 then part (A0 m c) (A7 m c) n r k else
  if r < 640 then part (A1 m c) (A7 m c) n (r - 512) k else
  if r < 768 then part (A2 m c) (A7 m c) n (r - 640) k else
  if r < 1280 then part (A3 m c) (A7 m c) n (r - 768) k else
  if r < 1792 then part (A4 m c) (A7 m c) n (r - 1280) k else
  if r < 2304 then part (A5 m c) (A7 m c) n (r - 1792) k else
  part (A6 m c) (A7 m c) n (r - 2304) k

theorem total0 (n r k : ℕ) (h : r < 512) : total m c n (0 + r) k = part (A0 m c) (A7 m c) n r k := by
  unfold total
  rw [if_pos (by omega), Nat.zero_add]

theorem total1 (n r k : ℕ) (h : r < 128) : total m c n (512 + r) k = part (A1 m c) (A7 m c) n r k := by
  unfold total
  rw [if_neg (by omega), if_pos (by omega), Nat.add_sub_cancel_left]

theorem total2 (n r k : ℕ) (h : r < 128) : total m c n (640 + r) k = part (A2 m c) (A7 m c) n r k := by
  unfold total
  rw [if_neg (by omega), if_neg (by omega), if_pos (by omega), Nat.add_sub_cancel_left]

theorem total3 (n r k : ℕ) (h : r < 512) : total m c n (768 + r) k = part (A3 m c) (A7 m c) n r k := by
  unfold total
  rw [if_neg (by omega), if_neg (by omega), if_neg (by omega), if_pos (by omega), Nat.add_sub_cancel_left]

theorem total4 (n r k : ℕ) (h : r < 512) : total m c n (1280 + r) k = part (A4 m c) (A7 m c) n r k := by
  unfold total
  rw [if_neg (by omega), if_neg (by omega), if_neg (by omega), if_neg (by omega), if_pos (by omega), Nat.add_sub_cancel_left]

theorem total5 (n r k : ℕ) (h : r < 512) : total m c n (1792 + r) k = part (A5 m c) (A7 m c) n r k := by
  unfold total
  rw [if_neg (by omega), if_neg (by omega), if_neg (by omega), if_neg (by omega), if_neg (by omega), if_pos (by omega), Nat.add_sub_cancel_left]

theorem total6 (n r k : ℕ) (h : r < 2048) : total m c n (2304 + r) k = part (A6 m c) (A7 m c) n r k := by
  unfold total
  rw [if_neg (by omega), if_neg (by omega), if_neg (by omega), if_neg (by omega), if_neg (by omega), if_neg (by omega), Nat.add_sub_cancel_left]

section

variable {sg : RefSig} {κ : Kind} {sp : Space} (v : View sg κ sp S2304x1024 .f32) (f : v.ty.Contents (Elt Ideal)) (n : ℕ)

/-- Six pieces that each hold their rows' sums hold the first part of the result. -/
theorem six
    (w0 : Vec Ideal S512x1024 .f32) (e0 : ∀ (r : Fin 512) (k : Fin 1024), w0 (ix2 r k) = part (A0 m c) (A7 m c) n r.val k.val)
    (i0 : ∀ a, (![0, 0] : Fin 2 → ℕ) a + (![512, 1024] : Fin 2 → ℕ) a ≤ (![2304, 1024] : Fin 2 → ℕ) a)
    (w1 : Vec Ideal S128x1024 .f32) (e1 : ∀ (r : Fin 128) (k : Fin 1024), w1 (ix2 r k) = part (A1 m c) (A7 m c) n r.val k.val)
    (i1 : ∀ a, (![512, 0] : Fin 2 → ℕ) a + (![128, 1024] : Fin 2 → ℕ) a ≤ (![2304, 1024] : Fin 2 → ℕ) a)
    (w2 : Vec Ideal S128x1024 .f32) (e2 : ∀ (r : Fin 128) (k : Fin 1024), w2 (ix2 r k) = part (A2 m c) (A7 m c) n r.val k.val)
    (i2 : ∀ a, (![640, 0] : Fin 2 → ℕ) a + (![128, 1024] : Fin 2 → ℕ) a ≤ (![2304, 1024] : Fin 2 → ℕ) a)
    (w3 : Vec Ideal S512x1024 .f32) (e3 : ∀ (r : Fin 512) (k : Fin 1024), w3 (ix2 r k) = part (A3 m c) (A7 m c) n r.val k.val)
    (i3 : ∀ a, (![768, 0] : Fin 2 → ℕ) a + (![512, 1024] : Fin 2 → ℕ) a ≤ (![2304, 1024] : Fin 2 → ℕ) a)
    (w4 : Vec Ideal S512x1024 .f32) (e4 : ∀ (r : Fin 512) (k : Fin 1024), w4 (ix2 r k) = part (A4 m c) (A7 m c) n r.val k.val)
    (i4 : ∀ a, (![1280, 0] : Fin 2 → ℕ) a + (![512, 1024] : Fin 2 → ℕ) a ≤ (![2304, 1024] : Fin 2 → ℕ) a)
    (w5 : Vec Ideal S512x1024 .f32) (e5 : ∀ (r : Fin 512) (k : Fin 1024), w5 (ix2 r k) = part (A5 m c) (A7 m c) n r.val k.val)
    (i5 : ∀ a, (![1792, 0] : Fin 2 → ℕ) a + (![512, 1024] : Fin 2 → ℕ) a ≤ (![2304, 1024] : Fin 2 → ℕ) a)
    (L : List (View.Piece (Elt Ideal) S2304x1024 .f32)) (r : Fin 2304) (k : Fin 1024) :
    v.read (Elt Ideal) (v.writes (Elt Ideal) f (⟨Rect.unit (s := S2304x1024) ![1792, 0] ![512, 1024] i5, w5⟩ :: ⟨Rect.unit (s := S2304x1024) ![1280, 0] ![512, 1024] i4, w4⟩ :: ⟨Rect.unit (s := S2304x1024) ![768, 0] ![512, 1024] i3, w3⟩ :: ⟨Rect.unit (s := S2304x1024) ![640, 0] ![128, 1024] i2, w2⟩ :: ⟨Rect.unit (s := S2304x1024) ![512, 0] ![128, 1024] i1, w1⟩ :: ⟨Rect.unit (s := S2304x1024) ![0, 0] ![512, 1024] i0, w0⟩ :: L)) (ix2 r k)
      = total m c n r.val k.val := by
  have hr := r.isLt
  by_cases h5 : 1792 ≤ r.val
  · refine (rows_on v f 1792 i5 w5 _ r k ⟨r.val - 1792, by omega⟩ (by dsimp only; omega)).trans ((e5 _ k).trans ?_)
    refine (total5 m c n (r.val - 1792) k.val (by omega)).symm.trans (congrArg (fun x => total m c n x k.val) (by omega))
  refine (rows_off v f 1792 i5 w5 _ r k (by omega)).trans ?_
  by_cases h4 : 1280 ≤ r.val
  · refine (rows_on v f 1280 i4 w4 _ r k ⟨r.val - 1280, by omega⟩ (by dsimp only; omega)).trans ((e4 _ k).trans ?_)
    refine (total4 m c n (r.val - 1280) k.val (by omega)).symm.trans (congrArg (fun x => total m c n x k.val) (by omega))
  refine (rows_off v f 1280 i4 w4 _ r k (by omega)).trans ?_
  by_cases h3 : 768 ≤ r.val
  · refine (rows_on v f 768 i3 w3 _ r k ⟨r.val - 768, by omega⟩ (by dsimp only; omega)).trans ((e3 _ k).trans ?_)
    refine (total3 m c n (r.val - 768) k.val (by omega)).symm.trans (congrArg (fun x => total m c n x k.val) (by omega))
  refine (rows_off v f 768 i3 w3 _ r k (by omega)).trans ?_
  by_cases h2 : 640 ≤ r.val
  · refine (rows_on v f 640 i2 w2 _ r k ⟨r.val - 640, by omega⟩ (by dsimp only; omega)).trans ((e2 _ k).trans ?_)
    refine (total2 m c n (r.val - 640) k.val (by omega)).symm.trans (congrArg (fun x => total m c n x k.val) (by omega))
  refine (rows_off v f 640 i2 w2 _ r k (by omega)).trans ?_
  by_cases h1 : 512 ≤ r.val
  · refine (rows_on v f 512 i1 w1 _ r k ⟨r.val - 512, by omega⟩ (by dsimp only; omega)).trans ((e1 _ k).trans ?_)
    refine (total1 m c n (r.val - 512) k.val (by omega)).symm.trans (congrArg (fun x => total m c n x k.val) (by omega))
  refine (rows_off v f 512 i1 w1 _ r k (by omega)).trans ?_
  refine (rows_on v f 0 i0 w0 _ r k ⟨r.val, by omega⟩ (by dsimp only; omega)).trans ((e0 _ k).trans ?_)
  refine (total0 m c n r.val k.val (by omega)).symm.trans (congrArg (fun x => total m c n x k.val) (by omega))

end

/-! ## What the accumulator and the result hold after `n` points -/

def Q (n : ℕ) (a : Vec Ideal S2304x1024 .f32) : Prop :=
  (1 ≤ n → n ≤ 4 → ∀ (r : Fin 2304) (k : Fin 1024), a (ix2 r k) = total m c (1024 * n) r.val k.val)
    ∧ (5 ≤ n → ∀ (r : Fin 2304) (k : Fin 1024), r.val < 2048 → a (ix2 r k) = part (A6 m c) (A7 m c) (1024 * (n - 4)) r.val k.val)

def P (n : ℕ) (f : HbBuf0 (F := Ideal) c hbM0_0) : Prop :=
  (4 ≤ n → ∀ (r : Fin 4352) (k : Fin 1024), r.val < 2304 → f (ix2 r k) = total m c 4096 r.val k.val)
    ∧ (8 ≤ n → ∀ (r : Fin 4352) (k : Fin 1024), f (ix2 r k) = total m c 4096 r.val k.val)

/-! ## The body at a point -/

def atA (h0 : t.val % 4 = 0) (h1 : t.val < 4) (y : Vec Ideal S2304x1024 .bf16) (z : HbBuf0 (F := Ideal) c hbM0_0) :=
  Cert.GradInRun.runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    ((hcond0_0 t).mpr (by omega)) ((hcond0_1 t).mpr (by omega)) (fun h => absurd ((hcond0_2 t).mp h) (by omega)) (fun h => absurd ((hcond0_3 t).mp h) (by omega))
    (iblk m c 0 t) (iblk m c 1 t) (iblk m c 2 t) (iblk m c 3 t) (iblk m c 4 t) (iblk m c 5 t) (iblk m c 6 t) (iblk m c 7 t) y z

def atB (h0 : ¬t.val % 4 = 0 ∧ ¬t.val % 4 = 3) (h1 : t.val < 4) (x : Vec Ideal S2304x1024 .f32) (y : Vec Ideal S2304x1024 .bf16) (z : HbBuf0 (F := Ideal) c hbM0_0) :=
  Cert.GradInRun.runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (fun h => absurd ((hcond0_0 t).mp h) (by omega)) ((hcond0_1 t).mpr (by omega)) (fun h => absurd ((hcond0_2 t).mp h) (by omega)) (fun h => absurd ((hcond0_3 t).mp h) (by omega))
    (iblk m c 0 t) (iblk m c 1 t) (iblk m c 2 t) (iblk m c 3 t) (iblk m c 4 t) (iblk m c 5 t) (iblk m c 6 t) (iblk m c 7 t) x y z

def atC (h0 : t.val % 4 = 3) (h1 : t.val < 4) (x : Vec Ideal S2304x1024 .f32) (y : Vec Ideal S2304x1024 .bf16) (z : HbBuf0 (F := Ideal) c hbM0_0) :=
  Cert.GradInRun.runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (fun h => absurd ((hcond0_0 t).mp h) (by omega)) ((hcond0_1 t).mpr (by omega)) ((hcond0_2 t).mpr (by omega)) (fun h => absurd ((hcond0_3 t).mp h) (by omega))
    (iblk m c 0 t) (iblk m c 1 t) (iblk m c 2 t) (iblk m c 3 t) (iblk m c 4 t) (iblk m c 5 t) (iblk m c 6 t) (iblk m c 7 t) x y z

def atD (h0 : t.val % 4 = 0) (h1 : 4 ≤ t.val) (y : Vec Ideal S2304x1024 .bf16) (z : HbBuf0 (F := Ideal) c hbM0_0) :=
  Cert.GradInRun.runD (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    ((hcond0_0 t).mpr (by omega)) (fun h => absurd ((hcond0_1 t).mp h) (by omega)) ((hcond0_3 t).mpr (by omega)) (fun h => absurd ((hcond0_4 t).mp h) (by omega))
    (iblk m c 0 t) (iblk m c 1 t) (iblk m c 2 t) (iblk m c 3 t) (iblk m c 4 t) (iblk m c 5 t) (iblk m c 6 t) (iblk m c 7 t) y z

def atE (h0 : ¬t.val % 4 = 0 ∧ ¬t.val % 4 = 3) (h1 : 4 ≤ t.val) (x : Vec Ideal S2304x1024 .f32) (y : Vec Ideal S2304x1024 .bf16) (z : HbBuf0 (F := Ideal) c hbM0_0) :=
  Cert.GradInRun.runE (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (fun h => absurd ((hcond0_0 t).mp h) (by omega)) (fun h => absurd ((hcond0_1 t).mp h) (by omega)) ((hcond0_3 t).mpr (by omega)) (fun h => absurd ((hcond0_4 t).mp h) (by omega))
    (iblk m c 0 t) (iblk m c 1 t) (iblk m c 2 t) (iblk m c 3 t) (iblk m c 4 t) (iblk m c 5 t) (iblk m c 6 t) (iblk m c 7 t) x y z

def atF (h0 : t.val % 4 = 3) (h1 : 4 ≤ t.val) (x : Vec Ideal S2304x1024 .f32) (y : Vec Ideal S2304x1024 .bf16) (z : HbBuf0 (F := Ideal) c hbM0_0) :=
  Cert.GradInRun.runF (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (fun h => absurd ((hcond0_0 t).mp h) (by omega)) (fun h => absurd ((hcond0_1 t).mp h) (by omega)) ((hcond0_3 t).mpr (by omega)) ((hcond0_4 t).mpr (by omega))
    (iblk m c 0 t) (iblk m c 1 t) (iblk m c 2 t) (iblk m c 3 t) (iblk m c 4 t) (iblk m c 5 t) (iblk m c 6 t) (iblk m c 7 t) x y z

set_option maxHeartbeats 1600000

end Cert.GradInValue
-- ==== Proof.GradInPoint.lean ====
module

public import proofs.«01_k».proof.Proof.GradInValue

@[expose] public section

set_option maxRecDepth 16384

/-!
# What a point of the grid leaves
-/

noncomputable section

open Idealize.ShloMosaic Idealize.ShloMosaic.TcCoe Idealize.ShloMosaic.Tactic
open Cert.GradIn Cert.GradIn.Gen Cert.MixSpec Cert.GradSpec

namespace Cert.GradInValue

variable (m : (ℓ : Loc nD τ sig) → Buf (Elt Ideal) ℓ) (c : Dev nD) (t : Fin cfg0.N)

set_option maxHeartbeats 1600000

theorem sumsA (h0 : t.val % 4 = 0) (h1 : t.val < 4) (y : Vec Ideal S2304x1024 .bf16) (z : HbBuf0 (F := Ideal) c hbM0_0)
    (f : scM0_0.view.ty.Contents (Elt Ideal)) (r : Fin 2304) (k : Fin 1024) :
    scM0_0.view.read (Elt Ideal) (scM0_0.view.writes (Elt Ideal) f (atA m c t h0 h1 y z).1) (ix2 r k) = total m c (1024 * t.val + 1024) r.val k.val := by
  unfold atA Cert.GradInRun.runA
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread, ldw]
  refine six m c _ f _
    _ (fun r k => step0 m c t h1 _ r k ?_) _
    _ (fun r k => step1 m c t h1 _ r k ?_) _
    _ (fun r k => step2 m c t h1 _ r k ?_) _
    _ (fun r k => step3 m c t h1 _ r k ?_) _
    _ (fun r k => step4 m c t h1 _ r k ?_) _
    _ (fun r k => step5 m c t h1 _ r k ?_) _
    _ r k
  · have hr := r.isLt
    rw [show t.val = 0 from by have := pt_lt t; omega, part_zero]
    refine (rows_cov _ 0 _ _ r k ⟨0 + r.val, by omega⟩ rfl).trans ?_
    exact (rows_on _ _ 0 _ _ _ _ k _ (Nat.zero_add _).symm).trans (start _ k)
  · have hr := r.isLt
    rw [show t.val = 0 from by have := pt_lt t; omega, part_zero]
    refine (rows_cov _ 512 _ _ r k ⟨512 + r.val, by omega⟩ rfl).trans ?_
    refine (rows_off _ _ 0 _ _ _ _ k (by dsimp only; omega)).trans ?_
    exact (rows_on _ _ 0 _ _ _ _ k _ (Nat.zero_add _).symm).trans (start _ k)
  · have hr := r.isLt
    rw [show t.val = 0 from by have := pt_lt t; omega, part_zero]
    refine (rows_cov _ 640 _ _ r k ⟨640 + r.val, by omega⟩ rfl).trans ?_
    refine (rows_off _ _ 512 _ _ _ _ k (by dsimp only; omega)).trans ?_
    refine (rows_off _ _ 0 _ _ _ _ k (by dsimp only; omega)).trans ?_
    exact (rows_on _ _ 0 _ _ _ _ k _ (Nat.zero_add _).symm).trans (start _ k)
  · have hr := r.isLt
    rw [show t.val = 0 from by have := pt_lt t; omega, part_zero]
    refine (rows_cov _ 768 _ _ r k ⟨768 + r.val, by omega⟩ rfl).trans ?_
    refine (rows_off _ _ 640 _ _ _ _ k (by dsimp only; omega)).trans ?_
    refine (rows_off _ _ 512 _ _ _ _ k (by dsimp only; omega)).trans ?_
    refine (rows_off _ _ 0 _ _ _ _ k (by dsimp only; omega)).trans ?_
    exact (rows_on _ _ 0 _ _ _ _ k _ (Nat.zero_add _).symm).trans (start _ k)
  · have hr := r.isLt
    rw [show t.val = 0 from by have := pt_lt t; omega, part_zero]
    refine (rows_cov _ 1280 _ _ r k ⟨1280 + r.val, by omega⟩ rfl).trans ?_
    refine (rows_off _ _ 768 _ _ _ _ k (by dsimp only; omega)).trans ?_
    refine (rows_off _ _ 640 _ _ _ _ k (by dsimp only; omega)).trans ?_
    refine (rows_off _ _ 512 _ _ _ _ k (by dsimp only; omega)).trans ?_
    refine (rows_off _ _ 0 _ _ _ _ k (by dsimp only; omega)).trans ?_
    exact (rows_on _ _ 0 _ _ _ _ k _ (Nat.zero_add _).symm).trans (start _ k)
  · have hr := r.isLt
    rw [show t.val = 0 from by have := pt_lt t; omega, part_zero]
    refine (rows_cov _ 1792 _ _ r k ⟨1792 + r.val, by omega⟩ rfl).trans ?_
    refine (rows_off _ _ 1280 _ _ _ _ k (by dsimp only; omega)).trans ?_
    refine (rows_off _ _ 768 _ _ _ _ k (by dsimp only; omega)).trans ?_
    refine (rows_off _ _ 640 _ _ _ _ k (by dsimp only; omega)).trans ?_
    refine (rows_off _ _ 512 _ _ _ _ k (by dsimp only; omega)).trans ?_
    refine (rows_off _ _ 0 _ _ _ _ k (by dsimp only; omega)).trans ?_
    exact (rows_on _ _ 0 _ _ _ _ k _ (Nat.zero_add _).symm).trans (start _ k)

theorem sumsB (h0 : ¬t.val % 4 = 0 ∧ ¬t.val % 4 = 3) (h1 : t.val < 4) (x : Vec Ideal S2304x1024 .f32) (hx : Q m c t.val x) (y : Vec Ideal S2304x1024 .bf16) (z : HbBuf0 (F := Ideal) c hbM0_0)
    (f : scM0_0.view.ty.Contents (Elt Ideal)) (r : Fin 2304) (k : Fin 1024) :
    scM0_0.view.read (Elt Ideal) (scM0_0.view.writes (Elt Ideal) f (atB m c t h0 h1 x y z).1) (ix2 r k) = total m c (1024 * t.val + 1024) r.val k.val := by
  unfold atB Cert.GradInRun.runB
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread, ldw]
  refine six m c _ f _
    _ (fun r k => step0 m c t h1 _ r k ?_) _
    _ (fun r k => step1 m c t h1 _ r k ?_) _
    _ (fun r k => step2 m c t h1 _ r k ?_) _
    _ (fun r k => step3 m c t h1 _ r k ?_) _
    _ (fun r k => step4 m c t h1 _ r k ?_) _
    _ (fun r k => step5 m c t h1 _ r k ?_) _
    _ r k
  · have hr := r.isLt
    refine (rows_ld x 0 _ r k ⟨0 + r.val, by omega⟩ rfl).trans ?_
    exact (hx.1 (by omega) (by omega) _ k).trans (total0 m c _ r.val k.val hr)
  · have hr := r.isLt
    refine (rows_ld x 512 _ r k ⟨512 + r.val, by omega⟩ rfl).trans ?_
    exact (hx.1 (by omega) (by omega) _ k).trans (total1 m c _ r.val k.val hr)
  · have hr := r.isLt
    refine (rows_ld x 640 _ r k ⟨640 + r.val, by omega⟩ rfl).trans ?_
    exact (hx.1 (by omega) (by omega) _ k).trans (total2 m c _ r.val k.val hr)
  · have hr := r.isLt
    refine (rows_ld x 768 _ r k ⟨768 + r.val, by omega⟩ rfl).trans ?_
    exact (hx.1 (by omega) (by omega) _ k).trans (total3 m c _ r.val k.val hr)
  · have hr := r.isLt
    refine (rows_ld x 1280 _ r k ⟨1280 + r.val, by omega⟩ rfl).trans ?_
    exact (hx.1 (by omega) (by omega) _ k).trans (total4 m c _ r.val k.val hr)
  · have hr := r.isLt
    refine (rows_ld x 1792 _ r k ⟨1792 + r.val, by omega⟩ rfl).trans ?_
    exact (hx.1 (by omega) (by omega) _ k).trans (total5 m c _ r.val k.val hr)

theorem sumsC (h0 : t.val % 4 = 3) (h1 : t.val < 4) (x : Vec Ideal S2304x1024 .f32) (hx : Q m c t.val x) (y : Vec Ideal S2304x1024 .bf16) (z : HbBuf0 (F := Ideal) c hbM0_0)
    (f : scM0_0.view.ty.Contents (Elt Ideal)) (r : Fin 2304) (k : Fin 1024) :
    scM0_0.view.read (Elt Ideal) (scM0_0.view.writes (Elt Ideal) f (atC m c t h0 h1 x y z).1.1) (ix2 r k) = total m c (1024 * t.val + 1024) r.val k.val := by
  unfold atC Cert.GradInRun.runC
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread, ldw]
  refine six m c _ f _
    _ (fun r k => step0 m c t h1 _ r k ?_) _
    _ (fun r k => step1 m c t h1 _ r k ?_) _
    _ (fun r k => step2 m c t h1 _ r k ?_) _
    _ (fun r k => step3 m c t h1 _ r k ?_) _
    _ (fun r k => step4 m c t h1 _ r k ?_) _
    _ (fun r k => step5 m c t h1 _ r k ?_) _
    _ r k
  · have hr := r.isLt
    refine (rows_ld x 0 _ r k ⟨0 + r.val, by omega⟩ rfl).trans ?_
    exact (hx.1 (by omega) (by omega) _ k).trans (total0 m c _ r.val k.val hr)
  · have hr := r.isLt
    refine (rows_ld x 512 _ r k ⟨512 + r.val, by omega⟩ rfl).trans ?_
    exact (hx.1 (by omega) (by omega) _ k).trans (total1 m c _ r.val k.val hr)
  · have hr := r.isLt
    refine (rows_ld x 640 _ r k ⟨640 + r.val, by omega⟩ rfl).trans ?_
    exact (hx.1 (by omega) (by omega) _ k).trans (total2 m c _ r.val k.val hr)
  · have hr := r.isLt
    refine (rows_ld x 768 _ r k ⟨768 + r.val, by omega⟩ rfl).trans ?_
    exact (hx.1 (by omega) (by omega) _ k).trans (total3 m c _ r.val k.val hr)
  · have hr := r.isLt
    refine (rows_ld x 1280 _ r k ⟨1280 + r.val, by omega⟩ rfl).trans ?_
    exact (hx.1 (by omega) (by omega) _ k).trans (total4 m c _ r.val k.val hr)
  · have hr := r.isLt
    refine (rows_ld x 1792 _ r k ⟨1792 + r.val, by omega⟩ rfl).trans ?_
    exact (hx.1 (by omega) (by omega) _ k).trans (total5 m c _ r.val k.val hr)

theorem sumsD (h0 : t.val % 4 = 0) (h1 : 4 ≤ t.val) (y : Vec Ideal S2304x1024 .bf16) (z : HbBuf0 (F := Ideal) c hbM0_0)
    (f : scM0_0.view.ty.Contents (Elt Ideal)) (r : Fin 2304) (k : Fin 1024) (hr : r.val < 2048) :
    scM0_0.view.read (Elt Ideal) (scM0_0.view.writes (Elt Ideal) f (atD m c t h0 h1 y z).1) (ix2 r k)
      = part (A6 m c) (A7 m c) (1024 * (t.val - 4) + 1024) r.val k.val := by
  unfold atD Cert.GradInRun.runD
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread, ldw]
  refine (rows_on _ _ 0 _ _ _ r k ⟨r.val, hr⟩ (Nat.zero_add _).symm).trans (step6 m c t h1 _ ⟨r.val, hr⟩ k ?_)
  rw [show t.val - 4 = 0 from by have := pt_lt t; omega, part_zero]
  refine (rows_cov _ 0 _ _ ⟨r.val, hr⟩ k r (Nat.zero_add _).symm).trans ?_
  exact (rows_on _ _ 0 _ _ _ _ k r (Nat.zero_add _).symm).trans (start r k)

theorem sumsE (h0 : ¬t.val % 4 = 0 ∧ ¬t.val % 4 = 3) (h1 : 4 ≤ t.val) (x : Vec Ideal S2304x1024 .f32) (hx : Q m c t.val x) (y : Vec Ideal S2304x1024 .bf16) (z : HbBuf0 (F := Ideal) c hbM0_0)
    (f : scM0_0.view.ty.Contents (Elt Ideal)) (r : Fin 2304) (k : Fin 1024) (hr : r.val < 2048) :
    scM0_0.view.read (Elt Ideal) (scM0_0.view.writes (Elt Ideal) f (atE m c t h0 h1 x y z).1) (ix2 r k)
      = part (A6 m c) (A7 m c) (1024 * (t.val - 4) + 1024) r.val k.val := by
  unfold atE Cert.GradInRun.runE
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread, ldw]
  refine (rows_on _ _ 0 _ _ _ r k ⟨r.val, hr⟩ (Nat.zero_add _).symm).trans (step6 m c t h1 _ ⟨r.val, hr⟩ k ?_)
  refine (rows_ld x 0 _ ⟨r.val, hr⟩ k r (Nat.zero_add _).symm).trans ?_
  exact hx.2 (by omega) r k hr

theorem sumsF (h0 : t.val % 4 = 3) (h1 : 4 ≤ t.val) (x : Vec Ideal S2304x1024 .f32) (hx : Q m c t.val x) (y : Vec Ideal S2304x1024 .bf16) (z : HbBuf0 (F := Ideal) c hbM0_0)
    (f : scM0_0.view.ty.Contents (Elt Ideal)) (r : Fin 2304) (k : Fin 1024) (hr : r.val < 2048) :
    scM0_0.view.read (Elt Ideal) (scM0_0.view.writes (Elt Ideal) f (atF m c t h0 h1 x y z).1.1) (ix2 r k)
      = part (A6 m c) (A7 m c) (1024 * (t.val - 4) + 1024) r.val k.val := by
  unfold atF Cert.GradInRun.runF
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread, ldw]
  refine (rows_on _ _ 0 _ _ _ r k ⟨r.val, hr⟩ (Nat.zero_add _).symm).trans (step6 m c t h1 _ ⟨r.val, hr⟩ k ?_)
  refine (rows_ld x 0 _ ⟨r.val, hr⟩ k r (Nat.zero_add _).symm).trans ?_
  exact hx.2 (by omega) r k hr

end Cert.GradInValue
-- ==== Proof.GradInCopy.lean ====
module

public import proofs.«01_k».proof.Proof.GradInValue

@[expose] public section

set_option maxRecDepth 16384

/-!
# The copy of a block of rows into the result
-/

noncomputable section

open Idealize.ShloMosaic Idealize.ShloMosaic.TcCoe Idealize.ShloMosaic.Tactic
open Cert.GradIn Cert.GradIn.Gen Cert.MixSpec Cert.GradSpec

namespace Cert.GradInValue

variable (c : Dev nD)

theorem slice_same {n' : ℕ} (h : ∀ a, (![0, 0] : Fin 2 → ℕ) a + (![n', 1024] : Fin 2 → ℕ) a ≤ (![2304, 1024] : Fin 2 → ℕ) a)
    (v : View sig .tc .vmem S2304x1024 .bf16) (f : v.ty.Contents (Elt Ideal)) (w : (⟨2, ![n', 1024]⟩ : Shape).Idx → Elt Ideal .bf16) :
    View.read (Elt Ideal) (v.slice (Rect.unit (s := S2304x1024) ![0, 0] ![n', 1024] h))
        (v.writes (Elt Ideal) f [⟨Rect.unit (s := S2304x1024) ![0, 0] ![n', 1024] h, w⟩]) = w :=
  funext fun x => View.read_writes_cons_emb v f (Rect.unit (s := S2304x1024) ![0, 0] ![n', 1024] h) w [] x

theorem put_on (z : HbBuf0 (F := Ideal) c hbM0_0) {n' o : ℕ}
    (h : ∀ a, (![o, 0] : Fin 2 → ℕ) a + (![n', 1024] : Fin 2 → ℕ) a ≤ (![4352, 1024] : Fin 2 → ℕ) a)
    (g : (⟨2, ![n', 1024]⟩ : Shape).Idx → Elt Ideal .bf16) (r : Fin 4352) (k : Fin 1024) (r' : Fin n') (hr : r.val = o + r'.val) :
    (View.whole main_v0).writes (Elt Ideal) z [⟨Rect.unit (s := S4352x1024) ![o, 0] ![n', 1024] h, g⟩] (ix2 r k) = g (ix2 r' k) :=
  (congrFun (View.read_whole (Val := Elt Ideal) main_v0 ((View.whole main_v0).writes (Elt Ideal) z [⟨Rect.unit (s := S4352x1024) ![o, 0] ![n', 1024] h, g⟩])).symm (ix2 r k)).trans
    (rows_on (View.whole main_v0) z o h g [] r k r' hr)

theorem put_off (z : HbBuf0 (F := Ideal) c hbM0_0) {n' o : ℕ}
    (h : ∀ a, (![o, 0] : Fin 2 → ℕ) a + (![n', 1024] : Fin 2 → ℕ) a ≤ (![4352, 1024] : Fin 2 → ℕ) a)
    (g : (⟨2, ![n', 1024]⟩ : Shape).Idx → Elt Ideal .bf16) (r : Fin 4352) (k : Fin 1024) (hr : r.val < o ∨ o + n' ≤ r.val) :
    (View.whole main_v0).writes (Elt Ideal) z [⟨Rect.unit (s := S4352x1024) ![o, 0] ![n', 1024] h, g⟩] (ix2 r k) = z (ix2 r k) :=
  (congrFun (View.read_whole (Val := Elt Ideal) main_v0 ((View.whole main_v0).writes (Elt Ideal) z [⟨Rect.unit (s := S4352x1024) ![o, 0] ![n', 1024] h, g⟩])).symm (ix2 r k)).trans
    (rows_off (View.whole main_v0) z o h g [] r k hr)

/-- A block of rows written to the staging buffer and copied from there into the result. -/
theorem copied (z : HbBuf0 (F := Ideal) c hbM0_0) {n' o : ℕ}
    (h : ∀ a, (![o, 0] : Fin 2 → ℕ) a + (![n', 1024] : Fin 2 → ℕ) a ≤ (![4352, 1024] : Fin 2 → ℕ) a)
    (h' : ∀ a, (![0, 0] : Fin 2 → ℕ) a + (![n', 1024] : Fin 2 → ℕ) a ≤ (![2304, 1024] : Fin 2 → ℕ) a)
    (f : (View.whole cc0_scratch1).ty.Contents (Elt Ideal)) (w : (⟨2, ![n', 1024]⟩ : Shape).Idx → Elt Ideal .bf16)
    (r : Fin 4352) (k : Fin 1024) (r' : Fin n') (hr : r.val = o + r'.val) :
    (View.whole main_v0).writes (Elt Ideal) z [⟨Rect.unit (s := S4352x1024) ![o, 0] ![n', 1024] h,
        ReadAs.same.apply (View.read (Elt Ideal) ((View.whole cc0_scratch1).slice (Rect.unit (s := S2304x1024) ![0, 0] ![n', 1024] h'))
          ((View.whole cc0_scratch1).writes (Elt Ideal) f [⟨Rect.unit (s := S2304x1024) ![0, 0] ![n', 1024] h', w⟩]))⟩] (ix2 r k) = w (ix2 r' k) :=
  (put_on c z h _ r k r' hr).trans (congrFun (slice_same h' (View.whole cc0_scratch1) f w) (ix2 r' k))

end Cert.GradInValue
-- ==== Proof.GradInRes.lean ====
module

public import proofs.«01_k».proof.Proof.GradInPoint
public import proofs.«01_k».proof.Proof.GradInCopy

@[expose] public section

set_option maxRecDepth 16384

/-!
# What the last point of each half leaves in the result
-/

noncomputable section

open Idealize.ShloMosaic Idealize.ShloMosaic.TcCoe Idealize.ShloMosaic.Tactic
open Cert.GradIn Cert.GradIn.Gen Cert.MixSpec Cert.GradSpec

namespace Cert.GradInValue

variable (m : (ℓ : Loc nD τ sig) → Buf (Elt Ideal) ℓ) (c : Dev nD) (t : Fin cfg0.N)

set_option maxHeartbeats 400000

theorem pay5_at (v : Vec Ideal S2304x1024 .f32) (r : Fin 2304) (k : Fin 1024) : k0_pay5 (F := Ideal) v (ix2 r k) = v (ix2 r k) := by
  pointwise [k0_pay5]

theorem pay7_at (v : Vec Ideal S2048x1024 .f32) (r : Fin 2048) (k : Fin 1024) : k0_pay7 (F := Ideal) v (ix2 r k) = v (ix2 r k) := by
  pointwise [k0_pay7]

theorem resC (h0 : t.val % 4 = 3) (h1 : t.val < 4) (x : Vec Ideal S2304x1024 .f32) (y : Vec Ideal S2304x1024 .bf16) (z : HbBuf0 (F := Ideal) c hbM0_0)
    (r : Fin 4352) (k : Fin 1024) (hr : r.val < 2304) :
    (atC m c t h0 h1 x y z).1.2 (ix2 r k) = scM0_0.view.read (Elt Ideal) (scM0_0.view.writes (Elt Ideal) scM0_0.view.junk (atC m c t h0 h1 x y z).1.1) (ix2 ⟨r.val, hr⟩ k) := by
  unfold atC Cert.GradInRun.runC
  dsimp only
  sl_unfold_words
  refine (copied c z _ _ _ _ r k ⟨r.val, hr⟩ (Nat.zero_add _).symm).trans ?_
  refine (pay5_at _ _ _).trans ?_
  exact rows_cov scM0_0.view 0 _ _ ⟨r.val, hr⟩ k ⟨r.val, hr⟩ (Nat.zero_add _).symm

theorem resF (h0 : t.val % 4 = 3) (h1 : 4 ≤ t.val) (x : Vec Ideal S2304x1024 .f32) (y : Vec Ideal S2304x1024 .bf16) (z : HbBuf0 (F := Ideal) c hbM0_0)
    (r : Fin 4352) (k : Fin 1024) (r' : Fin 2048) (s : Fin 2304) (hr : r.val = 2304 + r'.val) (hs : s.val = r'.val) :
    (atF m c t h0 h1 x y z).1.2 (ix2 r k) = scM0_0.view.read (Elt Ideal) (scM0_0.view.writes (Elt Ideal) scM0_0.view.junk (atF m c t h0 h1 x y z).1.1) (ix2 s k) := by
  unfold atF Cert.GradInRun.runF
  dsimp only
  sl_unfold_words
  refine (copied c z _ _ _ _ r k r' hr).trans ?_
  refine (pay7_at _ _ _).trans ?_
  exact rows_cov scM0_0.view 0 _ _ r' k s (hs.trans (Nat.zero_add _).symm)

theorem resultC (h0 : t.val % 4 = 3) (h1 : t.val < 4) (x : Vec Ideal S2304x1024 .f32) (hx : Q m c t.val x) (y : Vec Ideal S2304x1024 .bf16) (z : HbBuf0 (F := Ideal) c hbM0_0)
    (r : Fin 4352) (k : Fin 1024) (hr : r.val < 2304) :
    (atC m c t h0 h1 x y z).1.2 (ix2 r k) = total m c 4096 r.val k.val := by
  refine (resC m c t h0 h1 x y z r k hr).trans ((sumsC m c t h0 h1 x hx y z _ ⟨r.val, hr⟩ k).trans ?_)
  rw [show 1024 * t.val + 1024 = 4096 from by omega]

theorem keptF (h0 : t.val % 4 = 3) (h1 : 4 ≤ t.val) (x : Vec Ideal S2304x1024 .f32) (y : Vec Ideal S2304x1024 .bf16) (z : HbBuf0 (F := Ideal) c hbM0_0)
    (r : Fin 4352) (k : Fin 1024) (hr : r.val < 2304) :
    (atF m c t h0 h1 x y z).1.2 (ix2 r k) = z (ix2 r k) := by
  unfold atF Cert.GradInRun.runF
  dsimp only
  sl_unfold_words
  exact put_off c z _ _ r k (Or.inl hr)

theorem resultF (h0 : t.val % 4 = 3) (h1 : 4 ≤ t.val) (x : Vec Ideal S2304x1024 .f32) (hx : Q m c t.val x) (y : Vec Ideal S2304x1024 .bf16) (z : HbBuf0 (F := Ideal) c hbM0_0)
    (hz : P m c t.val z) (r : Fin 4352) (k : Fin 1024) :
    (atF m c t h0 h1 x y z).1.2 (ix2 r k) = total m c 4096 r.val k.val := by
  have hN := pt_lt t
  have hr4 := r.isLt
  by_cases hr : r.val < 2304
  · exact (keptF m c t h0 h1 x y z r k hr).trans (hz.1 (by omega) r k hr)
  refine (resF m c t h0 h1 x y z r k ⟨r.val - 2304, by omega⟩ ⟨r.val - 2304, by omega⟩ (by dsimp only; omega) rfl).trans
    ((sumsF m c t h0 h1 x hx y z _ ⟨r.val - 2304, by omega⟩ k (by dsimp only; omega)).trans ?_)
  dsimp only
  rw [show 1024 * (t.val - 4) + 1024 = 4096 from by omega]
  refine (total6 m c 4096 (r.val - 2304) k.val (by omega)).symm.trans (congrArg (fun x => total m c 4096 x k.val) (by omega))

end Cert.GradInValue
-- ==== Proof.GradInInv.lean ====
module

public import proofs.«01_k».proof.Proof.GradInRes
public import proofs.«01_k».proof.Proof.Gen.GradIn.Frame
public import Idealize.ShloMosaic.Lib.Pipeline.FrameValue

@[expose] public section

set_option maxRecDepth 16384

/-!
# The kernel's run, with what it leaves in its result

The result is written by the body's own copies, so the invariant between two points says what the accumulator
holds and which rows of the result are done.
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GradIn Cert.GradIn.Gen Cert.MixSpec Cert.GradSpec

namespace Cert.GradInValue

local notation "𝕄" => MT nD τ sig Unit (Elt Ideal) ℕ (Pipeline.UD sig nD τ) ℕ

variable (m : (ℓ : Loc nD τ sig) → Buf (Elt Ideal) ℓ) (ρ : Dev nD → PrngReg) (c : Dev nD)

/-- What holds before point `n`. -/
def Inv (n : ℕ) : sProp 𝕄 :=
  iprop(iprop((∃ a, ⌜Q m c n a⌝ ∗ owns (c : Thread nD τ) scM0_0 fullShare a) ∗ (∃ d, owns (c : Thread nD τ) scM0_1 fullShare d)) ∗ (∃ r, prngReg c r) ∗ iprop(semVal ((c : Thread nD τ), SemLoc.dma 16) 0) ∗ iprop(emp) ∗ iprop(∃ f, ⌜P m c n f⌝ ∗ hbPt0 c hbM0_0 f))

def dat (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ t := Inv m c t.val
  q _ := fullShare
  owed _ := 0

theorem datA (c : Dev nD) (w : Fin cfg0.W) : (dat m 0 c).A w = V m c (Pipeline.arrRef spec0 w) := by
  dsimp only [dat]

theorem after0 (c : Dev nD) (t : Fin cfg0.N) : (dat m 0 c).after 0 t = iblk m c 0 t := by dsimp only [dat]
theorem after1 (c : Dev nD) (t : Fin cfg0.N) : (dat m 0 c).after 1 t = iblk m c 1 t := by dsimp only [dat]
theorem after2 (c : Dev nD) (t : Fin cfg0.N) : (dat m 0 c).after 2 t = iblk m c 2 t := by dsimp only [dat]
theorem after3 (c : Dev nD) (t : Fin cfg0.N) : (dat m 0 c).after 3 t = iblk m c 3 t := by dsimp only [dat]
theorem after4 (c : Dev nD) (t : Fin cfg0.N) : (dat m 0 c).after 4 t = iblk m c 4 t := by dsimp only [dat]
theorem after5 (c : Dev nD) (t : Fin cfg0.N) : (dat m 0 c).after 5 t = iblk m c 5 t := by dsimp only [dat]
theorem after6 (c : Dev nD) (t : Fin cfg0.N) : (dat m 0 c).after 6 t = iblk m c 6 t := by dsimp only [dat]
theorem after7 (c : Dev nD) (t : Fin cfg0.N) : (dat m 0 c).after 7 t = iblk m c 7 t := by dsimp only [dat]
theorem before0 (c : Dev nD) (t : Fin cfg0.N) (d) : (dat m 0 c).before 0 t d = iblk m c 0 t :=
  before0_0_of m (dat m 0 c) (datA m c 0) (after0 m c) t d
theorem before1 (c : Dev nD) (t : Fin cfg0.N) (d) : (dat m 0 c).before 1 t d = iblk m c 1 t :=
  before0_1_of m (dat m 0 c) (datA m c 1) (after1 m c) t d
theorem before2 (c : Dev nD) (t : Fin cfg0.N) (d) : (dat m 0 c).before 2 t d = iblk m c 2 t :=
  before0_2_of m (dat m 0 c) (datA m c 2) (after2 m c) t d
theorem before3 (c : Dev nD) (t : Fin cfg0.N) (d) : (dat m 0 c).before 3 t d = iblk m c 3 t :=
  before0_3_of m (dat m 0 c) (datA m c 3) (after3 m c) t d
theorem before4 (c : Dev nD) (t : Fin cfg0.N) (d) : (dat m 0 c).before 4 t d = iblk m c 4 t :=
  before0_4_of m (dat m 0 c) (datA m c 4) (after4 m c) t d
theorem before5 (c : Dev nD) (t : Fin cfg0.N) (d) : (dat m 0 c).before 5 t d = iblk m c 5 t :=
  before0_5_of m (dat m 0 c) (datA m c 5) (after5 m c) t d
theorem before6 (c : Dev nD) (t : Fin cfg0.N) (d) : (dat m 0 c).before 6 t d = iblk m c 6 t :=
  before0_6_of m (dat m 0 c) (datA m c 6) (after6 m c) t d
theorem before7 (c : Dev nD) (t : Fin cfg0.N) (d) : (dat m 0 c).before 7 t d = iblk m c 7 t :=
  before0_7_of m (dat m 0 c) (datA m c 7) (after7 m c) t d

def pre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d)))

def post (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t)
    ∗ owns (c : Thread nD τ) (ms0_6 t) fullShare ((dat m 0 c).after 6 t)
    ∗ owns (c : Thread nD τ) (ms0_7 t) fullShare ((dat m 0 c).after 7 t))

set_option maxHeartbeats 4000000 in
theorem pointA (t : Fin cfg0.N) (h0 : t.val % 4 = 0) (h1 : t.val < 4) :
    pre m c t ⊢ wp frame (wpE (defs₀ (F := Ideal)) Variants.none c none) Set.univ (bodyAt0 t) (fun _ => post m c t) := by
  unfold pre post bodyAt0
  simp only [before0, before1, before2, before3, before4, before5, before6, before7]
  rw [show (dat m 0 c).Φ t.succ = Inv m c (t.val + 1) from rfl, show (dat m 0 c).Φ t.castSucc = Inv m c t.val from rfl,
    after0, after1, after2, after3, after4, after5, after6, after7]
  unfold Dat.owesAt Pipeline.owesWithin Inv
  rw [show (dat m 0 c).owed t.castSucc = 0 from rfl, show (dat m 0 c).owed t.succ = 0 from rfl]
  have hN := pt_lt t
  iintro ⟨⟨⟨⟨%a, %hQ, HS0⟩, ⟨%y, HS1⟩⟩, Hg, Hq0, -, ⟨%z, %hP, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((atA m c t h0 h1 y z).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexact HS1
  isplitl [Hq0]; · iexact Hq0
  isplitl [Hh0]; · iexact Hh0
  isplitl [HW]; · iexact HW
  iintro ⟨H0, H1, H2, H3, H4, H5, H6, H7, ⟨%es0, HS0⟩, HS1, Hq0, Hh0, ⟨%W', HW'⟩⟩
  isplitl [HS0 HS1 Hg Hq0 Hh0]
  · isplitl [HS0 HS1]
    · isplitl [HS0]
      · iexists _; isplitr
        swap
        · unfold owns; iexists _; isplitr
          swap; · iexact HS0
          ipureintro; rfl
        ipureintro
        exact ⟨fun _ _ r k => sumsA m c t h0 h1 y z _ r k, fun _ => by omega⟩
      iexact HS1
    isplitl [Hg]
    · iexact Hg
    isplitl [Hq0]
    · iexact Hq0
    isplitr; · iempintro
    iexists _; isplitr
    swap; · iexact Hh0
    ipureintro
    exact ⟨fun _ => by omega, fun _ => by omega⟩
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
theorem pointB (t : Fin cfg0.N) (h0 : ¬t.val % 4 = 0 ∧ ¬t.val % 4 = 3) (h1 : t.val < 4) :
    pre m c t ⊢ wp frame (wpE (defs₀ (F := Ideal)) Variants.none c none) Set.univ (bodyAt0 t) (fun _ => post m c t) := by
  unfold pre post bodyAt0
  simp only [before0, before1, before2, before3, before4, before5, before6, before7]
  rw [show (dat m 0 c).Φ t.succ = Inv m c (t.val + 1) from rfl, show (dat m 0 c).Φ t.castSucc = Inv m c t.val from rfl,
    after0, after1, after2, after3, after4, after5, after6, after7]
  unfold Dat.owesAt Pipeline.owesWithin Inv
  rw [show (dat m 0 c).owed t.castSucc = 0 from rfl, show (dat m 0 c).owed t.succ = 0 from rfl]
  have hN := pt_lt t
  iintro ⟨⟨⟨⟨%a, %hQ, HS0⟩, ⟨%y, HS1⟩⟩, Hg, Hq0, -, ⟨%z, %hP, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((atB m c t h0 h1 a y z).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [Hq0]; · iexact Hq0
  isplitl [Hh0]; · iexact Hh0
  isplitl [HW]; · iexact HW
  iintro ⟨H0, H1, H2, H3, H4, H5, H6, H7, ⟨%es0, HS0⟩, HS1, Hq0, Hh0, ⟨%W', HW'⟩⟩
  isplitl [HS0 HS1 Hg Hq0 Hh0]
  · isplitl [HS0 HS1]
    · isplitl [HS0]
      · iexists _; isplitr
        swap
        · unfold owns; iexists _; isplitr
          swap; · iexact HS0
          ipureintro; rfl
        ipureintro
        exact ⟨fun _ _ r k => sumsB m c t h0 h1 a hQ y z _ r k, fun _ => by omega⟩
      iexact HS1
    isplitl [Hg]
    · iexact Hg
    isplitl [Hq0]
    · iexact Hq0
    isplitr; · iempintro
    iexists _; isplitr
    swap; · iexact Hh0
    ipureintro
    exact ⟨fun _ => by omega, fun _ => by omega⟩
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
theorem pointC (t : Fin cfg0.N) (h0 : t.val % 4 = 3) (h1 : t.val < 4) :
    pre m c t ⊢ wp frame (wpE (defs₀ (F := Ideal)) Variants.none c none) Set.univ (bodyAt0 t) (fun _ => post m c t) := by
  unfold pre post bodyAt0
  simp only [before0, before1, before2, before3, before4, before5, before6, before7]
  rw [show (dat m 0 c).Φ t.succ = Inv m c (t.val + 1) from rfl, show (dat m 0 c).Φ t.castSucc = Inv m c t.val from rfl,
    after0, after1, after2, after3, after4, after5, after6, after7]
  unfold Dat.owesAt Pipeline.owesWithin Inv
  rw [show (dat m 0 c).owed t.castSucc = 0 from rfl, show (dat m 0 c).owed t.succ = 0 from rfl]
  have hN := pt_lt t
  iintro ⟨⟨⟨⟨%a, %hQ, HS0⟩, ⟨%y, HS1⟩⟩, Hg, Hq0, -, ⟨%z, %hP, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((atC m c t h0 h1 a y z).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [Hq0]; · iexact Hq0
  isplitl [Hh0]; · iexact Hh0
  isplitl [HW]; · iexact HW
  iintro ⟨H0, H1, H2, H3, H4, H5, H6, H7, ⟨%es0, HS0⟩, HS1, Hq0, Hh0, ⟨%W', HW'⟩⟩
  isplitl [HS0 HS1 Hg Hq0 Hh0]
  · isplitl [HS0 HS1]
    · isplitl [HS0]
      · iexists _; isplitr
        swap
        · unfold owns; iexists _; isplitr
          swap; · iexact HS0
          ipureintro; rfl
        ipureintro
        exact ⟨fun _ _ r k => sumsC m c t h0 h1 a hQ y z _ r k, fun _ => by omega⟩
      iexact HS1
    isplitl [Hg]
    · iexact Hg
    isplitl [Hq0]
    · iexact Hq0
    isplitr; · iempintro
    iexists _; isplitr
    swap; · iexact Hh0
    ipureintro
    exact ⟨fun _ r k hr => resultC m c t h0 h1 a hQ y z r k hr, fun _ => by omega⟩
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
theorem pointD (t : Fin cfg0.N) (h0 : t.val % 4 = 0) (h1 : 4 ≤ t.val) :
    pre m c t ⊢ wp frame (wpE (defs₀ (F := Ideal)) Variants.none c none) Set.univ (bodyAt0 t) (fun _ => post m c t) := by
  unfold pre post bodyAt0
  simp only [before0, before1, before2, before3, before4, before5, before6, before7]
  rw [show (dat m 0 c).Φ t.succ = Inv m c (t.val + 1) from rfl, show (dat m 0 c).Φ t.castSucc = Inv m c t.val from rfl,
    after0, after1, after2, after3, after4, after5, after6, after7]
  unfold Dat.owesAt Pipeline.owesWithin Inv
  rw [show (dat m 0 c).owed t.castSucc = 0 from rfl, show (dat m 0 c).owed t.succ = 0 from rfl]
  have hN := pt_lt t
  iintro ⟨⟨⟨⟨%a, %hQ, HS0⟩, ⟨%y, HS1⟩⟩, Hg, Hq0, -, ⟨%z, %hP, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((atD m c t h0 h1 y z).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexact HS1
  isplitl [Hq0]; · iexact Hq0
  isplitl [Hh0]; · iexact Hh0
  isplitl [HW]; · iexact HW
  iintro ⟨H0, H1, H2, H3, H4, H5, H6, H7, ⟨%es0, HS0⟩, HS1, Hq0, Hh0, ⟨%W', HW'⟩⟩
  isplitl [HS0 HS1 Hg Hq0 Hh0]
  · isplitl [HS0 HS1]
    · isplitl [HS0]
      · iexists _; isplitr
        swap
        · unfold owns; iexists _; isplitr
          swap; · iexact HS0
          ipureintro; rfl
        ipureintro
        exact ⟨fun _ _ => by omega, fun _ r k hr => (sumsD m c t h0 h1 y z _ r k hr).trans (congrArg (fun n => part (A6 m c) (A7 m c) n r.val k.val) (by omega))⟩
      iexact HS1
    isplitl [Hg]
    · iexact Hg
    isplitl [Hq0]
    · iexact Hq0
    isplitr; · iempintro
    iexists _; isplitr
    swap; · iexact Hh0
    ipureintro
    exact ⟨fun _ => hP.1 (by omega), fun _ => by omega⟩
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
theorem pointE (t : Fin cfg0.N) (h0 : ¬t.val % 4 = 0 ∧ ¬t.val % 4 = 3) (h1 : 4 ≤ t.val) :
    pre m c t ⊢ wp frame (wpE (defs₀ (F := Ideal)) Variants.none c none) Set.univ (bodyAt0 t) (fun _ => post m c t) := by
  unfold pre post bodyAt0
  simp only [before0, before1, before2, before3, before4, before5, before6, before7]
  rw [show (dat m 0 c).Φ t.succ = Inv m c (t.val + 1) from rfl, show (dat m 0 c).Φ t.castSucc = Inv m c t.val from rfl,
    after0, after1, after2, after3, after4, after5, after6, after7]
  unfold Dat.owesAt Pipeline.owesWithin Inv
  rw [show (dat m 0 c).owed t.castSucc = 0 from rfl, show (dat m 0 c).owed t.succ = 0 from rfl]
  have hN := pt_lt t
  iintro ⟨⟨⟨⟨%a, %hQ, HS0⟩, ⟨%y, HS1⟩⟩, Hg, Hq0, -, ⟨%z, %hP, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((atE m c t h0 h1 a y z).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [Hq0]; · iexact Hq0
  isplitl [Hh0]; · iexact Hh0
  isplitl [HW]; · iexact HW
  iintro ⟨H0, H1, H2, H3, H4, H5, H6, H7, HS0, HS1, Hq0, Hh0, ⟨%W', HW'⟩⟩
  isplitl [HS0 HS1 Hg Hq0 Hh0]
  · isplitl [HS0 HS1]
    · isplitl [HS0]
      · iexists _; isplitr
        swap
        · unfold owns; iexists _; isplitr
          swap; · iexact HS0
          ipureintro; rfl
        ipureintro
        exact ⟨fun _ _ => by omega, fun _ r k hr => (sumsE m c t h0 h1 a hQ y z _ r k hr).trans (congrArg (fun n => part (A6 m c) (A7 m c) n r.val k.val) (by omega))⟩
      iexact HS1
    isplitl [Hg]
    · iexact Hg
    isplitl [Hq0]
    · iexact Hq0
    isplitr; · iempintro
    iexists _; isplitr
    swap; · iexact Hh0
    ipureintro
    exact ⟨fun _ => hP.1 (by omega), fun _ => by omega⟩
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
theorem pointF (t : Fin cfg0.N) (h0 : t.val % 4 = 3) (h1 : 4 ≤ t.val) :
    pre m c t ⊢ wp frame (wpE (defs₀ (F := Ideal)) Variants.none c none) Set.univ (bodyAt0 t) (fun _ => post m c t) := by
  unfold pre post bodyAt0
  simp only [before0, before1, before2, before3, before4, before5, before6, before7]
  rw [show (dat m 0 c).Φ t.succ = Inv m c (t.val + 1) from rfl, show (dat m 0 c).Φ t.castSucc = Inv m c t.val from rfl,
    after0, after1, after2, after3, after4, after5, after6, after7]
  unfold Dat.owesAt Pipeline.owesWithin Inv
  rw [show (dat m 0 c).owed t.castSucc = 0 from rfl, show (dat m 0 c).owed t.succ = 0 from rfl]
  have hN := pt_lt t
  iintro ⟨⟨⟨⟨%a, %hQ, HS0⟩, ⟨%y, HS1⟩⟩, Hg, Hq0, -, ⟨%z, %hP, Hh0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((atF m c t h0 h1 a y z).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [Hq0]; · iexact Hq0
  isplitl [Hh0]; · iexact Hh0
  isplitl [HW]; · iexact HW
  iintro ⟨H0, H1, H2, H3, H4, H5, H6, H7, HS0, HS1, Hq0, Hh0, ⟨%W', HW'⟩⟩
  isplitl [HS0 HS1 Hg Hq0 Hh0]
  · isplitl [HS0 HS1]
    · isplitl [HS0]
      · iexists _; isplitr
        swap
        · unfold owns; iexists _; isplitr
          swap; · iexact HS0
          ipureintro; rfl
        ipureintro
        exact ⟨fun _ _ => by omega, fun _ r k hr => (sumsF m c t h0 h1 a hQ y z _ r k hr).trans (congrArg (fun n => part (A6 m c) (A7 m c) n r.val k.val) (by omega))⟩
      iexact HS1
    isplitl [Hg]
    · iexact Hg
    isplitl [Hq0]
    · iexact Hq0
    isplitr; · iempintro
    iexists _; isplitr
    swap; · iexact Hh0
    ipureintro
    exact ⟨fun _ r k hr => resultF m c t h0 h1 a hQ y z hP r k, fun _ r k => resultF m c t h0 h1 a hQ y z hP r k⟩
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem point (t : Fin cfg0.N) :
    pre m c t ⊢ wp frame (wpE (defs₀ (F := Ideal)) Variants.none c none) Set.univ (bodyAt0 t) (fun _ => post m c t) := by
  by_cases h1 : t.val < 4
  · by_cases h0 : t.val % 4 = 0
    · exact pointA m c t h0 h1
    by_cases h3 : t.val % 4 = 3
    · exact pointC m c t h3 h1
    exact pointB m c t ⟨h0, h3⟩ h1
  have h1' : 4 ≤ t.val := Nat.le_of_not_lt h1
  by_cases h0 : t.val % 4 = 0
  · exact pointD m c t h0 h1'
  by_cases h3 : t.val % 4 = 3
  · exact pointF m c t h3 h1'
  exact pointE m c t ⟨h0, h3⟩ h1'

theorem obligation (c : Dev nD) : BodyObligation (dat m 0 c) (defs₀ (F := Ideal)) Variants.none () Set.univ := fun t => by
  rw [bigSep_W0, bigSep_W0, defs₀_row]
  exact triple_restated (point m c t) rfl .rfl fun _ => .rfl

/-- The result at the end. -/
def G (c : Dev nD) : (b : Ref sig .tc) → Buf (Elt Ideal) ((c.tc : Thread nD τ).loc b) :=
  Function.update (V m c) main_v0 (fun i => total m c 4096 (i 0).val (i 1).val : HbBuf0 (F := Ideal) c hbM0_0)

theorem G_at (c : Dev nD) : G m c main_v0 = (fun i => total m c 4096 (i 0).val (i 1).val : HbBuf0 (F := Ideal) c hbM0_0) := by
  unfold G
  exact Function.update_self _ _ _

theorem routed_eq (c : Dev nD) (W : (b : Ref sig .tc) → Buf (Elt Ideal) ((c.tc : Thread nD τ).loc b)) :
    (Pipeline.routed R0 c W : sProp 𝕄) = hbPt0 c hbM0_0 (W main_v0) := by
  unfold Pipeline.routed; rw [BI.bigSep_eq_bigSepL_of_eq [main_v0] (by decide) (by decide)]; rfl

theorem ends (c : Dev nD) (W : (c : Dev nD) → (b : Ref sig .tc) → Buf (Elt Ideal) ((c.tc : Thread nD τ).loc b)) :
    (Pipeline.ΦDRG osem0 spec0 H0 R0 (V m) W c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 16) 0) ∗ iprop(emp) ∗ iprop(hbPt0 c hbM0_0 (W c main_v0))) := by
  rw [Pipeline.ΦDRG_eq, scopedRest0_eq, ownSems00_eq, hbmPts0_eq, routed_eq]; simp only [scM0_0, scM0_1, owns_whole]; try rfl

theorem enter (c : Dev nD) : Pipeline.ΦDRG osem0 spec0 H0 R0 (V m) (V m) c ⊢ (dat m 0 c).Φ 0 := by
  rw [show (dat m 0 c).Φ 0 = Inv m c 0 from rfl, ends]
  unfold Inv
  iintro ⟨⟨⟨%a, HS0⟩, HS1⟩, Hg, Hq0, -, Hh0⟩
  isplitl [HS0 HS1]
  · isplitl [HS0]
    · iexists a; isplitr
      · ipureintro; exact ⟨fun h => by omega, fun h => by omega⟩
      iexact HS0
    iexact HS1
  isplitl [Hg]; · iexact Hg
  isplitl [Hq0]; · iexact Hq0
  isplitr; · iempintro
  iexists _; isplitr
  swap; · iexact Hh0
  ipureintro; exact ⟨fun h => by omega, fun h => by omega⟩

theorem leave (c : Dev nD) : (dat m 0 c).Φ (Fin.last cfg0.N) ⊢ Pipeline.ΦDRG osem0 spec0 H0 R0 (V m) (G m) c := by
  rw [show (dat m 0 c).Φ (Fin.last cfg0.N) = Inv m c cfg0.N from rfl, ends, show cfg0.N = 8 from N_0]
  unfold Inv
  iintro ⟨⟨⟨%a, %hQ, HS0⟩, HS1⟩, Hg, Hq0, -, ⟨%f, %hP, Hh0⟩⟩
  isplitl [HS0 HS1]
  · isplitl [HS0]
    · iexists a; iexact HS0
    iexact HS1
  isplitl [Hg]; · iexact Hg
  isplitl [Hq0]; · iexact Hq0
  isplitr; · iempintro
  have hf : f = G m c main_v0 := by
    rw [G_at]
    funext i
    refine (congrArg f (eq_ix2 (n0 := 4352) (n1 := 1024) i)).trans (hP.2 (by omega) (i 0) (i 1))
  obtain rfl := hf
  iexact Hh0

set_option backward.isDefEq.respectTransparency.types false in
/-- The run: every counter at zero and the result as said, at every final state. -/
theorem run_all : θ_run defs (onTc (τ := τ) (main (F := Ideal))) (s₀ m ρ) (fun r => (Pipeline.FramePostRG cfgs (dat m) 0 R0 (V m) (G m)) r ∧ r.2.sem = fun _ => 0) :=
  Pipeline.θ_run_frame_dmaRG (Q' := _) cfgs (dat m) (0 : Fin 1) launch0 osem0 defs₀ Variants.none ownSemFacts0 H0 R0 H0_sub R0_sub m ρ main
    (hbody := fun c => (obligation m c).loose) (hshare := fun c => (dat m 0 c).share_full fun _ => rfl)
    (howed := fun _ _ => rfl) (V := V m) (hmain := hmain m Variants.none) (hA := datA m) (G := G m)
    (hin := enter m) (hout := leave m)

/-- The result the call leaves. -/
def out (c : Dev nD) : Buf (Elt Ideal) ((c.tc : Thread nD τ).loc main_v0) :=
  (fun i => total m c 4096 (i 0).val (i 1).val : HbBuf0 (F := Ideal) c hbM0_0)

theorem run : θ_run defs (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  have h0 : θ_run defs (onTc (τ := τ) (main (F := Ideal))) ⟨m, fun _ => 0, ρ⟩ (fun r => ∀ c : Dev nD, r.2.mem ((c.tc : Thread nD τ).loc main_v0) = out m c) :=
    (θ_run defs _ _).mono (fun _ h c => (Pipeline.FramePostRG.written h.1 c (b := main_v0) (by decide)).trans (G_at m c)) (run_all m ρ)
  (θ_run defs _ _).mono (fun _ h c => ⟨h.1 c, h.2 c⟩)
    (θ_run_and h0 (frame_of m ρ (dat m) (datA m) ((θ_run defs _ _).mono (fun _ h => h.1.toR) (run_all m ρ))))

end Cert.GradInValue
-- ==== Proof.GradInSame.lean ====
module

public import proofs.«01_k».proof.Defs
public import proofs.«01_k».proof.Proof.Gen.GradIn.Frame
public import proofs.«01_k».proof.Proof.Gen.GradInIdeal
public import Idealize.ShloMosaic.Lib.Claim

@[expose] public section

set_option maxRecDepth 16384

/-!
# The two printings of one program

The program is printed twice, once as it stands and once over the extended reals.  Nothing in it is
rewritten between the two, so a run of one is a run of the other.
-/

noncomputable section

open Idealize.ShloMosaic Idealize.ShloMosaic.TcCoe Idealize.SL.Sem

namespace Cert.GradInSame

theorem same_sig : Cert.GradInIdeal.sig = Cert.GradIn.sig := rfl

theorem same_body : @Cert.GradInIdeal.cc0_grad_w_in Ideal _ Cert.GradInIdeal.Gen.facts = @Cert.GradIn.cc0_grad_w_in Ideal _ Cert.GradIn.Gen.facts := by
  unfold Cert.GradInIdeal.cc0_grad_w_in Cert.GradIn.cc0_grad_w_in
  rfl

theorem same_defs₀ : @Cert.GradInIdeal.defs₀ Ideal _ Cert.GradInIdeal.Gen.facts = @Cert.GradIn.defs₀ Ideal _ Cert.GradIn.Gen.facts := by
  unfold Cert.GradInIdeal.defs₀ Cert.GradIn.defs₀
  refine congrArg Defs.onTc ?_
  funext l
  match l with
  | 0 => exact funext fun _ => by rfl

theorem same_defs : @Cert.GradInIdeal.defs Ideal _ Cert.GradInIdeal.Gen.facts = @Cert.GradIn.defs Ideal _ Cert.GradIn.Gen.facts := by
  unfold Cert.GradInIdeal.defs Cert.GradIn.defs
  rw [same_defs₀]
  rfl

theorem same_main : @Cert.GradInIdeal.main Ideal _ = @Cert.GradIn.main Ideal _ := rfl

end Cert.GradInSame
-- ==== Proof.GradInRef.lean ====
module

public import proofs.«01_k».proof.Proof.GradSpec
public import proofs.«01_k».proof.Defs
public import proofs.«01_k».proof.Proof.Gen.GradInRefIdeal.Run
public import Idealize.ShloMosaic.Lib.Claim
public import Idealize.ShloMosaic.Lib.Pointwise

@[expose] public section

set_option maxRecDepth 16384

/-!
# The reference's gradient of the input projection's weights
-/

noncomputable section

open Idealize.ShloMosaic Idealize.ShloMosaic.TcCoe Idealize.SL.Sem
open Cert.MixSpec Cert.GradSpec

namespace Cert.GradInRef

open Cert.GradInRefIdeal Cert.GradInRefIdeal.Gen

variable (a0 : FVec Ideal S4096x512 .bf16) (a1 a2 : FVec Ideal S4096x128 .f32) (a3 a4 a5 : FVec Ideal S4096x512 .bf16)
  (a6 : FVec Ideal S4096x2048 .bf16) (a7 : FVec Ideal S4096x1024 .bf16)

/-- The pieces of the projection's gradient, side by side. -/
def all : FVec Ideal S4096x4352 .f32 :=
  concatenate S4096x4352 1 [⟨S4096x512, extf .f32 a0 bitsLt_bf16_f32⟩, ⟨S4096x128, a1⟩, ⟨S4096x128, a2⟩, ⟨S4096x512, extf .f32 a3 bitsLt_bf16_f32⟩, ⟨S4096x512, extf .f32 a4 bitsLt_bf16_f32⟩, ⟨S4096x512, extf .f32 a5 bitsLt_bf16_f32⟩, ⟨S4096x2048, extf .f32 a6 bitsLt_bf16_f32⟩] concatenates_S4096x512_S4096x128_S4096x128_S4096x512_S4096x512_S4096x512_S4096x2048_S4096x4352_d1

/-- What the reference computes from its arguments. -/
def val : FVec Ideal S4352x1024 .bf16 :=
  truncf .bf16 (transpose S4352x1024 [1, 0] (transpose S1024x4352 [1, 0] (Host.dotGeneral dot_S4096x4352_S4096x1024_S4352x1024_0_0_1_1_n_n none (all a0 a1 a2 a3 a4 a5 a6) (extf .f32 a7 bitsLt_bf16_f32)) transposes_S4352x1024_S1024x4352_1_0) transposes_S1024x4352_S4352x1024_1_0) bitsLt_bf16_f32

theorem val_sum (r : Fin 4352) (k : Fin 1024) :
    val a0 a1 a2 a3 a4 a5 a6 a7 (ix2 r k) = ∑ s : Fin 4096, all a0 a1 a2 a3 a4 a5 a6 (ix2 s r) * rd (a := 4096) (b := 1024) a7 s.val k.val := by
  pointwise [val]
  exact Finset.sum_congr rfl fun s _ => congrArg (fun y : EReal => all a0 a1 a2 a3 a4 a5 a6 (ix2 s r) * y) (rd_ix2 a7 s k)

set_option maxHeartbeats 1000000

theorem all_apply (s : Fin 4096) (r : Fin 4352) :
    all a0 a1 a2 a3 a4 a5 a6 (ix2 s r) =
      if r.val < 512 then rd (a := 4096) (b := 512) a0 s.val r.val
      else if r.val < 640 then rd (a := 4096) (b := 128) a1 s.val (r.val - 512)
      else if r.val < 768 then rd (a := 4096) (b := 128) a2 s.val (r.val - 640)
      else if r.val < 1280 then rd (a := 4096) (b := 512) a3 s.val (r.val - 768)
      else if r.val < 1792 then rd (a := 4096) (b := 512) a4 s.val (r.val - 1280)
      else if r.val < 2304 then rd (a := 4096) (b := 512) a5 s.val (r.val - 1792)
      else rd (a := 4096) (b := 2048) a6 s.val (r.val - 2304) := by
  have hr := r.isLt
  pointwise [all]
  simp only [rd_ix2, Nat.sub_sub, Nat.reduceAdd, dite_eq_ite,
    show (r.val - 512 < 128) = (r.val < 640) from propext (by omega),
    show (r.val - 640 < 128) = (r.val < 768) from propext (by omega),
    show (r.val - 768 < 512) = (r.val < 1280) from propext (by omega),
    show (r.val - 1280 < 512) = (r.val < 1792) from propext (by omega),
    show (r.val - 1792 < 512) = (r.val < 2304) from propext (by omega)]

theorem val_apply (r : Fin 4352) (k : Fin 1024) :
    val a0 a1 a2 a3 a4 a5 a6 a7 (ix2 r k) =
      if r.val < 512 then part (a := 4096) (p := 512) (b := 4096) (q := 1024) a0 a7 4096 r.val k.val
      else if r.val < 640 then part (a := 4096) (p := 128) (b := 4096) (q := 1024) a1 a7 4096 (r.val - 512) k.val
      else if r.val < 768 then part (a := 4096) (p := 128) (b := 4096) (q := 1024) a2 a7 4096 (r.val - 640) k.val
      else if r.val < 1280 then part (a := 4096) (p := 512) (b := 4096) (q := 1024) a3 a7 4096 (r.val - 768) k.val
      else if r.val < 1792 then part (a := 4096) (p := 512) (b := 4096) (q := 1024) a4 a7 4096 (r.val - 1280) k.val
      else if r.val < 2304 then part (a := 4096) (p := 512) (b := 4096) (q := 1024) a5 a7 4096 (r.val - 1792) k.val
      else part (a := 4096) (p := 2048) (b := 4096) (q := 1024) a6 a7 4096 (r.val - 2304) k.val := by
  rw [val_sum]
  by_cases h0 : r.val < 512
  · rw [if_pos h0, part_all]
    refine Finset.sum_congr rfl fun s _ => congrArg (fun y : EReal => y * rd (a := 4096) (b := 1024) a7 s.val k.val) ?_
    rw [all_apply, if_pos h0]
  by_cases h1 : r.val < 640
  · rw [if_neg h0, if_pos h1, part_all]
    refine Finset.sum_congr rfl fun s _ => congrArg (fun y : EReal => y * rd (a := 4096) (b := 1024) a7 s.val k.val) ?_
    rw [all_apply, if_neg h0, if_pos h1]
  by_cases h2 : r.val < 768
  · rw [if_neg h0, if_neg h1, if_pos h2, part_all]
    refine Finset.sum_congr rfl fun s _ => congrArg (fun y : EReal => y * rd (a := 4096) (b := 1024) a7 s.val k.val) ?_
    rw [all_apply, if_neg h0, if_neg h1, if_pos h2]
  by_cases h3 : r.val < 1280
  · rw [if_neg h0, if_neg h1, if_neg h2, if_pos h3, part_all]
    refine Finset.sum_congr rfl fun s _ => congrArg (fun y : EReal => y * rd (a := 4096) (b := 1024) a7 s.val k.val) ?_
    rw [all_apply, if_neg h0, if_neg h1, if_neg h2, if_pos h3]
  by_cases h4 : r.val < 1792
  · rw [if_neg h0, if_neg h1, if_neg h2, if_neg h3, if_pos h4, part_all]
    refine Finset.sum_congr rfl fun s _ => congrArg (fun y : EReal => y * rd (a := 4096) (b := 1024) a7 s.val k.val) ?_
    rw [all_apply, if_neg h0, if_neg h1, if_neg h2, if_neg h3, if_pos h4]
  by_cases h5 : r.val < 2304
  · rw [if_neg h0, if_neg h1, if_neg h2, if_neg h3, if_neg h4, if_pos h5, part_all]
    refine Finset.sum_congr rfl fun s _ => congrArg (fun y : EReal => y * rd (a := 4096) (b := 1024) a7 s.val k.val) ?_
    rw [all_apply, if_neg h0, if_neg h1, if_neg h2, if_neg h3, if_neg h4, if_pos h5]
  rw [if_neg h0, if_neg h1, if_neg h2, if_neg h3, if_neg h4, if_neg h5, part_all]
  refine Finset.sum_congr rfl fun s _ => congrArg (fun y : EReal => y * rd (a := 4096) (b := 1024) a7 s.val k.val) ?_
  rw [all_apply, if_neg h0, if_neg h1, if_neg h2, if_neg h3, if_neg h4, if_neg h5]

/-- The reference leaves its arguments as they were, and every counter at zero. -/
theorem frame : @Cert.quiescent_GradInRefIdeal Cert.GradInRefIdeal.Gen.facts := fun m ρ _ =>
  (θ_run Cert.GradInRefIdeal.defs _ _).mono (fun r h => ⟨fun c => (h c).2,
      Idealize.ShloMosaic.sem_eq_zero_of_no_sems (by decide) r.2⟩)
    (Cert.GradInRefIdeal.Value.run (F := Ideal) m ρ)

end Cert.GradInRef
-- ==== Proof.GradInEq.lean ====
module

public import proofs.«01_k».proof.Proof.GradInInv
public import proofs.«01_k».proof.Proof.GradInSame
public import proofs.«01_k».proof.Proof.GradInRef

@[expose] public section

set_option maxRecDepth 16384

/-!
# The gradient of the input projection's weights: the kernel and the reference
-/

noncomputable section

open Idealize.ShloMosaic Idealize.ShloMosaic.TcCoe Idealize.SL.Sem
open Cert.MixSpec Cert.GradSpec

namespace Cert.GradInEq

section

open Cert.GradIn Cert.GradIn.Gen

variable (m : (ℓ : Loc nD τ sig) → Buf (Elt Ideal) ℓ) (c : Dev nD)

/-- The result, as the reference's value at the kernel's arguments. -/
def res : FVec Ideal Cert.GradInRefIdeal.S4352x1024 .bf16 :=
  Cert.GradInRef.val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem final : Cert.GradInValue.out m c = res m c :=
  funext fun i => by
    refine Eq.trans ?_ (congrArg (res m c) (eq_ix2 (n0 := 4352) (n1 := 1024) i)).symm
    exact (Cert.GradInRef.val_apply _ _ _ _ _ _ _ _ (i 0) (i 1)).symm

theorem run (ρ : Dev nD → PrngReg) : θ_run defs (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (final m c), (h c).2⟩) (Cert.GradInValue.run m ρ)

end

section

open Cert.GradInIdeal Cert.GradInIdeal.Gen

/-- The run over the extended reals leaves the arguments as they were, and every counter at zero. -/
theorem frame : @Cert.quiescent_GradInIdeal Cert.GradInIdeal.Gen.facts := fun m ρ _ => by
  rw [Cert.GradInSame.same_defs]
  exact Cert.GradIn.Gen.frame (F := Ideal) m ρ

theorem runI (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.GradInRef.val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  rw [Cert.GradInSame.same_defs]
  exact run m ρ

/-- The value claim: on the extended reals the kernel's result is the reference's. -/
theorem algebraic : @Cert.algebraic_GradInIdeal_GradInRefIdeal Cert.GradInIdeal.Gen.facts Cert.GradInRefIdeal.Gen.facts := by
  intro m g m' g' _ hm
  refine ⟨fun c => Cert.GradInRef.val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), runI m g, ?_⟩
  refine (θ_run Cert.GradInRefIdeal.defs _ _).mono (fun r h c => ?_) (Cert.GradInRefIdeal.Value.run m' g')
  obtain ⟨e0, e1, e2, e3, e4, e5, e6, e7⟩ := hm c
  refine ⟨(h c).1.trans ?_, (h c).2⟩
  have e : Cert.GradInRef.val (m' ((c.tc : Thread Cert.GradInRefIdeal.nD Cert.GradInRefIdeal.τ).loc Cert.GradInRefIdeal.main_arg0)) (m' ((c.tc : Thread Cert.GradInRefIdeal.nD Cert.GradInRefIdeal.τ).loc Cert.GradInRefIdeal.main_arg1)) (m' ((c.tc : Thread Cert.GradInRefIdeal.nD Cert.GradInRefIdeal.τ).loc Cert.GradInRefIdeal.main_arg2)) (m' ((c.tc : Thread Cert.GradInRefIdeal.nD Cert.GradInRefIdeal.τ).loc Cert.GradInRefIdeal.main_arg3)) (m' ((c.tc : Thread Cert.GradInRefIdeal.nD Cert.GradInRefIdeal.τ).loc Cert.GradInRefIdeal.main_arg4)) (m' ((c.tc : Thread Cert.GradInRefIdeal.nD Cert.GradInRefIdeal.τ).loc Cert.GradInRefIdeal.main_arg5)) (m' ((c.tc : Thread Cert.GradInRefIdeal.nD Cert.GradInRefIdeal.τ).loc Cert.GradInRefIdeal.main_arg6)) (m' ((c.tc : Thread Cert.GradInRefIdeal.nD Cert.GradInRefIdeal.τ).loc Cert.GradInRefIdeal.main_arg7)) = Cert.GradInRef.val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    rw [e0, e1, e2, e3, e4, e5, e6, e7]
  exact e

end

end Cert.GradInEq
-- ==== Proof.FfnUpPoint.lean ====
module

public import proofs.«01_k».proof.Proof.NormSpec
public import proofs.«01_k».proof.Proof.Gen.FfnUpIdeal.Value

@[expose] public section

set_option maxRecDepth 16384

/-!
# One block of the wide projection and its short convolution

A block takes 256 rows.  Its columns come in pieces of 256; each piece is multiplied with three bands of the weight's
columns, and convolved with the sixteen rows before the block.
-/

noncomputable section

open Idealize.ShloMosaic Idealize.ShloMosaic.TcCoe Idealize.ShloMosaic.Tactic
open Cert.FfnUpIdeal Cert.FfnUpIdeal.Gen
open Cert.MixSpec Cert.NormSpec
open Cert.MixBlock (ld_ix2 hz Rows)

namespace Cert.FfnUpPoint

/-- The weight, whose columns are kept in three arrays. -/
def wup (a b c : ℕ → ℕ → EReal) (p k : ℕ) : EReal := if k < 256 then a p k else if k < 512 then b p (k - 256) else c p (k - 512)

/-- The projection of the normed rows. -/
def pre (h g a b c : ℕ → ℕ → EReal) (t p : ℕ) : EReal := ∑ k ∈ Finset.range 1024, xn h g t k * wup a b c p k

/-- A sequence convolved with three taps. -/
def taps (w u : ℕ → ℕ → EReal) (t p : ℕ) : EReal := (w 0 p * late 2 u t p + w 1 p * late 1 u t p) + w 2 p * u t p

theorem pre_bands (h g a b c : ℕ → ℕ → EReal) (t p : ℕ) :
    pre h g a b c t p = ((∑ k : Fin 256, xn h g t k.val * a p k.val) + ∑ k : Fin 256, xn h g t (256 + k.val) * b p k.val)
      + ∑ k : Fin 512, xn h g t (512 + k.val) * c p k.val := by
  unfold pre
  have cut (f : ℕ → EReal) : ∑ k ∈ Finset.range 1024, f k
      = ((∑ k : Fin 256, f k.val) + ∑ k : Fin 256, f (256 + k.val)) + ∑ k : Fin 512, f (512 + k.val) := by
    rw [Finset.sum_range_add f 512 512, Finset.sum_range_add f 256 256]
    simp only [Finset.sum_range]
  rw [cut]
  refine congrArg₂ (fun x y : EReal => x + y) (congrArg₂ (fun x y : EReal => x + y) (Finset.sum_congr rfl fun k _ => ?_)
    (Finset.sum_congr rfl fun k _ => ?_)) (Finset.sum_congr rfl fun k _ => ?_)
  · unfold wup
    rw [if_pos k.isLt]
  · have hk := k.isLt
    unfold wup
    rw [if_neg (by omega), if_pos (by omega), Nat.add_sub_cancel_left]
  · unfold wup
    rw [if_neg (by omega), if_neg (by omega), Nat.add_sub_cancel_left]

section

variable {t b off : ℕ} {h g wa wb wc w u : ℕ → ℕ → EReal}

/-- The normed rows of a block. -/
theorem normed {v3 : Vec Ideal S256x1024 .f32} {v14 : Vec Ideal S1x1024 .f32} (h3 : Rows b v3 h) (h14 : Rows 0 v14 g) :
    Rows b (k0_pay3 v3 v14) (xn h g) := by
  intro r k
  unfold Rows at h3 h14
  pointwise [k0_pay3]
  simp only [h3, h14]
  unfold xn rn
  rw [Finset.sum_range]
  rfl

/-- A piece of the projection. -/
theorem piece {v17 : FVec Ideal S256x1024 .bf16} {v57 v60 : Vec Ideal S256x256 .bf16} {v64 : Vec Ideal S256x512 .bf16}
    (h17 : Rows b v17 (xn h g)) (h57 : Rows off v57 wa) (h60 : Rows off v60 wb) (h64 : Rows off v64 wc) :
    Rows b (k0_pay8 v17 v57 v60 v64) (fun t p => pre h g wa wb wc t (off + p)) := by
  intro r p
  unfold Rows at h17 h57 h60 h64
  pointwise [k0_pay8]
  simp only [h17, h57, h60, h64]
  exact (pre_bands _ _ _ _ _ _ _).symm

/-- It, as it is kept. -/
theorem kept {v17 : FVec Ideal S256x1024 .bf16} {v57 v60 : Vec Ideal S256x256 .bf16} {v64 : Vec Ideal S256x512 .bf16}
    (h17 : Rows b v17 (xn h g)) (h57 : Rows off v57 wa) (h60 : Rows off v60 wb) (h64 : Rows off v64 wc) :
    Rows b (k0_pay9 v17 v57 v60 v64) (fun t p => pre h g wa wb wc t (off + p)) := by
  intro r p
  have e := piece h17 h57 h60 h64 r p
  pointwise [k0_pay9]
  exact e

/-- The last rows of a piece, for the next block. -/
theorem tail {v : FVec Ideal S256x256 .f32} (hv : Rows b v (fun t p => u t (off + p))) :
    Rows (b + 240) (k0_pay6 v) (fun t p => u t (off + p)) := by
  intro r p
  unfold Rows at hv
  have hr := r.isLt
  pointwise [k0_pay6]
  simp only [hv, Nat.add_assoc]

/-- The sixteen rows before a block, zero before the sequence. -/
def Before (b : ℕ) (v : (⟨2, ![16, 256]⟩ : Shape).Idx → EReal) (f : ℕ → ℕ → EReal) : Prop :=
  ∀ (r : Fin 16) (p : Fin 256), v (ix2 r p) = if 16 ≤ b + r.val then f (b + r.val - 16) p.val else 0

/-- A row of the block delayed by `k` rows, read from the sixteen rows before the block and the block. -/
theorem late_read {y : FVec Ideal S16x256 .f32} {v : FVec Ideal S256x256 .f32} (k : ℕ)
    (hk0 : 1 ≤ k) (hk : k ≤ 2) (hy : Before b y (fun t p => u t (off + p))) (hv : Rows b v (fun t p => u t (off + p)))
    (r : Fin 256) (p : Fin 256) (h272 : (16 + r.val + 272 - k) % 272 - 16 < 256) :
    (if h : (16 + r.val + 272 - k) % 272 < 16 then y (ix2 ⟨(16 + r.val + 272 - k) % 272, h⟩ p)
      else v (ix2 ⟨(16 + r.val + 272 - k) % 272 - 16, h272⟩ p))
      = late k u (b + r.val) (off + p.val) := by
  have hr := r.isLt
  have e : (16 + r.val + 272 - k) % 272 = 16 + r.val - k := by omega
  unfold late
  by_cases h : r.val < k
  · rw [dif_pos (by omega), hy]
    dsimp only
    by_cases h15 : k ≤ b + r.val
    · rw [if_pos (by omega), if_pos h15, show b + (16 + r.val + 272 - k) % 272 - 16 = b + r.val - k by omega]
    · rw [if_neg (by omega), if_neg h15]
  · rw [dif_neg (by omega), hv, if_pos (by omega), show b + ((16 + r.val + 272 - k) % 272 - 16) = b + r.val - k by omega]

/-- A piece of the convolution. -/
theorem conv {v29 : FVec Ideal S256x256 .f32} {v32 : Vec Ideal S16x256 .f32} {v42 : Vec Ideal S3x256 .f32}
    (h29 : Rows b v29 (fun t p => u t (off + p))) (h32 : Before b v32 (fun t p => u t (off + p)))
    (h42 : Rows 0 v42 (fun t p => w t (off + p))) :
    Rows b (k0_pay7 v29 v32 v42) (fun t p => taps w u t (off + p)) := by
  intro r p
  pointwise [k0_pay7]
  have e2 := late_read 2 (by decide) (by decide) h32 h29 r p (by omega)
  have e1 := late_read 1 (by decide) (by decide) h32 h29 r p (by omega)
  have e := congrArg₂ (fun x y : EReal => x + y) (congrArg₂ (fun x y : EReal => x + y)
    (congrArg₂ (fun x y : EReal => x * y) (h42 0 p) e2) (congrArg₂ (fun x y : EReal => x * y) (h42 1 p) e1))
    (congrArg₂ (fun x y : EReal => x * y) (h42 2 p) (h29 r p))
  exact e

/-- One piece more, on the right of those that are there. -/
theorem more {n m : ℕ} {e : EltTy} (off : ℕ) (hh : ∀ a, (![0, off] : Fin 2 → ℕ) a + (![n, 256] : Fin 2 → ℕ) a ≤ (![n, m] : Fin 2 → ℕ) a)
    {v : (⟨2, ![n, 256]⟩ : Shape).Idx → Elt Ideal e} {L : List (View.Piece (Elt Ideal) ⟨2, ![n, m]⟩ e)} {G : Fin n → Fin m → Elt Ideal e}
    (hv : ∀ (r : Fin n) (k : Fin 256) (hk : off + k.val < m), v (ix2 r k) = G r ⟨off + k.val, hk⟩)
    (hL : ∀ (r : Fin n) (k : Fin m), k.val < off → View.canon L (ix2 r k) = G r k) :
    ∀ (r : Fin n) (k : Fin m), k.val < off + 256 →
      View.canon (⟨Rect.unit (s := ⟨2, ![n, m]⟩) ![0, off] ![n, 256] hh, v⟩ :: L) (ix2 r k) = G r k := by
  intro r k hk
  have hr := r.isLt
  by_cases hlo : k.val < off
  · rw [Cert.MixBlock.canon_off 0 off hh v L r k (by omega)]
    exact hL r k hlo
  · have e1 : off + (k.val - off) = k.val := by omega
    rw [Cert.MixBlock.canon_on 0 off hh v L r k r ⟨k.val - off, by omega⟩ (by omega) (by show k.val = off + (k.val - off); omega)]
    refine (hv r ⟨k.val - off, by omega⟩ (by show off + (k.val - off) < m; have := k.isLt; omega)).trans (congrArg (G r) (Fin.ext ?_))
    exact e1

end

end Cert.FfnUpPoint
-- ==== Proof.FfnUpBlock.lean ====
module

public import proofs.«01_k».proof.Proof.FfnUpPoint
public import Idealize.ShloMosaic.Lib.Pipeline.ReadBack

@[expose] public section

set_option maxRecDepth 16384

/-!
# The wide projection and its convolution

Each of the sixteen points takes 256 rows.  The last sixteen rows of the projection are carried to the next point.
-/

noncomputable section

open Idealize.ShloMosaic Idealize.ShloMosaic.TcCoe Idealize.ShloMosaic.Tactic
open Cert.FfnUpIdeal Cert.FfnUpIdeal.Gen Cert.FfnUpIdeal.Value
open Cert.MixSpec Cert.NormSpec Cert.FfnUpPoint
open Cert.MixBlock (ld_ix2 hz Rows rows_ld16 rows_ld32)
open Cert.MixRef (Holds)

namespace Cert.FfnUpValue

theorem ldw {n k : ℕ} {e : EltTy} (X : (⟨2, ![n, k]⟩ : Shape).Idx → Elt Ideal e)
    (inb : ∀ a, (![0, 0] : Fin 2 → ℕ) a + (![n, k] : Fin 2 → ℕ) a ≤ (![n, k] : Fin 2 → ℕ) a) :
    View.ld X (Rect.unit (s := ⟨2, ![n, k]⟩) ![0, 0] ![n, k] inb) = X :=
  View.ld_unit_zero (S := ⟨2, ![n, k]⟩) hz inb X

theorem z5632 : ∀ a, (![0, 0] : Fin 2 → ℕ) a = 0 := by decide

/-- A piece read from the carried rows just filled. -/
theorem fillw {sp : Space} (v : View sig .tc sp S16x5632 .f32) (Z : S16x5632.Idx → Elt Ideal .f32) (r : Rect S16x5632) :
    v.readCov [(⟨Rect.unit (s := S16x5632) ![0, 0] ![16, 5632] inb_S16x5632_S16x5632_0_0, Z⟩ : View.Piece (Elt Ideal) S16x5632 .f32)] r.toLoadRect
      = View.ld Z r :=
  View.readCov_fill (s := S16x5632) v inb_S16x5632_S16x5632_0_0 Z [] r z5632

variable (m : (ℓ : Loc nD τ sig) → Buf (Elt Ideal) ℓ) (c : Dev nD) (t : Fin cfg0.N)

abbrev a0 : (⟨2, ![4096, 1024]⟩ : Shape).Idx → EReal := m ((c.tc : Thread nD τ).loc main_arg0)
abbrev a1 : (⟨2, ![1, 1024]⟩ : Shape).Idx → EReal := m ((c.tc : Thread nD τ).loc main_arg1)
abbrev a2 : (⟨2, ![5632, 256]⟩ : Shape).Idx → EReal := m ((c.tc : Thread nD τ).loc main_arg2)
abbrev a3 : (⟨2, ![5632, 256]⟩ : Shape).Idx → EReal := m ((c.tc : Thread nD τ).loc main_arg3)
abbrev a4 : (⟨2, ![5632, 512]⟩ : Shape).Idx → EReal := m ((c.tc : Thread nD τ).loc main_arg4)
abbrev a5 : (⟨2, ![3, 5632]⟩ : Shape).Idx → EReal := m ((c.tc : Thread nD τ).loc main_arg5)

theorem pt_lt (t : Fin cfg0.N) : t.val < 16 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

theorem block0 : Rows (n := 256) (m := 1024) (256 * t.val) (iblk m c 0 t) (rd (a0 m c)) := by
  intro r k
  have hi := index0 t
  have ht := pt_lt t
  have hr := r.isLt
  refine Eq.trans ?_ (rd_ix2 (a := 4096) (b := 1024) (a0 m c) ⟨256 * t.val + r.val, by omega⟩ k)
  unfold iblk
  rw [View.read_apply]
  show V m c main_arg0 _ = m (c.tc.loc main_arg0) _
  unfold V
  congr 1
  funext a
  apply Fin.ext
  match a with
  | ⟨0, _⟩ => show win0_0.index t 0 * 256 + 1 * r.val = 256 * t.val + r.val; rw [hi.1]; omega
  | ⟨1, _⟩ => show win0_0.index t 1 * 1024 + 1 * k.val = k.val; rw [hi.2]; omega

theorem index1 : ∀ t : Fin cfg0.N, win0_1.index t 0 = 0 ∧ win0_1.index t 1 = 0 :=
  (by decide +kernel : ∀ t : Fin grid0.N, win0_1.index t 0 = 0 ∧ win0_1.index t 1 = 0)

theorem block1 : Rows (n := 1) (m := 1024) (0) (iblk m c 1 t) (rd (a1 m c)) := by
  intro r k
  have hi := index1 t
  have ht := pt_lt t
  have hr := r.isLt
  refine Eq.trans ?_ (rd_ix2 (a := 1) (b := 1024) (a1 m c) ⟨0 + r.val, by omega⟩ k)
  unfold iblk
  rw [View.read_apply]
  show V m c main_arg1 _ = m (c.tc.loc main_arg1) _
  unfold V
  congr 1
  funext a
  apply Fin.ext
  match a with
  | ⟨0, _⟩ => show win0_1.index t 0 * 1 + 1 * r.val = 0 + r.val; rw [hi.1]; omega
  | ⟨1, _⟩ => show win0_1.index t 1 * 1024 + 1 * k.val = k.val; rw [hi.2]; omega

theorem index2 : ∀ t : Fin cfg0.N, win0_2.index t 0 = 0 ∧ win0_2.index t 1 = 0 :=
  (by decide +kernel : ∀ t : Fin grid0.N, win0_2.index t 0 = 0 ∧ win0_2.index t 1 = 0)

theorem block2 : Rows (n := 5632) (m := 256) (0) (iblk m c 2 t) (rd (a2 m c)) := by
  intro r k
  have hi := index2 t
  have ht := pt_lt t
  have hr := r.isLt
  refine Eq.trans ?_ (rd_ix2 (a := 5632) (b := 256) (a2 m c) ⟨0 + r.val, by omega⟩ k)
  unfold iblk
  rw [View.read_apply]
  show V m c main_arg2 _ = m (c.tc.loc main_arg2) _
  unfold V
  congr 1
  funext a
  apply Fin.ext
  match a with
  | ⟨0, _⟩ => show win0_2.index t 0 * 5632 + 1 * r.val = 0 + r.val; rw [hi.1]; omega
  | ⟨1, _⟩ => show win0_2.index t 1 * 256 + 1 * k.val = k.val; rw [hi.2]; omega

theorem index3 : ∀ t : Fin cfg0.N, win0_3.index t 0 = 0 ∧ win0_3.index t 1 = 0 :=
  (by decide +kernel : ∀ t : Fin grid0.N, win0_3.index t 0 = 0 ∧ win0_3.index t 1 = 0)

theorem block3 : Rows (n := 5632) (m := 256) (0) (iblk m c 3 t) (rd (a3 m c)) := by
  intro r k
  have hi := index3 t
  have ht := pt_lt t
  have hr := r.isLt
  refine Eq.trans ?_ (rd_ix2 (a := 5632) (b := 256) (a3 m c) ⟨0 + r.val, by omega⟩ k)
  unfold iblk
  rw [View.read_apply]
  show V m c main_arg3 _ = m (c.tc.loc main_arg3) _
  unfold V
  congr 1
  funext a
  apply Fin.ext
  match a with
  | ⟨0, _⟩ => show win0_3.index t 0 * 5632 + 1 * r.val = 0 + r.val; rw [hi.1]; omega
  | ⟨1, _⟩ => show win0_3.index t 1 * 256 + 1 * k.val = k.val; rw [hi.2]; omega

theorem index4 : ∀ t : Fin cfg0.N, win0_4.index t 0 = 0 ∧ win0_4.index t 1 = 0 :=
  (by decide +kernel : ∀ t : Fin grid0.N, win0_4.index t 0 = 0 ∧ win0_4.index t 1 = 0)

theorem block4 : Rows (n := 5632) (m := 512) (0) (iblk m c 4 t) (rd (a4 m c)) := by
  intro r k
  have hi := index4 t
  have ht := pt_lt t
  have hr := r.isLt
  refine Eq.trans ?_ (rd_ix2 (a := 5632) (b := 512) (a4 m c) ⟨0 + r.val, by omega⟩ k)
  unfold iblk
  rw [View.read_apply]
  show V m c main_arg4 _ = m (c.tc.loc main_arg4) _
  unfold V
  congr 1
  funext a
  apply Fin.ext
  match a with
  | ⟨0, _⟩ => show win0_4.index t 0 * 5632 + 1 * r.val = 0 + r.val; rw [hi.1]; omega
  | ⟨1, _⟩ => show win0_4.index t 1 * 512 + 1 * k.val = k.val; rw [hi.2]; omega

theorem index5 : ∀ t : Fin cfg0.N, win0_5.index t 0 = 0 ∧ win0_5.index t 1 = 0 :=
  (by decide +kernel : ∀ t : Fin grid0.N, win0_5.index t 0 = 0 ∧ win0_5.index t 1 = 0)

theorem block5 : Rows (n := 3) (m := 5632) (0) (iblk m c 5 t) (rd (a5 m c)) := by
  intro r k
  have hi := index5 t
  have ht := pt_lt t
  have hr := r.isLt
  refine Eq.trans ?_ (rd_ix2 (a := 3) (b := 5632) (a5 m c) ⟨0 + r.val, by omega⟩ k)
  unfold iblk
  rw [View.read_apply]
  show V m c main_arg5 _ = m (c.tc.loc main_arg5) _
  unfold V
  congr 1
  funext a
  apply Fin.ext
  match a with
  | ⟨0, _⟩ => show win0_5.index t 0 * 3 + 1 * r.val = 0 + r.val; rw [hi.1]; omega
  | ⟨1, _⟩ => show win0_5.index t 1 * 5632 + 1 * k.val = k.val; rw [hi.2]; omega

theorem hn : Rows (256 * t.val) (k0_pay3 (iblk m c 0 t) (iblk m c 1 t)) (xn (rd (a0 m c)) (rd (a1 m c))) := normed (block0 m c t) (block1 m c t)

section

variable (o : ℕ)

theorem wA (h : ∀ a, (![o, 0] : Fin 2 → ℕ) a + (![256, 256] : Fin 2 → ℕ) a ≤ (![5632, 256] : Fin 2 → ℕ) a) :
    Rows o (n := 256) (m := 256) (View.ld (iblk m c 2 t) (Rect.unit (s := ⟨2, ![5632, 256]⟩) ![o, 0] ![256, 256] h)) (rd (a2 m c)) := by
  intro r k
  have h' := rows_ld16 (v := iblk m c 2 t) o 0 h (block2 m c t) r k
  dsimp only at h'
  rwa [Nat.zero_add, Nat.zero_add] at h'

theorem wB (h : ∀ a, (![o, 0] : Fin 2 → ℕ) a + (![256, 256] : Fin 2 → ℕ) a ≤ (![5632, 256] : Fin 2 → ℕ) a) :
    Rows o (n := 256) (m := 256) (View.ld (iblk m c 3 t) (Rect.unit (s := ⟨2, ![5632, 256]⟩) ![o, 0] ![256, 256] h)) (rd (a3 m c)) := by
  intro r k
  have h' := rows_ld16 (v := iblk m c 3 t) o 0 h (block3 m c t) r k
  dsimp only at h'
  rwa [Nat.zero_add, Nat.zero_add] at h'

theorem wC (h : ∀ a, (![o, 0] : Fin 2 → ℕ) a + (![256, 512] : Fin 2 → ℕ) a ≤ (![5632, 512] : Fin 2 → ℕ) a) :
    Rows o (n := 256) (m := 512) (View.ld (iblk m c 4 t) (Rect.unit (s := ⟨2, ![5632, 512]⟩) ![o, 0] ![256, 512] h)) (rd (a4 m c)) := by
  intro r k
  have h' := rows_ld16 (v := iblk m c 4 t) o 0 h (block4 m c t) r k
  dsimp only at h'
  rwa [Nat.zero_add, Nat.zero_add] at h'

theorem wF (h : ∀ a, (![0, o] : Fin 2 → ℕ) a + (![3, 256] : Fin 2 → ℕ) a ≤ (![3, 5632] : Fin 2 → ℕ) a) :
    Rows 0 (n := 3) (m := 256) (View.ld (iblk m c 5 t) (Rect.unit (s := ⟨2, ![3, 5632]⟩) ![0, o] ![3, 256] h)) (fun t p => rd (a5 m c) t (o + p)) :=
  fun r k => rows_ld32 (v := iblk m c 5 t) 0 o h (block5 m c t) r k

/-- Before the first block there is nothing. -/
theorem before_first (h0 : t.val = 0) (f : ℕ → ℕ → EReal)
    (h : ∀ a, (![0, o] : Fin 2 → ℕ) a + (![16, 256] : Fin 2 → ℕ) a ≤ (![16, 5632] : Fin 2 → ℕ) a) :
    Before (256 * t.val) (View.ld (Val := Elt Ideal) (e' := .f32) (k0_pay2 (F := Ideal)) (Rect.unit (s := ⟨2, ![16, 5632]⟩) ![0, o] ![16, 256] h)) (fun t p => f t (o + p)) := by
  intro r p
  have h1 : o + 256 ≤ 5632 := h 1
  have hr := r.isLt
  have hp := p.isLt
  refine (ld_ix2 (Val := Elt Ideal) (e := .f32) (k0_pay2 (F := Ideal)) 0 o h r p (by omega) (by omega)).trans ?_
  rw [if_neg (by omega)]
  pointwise [k0_pay2]

/-- Before a later block stand the last rows of the one before. -/
theorem before_next (h0 : t.val ≠ 0) {f : ℕ → ℕ → EReal} {y : Vec Ideal S16x5632 .f32} (hy : Rows (256 * (t.val - 1) + 240) y f)
    (h : ∀ a, (![0, o] : Fin 2 → ℕ) a + (![16, 256] : Fin 2 → ℕ) a ≤ (![16, 5632] : Fin 2 → ℕ) a) :
    Before (256 * t.val) (View.ld (Val := Elt Ideal) (e' := .f32) y (Rect.unit (s := ⟨2, ![16, 5632]⟩) ![0, o] ![16, 256] h)) (fun t p => f t (o + p)) := by
  intro r p
  have h1 : o + 256 ≤ 5632 := h 1
  have hr := r.isLt
  have hp := p.isLt
  refine (ld_ix2 (Val := Elt Ideal) (e := .f32) y 0 o h r p (by omega) (by omega)).trans ?_
  rw [if_pos (by omega), hy]
  dsimp only
  rw [show 256 * (t.val - 1) + 240 + (0 + r.val) = 256 * t.val + r.val - 16 by omega]

end

end Cert.FfnUpValue
-- ==== Proof.FfnUpValue.lean ====
module

public import proofs.«01_k».proof.Proof.FfnUpBlock
public import Idealize.ShloMosaic.Lib.Pipeline.ReadBack

@[expose] public section

set_option maxRecDepth 16384

/-!
# The wide projection and its convolution

Each of the sixteen points takes 256 rows.  The last sixteen rows of the projection are carried to the next point.
-/

noncomputable section

open Idealize.ShloMosaic Idealize.ShloMosaic.TcCoe Idealize.ShloMosaic.Tactic
open Cert.FfnUpIdeal Cert.FfnUpIdeal.Gen Cert.FfnUpIdeal.Value
open Cert.MixSpec Cert.NormSpec Cert.FfnUpPoint
open Cert.MixBlock (ld_ix2 hz Rows rows_ld16 rows_ld32)
open Cert.MixRef (Holds)

namespace Cert.FfnUpValue

variable (m : (ℓ : Loc nD τ sig) → Buf (Elt Ideal) ℓ) (c : Dev nD) (t : Fin cfg0.N)

set_option maxHeartbeats 4000000

theorem oA6 (h0 : t.val % 16 = 0) : (outsAt0 m c t.val t.isLt).1 = k0_pay3 (iblk m c 0 t) (iblk m c 1 t) := by
  rw [outsAt0_A m c t h0]
  dsimp only
  unfold out0_A_6
  rw [View.read_writes_eq_canon _ _ _ (cover0_A_6 _ _ _ _ _ _ _ _ _ _ _ _ _ _ _ _ _ _ _ _ _ _ _ _ _ _ _ _ _)]
  unfold kernelRun0_A
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (Memref.isWhole_whole _).read_unread, ldw, ↓View.readCov_skip, ↓fillw]
  rw [View.canon_unit_zero hz]

theorem oA7 (h0 : t.val % 16 = 0) : Rows (256 * t.val) (outsAt0 m c t.val t.isLt).2.1 (pre (rd (a0 m c)) (rd (a1 m c)) (rd (a2 m c)) (rd (a3 m c)) (rd (a4 m c))) := by
  rw [outsAt0_A m c t h0]
  dsimp only
  unfold out0_A_7
  rw [View.read_writes_eq_canon _ _ _ (cover0_A_7 _ _ _ _ _ _ _ _ _ _ _ _ _ _ _ _ _ _ _ _ _ _ _ _ _ _ _ _ _)]
  unfold kernelRun0_A
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (Memref.isWhole_whole _).read_unread, ldw, ↓View.readCov_skip, ↓fillw]
  intro r k
  refine more (n := 256) (m := 5632) (e := .bf16) (G := fun r k => (pre (rd (a0 m c)) (rd (a1 m c)) (rd (a2 m c)) (rd (a3 m c)) (rd (a4 m c))) (256 * t.val + r.val) k.val) 5376 _ ?_ ?_ r k (show k.val < 5376 + 256 from k.isLt)
  · exact fun r k _ => kept (hn m c t) (wA m c t 5376 inb_S5632x256_S256x256_5376_0) (wB m c t 5376 inb_S5632x256_S256x256_5376_0) (wC m c t 5376 inb_S5632x512_S256x512_5376_0) r k
  refine more (n := 256) (m := 5632) (e := .bf16) 5120 _ ?_ ?_
  · exact fun r k _ => kept (hn m c t) (wA m c t 5120 inb_S5632x256_S256x256_5120_0) (wB m c t 5120 inb_S5632x256_S256x256_5120_0) (wC m c t 5120 inb_S5632x512_S256x512_5120_0) r k
  refine more (n := 256) (m := 5632) (e := .bf16) 4864 _ ?_ ?_
  · exact fun r k _ => kept (hn m c t) (wA m c t 4864 inb_S5632x256_S256x256_4864_0) (wB m c t 4864 inb_S5632x256_S256x256_4864_0) (wC m c t 4864 inb_S5632x512_S256x512_4864_0) r k
  refine more (n := 256) (m := 5632) (e := .bf16) 4608 _ ?_ ?_
  · exact fun r k _ => kept (hn m c t) (wA m c t 4608 inb_S5632x256_S256x256_4608_0) (wB m c t 4608 inb_S5632x256_S256x256_4608_0) (wC m c t 4608 inb_S5632x512_S256x512_4608_0) r k
  refine more (n := 256) (m := 5632) (e := .bf16) 4352 _ ?_ ?_
  · exact fun r k _ => kept (hn m c t) (wA m c t 4352 inb_S5632x256_S256x256_4352_0) (wB m c t 4352 inb_S5632x256_S256x256_4352_0) (wC m c t 4352 inb_S5632x512_S256x512_4352_0) r k
  refine more (n := 256) (m := 5632) (e := .bf16) 4096 _ ?_ ?_
  · exact fun r k _ => kept (hn m c t) (wA m c t 4096 inb_S5632x256_S256x256_4096_0) (wB m c t 4096 inb_S5632x256_S256x256_4096_0) (wC m c t 4096 inb_S5632x512_S256x512_4096_0) r k
  refine more (n := 256) (m := 5632) (e := .bf16) 3840 _ ?_ ?_
  · exact fun r k _ => kept (hn m c t) (wA m c t 3840 inb_S5632x256_S256x256_3840_0) (wB m c t 3840 inb_S5632x256_S256x256_3840_0) (wC m c t 3840 inb_S5632x512_S256x512_3840_0) r k
  refine more (n := 256) (m := 5632) (e := .bf16) 3584 _ ?_ ?_
  · exact fun r k _ => kept (hn m c t) (wA m c t 3584 inb_S5632x256_S256x256_3584_0) (wB m c t 3584 inb_S5632x256_S256x256_3584_0) (wC m c t 3584 inb_S5632x512_S256x512_3584_0) r k
  refine more (n := 256) (m := 5632) (e := .bf16) 3328 _ ?_ ?_
  · exact fun r k _ => kept (hn m c t) (wA m c t 3328 inb_S5632x256_S256x256_3328_0) (wB m c t 3328 inb_S5632x256_S256x256_3328_0) (wC m c t 3328 inb_S5632x512_S256x512_3328_0) r k
  refine more (n := 256) (m := 5632) (e := .bf16) 3072 _ ?_ ?_
  · exact fun r k _ => kept (hn m c t) (wA m c t 3072 inb_S5632x256_S256x256_3072_0) (wB m c t 3072 inb_S5632x256_S256x256_3072_0) (wC m c t 3072 inb_S5632x512_S256x512_3072_0) r k
  refine more (n := 256) (m := 5632) (e := .bf16) 2816 _ ?_ ?_
  · exact fun r k _ => kept (hn m c t) (wA m c t 2816 inb_S5632x256_S256x256_2816_0) (wB m c t 2816 inb_S5632x256_S256x256_2816_0) (wC m c t 2816 inb_S5632x512_S256x512_2816_0) r k
  refine more (n := 256) (m := 5632) (e := .bf16) 2560 _ ?_ ?_
  · exact fun r k _ => kept (hn m c t) (wA m c t 2560 inb_S5632x256_S256x256_2560_0) (wB m c t 2560 inb_S5632x256_S256x256_2560_0) (wC m c t 2560 inb_S5632x512_S256x512_2560_0) r k
  refine more (n := 256) (m := 5632) (e := .bf16) 2304 _ ?_ ?_
  · exact fun r k _ => kept (hn m c t) (wA m c t 2304 inb_S5632x256_S256x256_2304_0) (wB m c t 2304 inb_S5632x256_S256x256_2304_0) (wC m c t 2304 inb_S5632x512_S256x512_2304_0) r k
  refine more (n := 256) (m := 5632) (e := .bf16) 2048 _ ?_ ?_
  · exact fun r k _ => kept (hn m c t) (wA m c t 2048 inb_S5632x256_S256x256_2048_0) (wB m c t 2048 inb_S5632x256_S256x256_2048_0) (wC m c t 2048 inb_S5632x512_S256x512_2048_0) r k
  refine more (n := 256) (m := 5632) (e := .bf16) 1792 _ ?_ ?_
  · exact fun r k _ => kept (hn m c t) (wA m c t 1792 inb_S5632x256_S256x256_1792_0) (wB m c t 1792 inb_S5632x256_S256x256_1792_0) (wC m c t 1792 inb_S5632x512_S256x512_1792_0) r k
  refine more (n := 256) (m := 5632) (e := .bf16) 1536 _ ?_ ?_
  · exact fun r k _ => kept (hn m c t) (wA m c t 1536 inb_S5632x256_S256x256_1536_0) (wB m c t 1536 inb_S5632x256_S256x256_1536_0) (wC m c t 1536 inb_S5632x512_S256x512_1536_0) r k
  refine more (n := 256) (m := 5632) (e := .bf16) 1280 _ ?_ ?_
  · exact fun r k _ => kept (hn m c t) (wA m c t 1280 inb_S5632x256_S256x256_1280_0) (wB m c t 1280 inb_S5632x256_S256x256_1280_0) (wC m c t 1280 inb_S5632x512_S256x512_1280_0) r k
  refine more (n := 256) (m := 5632) (e := .bf16) 1024 _ ?_ ?_
  · exact fun r k _ => kept (hn m c t) (wA m c t 1024 inb_S5632x256_S256x256_1024_0) (wB m c t 1024 inb_S5632x256_S256x256_1024_0) (wC m c t 1024 inb_S5632x512_S256x512_1024_0) r k
  refine more (n := 256) (m := 5632) (e := .bf16) 768 _ ?_ ?_
  · exact fun r k _ => kept (hn m c t) (wA m c t 768 inb_S5632x256_S256x256_768_0) (wB m c t 768 inb_S5632x256_S256x256_768_0) (wC m c t 768 inb_S5632x512_S256x512_768_0) r k
  refine more (n := 256) (m := 5632) (e := .bf16) 512 _ ?_ ?_
  · exact fun r k _ => kept (hn m c t) (wA m c t 512 inb_S5632x256_S256x256_512_0) (wB m c t 512 inb_S5632x256_S256x256_512_0) (wC m c t 512 inb_S5632x512_S256x512_512_0) r k
  refine more (n := 256) (m := 5632) (e := .bf16) 256 _ ?_ ?_
  · exact fun r k _ => kept (hn m c t) (wA m c t 256 inb_S5632x256_S256x256_256_0) (wB m c t 256 inb_S5632x256_S256x256_256_0) (wC m c t 256 inb_S5632x512_S256x512_256_0) r k
  refine more (n := 256) (m := 5632) (e := .bf16) 0 _ ?_ ?_
  · exact fun r k _ => kept (hn m c t) (wA m c t 0 inb_S5632x256_S256x256_0_0) (wB m c t 0 inb_S5632x256_S256x256_0_0) (wC m c t 0 inb_S5632x512_S256x512_0_0) r k
  exact fun _ _ hk => absurd hk (Nat.not_lt_zero _)

theorem sA (h0 : t.val % 16 = 0) : Rows (256 * t.val + 240) (outsAt0 m c t.val t.isLt).2.2.2 (pre (rd (a0 m c)) (rd (a1 m c)) (rd (a2 m c)) (rd (a3 m c)) (rd (a4 m c))) := by
  rw [outsAt0_A m c t h0]
  dsimp only
  unfold sout0_A_0
  rw [View.read_writes_eq_canon _ _ _ (scover0_A_0 _ _ _ _ _ _ _ _ _ _ _ _ _ _ _ _ _ _ _ _ _ _ _ _ _ _ _ _ _)]
  unfold kernelRun0_A
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (Memref.isWhole_whole _).read_unread, ldw, ↓View.readCov_skip, ↓fillw]
  intro r k
  refine more (n := 16) (m := 5632) (e := .f32) (G := fun r k => (pre (rd (a0 m c)) (rd (a1 m c)) (rd (a2 m c)) (rd (a3 m c)) (rd (a4 m c))) (256 * t.val + 240 + r.val) k.val) 5376 _ ?_ ?_ r k (show k.val < 5376 + 256 from k.isLt)
  · exact fun r k _ => tail (piece (hn m c t) (wA m c t 5376 inb_S5632x256_S256x256_5376_0) (wB m c t 5376 inb_S5632x256_S256x256_5376_0) (wC m c t 5376 inb_S5632x512_S256x512_5376_0)) r k
  refine more (n := 16) (m := 5632) (e := .f32) 5120 _ ?_ ?_
  · exact fun r k _ => tail (piece (hn m c t) (wA m c t 5120 inb_S5632x256_S256x256_5120_0) (wB m c t 5120 inb_S5632x256_S256x256_5120_0) (wC m c t 5120 inb_S5632x512_S256x512_5120_0)) r k
  refine more (n := 16) (m := 5632) (e := .f32) 4864 _ ?_ ?_
  · exact fun r k _ => tail (piece (hn m c t) (wA m c t 4864 inb_S5632x256_S256x256_4864_0) (wB m c t 4864 inb_S5632x256_S256x256_4864_0) (wC m c t 4864 inb_S5632x512_S256x512_4864_0)) r k
  refine more (n := 16) (m := 5632) (e := .f32) 4608 _ ?_ ?_
  · exact fun r k _ => tail (piece (hn m c t) (wA m c t 4608 inb_S5632x256_S256x256_4608_0) (wB m c t 4608 inb_S5632x256_S256x256_4608_0) (wC m c t 4608 inb_S5632x512_S256x512_4608_0)) r k
  refine more (n := 16) (m := 5632) (e := .f32) 4352 _ ?_ ?_
  · exact fun r k _ => tail (piece (hn m c t) (wA m c t 4352 inb_S5632x256_S256x256_4352_0) (wB m c t 4352 inb_S5632x256_S256x256_4352_0) (wC m c t 4352 inb_S5632x512_S256x512_4352_0)) r k
  refine more (n := 16) (m := 5632) (e := .f32) 4096 _ ?_ ?_
  · exact fun r k _ => tail (piece (hn m c t) (wA m c t 4096 inb_S5632x256_S256x256_4096_0) (wB m c t 4096 inb_S5632x256_S256x256_4096_0) (wC m c t 4096 inb_S5632x512_S256x512_4096_0)) r k
  refine more (n := 16) (m := 5632) (e := .f32) 3840 _ ?_ ?_
  · exact fun r k _ => tail (piece (hn m c t) (wA m c t 3840 inb_S5632x256_S256x256_3840_0) (wB m c t 3840 inb_S5632x256_S256x256_3840_0) (wC m c t 3840 inb_S5632x512_S256x512_3840_0)) r k
  refine more (n := 16) (m := 5632) (e := .f32) 3584 _ ?_ ?_
  · exact fun r k _ => tail (piece (hn m c t) (wA m c t 3584 inb_S5632x256_S256x256_3584_0) (wB m c t 3584 inb_S5632x256_S256x256_3584_0) (wC m c t 3584 inb_S5632x512_S256x512_3584_0)) r k
  refine more (n := 16) (m := 5632) (e := .f32) 3328 _ ?_ ?_
  · exact fun r k _ => tail (piece (hn m c t) (wA m c t 3328 inb_S5632x256_S256x256_3328_0) (wB m c t 3328 inb_S5632x256_S256x256_3328_0) (wC m c t 3328 inb_S5632x512_S256x512_3328_0)) r k
  refine more (n := 16) (m := 5632) (e := .f32) 3072 _ ?_ ?_
  · exact fun r k _ => tail (piece (hn m c t) (wA m c t 3072 inb_S5632x256_S256x256_3072_0) (wB m c t 3072 inb_S5632x256_S256x256_3072_0) (wC m c t 3072 inb_S5632x512_S256x512_3072_0)) r k
  refine more (n := 16) (m := 5632) (e := .f32) 2816 _ ?_ ?_
  · exact fun r k _ => tail (piece (hn m c t) (wA m c t 2816 inb_S5632x256_S256x256_2816_0) (wB m c t 2816 inb_S5632x256_S256x256_2816_0) (wC m c t 2816 inb_S5632x512_S256x512_2816_0)) r k
  refine more (n := 16) (m := 5632) (e := .f32) 2560 _ ?_ ?_
  · exact fun r k _ => tail (piece (hn m c t) (wA m c t 2560 inb_S5632x256_S256x256_2560_0) (wB m c t 2560 inb_S5632x256_S256x256_2560_0) (wC m c t 2560 inb_S5632x512_S256x512_2560_0)) r k
  refine more (n := 16) (m := 5632) (e := .f32) 2304 _ ?_ ?_
  · exact fun r k _ => tail (piece (hn m c t) (wA m c t 2304 inb_S5632x256_S256x256_2304_0) (wB m c t 2304 inb_S5632x256_S256x256_2304_0) (wC m c t 2304 inb_S5632x512_S256x512_2304_0)) r k
  refine more (n := 16) (m := 5632) (e := .f32) 2048 _ ?_ ?_
  · exact fun r k _ => tail (piece (hn m c t) (wA m c t 2048 inb_S5632x256_S256x256_2048_0) (wB m c t 2048 inb_S5632x256_S256x256_2048_0) (wC m c t 2048 inb_S5632x512_S256x512_2048_0)) r k
  refine more (n := 16) (m := 5632) (e := .f32) 1792 _ ?_ ?_
  · exact fun r k _ => tail (piece (hn m c t) (wA m c t 1792 inb_S5632x256_S256x256_1792_0) (wB m c t 1792 inb_S5632x256_S256x256_1792_0) (wC m c t 1792 inb_S5632x512_S256x512_1792_0)) r k
  refine more (n := 16) (m := 5632) (e := .f32) 1536 _ ?_ ?_
  · exact fun r k _ => tail (piece (hn m c t) (wA m c t 1536 inb_S5632x256_S256x256_1536_0) (wB m c t 1536 inb_S5632x256_S256x256_1536_0) (wC m c t 1536 inb_S5632x512_S256x512_1536_0)) r k
  refine more (n := 16) (m := 5632) (e := .f32) 1280 _ ?_ ?_
  · exact fun r k _ => tail (piece (hn m c t) (wA m c t 1280 inb_S5632x256_S256x256_1280_0) (wB m c t 1280 inb_S5632x256_S256x256_1280_0) (wC m c t 1280 inb_S5632x512_S256x512_1280_0)) r k
  refine more (n := 16) (m := 5632) (e := .f32) 1024 _ ?_ ?_
  · exact fun r k _ => tail (piece (hn m c t) (wA m c t 1024 inb_S5632x256_S256x256_1024_0) (wB m c t 1024 inb_S5632x256_S256x256_1024_0) (wC m c t 1024 inb_S5632x512_S256x512_1024_0)) r k
  refine more (n := 16) (m := 5632) (e := .f32) 768 _ ?_ ?_
  · exact fun r k _ => tail (piece (hn m c t) (wA m c t 768 inb_S5632x256_S256x256_768_0) (wB m c t 768 inb_S5632x256_S256x256_768_0) (wC m c t 768 inb_S5632x512_S256x512_768_0)) r k
  refine more (n := 16) (m := 5632) (e := .f32) 512 _ ?_ ?_
  · exact fun r k _ => tail (piece (hn m c t) (wA m c t 512 inb_S5632x256_S256x256_512_0) (wB m c t 512 inb_S5632x256_S256x256_512_0) (wC m c t 512 inb_S5632x512_S256x512_512_0)) r k
  refine more (n := 16) (m := 5632) (e := .f32) 256 _ ?_ ?_
  · exact fun r k _ => tail (piece (hn m c t) (wA m c t 256 inb_S5632x256_S256x256_256_0) (wB m c t 256 inb_S5632x256_S256x256_256_0) (wC m c t 256 inb_S5632x512_S256x512_256_0)) r k
  refine more (n := 16) (m := 5632) (e := .f32) 0 _ ?_ ?_
  · exact fun r k _ => tail (piece (hn m c t) (wA m c t 0 inb_S5632x256_S256x256_0_0) (wB m c t 0 inb_S5632x256_S256x256_0_0) (wC m c t 0 inb_S5632x512_S256x512_0_0)) r k
  exact fun _ _ hk => absurd hk (Nat.not_lt_zero _)

theorem oB6 (h0 : ¬t.val % 16 = 0) : (outsAt0 m c t.val t.isLt).1 = k0_pay3 (iblk m c 0 t) (iblk m c 1 t) := by
  rw [outsAt0_B m c t h0]
  dsimp only
  unfold out0_B_6
  rw [View.read_writes_eq_canon _ _ _ (cover0_B_6 _ _ _ _ _ _ _ _ _ _ _ _ _ _ _ _ _ _ _ _ _ _ _ _ _ _ _ _ _ _)]
  unfold kernelRun0_B
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (Memref.isWhole_whole _).read_unread, ldw]
  rw [View.canon_unit_zero hz]

theorem oB7 (h0 : ¬t.val % 16 = 0) : Rows (256 * t.val) (outsAt0 m c t.val t.isLt).2.1 (pre (rd (a0 m c)) (rd (a1 m c)) (rd (a2 m c)) (rd (a3 m c)) (rd (a4 m c))) := by
  rw [outsAt0_B m c t h0]
  dsimp only
  unfold out0_B_7
  rw [View.read_writes_eq_canon _ _ _ (cover0_B_7 _ _ _ _ _ _ _ _ _ _ _ _ _ _ _ _ _ _ _ _ _ _ _ _ _ _ _ _ _ _)]
  unfold kernelRun0_B
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (Memref.isWhole_whole _).read_unread, ldw]
  intro r k
  refine more (n := 256) (m := 5632) (e := .bf16) (G := fun r k => (pre (rd (a0 m c)) (rd (a1 m c)) (rd (a2 m c)) (rd (a3 m c)) (rd (a4 m c))) (256 * t.val + r.val) k.val) 5376 _ ?_ ?_ r k (show k.val < 5376 + 256 from k.isLt)
  · exact fun r k _ => kept (hn m c t) (wA m c t 5376 inb_S5632x256_S256x256_5376_0) (wB m c t 5376 inb_S5632x256_S256x256_5376_0) (wC m c t 5376 inb_S5632x512_S256x512_5376_0) r k
  refine more (n := 256) (m := 5632) (e := .bf16) 5120 _ ?_ ?_
  · exact fun r k _ => kept (hn m c t) (wA m c t 5120 inb_S5632x256_S256x256_5120_0) (wB m c t 5120 inb_S5632x256_S256x256_5120_0) (wC m c t 5120 inb_S5632x512_S256x512_5120_0) r k
  refine more (n := 256) (m := 5632) (e := .bf16) 4864 _ ?_ ?_
  · exact fun r k _ => kept (hn m c t) (wA m c t 4864 inb_S5632x256_S256x256_4864_0) (wB m c t 4864 inb_S5632x256_S256x256_4864_0) (wC m c t 4864 inb_S5632x512_S256x512_4864_0) r k
  refine more (n := 256) (m := 5632) (e := .bf16) 4608 _ ?_ ?_
  · exact fun r k _ => kept (hn m c t) (wA m c t 4608 inb_S5632x256_S256x256_4608_0) (wB m c t 4608 inb_S5632x256_S256x256_4608_0) (wC m c t 4608 inb_S5632x512_S256x512_4608_0) r k
  refine more (n := 256) (m := 5632) (e := .bf16) 4352 _ ?_ ?_
  · exact fun r k _ => kept (hn m c t) (wA m c t 4352 inb_S5632x256_S256x256_4352_0) (wB m c t 4352 inb_S5632x256_S256x256_4352_0) (wC m c t 4352 inb_S5632x512_S256x512_4352_0) r k
  refine more (n := 256) (m := 5632) (e := .bf16) 4096 _ ?_ ?_
  · exact fun r k _ => kept (hn m c t) (wA m c t 4096 inb_S5632x256_S256x256_4096_0) (wB m c t 4096 inb_S5632x256_S256x256_4096_0) (wC m c t 4096 inb_S5632x512_S256x512_4096_0) r k
  refine more (n := 256) (m := 5632) (e := .bf16) 3840 _ ?_ ?_
  · exact fun r k _ => kept (hn m c t) (wA m c t 3840 inb_S5632x256_S256x256_3840_0) (wB m c t 3840 inb_S5632x256_S256x256_3840_0) (wC m c t 3840 inb_S5632x512_S256x512_3840_0) r k
  refine more (n := 256) (m := 5632) (e := .bf16) 3584 _ ?_ ?_
  · exact fun r k _ => kept (hn m c t) (wA m c t 3584 inb_S5632x256_S256x256_3584_0) (wB m c t 3584 inb_S5632x256_S256x256_3584_0) (wC m c t 3584 inb_S5632x512_S256x512_3584_0) r k
  refine more (n := 256) (m := 5632) (e := .bf16) 3328 _ ?_ ?_
  · exact fun r k _ => kept (hn m c t) (wA m c t 3328 inb_S5632x256_S256x256_3328_0) (wB m c t 3328 inb_S5632x256_S256x256_3328_0) (wC m c t 3328 inb_S5632x512_S256x512_3328_0) r k
  refine more (n := 256) (m := 5632) (e := .bf16) 3072 _ ?_ ?_
  · exact fun r k _ => kept (hn m c t) (wA m c t 3072 inb_S5632x256_S256x256_3072_0) (wB m c t 3072 inb_S5632x256_S256x256_3072_0) (wC m c t 3072 inb_S5632x512_S256x512_3072_0) r k
  refine more (n := 256) (m := 5632) (e := .bf16) 2816 _ ?_ ?_
  · exact fun r k _ => kept (hn m c t) (wA m c t 2816 inb_S5632x256_S256x256_2816_0) (wB m c t 2816 inb_S5632x256_S256x256_2816_0) (wC m c t 2816 inb_S5632x512_S256x512_2816_0) r k
  refine more (n := 256) (m := 5632) (e := .bf16) 2560 _ ?_ ?_
  · exact fun r k _ => kept (hn m c t) (wA m c t 2560 inb_S5632x256_S256x256_2560_0) (wB m c t 2560 inb_S5632x256_S256x256_2560_0) (wC m c t 2560 inb_S5632x512_S256x512_2560_0) r k
  refine more (n := 256) (m := 5632) (e := .bf16) 2304 _ ?_ ?_
  · exact fun r k _ => kept (hn m c t) (wA m c t 2304 inb_S5632x256_S256x256_2304_0) (wB m c t 2304 inb_S5632x256_S256x256_2304_0) (wC m c t 2304 inb_S5632x512_S256x512_2304_0) r k
  refine more (n := 256) (m := 5632) (e := .bf16) 2048 _ ?_ ?_
  · exact fun r k _ => kept (hn m c t) (wA m c t 2048 inb_S5632x256_S256x256_2048_0) (wB m c t 2048 inb_S5632x256_S256x256_2048_0) (wC m c t 2048 inb_S5632x512_S256x512_2048_0) r k
  refine more (n := 256) (m := 5632) (e := .bf16) 1792 _ ?_ ?_
  · exact fun r k _ => kept (hn m c t) (wA m c t 1792 inb_S5632x256_S256x256_1792_0) (wB m c t 1792 inb_S5632x256_S256x256_1792_0) (wC m c t 1792 inb_S5632x512_S256x512_1792_0) r k
  refine more (n := 256) (m := 5632) (e := .bf16) 1536 _ ?_ ?_
  · exact fun r k _ => kept (hn m c t) (wA m c t 1536 inb_S5632x256_S256x256_1536_0) (wB m c t 1536 inb_S5632x256_S256x256_1536_0) (wC m c t 1536 inb_S5632x512_S256x512_1536_0) r k
  refine more (n := 256) (m := 5632) (e := .bf16) 1280 _ ?_ ?_
  · exact fun r k _ => kept (hn m c t) (wA m c t 1280 inb_S5632x256_S256x256_1280_0) (wB m c t 1280 inb_S5632x256_S256x256_1280_0) (wC m c t 1280 inb_S5632x512_S256x512_1280_0) r k
  refine more (n := 256) (m := 5632) (e := .bf16) 1024 _ ?_ ?_
  · exact fun r k _ => kept (hn m c t) (wA m c t 1024 inb_S5632x256_S256x256_1024_0) (wB m c t 1024 inb_S5632x256_S256x256_1024_0) (wC m c t 1024 inb_S5632x512_S256x512_1024_0) r k
  refine more (n := 256) (m := 5632) (e := .bf16) 768 _ ?_ ?_
  · exact fun r k _ => kept (hn m c t) (wA m c t 768 inb_S5632x256_S256x256_768_0) (wB m c t 768 inb_S5632x256_S256x256_768_0) (wC m c t 768 inb_S5632x512_S256x512_768_0) r k
  refine more (n := 256) (m := 5632) (e := .bf16) 512 _ ?_ ?_
  · exact fun r k _ => kept (hn m c t) (wA m c t 512 inb_S5632x256_S256x256_512_0) (wB m c t 512 inb_S5632x256_S256x256_512_0) (wC m c t 512 inb_S5632x512_S256x512_512_0) r k
  refine more (n := 256) (m := 5632) (e := .bf16) 256 _ ?_ ?_
  · exact fun r k _ => kept (hn m c t) (wA m c t 256 inb_S5632x256_S256x256_256_0) (wB m c t 256 inb_S5632x256_S256x256_256_0) (wC m c t 256 inb_S5632x512_S256x512_256_0) r k
  refine more (n := 256) (m := 5632) (e := .bf16) 0 _ ?_ ?_
  · exact fun r k _ => kept (hn m c t) (wA m c t 0 inb_S5632x256_S256x256_0_0) (wB m c t 0 inb_S5632x256_S256x256_0_0) (wC m c t 0 inb_S5632x512_S256x512_0_0) r k
  exact fun _ _ hk => absurd hk (Nat.not_lt_zero _)

theorem sB (h0 : ¬t.val % 16 = 0) : Rows (256 * t.val + 240) (outsAt0 m c t.val t.isLt).2.2.2 (pre (rd (a0 m c)) (rd (a1 m c)) (rd (a2 m c)) (rd (a3 m c)) (rd (a4 m c))) := by
  rw [outsAt0_B m c t h0]
  dsimp only
  unfold sout0_B_0
  rw [View.read_writes_eq_canon _ _ _ (scover0_B_0 _ _ _ _ _ _ _ _ _ _ _ _ _ _ _ _ _ _ _ _ _ _ _ _ _ _ _ _ _ _)]
  unfold kernelRun0_B
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (Memref.isWhole_whole _).read_unread, ldw]
  intro r k
  refine more (n := 16) (m := 5632) (e := .f32) (G := fun r k => (pre (rd (a0 m c)) (rd (a1 m c)) (rd (a2 m c)) (rd (a3 m c)) (rd (a4 m c))) (256 * t.val + 240 + r.val) k.val) 5376 _ ?_ ?_ r k (show k.val < 5376 + 256 from k.isLt)
  · exact fun r k _ => tail (piece (hn m c t) (wA m c t 5376 inb_S5632x256_S256x256_5376_0) (wB m c t 5376 inb_S5632x256_S256x256_5376_0) (wC m c t 5376 inb_S5632x512_S256x512_5376_0)) r k
  refine more (n := 16) (m := 5632) (e := .f32) 5120 _ ?_ ?_
  · exact fun r k _ => tail (piece (hn m c t) (wA m c t 5120 inb_S5632x256_S256x256_5120_0) (wB m c t 5120 inb_S5632x256_S256x256_5120_0) (wC m c t 5120 inb_S5632x512_S256x512_5120_0)) r k
  refine more (n := 16) (m := 5632) (e := .f32) 4864 _ ?_ ?_
  · exact fun r k _ => tail (piece (hn m c t) (wA m c t 4864 inb_S5632x256_S256x256_4864_0) (wB m c t 4864 inb_S5632x256_S256x256_4864_0) (wC m c t 4864 inb_S5632x512_S256x512_4864_0)) r k
  refine more (n := 16) (m := 5632) (e := .f32) 4608 _ ?_ ?_
  · exact fun r k _ => tail (piece (hn m c t) (wA m c t 4608 inb_S5632x256_S256x256_4608_0) (wB m c t 4608 inb_S5632x256_S256x256_4608_0) (wC m c t 4608 inb_S5632x512_S256x512_4608_0)) r k
  refine more (n := 16) (m := 5632) (e := .f32) 4352 _ ?_ ?_
  · exact fun r k _ => tail (piece (hn m c t) (wA m c t 4352 inb_S5632x256_S256x256_4352_0) (wB m c t 4352 inb_S5632x256_S256x256_4352_0) (wC m c t 4352 inb_S5632x512_S256x512_4352_0)) r k
  refine more (n := 16) (m := 5632) (e := .f32) 4096 _ ?_ ?_
  · exact fun r k _ => tail (piece (hn m c t) (wA m c t 4096 inb_S5632x256_S256x256_4096_0) (wB m c t 4096 inb_S5632x256_S256x256_4096_0) (wC m c t 4096 inb_S5632x512_S256x512_4096_0)) r k
  refine more (n := 16) (m := 5632) (e := .f32) 3840 _ ?_ ?_
  · exact fun r k _ => tail (piece (hn m c t) (wA m c t 3840 inb_S5632x256_S256x256_3840_0) (wB m c t 3840 inb_S5632x256_S256x256_3840_0) (wC m c t 3840 inb_S5632x512_S256x512_3840_0)) r k
  refine more (n := 16) (m := 5632) (e := .f32) 3584 _ ?_ ?_
  · exact fun r k _ => tail (piece (hn m c t) (wA m c t 3584 inb_S5632x256_S256x256_3584_0) (wB m c t 3584 inb_S5632x256_S256x256_3584_0) (wC m c t 3584 inb_S5632x512_S256x512_3584_0)) r k
  refine more (n := 16) (m := 5632) (e := .f32) 3328 _ ?_ ?_
  · exact fun r k _ => tail (piece (hn m c t) (wA m c t 3328 inb_S5632x256_S256x256_3328_0) (wB m c t 3328 inb_S5632x256_S256x256_3328_0) (wC m c t 3328 inb_S5632x512_S256x512_3328_0)) r k
  refine more (n := 16) (m := 5632) (e := .f32) 3072 _ ?_ ?_
  · exact fun r k _ => tail (piece (hn m c t) (wA m c t 3072 inb_S5632x256_S256x256_3072_0) (wB m c t 3072 inb_S5632x256_S256x256_3072_0) (wC m c t 3072 inb_S5632x512_S256x512_3072_0)) r k
  refine more (n := 16) (m := 5632) (e := .f32) 2816 _ ?_ ?_
  · exact fun r k _ => tail (piece (hn m c t) (wA m c t 2816 inb_S5632x256_S256x256_2816_0) (wB m c t 2816 inb_S5632x256_S256x256_2816_0) (wC m c t 2816 inb_S5632x512_S256x512_2816_0)) r k
  refine more (n := 16) (m := 5632) (e := .f32) 2560 _ ?_ ?_
  · exact fun r k _ => tail (piece (hn m c t) (wA m c t 2560 inb_S5632x256_S256x256_2560_0) (wB m c t 2560 inb_S5632x256_S256x256_2560_0) (wC m c t 2560 inb_S5632x512_S256x512_2560_0)) r k
  refine more (n := 16) (m := 5632) (e := .f32) 2304 _ ?_ ?_
  · exact fun r k _ => tail (piece (hn m c t) (wA m c t 2304 inb_S5632x256_S256x256_2304_0) (wB m c t 2304 inb_S5632x256_S256x256_2304_0) (wC m c t 2304 inb_S5632x512_S256x512_2304_0)) r k
  refine more (n := 16) (m := 5632) (e := .f32) 2048 _ ?_ ?_
  · exact fun r k _ => tail (piece (hn m c t) (wA m c t 2048 inb_S5632x256_S256x256_2048_0) (wB m c t 2048 inb_S5632x256_S256x256_2048_0) (wC m c t 2048 inb_S5632x512_S256x512_2048_0)) r k
  refine more (n := 16) (m := 5632) (e := .f32) 1792 _ ?_ ?_
  · exact fun r k _ => tail (piece (hn m c t) (wA m c t 1792 inb_S5632x256_S256x256_1792_0) (wB m c t 1792 inb_S5632x256_S256x256_1792_0) (wC m c t 1792 inb_S5632x512_S256x512_1792_0)) r k
  refine more (n := 16) (m := 5632) (e := .f32) 1536 _ ?_ ?_
  · exact fun r k _ => tail (piece (hn m c t) (wA m c t 1536 inb_S5632x256_S256x256_1536_0) (wB m c t 1536 inb_S5632x256_S256x256_1536_0) (wC m c t 1536 inb_S5632x512_S256x512_1536_0)) r k
  refine more (n := 16) (m := 5632) (e := .f32) 1280 _ ?_ ?_
  · exact fun r k _ => tail (piece (hn m c t) (wA m c t 1280 inb_S5632x256_S256x256_1280_0) (wB m c t 1280 inb_S5632x256_S256x256_1280_0) (wC m c t 1280 inb_S5632x512_S256x512_1280_0)) r k
  refine more (n := 16) (m := 5632) (e := .f32) 1024 _ ?_ ?_
  · exact fun r k _ => tail (piece (hn m c t) (wA m c t 1024 inb_S5632x256_S256x256_1024_0) (wB m c t 1024 inb_S5632x256_S256x256_1024_0) (wC m c t 1024 inb_S5632x512_S256x512_1024_0)) r k
  refine more (n := 16) (m := 5632) (e := .f32) 768 _ ?_ ?_
  · exact fun r k _ => tail (piece (hn m c t) (wA m c t 768 inb_S5632x256_S256x256_768_0) (wB m c t 768 inb_S5632x256_S256x256_768_0) (wC m c t 768 inb_S5632x512_S256x512_768_0)) r k
  refine more (n := 16) (m := 5632) (e := .f32) 512 _ ?_ ?_
  · exact fun r k _ => tail (piece (hn m c t) (wA m c t 512 inb_S5632x256_S256x256_512_0) (wB m c t 512 inb_S5632x256_S256x256_512_0) (wC m c t 512 inb_S5632x512_S256x512_512_0)) r k
  refine more (n := 16) (m := 5632) (e := .f32) 256 _ ?_ ?_
  · exact fun r k _ => tail (piece (hn m c t) (wA m c t 256 inb_S5632x256_S256x256_256_0) (wB m c t 256 inb_S5632x256_S256x256_256_0) (wC m c t 256 inb_S5632x512_S256x512_256_0)) r k
  refine more (n := 16) (m := 5632) (e := .f32) 0 _ ?_ ?_
  · exact fun r k _ => tail (piece (hn m c t) (wA m c t 0 inb_S5632x256_S256x256_0_0) (wB m c t 0 inb_S5632x256_S256x256_0_0) (wC m c t 0 inb_S5632x512_S256x512_0_0)) r k
  exact fun _ _ hk => absurd hk (Nat.not_lt_zero _)

/-- What is carried from a point to the next. -/
theorem carried : Rows (256 * t.val + 240) (outsAt0 m c t.val t.isLt).2.2.2 (pre (rd (a0 m c)) (rd (a1 m c)) (rd (a2 m c)) (rd (a3 m c)) (rd (a4 m c))) := by
  by_cases h0 : t.val % 16 = 0
  · exact sA m c t h0
  · exact sB m c t h0

theorem oA8 (h0 : t.val % 16 = 0) : Rows (256 * t.val) (outsAt0 m c t.val t.isLt).2.2.1 (taps (rd (a5 m c)) (pre (rd (a0 m c)) (rd (a1 m c)) (rd (a2 m c)) (rd (a3 m c)) (rd (a4 m c)))) := by
  rw [outsAt0_A m c t h0]
  dsimp only
  unfold out0_A_8
  rw [View.read_writes_eq_canon _ _ _ (cover0_A_8 _ _ _ _ _ _ _ _ _ _ _ _ _ _ _ _ _ _ _ _ _ _ _ _ _ _ _ _ _)]
  unfold kernelRun0_A
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (Memref.isWhole_whole _).read_unread, ldw, ↓View.readCov_skip, ↓fillw]
  intro r k
  refine more (n := 256) (m := 5632) (e := .bf16) (G := fun r k => (taps (rd (a5 m c)) (pre (rd (a0 m c)) (rd (a1 m c)) (rd (a2 m c)) (rd (a3 m c)) (rd (a4 m c)))) (256 * t.val + r.val) k.val) 5376 _ ?_ ?_ r k (show k.val < 5376 + 256 from k.isLt)
  · exact fun r k _ => conv (piece (hn m c t) (wA m c t 5376 inb_S5632x256_S256x256_5376_0) (wB m c t 5376 inb_S5632x256_S256x256_5376_0) (wC m c t 5376 inb_S5632x512_S256x512_5376_0)) (before_first t 5376 (by have := pt_lt t; omega) _ inb_S16x5632_S16x256_0_5376) (wF m c t 5376 inb_S3x5632_S3x256_0_5376) r k
  refine more (n := 256) (m := 5632) (e := .bf16) 5120 _ ?_ ?_
  · exact fun r k _ => conv (piece (hn m c t) (wA m c t 5120 inb_S5632x256_S256x256_5120_0) (wB m c t 5120 inb_S5632x256_S256x256_5120_0) (wC m c t 5120 inb_S5632x512_S256x512_5120_0)) (before_first t 5120 (by have := pt_lt t; omega) _ inb_S16x5632_S16x256_0_5120) (wF m c t 5120 inb_S3x5632_S3x256_0_5120) r k
  refine more (n := 256) (m := 5632) (e := .bf16) 4864 _ ?_ ?_
  · exact fun r k _ => conv (piece (hn m c t) (wA m c t 4864 inb_S5632x256_S256x256_4864_0) (wB m c t 4864 inb_S5632x256_S256x256_4864_0) (wC m c t 4864 inb_S5632x512_S256x512_4864_0)) (before_first t 4864 (by have := pt_lt t; omega) _ inb_S16x5632_S16x256_0_4864) (wF m c t 4864 inb_S3x5632_S3x256_0_4864) r k
  refine more (n := 256) (m := 5632) (e := .bf16) 4608 _ ?_ ?_
  · exact fun r k _ => conv (piece (hn m c t) (wA m c t 4608 inb_S5632x256_S256x256_4608_0) (wB m c t 4608 inb_S5632x256_S256x256_4608_0) (wC m c t 4608 inb_S5632x512_S256x512_4608_0)) (before_first t 4608 (by have := pt_lt t; omega) _ inb_S16x5632_S16x256_0_4608) (wF m c t 4608 inb_S3x5632_S3x256_0_4608) r k
  refine more (n := 256) (m := 5632) (e := .bf16) 4352 _ ?_ ?_
  · exact fun r k _ => conv (piece (hn m c t) (wA m c t 4352 inb_S5632x256_S256x256_4352_0) (wB m c t 4352 inb_S5632x256_S256x256_4352_0) (wC m c t 4352 inb_S5632x512_S256x512_4352_0)) (before_first t 4352 (by have := pt_lt t; omega) _ inb_S16x5632_S16x256_0_4352) (wF m c t 4352 inb_S3x5632_S3x256_0_4352) r k
  refine more (n := 256) (m := 5632) (e := .bf16) 4096 _ ?_ ?_
  · exact fun r k _ => conv (piece (hn m c t) (wA m c t 4096 inb_S5632x256_S256x256_4096_0) (wB m c t 4096 inb_S5632x256_S256x256_4096_0) (wC m c t 4096 inb_S5632x512_S256x512_4096_0)) (before_first t 4096 (by have := pt_lt t; omega) _ inb_S16x5632_S16x256_0_4096) (wF m c t 4096 inb_S3x5632_S3x256_0_4096) r k
  refine more (n := 256) (m := 5632) (e := .bf16) 3840 _ ?_ ?_
  · exact fun r k _ => conv (piece (hn m c t) (wA m c t 3840 inb_S5632x256_S256x256_3840_0) (wB m c t 3840 inb_S5632x256_S256x256_3840_0) (wC m c t 3840 inb_S5632x512_S256x512_3840_0)) (before_first t 3840 (by have := pt_lt t; omega) _ inb_S16x5632_S16x256_0_3840) (wF m c t 3840 inb_S3x5632_S3x256_0_3840) r k
  refine more (n := 256) (m := 5632) (e := .bf16) 3584 _ ?_ ?_
  · exact fun r k _ => conv (piece (hn m c t) (wA m c t 3584 inb_S5632x256_S256x256_3584_0) (wB m c t 3584 inb_S5632x256_S256x256_3584_0) (wC m c t 3584 inb_S5632x512_S256x512_3584_0)) (before_first t 3584 (by have := pt_lt t; omega) _ inb_S16x5632_S16x256_0_3584) (wF m c t 3584 inb_S3x5632_S3x256_0_3584) r k
  refine more (n := 256) (m := 5632) (e := .bf16) 3328 _ ?_ ?_
  · exact fun r k _ => conv (piece (hn m c t) (wA m c t 3328 inb_S5632x256_S256x256_3328_0) (wB m c t 3328 inb_S5632x256_S256x256_3328_0) (wC m c t 3328 inb_S5632x512_S256x512_3328_0)) (before_first t 3328 (by have := pt_lt t; omega) _ inb_S16x5632_S16x256_0_3328) (wF m c t 3328 inb_S3x5632_S3x256_0_3328) r k
  refine more (n := 256) (m := 5632) (e := .bf16) 3072 _ ?_ ?_
  · exact fun r k _ => conv (piece (hn m c t) (wA m c t 3072 inb_S5632x256_S256x256_3072_0) (wB m c t 3072 inb_S5632x256_S256x256_3072_0) (wC m c t 3072 inb_S5632x512_S256x512_3072_0)) (before_first t 3072 (by have := pt_lt t; omega) _ inb_S16x5632_S16x256_0_3072) (wF m c t 3072 inb_S3x5632_S3x256_0_3072) r k
  refine more (n := 256) (m := 5632) (e := .bf16) 2816 _ ?_ ?_
  · exact fun r k _ => conv (piece (hn m c t) (wA m c t 2816 inb_S5632x256_S256x256_2816_0) (wB m c t 2816 inb_S5632x256_S256x256_2816_0) (wC m c t 2816 inb_S5632x512_S256x512_2816_0)) (before_first t 2816 (by have := pt_lt t; omega) _ inb_S16x5632_S16x256_0_2816) (wF m c t 2816 inb_S3x5632_S3x256_0_2816) r k
  refine more (n := 256) (m := 5632) (e := .bf16) 2560 _ ?_ ?_
  · exact fun r k _ => conv (piece (hn m c t) (wA m c t 2560 inb_S5632x256_S256x256_2560_0) (wB m c t 2560 inb_S5632x256_S256x256_2560_0) (wC m c t 2560 inb_S5632x512_S256x512_2560_0)) (before_first t 2560 (by have := pt_lt t; omega) _ inb_S16x5632_S16x256_0_2560) (wF m c t 2560 inb_S3x5632_S3x256_0_2560) r k
  refine more (n := 256) (m := 5632) (e := .bf16) 2304 _ ?_ ?_
  · exact fun r k _ => conv (piece (hn m c t) (wA m c t 2304 inb_S5632x256_S256x256_2304_0) (wB m c t 2304 inb_S5632x256_S256x256_2304_0) (wC m c t 2304 inb_S5632x512_S256x512_2304_0)) (before_first t 2304 (by have := pt_lt t; omega) _ inb_S16x5632_S16x256_0_2304) (wF m c t 2304 inb_S3x5632_S3x256_0_2304) r k
  refine more (n := 256) (m := 5632) (e := .bf16) 2048 _ ?_ ?_
  · exact fun r k _ => conv (piece (hn m c t) (wA m c t 2048 inb_S5632x256_S256x256_2048_0) (wB m c t 2048 inb_S5632x256_S256x256_2048_0) (wC m c t 2048 inb_S5632x512_S256x512_2048_0)) (before_first t 2048 (by have := pt_lt t; omega) _ inb_S16x5632_S16x256_0_2048) (wF m c t 2048 inb_S3x5632_S3x256_0_2048) r k
  refine more (n := 256) (m := 5632) (e := .bf16) 1792 _ ?_ ?_
  · exact fun r k _ => conv (piece (hn m c t) (wA m c t 1792 inb_S5632x256_S256x256_1792_0) (wB m c t 1792 inb_S5632x256_S256x256_1792_0) (wC m c t 1792 inb_S5632x512_S256x512_1792_0)) (before_first t 1792 (by have := pt_lt t; omega) _ inb_S16x5632_S16x256_0_1792) (wF m c t 1792 inb_S3x5632_S3x256_0_1792) r k
  refine more (n := 256) (m := 5632) (e := .bf16) 1536 _ ?_ ?_
  · exact fun r k _ => conv (piece (hn m c t) (wA m c t 1536 inb_S5632x256_S256x256_1536_0) (wB m c t 1536 inb_S5632x256_S256x256_1536_0) (wC m c t 1536 inb_S5632x512_S256x512_1536_0)) (before_first t 1536 (by have := pt_lt t; omega) _ inb_S16x5632_S16x256_0_1536) (wF m c t 1536 inb_S3x5632_S3x256_0_1536) r k
  refine more (n := 256) (m := 5632) (e := .bf16) 1280 _ ?_ ?_
  · exact fun r k _ => conv (piece (hn m c t) (wA m c t 1280 inb_S5632x256_S256x256_1280_0) (wB m c t 1280 inb_S5632x256_S256x256_1280_0) (wC m c t 1280 inb_S5632x512_S256x512_1280_0)) (before_first t 1280 (by have := pt_lt t; omega) _ inb_S16x5632_S16x256_0_1280) (wF m c t 1280 inb_S3x5632_S3x256_0_1280) r k
  refine more (n := 256) (m := 5632) (e := .bf16) 1024 _ ?_ ?_
  · exact fun r k _ => conv (piece (hn m c t) (wA m c t 1024 inb_S5632x256_S256x256_1024_0) (wB m c t 1024 inb_S5632x256_S256x256_1024_0) (wC m c t 1024 inb_S5632x512_S256x512_1024_0)) (before_first t 1024 (by have := pt_lt t; omega) _ inb_S16x5632_S16x256_0_1024) (wF m c t 1024 inb_S3x5632_S3x256_0_1024) r k
  refine more (n := 256) (m := 5632) (e := .bf16) 768 _ ?_ ?_
  · exact fun r k _ => conv (piece (hn m c t) (wA m c t 768 inb_S5632x256_S256x256_768_0) (wB m c t 768 inb_S5632x256_S256x256_768_0) (wC m c t 768 inb_S5632x512_S256x512_768_0)) (before_first t 768 (by have := pt_lt t; omega) _ inb_S16x5632_S16x256_0_768) (wF m c t 768 inb_S3x5632_S3x256_0_768) r k
  refine more (n := 256) (m := 5632) (e := .bf16) 512 _ ?_ ?_
  · exact fun r k _ => conv (piece (hn m c t) (wA m c t 512 inb_S5632x256_S256x256_512_0) (wB m c t 512 inb_S5632x256_S256x256_512_0) (wC m c t 512 inb_S5632x512_S256x512_512_0)) (before_first t 512 (by have := pt_lt t; omega) _ inb_S16x5632_S16x256_0_512) (wF m c t 512 inb_S3x5632_S3x256_0_512) r k
  refine more (n := 256) (m := 5632) (e := .bf16) 256 _ ?_ ?_
  · exact fun r k _ => conv (piece (hn m c t) (wA m c t 256 inb_S5632x256_S256x256_256_0) (wB m c t 256 inb_S5632x256_S256x256_256_0) (wC m c t 256 inb_S5632x512_S256x512_256_0)) (before_first t 256 (by have := pt_lt t; omega) _ inb_S16x5632_S16x256_0_256) (wF m c t 256 inb_S3x5632_S3x256_0_256) r k
  refine more (n := 256) (m := 5632) (e := .bf16) 0 _ ?_ ?_
  · exact fun r k _ => conv (piece (hn m c t) (wA m c t 0 inb_S5632x256_S256x256_0_0) (wB m c t 0 inb_S5632x256_S256x256_0_0) (wC m c t 0 inb_S5632x512_S256x512_0_0)) (before_first t 0 (by have := pt_lt t; omega) _ inb_S16x5632_S16x256_0_0) (wF m c t 0 inb_S3x5632_S3x256_0_0) r k
  exact fun _ _ hk => absurd hk (Nat.not_lt_zero _)

theorem oB8 (h0 : ¬t.val % 16 = 0) : Rows (256 * t.val) (outsAt0 m c t.val t.isLt).2.2.1 (taps (rd (a5 m c)) (pre (rd (a0 m c)) (rd (a1 m c)) (rd (a2 m c)) (rd (a3 m c)) (rd (a4 m c)))) := by
  have hy := carried m c ⟨t.val - 1, Nat.lt_of_le_of_lt (Nat.sub_le _ _) t.isLt⟩
  rw [outsAt0_B m c t h0]
  dsimp only
  unfold out0_B_8
  rw [View.read_writes_eq_canon _ _ _ (cover0_B_8 _ _ _ _ _ _ _ _ _ _ _ _ _ _ _ _ _ _ _ _ _ _ _ _ _ _ _ _ _ _)]
  unfold kernelRun0_B
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (Memref.isWhole_whole _).read_unread, ldw]
  intro r k
  refine more (n := 256) (m := 5632) (e := .bf16) (G := fun r k => (taps (rd (a5 m c)) (pre (rd (a0 m c)) (rd (a1 m c)) (rd (a2 m c)) (rd (a3 m c)) (rd (a4 m c)))) (256 * t.val + r.val) k.val) 5376 _ ?_ ?_ r k (show k.val < 5376 + 256 from k.isLt)
  · exact fun r k _ => conv (piece (hn m c t) (wA m c t 5376 inb_S5632x256_S256x256_5376_0) (wB m c t 5376 inb_S5632x256_S256x256_5376_0) (wC m c t 5376 inb_S5632x512_S256x512_5376_0)) (before_next t 5376 (by intro hh; exact h0 (by rw [hh])) hy inb_S16x5632_S16x256_0_5376) (wF m c t 5376 inb_S3x5632_S3x256_0_5376) r k
  refine more (n := 256) (m := 5632) (e := .bf16) 5120 _ ?_ ?_
  · exact fun r k _ => conv (piece (hn m c t) (wA m c t 5120 inb_S5632x256_S256x256_5120_0) (wB m c t 5120 inb_S5632x256_S256x256_5120_0) (wC m c t 5120 inb_S5632x512_S256x512_5120_0)) (before_next t 5120 (by intro hh; exact h0 (by rw [hh])) hy inb_S16x5632_S16x256_0_5120) (wF m c t 5120 inb_S3x5632_S3x256_0_5120) r k
  refine more (n := 256) (m := 5632) (e := .bf16) 4864 _ ?_ ?_
  · exact fun r k _ => conv (piece (hn m c t) (wA m c t 4864 inb_S5632x256_S256x256_4864_0) (wB m c t 4864 inb_S5632x256_S256x256_4864_0) (wC m c t 4864 inb_S5632x512_S256x512_4864_0)) (before_next t 4864 (by intro hh; exact h0 (by rw [hh])) hy inb_S16x5632_S16x256_0_4864) (wF m c t 4864 inb_S3x5632_S3x256_0_4864) r k
  refine more (n := 256) (m := 5632) (e := .bf16) 4608 _ ?_ ?_
  · exact fun r k _ => conv (piece (hn m c t) (wA m c t 4608 inb_S5632x256_S256x256_4608_0) (wB m c t 4608 inb_S5632x256_S256x256_4608_0) (wC m c t 4608 inb_S5632x512_S256x512_4608_0)) (before_next t 4608 (by intro hh; exact h0 (by rw [hh])) hy inb_S16x5632_S16x256_0_4608) (wF m c t 4608 inb_S3x5632_S3x256_0_4608) r k
  refine more (n := 256) (m := 5632) (e := .bf16) 4352 _ ?_ ?_
  · exact fun r k _ => conv (piece (hn m c t) (wA m c t 4352 inb_S5632x256_S256x256_4352_0) (wB m c t 4352 inb_S5632x256_S256x256_4352_0) (wC m c t 4352 inb_S5632x512_S256x512_4352_0)) (before_next t 4352 (by intro hh; exact h0 (by rw [hh])) hy inb_S16x5632_S16x256_0_4352) (wF m c t 4352 inb_S3x5632_S3x256_0_4352) r k
  refine more (n := 256) (m := 5632) (e := .bf16) 4096 _ ?_ ?_
  · exact fun r k _ => conv (piece (hn m c t) (wA m c t 4096 inb_S5632x256_S256x256_4096_0) (wB m c t 4096 inb_S5632x256_S256x256_4096_0) (wC m c t 4096 inb_S5632x512_S256x512_4096_0)) (before_next t 4096 (by intro hh; exact h0 (by rw [hh])) hy inb_S16x5632_S16x256_0_4096) (wF m c t 4096 inb_S3x5632_S3x256_0_4096) r k
  refine more (n := 256) (m := 5632) (e := .bf16) 3840 _ ?_ ?_
  · exact fun r k _ => conv (piece (hn m c t) (wA m c t 3840 inb_S5632x256_S256x256_3840_0) (wB m c t 3840 inb_S5632x256_S256x256_3840_0) (wC m c t 3840 inb_S5632x512_S256x512_3840_0)) (before_next t 3840 (by intro hh; exact h0 (by rw [hh])) hy inb_S16x5632_S16x256_0_3840) (wF m c t 3840 inb_S3x5632_S3x256_0_3840) r k
  refine more (n := 256) (m := 5632) (e := .bf16) 3584 _ ?_ ?_
  · exact fun r k _ => conv (piece (hn m c t) (wA m c t 3584 inb_S5632x256_S256x256_3584_0) (wB m c t 3584 inb_S5632x256_S256x256_3584_0) (wC m c t 3584 inb_S5632x512_S256x512_3584_0)) (before_next t 3584 (by intro hh; exact h0 (by rw [hh])) hy inb_S16x5632_S16x256_0_3584) (wF m c t 3584 inb_S3x5632_S3x256_0_3584) r k
  refine more (n := 256) (m := 5632) (e := .bf16) 3328 _ ?_ ?_
  · exact fun r k _ => conv (piece (hn m c t) (wA m c t 3328 inb_S5632x256_S256x256_3328_0) (wB m c t 3328 inb_S5632x256_S256x256_3328_0) (wC m c t 3328 inb_S5632x512_S256x512_3328_0)) (before_next t 3328 (by intro hh; exact h0 (by rw [hh])) hy inb_S16x5632_S16x256_0_3328) (wF m c t 3328 inb_S3x5632_S3x256_0_3328) r k
  refine more (n := 256) (m := 5632) (e := .bf16) 3072 _ ?_ ?_
  · exact fun r k _ => conv (piece (hn m c t) (wA m c t 3072 inb_S5632x256_S256x256_3072_0) (wB m c t 3072 inb_S5632x256_S256x256_3072_0) (wC m c t 3072 inb_S5632x512_S256x512_3072_0)) (before_next t 3072 (by intro hh; exact h0 (by rw [hh])) hy inb_S16x5632_S16x256_0_3072) (wF m c t 3072 inb_S3x5632_S3x256_0_3072) r k
  refine more (n := 256) (m := 5632) (e := .bf16) 2816 _ ?_ ?_
  · exact fun r k _ => conv (piece (hn m c t) (wA m c t 2816 inb_S5632x256_S256x256_2816_0) (wB m c t 2816 inb_S5632x256_S256x256_2816_0) (wC m c t 2816 inb_S5632x512_S256x512_2816_0)) (before_next t 2816 (by intro hh; exact h0 (by rw [hh])) hy inb_S16x5632_S16x256_0_2816) (wF m c t 2816 inb_S3x5632_S3x256_0_2816) r k
  refine more (n := 256) (m := 5632) (e := .bf16) 2560 _ ?_ ?_
  · exact fun r k _ => conv (piece (hn m c t) (wA m c t 2560 inb_S5632x256_S256x256_2560_0) (wB m c t 2560 inb_S5632x256_S256x256_2560_0) (wC m c t 2560 inb_S5632x512_S256x512_2560_0)) (before_next t 2560 (by intro hh; exact h0 (by rw [hh])) hy inb_S16x5632_S16x256_0_2560) (wF m c t 2560 inb_S3x5632_S3x256_0_2560) r k
  refine more (n := 256) (m := 5632) (e := .bf16) 2304 _ ?_ ?_
  · exact fun r k _ => conv (piece (hn m c t) (wA m c t 2304 inb_S5632x256_S256x256_2304_0) (wB m c t 2304 inb_S5632x256_S256x256_2304_0) (wC m c t 2304 inb_S5632x512_S256x512_2304_0)) (before_next t 2304 (by intro hh; exact h0 (by rw [hh])) hy inb_S16x5632_S16x256_0_2304) (wF m c t 2304 inb_S3x5632_S3x256_0_2304) r k
  refine more (n := 256) (m := 5632) (e := .bf16) 2048 _ ?_ ?_
  · exact fun r k _ => conv (piece (hn m c t) (wA m c t 2048 inb_S5632x256_S256x256_2048_0) (wB m c t 2048 inb_S5632x256_S256x256_2048_0) (wC m c t 2048 inb_S5632x512_S256x512_2048_0)) (before_next t 2048 (by intro hh; exact h0 (by rw [hh])) hy inb_S16x5632_S16x256_0_2048) (wF m c t 2048 inb_S3x5632_S3x256_0_2048) r k
  refine more (n := 256) (m := 5632) (e := .bf16) 1792 _ ?_ ?_
  · exact fun r k _ => conv (piece (hn m c t) (wA m c t 1792 inb_S5632x256_S256x256_1792_0) (wB m c t 1792 inb_S5632x256_S256x256_1792_0) (wC m c t 1792 inb_S5632x512_S256x512_1792_0)) (before_next t 1792 (by intro hh; exact h0 (by rw [hh])) hy inb_S16x5632_S16x256_0_1792) (wF m c t 1792 inb_S3x5632_S3x256_0_1792) r k
  refine more (n := 256) (m := 5632) (e := .bf16) 1536 _ ?_ ?_
  · exact fun r k _ => conv (piece (hn m c t) (wA m c t 1536 inb_S5632x256_S256x256_1536_0) (wB m c t 1536 inb_S5632x256_S256x256_1536_0) (wC m c t 1536 inb_S5632x512_S256x512_1536_0)) (before_next t 1536 (by intro hh; exact h0 (by rw [hh])) hy inb_S16x5632_S16x256_0_1536) (wF m c t 1536 inb_S3x5632_S3x256_0_1536) r k
  refine more (n := 256) (m := 5632) (e := .bf16) 1280 _ ?_ ?_
  · exact fun r k _ => conv (piece (hn m c t) (wA m c t 1280 inb_S5632x256_S256x256_1280_0) (wB m c t 1280 inb_S5632x256_S256x256_1280_0) (wC m c t 1280 inb_S5632x512_S256x512_1280_0)) (before_next t 1280 (by intro hh; exact h0 (by rw [hh])) hy inb_S16x5632_S16x256_0_1280) (wF m c t 1280 inb_S3x5632_S3x256_0_1280) r k
  refine more (n := 256) (m := 5632) (e := .bf16) 1024 _ ?_ ?_
  · exact fun r k _ => conv (piece (hn m c t) (wA m c t 1024 inb_S5632x256_S256x256_1024_0) (wB m c t 1024 inb_S5632x256_S256x256_1024_0) (wC m c t 1024 inb_S5632x512_S256x512_1024_0)) (before_next t 1024 (by intro hh; exact h0 (by rw [hh])) hy inb_S16x5632_S16x256_0_1024) (wF m c t 1024 inb_S3x5632_S3x256_0_1024) r k
  refine more (n := 256) (m := 5632) (e := .bf16) 768 _ ?_ ?_
  · exact fun r k _ => conv (piece (hn m c t) (wA m c t 768 inb_S5632x256_S256x256_768_0) (wB m c t 768 inb_S5632x256_S256x256_768_0) (wC m c t 768 inb_S5632x512_S256x512_768_0)) (before_next t 768 (by intro hh; exact h0 (by rw [hh])) hy inb_S16x5632_S16x256_0_768) (wF m c t 768 inb_S3x5632_S3x256_0_768) r k
  refine more (n := 256) (m := 5632) (e := .bf16) 512 _ ?_ ?_
  · exact fun r k _ => conv (piece (hn m c t) (wA m c t 512 inb_S5632x256_S256x256_512_0) (wB m c t 512 inb_S5632x256_S256x256_512_0) (wC m c t 512 inb_S5632x512_S256x512_512_0)) (before_next t 512 (by intro hh; exact h0 (by rw [hh])) hy inb_S16x5632_S16x256_0_512) (wF m c t 512 inb_S3x5632_S3x256_0_512) r k
  refine more (n := 256) (m := 5632) (e := .bf16) 256 _ ?_ ?_
  · exact fun r k _ => conv (piece (hn m c t) (wA m c t 256 inb_S5632x256_S256x256_256_0) (wB m c t 256 inb_S5632x256_S256x256_256_0) (wC m c t 256 inb_S5632x512_S256x512_256_0)) (before_next t 256 (by intro hh; exact h0 (by rw [hh])) hy inb_S16x5632_S16x256_0_256) (wF m c t 256 inb_S3x5632_S3x256_0_256) r k
  refine more (n := 256) (m := 5632) (e := .bf16) 0 _ ?_ ?_
  · exact fun r k _ => conv (piece (hn m c t) (wA m c t 0 inb_S5632x256_S256x256_0_0) (wB m c t 0 inb_S5632x256_S256x256_0_0) (wC m c t 0 inb_S5632x512_S256x512_0_0)) (before_next t 0 (by intro hh; exact h0 (by rw [hh])) hy inb_S16x5632_S16x256_0_0) (wF m c t 0 inb_S3x5632_S3x256_0_0) r k
  exact fun _ _ hk => absurd hk (Nat.not_lt_zero _)

theorem out6 : Rows (256 * t.val) (outsAt0 m c t.val t.isLt).1 (xn (rd (a0 m c)) (rd (a1 m c))) := by
  by_cases h0 : t.val % 16 = 0
  · rw [oA6 m c t h0]; exact hn m c t
  · rw [oB6 m c t h0]; exact hn m c t

theorem out7 : Rows (256 * t.val) (outsAt0 m c t.val t.isLt).2.1 (pre (rd (a0 m c)) (rd (a1 m c)) (rd (a2 m c)) (rd (a3 m c)) (rd (a4 m c))) := by
  by_cases h0 : t.val % 16 = 0
  · exact oA7 m c t h0
  · exact oB7 m c t h0

theorem out8 : Rows (256 * t.val) (outsAt0 m c t.val t.isLt).2.2.1 (taps (rd (a5 m c)) (pre (rd (a0 m c)) (rd (a1 m c)) (rd (a2 m c)) (rd (a3 m c)) (rd (a4 m c)))) := by
  by_cases h0 : t.val % 16 = 0
  · exact oA8 m c t h0
  · exact oB8 m c t h0

theorem index6 : ∀ t : Fin cfg0.N, win0_6.index t 0 = t.val ∧ win0_6.index t 1 = 0 :=
  (by decide +kernel : ∀ t : Fin grid0.N, win0_6.index t 0 = t.val ∧ win0_6.index t 1 = 0)

theorem emb6 (t : Fin cfg0.N) (r : Fin 256) (k : Fin 1024) (h : 256 * t.val + r.val < 4096) :
    ((View.whole main_v0_0).slice (win0_6.rect t)).emb (ix2 r k) = ix2 ⟨256 * t.val + r.val, h⟩ k := by
  have hi := index6 t
  funext a
  apply Fin.ext
  match a with
  | ⟨0, _⟩ => show win0_6.index t 0 * 256 + 1 * r.val = 256 * t.val + r.val; rw [hi.1]; omega
  | ⟨1, _⟩ => show win0_6.index t 1 * 1024 + 1 * k.val = k.val; rw [hi.2]; omega

theorem final6 (v : S4096x1024.Idx → EReal) (hv : Holds v (xn (rd (a0 m c)) (rd (a1 m c)))) : (dats m 0 c).arrAt 6 cfg0.N = v :=
  (dats m 0 c).arrAt_eq_of_cover 6 v (fun t hf => by
    have ht := pt_lt t
    rw [flushed6 m c t]
    funext j
    rw [View.read_apply]
    obtain ⟨r, k, rfl⟩ : ∃ (r : Fin 256) (k : Fin 1024), j = ix2 r k := ⟨j 0, j 1, eq_ix2 j⟩
    have hr := r.isLt
    refine (out6 m c t r k).trans ?_
    refine ((hv ⟨256 * t.val + r.val, by omega⟩ k).symm.trans (congrArg v ?_))
    exact (emb6 t r k (by omega)).symm) fun i => by
    have h0 : (i 0 : Nat) < 4096 := (i 0).isLt
    have h1 : (i 1 : Nat) < 1024 := (i 1).isLt
    obtain ⟨t, ht⟩ : ∃ t : Fin cfg0.N, t.val = (i 0 : Nat) / 256 :=
      ⟨⟨(i 0 : Nat) / 256, by show _ < grid0.N; rw [N_0]; omega⟩, rfl⟩
    refine ⟨t, flush0_6 _, ?_⟩
    show i ∈ ((View.whole main_v0_0).slice (win0_6.rect t)).set
    rw [View.set_slice_whole, Rect.mem_set_unit]
    have hi := index6 t
    intro a
    match a with
    | ⟨0, _⟩ =>
      show win0_6.index t 0 * 256 ≤ (i 0 : Nat) ∧ (i 0 : Nat) < win0_6.index t 0 * 256 + 256
      rw [hi.1]; omega
    | ⟨1, _⟩ =>
      show win0_6.index t 1 * 1024 ≤ (i 1 : Nat) ∧ (i 1 : Nat) < win0_6.index t 1 * 1024 + 1024
      rw [hi.2]; omega

theorem index7 : ∀ t : Fin cfg0.N, win0_7.index t 0 = t.val ∧ win0_7.index t 1 = 0 :=
  (by decide +kernel : ∀ t : Fin grid0.N, win0_7.index t 0 = t.val ∧ win0_7.index t 1 = 0)

theorem emb7 (t : Fin cfg0.N) (r : Fin 256) (k : Fin 5632) (h : 256 * t.val + r.val < 4096) :
    ((View.whole main_v0_1).slice (win0_7.rect t)).emb (ix2 r k) = ix2 ⟨256 * t.val + r.val, h⟩ k := by
  have hi := index7 t
  funext a
  apply Fin.ext
  match a with
  | ⟨0, _⟩ => show win0_7.index t 0 * 256 + 1 * r.val = 256 * t.val + r.val; rw [hi.1]; omega
  | ⟨1, _⟩ => show win0_7.index t 1 * 5632 + 1 * k.val = k.val; rw [hi.2]; omega

theorem final7 (v : S4096x5632.Idx → EReal) (hv : Holds v (pre (rd (a0 m c)) (rd (a1 m c)) (rd (a2 m c)) (rd (a3 m c)) (rd (a4 m c)))) : (dats m 0 c).arrAt 7 cfg0.N = v :=
  (dats m 0 c).arrAt_eq_of_cover 7 v (fun t hf => by
    have ht := pt_lt t
    rw [flushed7 m c t]
    funext j
    rw [View.read_apply]
    obtain ⟨r, k, rfl⟩ : ∃ (r : Fin 256) (k : Fin 5632), j = ix2 r k := ⟨j 0, j 1, eq_ix2 j⟩
    have hr := r.isLt
    refine (out7 m c t r k).trans ?_
    refine ((hv ⟨256 * t.val + r.val, by omega⟩ k).symm.trans (congrArg v ?_))
    exact (emb7 t r k (by omega)).symm) fun i => by
    have h0 : (i 0 : Nat) < 4096 := (i 0).isLt
    have h1 : (i 1 : Nat) < 5632 := (i 1).isLt
    obtain ⟨t, ht⟩ : ∃ t : Fin cfg0.N, t.val = (i 0 : Nat) / 256 :=
      ⟨⟨(i 0 : Nat) / 256, by show _ < grid0.N; rw [N_0]; omega⟩, rfl⟩
    refine ⟨t, flush0_7 _, ?_⟩
    show i ∈ ((View.whole main_v0_1).slice (win0_7.rect t)).set
    rw [View.set_slice_whole, Rect.mem_set_unit]
    have hi := index7 t
    intro a
    match a with
    | ⟨0, _⟩ =>
      show win0_7.index t 0 * 256 ≤ (i 0 : Nat) ∧ (i 0 : Nat) < win0_7.index t 0 * 256 + 256
      rw [hi.1]; omega
    | ⟨1, _⟩ =>
      show win0_7.index t 1 * 5632 ≤ (i 1 : Nat) ∧ (i 1 : Nat) < win0_7.index t 1 * 5632 + 5632
      rw [hi.2]; omega

theorem index8 : ∀ t : Fin cfg0.N, win0_8.index t 0 = t.val ∧ win0_8.index t 1 = 0 :=
  (by decide +kernel : ∀ t : Fin grid0.N, win0_8.index t 0 = t.val ∧ win0_8.index t 1 = 0)

theorem emb8 (t : Fin cfg0.N) (r : Fin 256) (k : Fin 5632) (h : 256 * t.val + r.val < 4096) :
    ((View.whole main_v0_2).slice (win0_8.rect t)).emb (ix2 r k) = ix2 ⟨256 * t.val + r.val, h⟩ k := by
  have hi := index8 t
  funext a
  apply Fin.ext
  match a with
  | ⟨0, _⟩ => show win0_8.index t 0 * 256 + 1 * r.val = 256 * t.val + r.val; rw [hi.1]; omega
  | ⟨1, _⟩ => show win0_8.index t 1 * 5632 + 1 * k.val = k.val; rw [hi.2]; omega

theorem final8 (v : S4096x5632.Idx → EReal) (hv : Holds v (taps (rd (a5 m c)) (pre (rd (a0 m c)) (rd (a1 m c)) (rd (a2 m c)) (rd (a3 m c)) (rd (a4 m c))))) : (dats m 0 c).arrAt 8 cfg0.N = v :=
  (dats m 0 c).arrAt_eq_of_cover 8 v (fun t hf => by
    have ht := pt_lt t
    rw [flushed8 m c t]
    funext j
    rw [View.read_apply]
    obtain ⟨r, k, rfl⟩ : ∃ (r : Fin 256) (k : Fin 5632), j = ix2 r k := ⟨j 0, j 1, eq_ix2 j⟩
    have hr := r.isLt
    refine (out8 m c t r k).trans ?_
    refine ((hv ⟨256 * t.val + r.val, by omega⟩ k).symm.trans (congrArg v ?_))
    exact (emb8 t r k (by omega)).symm) fun i => by
    have h0 : (i 0 : Nat) < 4096 := (i 0).isLt
    have h1 : (i 1 : Nat) < 5632 := (i 1).isLt
    obtain ⟨t, ht⟩ : ∃ t : Fin cfg0.N, t.val = (i 0 : Nat) / 256 :=
      ⟨⟨(i 0 : Nat) / 256, by show _ < grid0.N; rw [N_0]; omega⟩, rfl⟩
    refine ⟨t, flush0_8 _, ?_⟩
    show i ∈ ((View.whole main_v0_2).slice (win0_8.rect t)).set
    rw [View.set_slice_whole, Rect.mem_set_unit]
    have hi := index8 t
    intro a
    match a with
    | ⟨0, _⟩ =>
      show win0_8.index t 0 * 256 ≤ (i 0 : Nat) ∧ (i 0 : Nat) < win0_8.index t 0 * 256 + 256
      rw [hi.1]; omega
    | ⟨1, _⟩ =>
      show win0_8.index t 1 * 5632 ≤ (i 1 : Nat) ∧ (i 1 : Nat) < win0_8.index t 1 * 5632 + 5632
      rw [hi.2]; omega

end Cert.FfnUpValue
-- ==== Proof.FfnUpEq.lean ====
module

public import proofs.«01_k».proof.Proof.FfnUpValue
public import proofs.«01_k».proof.Defs
public import proofs.«01_k».proof.Proof.Gen.FfnUpRefIdeal.Run
public import Idealize.ShloMosaic.Lib.Claim

@[expose] public section

set_option maxRecDepth 16384

/-!
# The wide projection and its convolution: the kernel and the reference
-/

noncomputable section

open Idealize.ShloMosaic Idealize.ShloMosaic.TcCoe Idealize.SL.Sem
open Cert.MixSpec Cert.NormSpec Cert.FfnUpPoint
open Cert.MixRef (Holds)

namespace Cert.FfnUpRef

open Cert.FfnUpRefIdeal Cert.FfnUpRefIdeal.Gen

variable (x0 : FVec Ideal S4096x1024 .f32) (x1 : FVec Ideal S1x1024 .f32) (x2 x3 : FVec Ideal S5632x256 .bf16) (x4 : FVec Ideal S5632x512 .bf16)
  (x5 : FVec Ideal S3x5632 .f32)

/-- The normed rows. -/
def normed : FVec Ideal S4096x1024 .f32 := (mulf (mulf x0 (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 (shapeCast _ x1 shapeCasts_S1x1024_S1024))))

/-- The three bands of the weight side by side. -/
def weights : FVec Ideal S5632x1024 .bf16 := (concatenate S5632x1024 1 [⟨S5632x256, x2⟩, ⟨S5632x256, x3⟩, ⟨S5632x512, x4⟩] concatenates_S5632x256_S5632x256_S5632x512_S5632x1024_d1)

/-- The wide projection. -/
def wide : FVec Ideal S4096x5632 .f32 := (Host.dotGeneral dot_S4096x1024_S1024x5632_S4096x5632_1_0_0_1_n_n none (normed x0 x1) (transpose S1024x5632 [1, 0] (extf .f32 ((weights x2 x3 x4)) bitsLt_bf16_f32) transposes_S5632x1024_S1024x5632_1_0))

/-- It behind two rows of zeros. -/
def pad : FVec Ideal S4098x5632 .f32 := (concatenate S4098x5632 0 [⟨S2x5632, (broadcastInDim S2x5632 ![] bcast_S_S2x5632 (constant S_ .f32 0x00000000#32))⟩, ⟨S4096x5632, (wide x0 x1 x2 x3 x4)⟩] concatenates_S2x5632_S4096x5632_S4098x5632_d0)

/-- Its convolution. -/
def conv : FVec Ideal S4096x5632 .f32 := (addf (addf (mulf (broadcastInDim S4096x5632 ![0, 1] bcast_S1x5632_S4096x5632_0_1 (broadcastInDim S1x5632 ![1] bcast_S5632_S1x5632_1 (shapeCast _ (extractStridedSlice S1x5632 ![0, 0] x5 slices_S3x5632_S1x5632_0_0) shapeCasts_S1x5632_S5632))) (extractStridedSlice S4096x5632 ![0, 0] (pad x0 x1 x2 x3 x4) slices_S4098x5632_S4096x5632_0_0)) (mulf (broadcastInDim S4096x5632 ![0, 1] bcast_S1x5632_S4096x5632_0_1 (broadcastInDim S1x5632 ![1] bcast_S5632_S1x5632_1 (shapeCast _ (extractStridedSlice S1x5632 ![1, 0] x5 slices_S3x5632_S1x5632_1_0) shapeCasts_S1x5632_S5632))) (extractStridedSlice S4096x5632 ![1, 0] (pad x0 x1 x2 x3 x4) slices_S4098x5632_S4096x5632_1_0))) (mulf (broadcastInDim S4096x5632 ![0, 1] bcast_S1x5632_S4096x5632_0_1 (broadcastInDim S1x5632 ![1] bcast_S5632_S1x5632_1 (shapeCast _ (extractStridedSlice S1x5632 ![2, 0] x5 slices_S3x5632_S1x5632_2_0) shapeCasts_S1x5632_S5632))) (extractStridedSlice S4096x5632 ![2, 0] (pad x0 x1 x2 x3 x4) slices_S4098x5632_S4096x5632_2_0)))

/-- The three results. -/
def val0 : FVec Ideal S4096x1024 .bf16 := truncf .bf16 (normed x0 x1) bitsLt_bf16_f32
def val1 : FVec Ideal S4096x5632 .bf16 := truncf .bf16 (wide x0 x1 x2 x3 x4) bitsLt_bf16_f32
def val2 : FVec Ideal S4096x5632 .bf16 := truncf .bf16 (conv x0 x1 x2 x3 x4 x5) bitsLt_bf16_f32

theorem h_normed : Holds (normed x0 x1) (xn (rd x0) (rd x1)) := by
  intro r k
  pointwise [normed]
  unfold xn rn
  rw [Finset.sum_range]
  simp only [rd_ix2]
  rfl

theorem h_weights (r : Fin 5632) (k : Fin 1024) : weights x2 x3 x4 (ix2 r k) = wup (rd x2) (rd x3) (rd x4) r.val k.val := by
  have hk := k.isLt
  pointwise [weights]
  unfold wup
  by_cases h1 : k.val < 256
  · simp only [dif_pos h1, if_pos h1]
    exact rd_ix2 x2 _ _
  · by_cases h2 : k.val < 512
    · simp only [dif_neg h1, if_neg h1, dif_pos (show k.val - 256 < 256 by omega), if_pos h2]
      exact rd_ix2 x3 _ _
    · simp only [dif_neg h1, if_neg h1, dif_neg (show ¬k.val - 256 < 256 by omega), if_neg h2]
      refine (rd_ix2 x4 _ _).trans ?_
      show rd x4 r.val (k.val - 256 - 256) = rd x4 r.val (k.val - 512)
      rw [Nat.sub_sub]

theorem h_wide : Holds (wide x0 x1 x2 x3 x4) (pre (rd x0) (rd x1) (rd x2) (rd x3) (rd x4)) := by
  intro r k
  have h : ∀ (r : Fin 4096) (k : Fin 1024), normed x0 x1 (ix2 r k) = _ := h_normed x0 x1
  pointwise [wide]
  simp only [h, h_weights]
  unfold pre
  rw [Finset.sum_range]

local notation "PRE" => pre (rd x0) (rd x1) (rd x2) (rd x3) (rd x4)

theorem h_pad : ∀ (r : Fin 4098) (c : Fin 5632), pad x0 x1 x2 x3 x4 (ix2 r c) = late 2 PRE r.val c.val := by
  intro r c
  have e := h_wide x0 x1 x2 x3 x4
  have hr := r.isLt
  pointwise [pad]
  unfold late
  by_cases h : r.val < 2
  · rw [dif_pos h, if_neg (by omega)]
  · rw [dif_neg h]
    exact (e _ c).trans (if_pos (by omega)).symm

theorem h_conv : Holds (conv x0 x1 x2 x3 x4 x5) (taps (rd x5) PRE) := by
  intro r c
  have e : ∀ (i : ℕ) (_ : i < 4098) (c : Fin 5632), rd (a := 4098) (b := 5632) (pad x0 x1 x2 x3 x4) i c.val = late 2 PRE i c.val := fun i hi c =>
    (rd_ix2 (a := 4098) (b := 5632) (pad x0 x1 x2 x3 x4) ⟨i, hi⟩ c).symm.trans (h_pad x0 x1 x2 x3 x4 ⟨i, hi⟩ c)
  have hr := r.isLt
  pointwise [conv]
  simp only [rd_ix2]
  rw [e _ (by omega), e _ (by omega), e _ (by omega)]
  unfold taps late
  rw [if_pos (show 2 ≤ 2 + r.val by omega), Nat.add_sub_cancel_left]
  by_cases h1 : 1 ≤ r.val
  · rw [if_pos (show 2 ≤ 1 + r.val by omega), if_pos h1, show 1 + r.val - 2 = r.val - 1 by omega]
    rfl
  · rw [if_neg (show ¬2 ≤ 1 + r.val by omega), if_neg h1]
    rfl

theorem h0 : Holds (val0 x0 x1) (xn (rd x0) (rd x1)) := by
  intro r k
  have h := h_normed x0 x1
  pointwise [val0]
  exact h r k

theorem h1 : Holds (val1 x0 x1 x2 x3 x4) PRE := by
  intro r k
  have h := h_wide x0 x1 x2 x3 x4
  pointwise [val1]
  exact h r k

theorem h2 : Holds (val2 x0 x1 x2 x3 x4 x5) (taps (rd x5) PRE) := by
  intro r k
  have h := h_conv x0 x1 x2 x3 x4 x5
  pointwise [val2]
  exact h r k

/-- The reference leaves its arguments as they were, and every counter at zero. -/
theorem frame : @Cert.quiescent_FfnUpRefIdeal Cert.FfnUpRefIdeal.Gen.facts := fun m ρ _ =>
  (θ_run Cert.FfnUpRefIdeal.defs _ _).mono (fun r h => ⟨fun c => (h c).2.2.2,
      Idealize.ShloMosaic.sem_eq_zero_of_no_sems (by decide) r.2⟩)
    (Cert.FfnUpRefIdeal.Value.run (F := Ideal) m ρ)

end Cert.FfnUpRef

namespace Cert.FfnUpEq

open Cert.FfnUpIdeal Cert.FfnUpIdeal.Gen

variable (m : (ℓ : Loc nD τ sig) → Buf (Elt Ideal) ℓ) (c : Dev nD)

/-- The results, as the reference's values at the kernel's arguments. -/
def r0 := Cert.FfnUpRef.val0 (m ((c.tc : Thread nD τ).loc main_arg0)) (m ((c.tc : Thread nD τ).loc main_arg1))
def r1 := Cert.FfnUpRef.val1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def r2 := Cert.FfnUpRef.val2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The value claim: on the extended reals the kernel's three results are the reference's. -/
theorem algebraic : @Cert.algebraic_FfnUpIdeal_FfnUpRefIdeal Cert.FfnUpIdeal.Gen.facts Cert.FfnUpRefIdeal.Gen.facts := by
  intro m g m' g' _ hm
  refine ⟨fun c => r0 m c, fun c => r1 m c, fun c => r2 m c, (θ_run defs _ _).mono (fun r h c => ?_) (Cert.FfnUpIdeal.Value.run_blocks m g), ?_⟩
  · obtain ⟨a0, a1, a2, rest⟩ := h c
    exact ⟨a0.trans (Cert.FfnUpValue.final6 m c _ (Cert.FfnUpRef.h0 _ _)), a1.trans (Cert.FfnUpValue.final7 m c _ (Cert.FfnUpRef.h1 _ _ _ _ _)),
      a2.trans (Cert.FfnUpValue.final8 m c _ (Cert.FfnUpRef.h2 _ _ _ _ _ _)), rest⟩
  refine (θ_run Cert.FfnUpRefIdeal.defs _ _).mono (fun r h c => ?_) (Cert.FfnUpRefIdeal.Value.run m' g')
  obtain ⟨e0, e1, e2, e3, e4, e5⟩ := hm c
  obtain ⟨a0, a1, a2, rest⟩ := h c
  have q0 := congr (congrArg Cert.FfnUpRef.val0 e0) e1
  have q1 := congr (congr (congr (congr (congrArg Cert.FfnUpRef.val1 e0) e1) e2) e3) e4
  have q2 := congr (congr (congr (congr (congr (congrArg Cert.FfnUpRef.val2 e0) e1) e2) e3) e4) e5
  exact ⟨a0.trans q0, a1.trans q1, a2.trans q2, rest⟩

end Cert.FfnUpEq
-- ==== Proof.MixRun.lean ====
module

public import proofs.«01_k».proof.Proof.Gen.KernelIdeal.Frame.RunC
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.MixFrame

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one grid point leaves: the nine output blocks and the four scratch arrays. -/
structure Out (F : FTy → Type) where
  o9 : Vec F S256x2048 .bf16
  o10 : Vec F S256x512 .bf16
  o11 : Vec F S256x512 .bf16
  o12 : Vec F S256x512 .bf16
  o13 : Vec F S256x512 .bf16
  o14 : Vec F S3x512 .f32
  o15 : Vec F S1024x1024 .bf16
  o16 : Vec F S512x1024 .bf16
  o17 : Vec F S512x1024 .bf16
  s0 : Vec F S1024x1024 .f32
  s1 : Vec F S512x1024 .f32
  s2 : Vec F S512x1024 .f32
  s3 : Vec F S16x512 .f32

/-- The run of the body at first point on its own blocks. -/
def runA (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _)
    ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

theorem covA_o9 (c : Dev nD) (t : Fin cfg0.N) (h0 : t.val % 16 = 0) (h1 : ¬t.val % 16 = 15) (y : S256x2048.Idx) :
    ∃ pc ∈ (runA m c t h0 h1).1, y ∈ pc.1.set :=
  View.cover_of_tiledL (runA m c t h0 h1).1 S256x1024.size (by sl_kernel_rfl) y

theorem covA_o10 (c : Dev nD) (t : Fin cfg0.N) (h0 : t.val % 16 = 0) (h1 : ¬t.val % 16 = 15) (y : S256x512.Idx) :
    ∃ pc ∈ (runA m c t h0 h1).2.1, y ∈ pc.1.set :=
  View.cover_of_tiledL (runA m c t h0 h1).2.1 S256x512.size (by sl_kernel_rfl) y

theorem covA_o11 (c : Dev nD) (t : Fin cfg0.N) (h0 : t.val % 16 = 0) (h1 : ¬t.val % 16 = 15) (y : S256x512.Idx) :
    ∃ pc ∈ (runA m c t h0 h1).2.2.1, y ∈ pc.1.set :=
  View.cover_of_tiledL (runA m c t h0 h1).2.2.1 S256x512.size (by sl_kernel_rfl) y

theorem covA_o12 (c : Dev nD) (t : Fin cfg0.N) (h0 : t.val % 16 = 0) (h1 : ¬t.val % 16 = 15) (y : S256x512.Idx) :
    ∃ pc ∈ (runA m c t h0 h1).2.2.2.1, y ∈ pc.1.set :=
  View.cover_of_tiledL (runA m c t h0 h1).2.2.2.1 S256x512.size (by sl_kernel_rfl) y

theorem covA_o13 (c : Dev nD) (t : Fin cfg0.N) (h0 : t.val % 16 = 0) (h1 : ¬t.val % 16 = 15) (y : S256x512.Idx) :
    ∃ pc ∈ (runA m c t h0 h1).2.2.2.2.1, y ∈ pc.1.set :=
  View.cover_of_tiledL (runA m c t h0 h1).2.2.2.2.1 S256x512.size (by sl_kernel_rfl) y

theorem covA_o14 (c : Dev nD) (t : Fin cfg0.N) (h0 : t.val % 16 = 0) (h1 : ¬t.val % 16 = 15) (y : S3x512.Idx) :
    ∃ pc ∈ (runA m c t h0 h1).2.2.2.2.2.1, y ∈ pc.1.set :=
  View.cover_of_tiledL (runA m c t h0 h1).2.2.2.2.2.1 ![1, 512] (by sl_kernel_rfl) y

theorem covA_s0 (c : Dev nD) (t : Fin cfg0.N) (h0 : t.val % 16 = 0) (h1 : ¬t.val % 16 = 15) (y : S1024x1024.Idx) :
    ∃ pc ∈ (runA m c t h0 h1).2.2.2.2.2.2.2.2.2.1, y ∈ pc.1.set :=
  View.cover_of_tiledL (runA m c t h0 h1).2.2.2.2.2.2.2.2.2.1 S1024x1024.size (by sl_kernel_rfl) y

theorem covA_s1 (c : Dev nD) (t : Fin cfg0.N) (h0 : t.val % 16 = 0) (h1 : ¬t.val % 16 = 15) (y : S512x1024.Idx) :
    ∃ pc ∈ (runA m c t h0 h1).2.2.2.2.2.2.2.2.2.2.1, y ∈ pc.1.set :=
  View.cover_of_tiledL (runA m c t h0 h1).2.2.2.2.2.2.2.2.2.2.1 S512x1024.size (by sl_kernel_rfl) y

theorem covA_s2 (c : Dev nD) (t : Fin cfg0.N) (h0 : t.val % 16 = 0) (h1 : ¬t.val % 16 = 15) (y : S512x1024.Idx) :
    ∃ pc ∈ (runA m c t h0 h1).2.2.2.2.2.2.2.2.2.2.2.1, y ∈ pc.1.set :=
  View.cover_of_tiledL (runA m c t h0 h1).2.2.2.2.2.2.2.2.2.2.2.1 S512x1024.size (by sl_kernel_rfl) y

theorem covA_s3 (c : Dev nD) (t : Fin cfg0.N) (h0 : t.val % 16 = 0) (h1 : ¬t.val % 16 = 15) (y : S16x512.Idx) :
    ∃ pc ∈ (runA m c t h0 h1).2.2.2.2.2.2.2.2.2.2.2.2.1, y ∈ pc.1.set :=
  View.cover_of_tiledL (runA m c t h0 h1).2.2.2.2.2.2.2.2.2.2.2.2.1 S16x512.size (by sl_kernel_rfl) y

/-- What first point leaves: the pieces its run stored, read back. -/
def outA (c : Dev nD) (t : Fin cfg0.N) (h0 : t.val % 16 = 0) (h1 : ¬t.val % 16 = 15) : Out F where
  o9 := VO0_9.read (Elt F) (VO0_9.writes (Elt F) VO0_9.junk (runA m c t h0 h1).1)
  o10 := VO0_10.read (Elt F) (VO0_10.writes (Elt F) VO0_10.junk (runA m c t h0 h1).2.1)
  o11 := VO0_11.read (Elt F) (VO0_11.writes (Elt F) VO0_11.junk (runA m c t h0 h1).2.2.1)
  o12 := VO0_12.read (Elt F) (VO0_12.writes (Elt F) VO0_12.junk (runA m c t h0 h1).2.2.2.1)
  o13 := VO0_13.read (Elt F) (VO0_13.writes (Elt F) VO0_13.junk (runA m c t h0 h1).2.2.2.2.1)
  o14 := VO0_14.read (Elt F) (VO0_14.writes (Elt F) VO0_14.junk (runA m c t h0 h1).2.2.2.2.2.1)
  o15 := VO0_15.read (Elt F) VO0_15.junk
  o16 := VO0_16.read (Elt F) VO0_16.junk
  o17 := VO0_17.read (Elt F) VO0_17.junk
  s0 := VS0_0.read (Elt F) (VS0_0.writes (Elt F) VS0_0.junk (runA m c t h0 h1).2.2.2.2.2.2.2.2.2.1)
  s1 := VS0_1.read (Elt F) (VS0_1.writes (Elt F) VS0_1.junk (runA m c t h0 h1).2.2.2.2.2.2.2.2.2.2.1)
  s2 := VS0_2.read (Elt F) (VS0_2.writes (Elt F) VS0_2.junk (runA m c t h0 h1).2.2.2.2.2.2.2.2.2.2.2.1)
  s3 := VS0_3.read (Elt F) (VS0_3.writes (Elt F) VS0_3.junk (runA m c t h0 h1).2.2.2.2.2.2.2.2.2.2.2.2.1)

/-- The run of the body at a middle point on its own blocks and on what the point before left. -/
def runB (c : Dev nD) (t : Fin cfg0.N) (h0 : ¬t.val % 16 = 0) (h1 : ¬t.val % 16 = 15) (p : Out F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) p.o14 p.s0 p.s1 p.s2 p.s3

theorem covB_o9 (c : Dev nD) (t : Fin cfg0.N) (h0 : ¬t.val % 16 = 0) (h1 : ¬t.val % 16 = 15) (p : Out F) (y : S256x2048.Idx) :
    ∃ pc ∈ (runB m c t h0 h1 p).1, y ∈ pc.1.set :=
  View.cover_of_tiledL (runB m c t h0 h1 p).1 S256x1024.size (by sl_kernel_rfl) y

theorem covB_o10 (c : Dev nD) (t : Fin cfg0.N) (h0 : ¬t.val % 16 = 0) (h1 : ¬t.val % 16 = 15) (p : Out F) (y : S256x512.Idx) :
    ∃ pc ∈ (runB m c t h0 h1 p).2.1, y ∈ pc.1.set :=
  View.cover_of_tiledL (runB m c t h0 h1 p).2.1 S256x512.size (by sl_kernel_rfl) y

theorem covB_o11 (c : Dev nD) (t : Fin cfg0.N) (h0 : ¬t.val % 16 = 0) (h1 : ¬t.val % 16 = 15) (p : Out F) (y : S256x512.Idx) :
    ∃ pc ∈ (runB m c t h0 h1 p).2.2.1, y ∈ pc.1.set :=
  View.cover_of_tiledL (runB m c t h0 h1 p).2.2.1 S256x512.size (by sl_kernel_rfl) y

theorem covB_o12 (c : Dev nD) (t : Fin cfg0.N) (h0 : ¬t.val % 16 = 0) (h1 : ¬t.val % 16 = 15) (p : Out F) (y : S256x512.Idx) :
    ∃ pc ∈ (runB m c t h0 h1 p).2.2.2.1, y ∈ pc.1.set :=
  View.cover_of_tiledL (runB m c t h0 h1 p).2.2.2.1 S256x512.size (by sl_kernel_rfl) y

theorem covB_o13 (c : Dev nD) (t : Fin cfg0.N) (h0 : ¬t.val % 16 = 0) (h1 : ¬t.val % 16 = 15) (p : Out F) (y : S256x512.Idx) :
    ∃ pc ∈ (runB m c t h0 h1 p).2.2.2.2.1, y ∈ pc.1.set :=
  View.cover_of_tiledL (runB m c t h0 h1 p).2.2.2.2.1 S256x512.size (by sl_kernel_rfl) y

theorem covB_o14 (c : Dev nD) (t : Fin cfg0.N) (h0 : ¬t.val % 16 = 0) (h1 : ¬t.val % 16 = 15) (p : Out F) (y : S3x512.Idx) :
    ∃ pc ∈ (runB m c t h0 h1 p).2.2.2.2.2.1, y ∈ pc.1.set :=
  View.cover_of_tiledL (runB m c t h0 h1 p).2.2.2.2.2.1 S1x512.size (by sl_kernel_rfl) y

theorem covB_s0 (c : Dev nD) (t : Fin cfg0.N) (h0 : ¬t.val % 16 = 0) (h1 : ¬t.val % 16 = 15) (p : Out F) (y : S1024x1024.Idx) :
    ∃ pc ∈ (runB m c t h0 h1 p).2.2.2.2.2.2.2.2.2.1, y ∈ pc.1.set :=
  View.cover_of_tiledL (runB m c t h0 h1 p).2.2.2.2.2.2.2.2.2.1 S1024x1024.size (by sl_kernel_rfl) y

theorem covB_s1 (c : Dev nD) (t : Fin cfg0.N) (h0 : ¬t.val % 16 = 0) (h1 : ¬t.val % 16 = 15) (p : Out F) (y : S512x1024.Idx) :
    ∃ pc ∈ (runB m c t h0 h1 p).2.2.2.2.2.2.2.2.2.2.1, y ∈ pc.1.set :=
  View.cover_of_tiledL (runB m c t h0 h1 p).2.2.2.2.2.2.2.2.2.2.1 S512x1024.size (by sl_kernel_rfl) y

theorem covB_s2 (c : Dev nD) (t : Fin cfg0.N) (h0 : ¬t.val % 16 = 0) (h1 : ¬t.val % 16 = 15) (p : Out F) (y : S512x1024.Idx) :
    ∃ pc ∈ (runB m c t h0 h1 p).2.2.2.2.2.2.2.2.2.2.2.1, y ∈ pc.1.set :=
  View.cover_of_tiledL (runB m c t h0 h1 p).2.2.2.2.2.2.2.2.2.2.2.1 S512x1024.size (by sl_kernel_rfl) y

theorem covB_s3 (c : Dev nD) (t : Fin cfg0.N) (h0 : ¬t.val % 16 = 0) (h1 : ¬t.val % 16 = 15) (p : Out F) (y : S16x512.Idx) :
    ∃ pc ∈ (runB m c t h0 h1 p).2.2.2.2.2.2.2.2.2.2.2.2.1, y ∈ pc.1.set :=
  View.cover_of_tiledL (runB m c t h0 h1 p).2.2.2.2.2.2.2.2.2.2.2.2.1 S16x512.size (by sl_kernel_rfl) y

/-- What a middle point leaves: the pieces its run stored, read back. -/
def outB (c : Dev nD) (t : Fin cfg0.N) (h0 : ¬t.val % 16 = 0) (h1 : ¬t.val % 16 = 15) (p : Out F) : Out F where
  o9 := VO0_9.read (Elt F) (VO0_9.writes (Elt F) VO0_9.junk (runB m c t h0 h1 p).1)
  o10 := VO0_10.read (Elt F) (VO0_10.writes (Elt F) VO0_10.junk (runB m c t h0 h1 p).2.1)
  o11 := VO0_11.read (Elt F) (VO0_11.writes (Elt F) VO0_11.junk (runB m c t h0 h1 p).2.2.1)
  o12 := VO0_12.read (Elt F) (VO0_12.writes (Elt F) VO0_12.junk (runB m c t h0 h1 p).2.2.2.1)
  o13 := VO0_13.read (Elt F) (VO0_13.writes (Elt F) VO0_13.junk (runB m c t h0 h1 p).2.2.2.2.1)
  o14 := VO0_14.read (Elt F) (VO0_14.writes (Elt F) VO0_14.junk (runB m c t h0 h1 p).2.2.2.2.2.1)
  o15 := VO0_15.read (Elt F) VO0_15.junk
  o16 := VO0_16.read (Elt F) VO0_16.junk
  o17 := VO0_17.read (Elt F) VO0_17.junk
  s0 := VS0_0.read (Elt F) (VS0_0.writes (Elt F) VS0_0.junk (runB m c t h0 h1 p).2.2.2.2.2.2.2.2.2.1)
  s1 := VS0_1.read (Elt F) (VS0_1.writes (Elt F) VS0_1.junk (runB m c t h0 h1 p).2.2.2.2.2.2.2.2.2.2.1)
  s2 := VS0_2.read (Elt F) (VS0_2.writes (Elt F) VS0_2.junk (runB m c t h0 h1 p).2.2.2.2.2.2.2.2.2.2.2.1)
  s3 := VS0_3.read (Elt F) (VS0_3.writes (Elt F) VS0_3.junk (runB m c t h0 h1 p).2.2.2.2.2.2.2.2.2.2.2.2.1)

/-- The run of the body at the last point on its own blocks and on what the point before left. -/
def runC (c : Dev nD) (t : Fin cfg0.N) (h0 : ¬t.val % 16 = 0) (h1 : t.val % 16 = 15) (p : Out F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _)
    (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) p.o14 p.s0 p.s1 p.s2 p.s3

theorem covC_o9 (c : Dev nD) (t : Fin cfg0.N) (h0 : ¬t.val % 16 = 0) (h1 : t.val % 16 = 15) (p : Out F) (y : S256x2048.Idx) :
    ∃ pc ∈ (runC m c t h0 h1 p).1, y ∈ pc.1.set :=
  View.cover_of_tiledL (runC m c t h0 h1 p).1 S256x1024.size (by sl_kernel_rfl) y

theorem covC_o10 (c : Dev nD) (t : Fin cfg0.N) (h0 : ¬t.val % 16 = 0) (h1 : t.val % 16 = 15) (p : Out F) (y : S256x512.Idx) :
    ∃ pc ∈ (runC m c t h0 h1 p).2.1, y ∈ pc.1.set :=
  View.cover_of_tiledL (runC m c t h0 h1 p).2.1 S256x512.size (by sl_kernel_rfl) y

theorem covC_o11 (c : Dev nD) (t : Fin cfg0.N) (h0 : ¬t.val % 16 = 0) (h1 : t.val % 16 = 15) (p : Out F) (y : S256x512.Idx) :
    ∃ pc ∈ (runC m c t h0 h1 p).2.2.1, y ∈ pc.1.set :=
  View.cover_of_tiledL (runC m c t h0 h1 p).2.2.1 S256x512.size (by sl_kernel_rfl) y

theorem covC_o12 (c : Dev nD) (t : Fin cfg0.N) (h0 : ¬t.val % 16 = 0) (h1 : t.val % 16 = 15) (p : Out F) (y : S256x512.Idx) :
    ∃ pc ∈ (runC m c t h0 h1 p).2.2.2.1, y ∈ pc.1.set :=
  View.cover_of_tiledL (runC m c t h0 h1 p).2.2.2.1 S256x512.size (by sl_kernel_rfl) y

theorem covC_o13 (c : Dev nD) (t : Fin cfg0.N) (h0 : ¬t.val % 16 = 0) (h1 : t.val % 16 = 15) (p : Out F) (y : S256x512.Idx) :
    ∃ pc ∈ (runC m c t h0 h1 p).2.2.2.2.1, y ∈ pc.1.set :=
  View.cover_of_tiledL (runC m c t h0 h1 p).2.2.2.2.1 S256x512.size (by sl_kernel_rfl) y

theorem covC_o14 (c : Dev nD) (t : Fin cfg0.N) (h0 : ¬t.val % 16 = 0) (h1 : t.val % 16 = 15) (p : Out F) (y : S3x512.Idx) :
    ∃ pc ∈ (runC m c t h0 h1 p).2.2.2.2.2.1, y ∈ pc.1.set :=
  View.cover_of_tiledL (runC m c t h0 h1 p).2.2.2.2.2.1 S1x512.size (by sl_kernel_rfl) y

theorem covC_o15 (c : Dev nD) (t : Fin cfg0.N) (h0 : ¬t.val % 16 = 0) (h1 : t.val % 16 = 15) (p : Out F) (y : S1024x1024.Idx) :
    ∃ pc ∈ (runC m c t h0 h1 p).2.2.2.2.2.2.1, y ∈ pc.1.set :=
  View.cover_of_tiledL (runC m c t h0 h1 p).2.2.2.2.2.2.1 S1024x1024.size (by sl_kernel_rfl) y

theorem covC_o16 (c : Dev nD) (t : Fin cfg0.N) (h0 : ¬t.val % 16 = 0) (h1 : t.val % 16 = 15) (p : Out F) (y : S512x1024.Idx) :
    ∃ pc ∈ (runC m c t h0 h1 p).2.2.2.2.2.2.2.1, y ∈ pc.1.set :=
  View.cover_of_tiledL (runC m c t h0 h1 p).2.2.2.2.2.2.2.1 S512x1024.size (by sl_kernel_rfl) y

theorem covC_o17 (c : Dev nD) (t : Fin cfg0.N) (h0 : ¬t.val % 16 = 0) (h1 : t.val % 16 = 15) (p : Out F) (y : S512x1024.Idx) :
    ∃ pc ∈ (runC m c t h0 h1 p).2.2.2.2.2.2.2.2.1, y ∈ pc.1.set :=
  View.cover_of_tiledL (runC m c t h0 h1 p).2.2.2.2.2.2.2.2.1 S512x1024.size (by sl_kernel_rfl) y

theorem covC_s0 (c : Dev nD) (t : Fin cfg0.N) (h0 : ¬t.val % 16 = 0) (h1 : t.val % 16 = 15) (p : Out F) (y : S1024x1024.Idx) :
    ∃ pc ∈ (runC m c t h0 h1 p).2.2.2.2.2.2.2.2.2.1, y ∈ pc.1.set :=
  View.cover_of_tiledL (runC m c t h0 h1 p).2.2.2.2.2.2.2.2.2.1 S1024x1024.size (by sl_kernel_rfl) y

theorem covC_s1 (c : Dev nD) (t : Fin cfg0.N) (h0 : ¬t.val % 16 = 0) (h1 : t.val % 16 = 15) (p : Out F) (y : S512x1024.Idx) :
    ∃ pc ∈ (runC m c t h0 h1 p).2.2.2.2.2.2.2.2.2.2.1, y ∈ pc.1.set :=
  View.cover_of_tiledL (runC m c t h0 h1 p).2.2.2.2.2.2.2.2.2.2.1 S512x1024.size (by sl_kernel_rfl) y

theorem covC_s2 (c : Dev nD) (t : Fin cfg0.N) (h0 : ¬t.val % 16 = 0) (h1 : t.val % 16 = 15) (p : Out F) (y : S512x1024.Idx) :
    ∃ pc ∈ (runC m c t h0 h1 p).2.2.2.2.2.2.2.2.2.2.2.1, y ∈ pc.1.set :=
  View.cover_of_tiledL (runC m c t h0 h1 p).2.2.2.2.2.2.2.2.2.2.2.1 S512x1024.size (by sl_kernel_rfl) y

theorem covC_s3 (c : Dev nD) (t : Fin cfg0.N) (h0 : ¬t.val % 16 = 0) (h1 : t.val % 16 = 15) (p : Out F) (y : S16x512.Idx) :
    ∃ pc ∈ (runC m c t h0 h1 p).2.2.2.2.2.2.2.2.2.2.2.2.1, y ∈ pc.1.set :=
  View.cover_of_tiledL (runC m c t h0 h1 p).2.2.2.2.2.2.2.2.2.2.2.2.1 S16x512.size (by sl_kernel_rfl) y

/-- What the last point leaves: the pieces its run stored, read back. -/
def outC (c : Dev nD) (t : Fin cfg0.N) (h0 : ¬t.val % 16 = 0) (h1 : t.val % 16 = 15) (p : Out F) : Out F where
  o9 := VO0_9.read (Elt F) (VO0_9.writes (Elt F) VO0_9.junk (runC m c t h0 h1 p).1)
  o10 := VO0_10.read (Elt F) (VO0_10.writes (Elt F) VO0_10.junk (runC m c t h0 h1 p).2.1)
  o11 := VO0_11.read (Elt F) (VO0_11.writes (Elt F) VO0_11.junk (runC m c t h0 h1 p).2.2.1)
  o12 := VO0_12.read (Elt F) (VO0_12.writes (Elt F) VO0_12.junk (runC m c t h0 h1 p).2.2.2.1)
  o13 := VO0_13.read (Elt F) (VO0_13.writes (Elt F) VO0_13.junk (runC m c t h0 h1 p).2.2.2.2.1)
  o14 := VO0_14.read (Elt F) (VO0_14.writes (Elt F) VO0_14.junk (runC m c t h0 h1 p).2.2.2.2.2.1)
  o15 := VO0_15.read (Elt F) (VO0_15.writes (Elt F) VO0_15.junk (runC m c t h0 h1 p).2.2.2.2.2.2.1)
  o16 := VO0_16.read (Elt F) (VO0_16.writes (Elt F) VO0_16.junk (runC m c t h0 h1 p).2.2.2.2.2.2.2.1)
  o17 := VO0_17.read (Elt F) (VO0_17.writes (Elt F) VO0_17.junk (runC m c t h0 h1 p).2.2.2.2.2.2.2.2.1)
  s0 := VS0_0.read (Elt F) (VS0_0.writes (Elt F) VS0_0.junk (runC m c t h0 h1 p).2.2.2.2.2.2.2.2.2.1)
  s1 := VS0_1.read (Elt F) (VS0_1.writes (Elt F) VS0_1.junk (runC m c t h0 h1 p).2.2.2.2.2.2.2.2.2.2.1)
  s2 := VS0_2.read (Elt F) (VS0_2.writes (Elt F) VS0_2.junk (runC m c t h0 h1 p).2.2.2.2.2.2.2.2.2.2.2.1)
  s3 := VS0_3.read (Elt F) (VS0_3.writes (Elt F) VS0_3.junk (runC m c t h0 h1 p).2.2.2.2.2.2.2.2.2.2.2.2.1)

/-- What point `n` leaves, by recursion on the point. -/
def outs (c : Dev nD) : (n : ℕ) → n < cfg0.N → Out F
  | 0, hn => outA m c ⟨0, hn⟩ (by dsimp only) (by dsimp only; omega)
  | n + 1, hn =>
    have hN : n + 1 < 16 := lt_of_lt_of_eq hn (show cfg0.N = 16 from N_0)
    if h1 : (n + 1) % 16 = 15 then outC m c ⟨n + 1, hn⟩ (by dsimp only; omega) h1 (outs c n (Nat.lt_of_succ_lt hn))
    else outB m c ⟨n + 1, hn⟩ (by dsimp only; omega) h1 (outs c n (Nat.lt_of_succ_lt hn))

theorem outs_A (c : Dev nD) (t : Fin cfg0.N) (h0 : t.val % 16 = 0) (h1 : ¬t.val % 16 = 15) :
    outs m c t.val t.isLt = outA m c t h0 h1 := by
  have hN : t.val < 16 := lt_of_lt_of_eq t.isLt (show cfg0.N = 16 from N_0)
  obtain ⟨n, hn⟩ := t
  cases n with
  | zero => rfl
  | succ n => exfalso; dsimp only at h0 hN; omega

theorem outs_B (c : Dev nD) (t : Fin cfg0.N) (h0 : ¬t.val % 16 = 0) (h1 : ¬t.val % 16 = 15) :
    outs m c t.val t.isLt = outB m c t h0 h1 (outs m c (t.val - 1) (Nat.lt_of_le_of_lt (Nat.sub_le _ _) t.isLt)) := by
  obtain ⟨n, hn⟩ := t
  cases n with
  | zero => exact absurd rfl h0
  | succ n => exact dif_neg h1

theorem outs_C (c : Dev nD) (t : Fin cfg0.N) (h0 : ¬t.val % 16 = 0) (h1 : t.val % 16 = 15) :
    outs m c t.val t.isLt = outC m c t h0 h1 (outs m c (t.val - 1) (Nat.lt_of_le_of_lt (Nat.sub_le _ _) t.isLt)) := by
  obtain ⟨n, hn⟩ := t
  cases n with
  | zero => exact absurd rfl h0
  | succ n => exact dif_pos h1

end Cert.MixFrame

end
-- ==== Proof.MixDat.lean ====
module

public import proofs.«01_k».proof.Proof.MixRun
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.MixFrame

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried scratch before point `n`: anything before the first, then what the point before left. -/
def PhiS (c : Dev nD) : (n : ℕ) → n ≤ cfg0.N → sProp 𝕄
  | 0, _ => Pipeline.ΦA spec0 c
  | n + 1, hn => iprop(iprop(owns (c : Thread nD τ) scM0_0 fullShare (outs m c n hn).s0 ∗ owns (c : Thread nD τ) scM0_1 fullShare (outs m c n hn).s1 ∗ owns (c : Thread nD τ) scM0_2 fullShare (outs m c n hn).s2 ∗ owns (c : Thread nD τ) scM0_3 fullShare (outs m c n hn).s3) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outs m c n hn).s0 ∗ owns (c : Thread nD τ) scM0_1 fullShare (outs m c n hn).s1 ∗ owns (c : Thread nD τ) scM0_2 fullShare (outs m c n hn).s2 ∗ owns (c : Thread nD τ) scM0_3 fullShare (outs m c n hn).s3) ∗ (∃ r, prngReg c r)) := rfl

theorem PhiS_pos (c : Dev nD) (n : ℕ) (h : n ≤ cfg0.N) (hz : n ≠ 0) :
    PhiS m c n h = iprop(iprop(owns (c : Thread nD τ) scM0_0 fullShare (outs m c (n - 1) (by omega)).s0 ∗ owns (c : Thread nD τ) scM0_1 fullShare (outs m c (n - 1) (by omega)).s1 ∗ owns (c : Thread nD τ) scM0_2 fullShare (outs m c (n - 1) (by omega)).s2 ∗ owns (c : Thread nD τ) scM0_3 fullShare (outs m c (n - 1) (by omega)).s3) ∗ (∃ r, prngReg c r)) := by
  cases n with
  | zero => exact absurd rfl hz
  | succ n => rfl

/-- The pipeline's proof data: inputs keep their blocks, outputs hold what `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outs m c t.val t.isLt).o9
    | ⟨10, _⟩ => (outs m c t.val t.isLt).o10
    | ⟨11, _⟩ => (outs m c t.val t.isLt).o11
    | ⟨12, _⟩ => (outs m c t.val t.isLt).o12
    | ⟨13, _⟩ => (outs m c t.val t.isLt).o13
    | ⟨14, _⟩ => (outs m c t.val t.isLt).o14
    | ⟨15, _⟩ => (outs m c t.val t.isLt).o15
    | ⟨16, _⟩ => (outs m c t.val t.isLt).o16
    | ⟨17, _⟩ => (outs m c t.val t.isLt).o17
    | ⟨_ + 18, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) :
    (dats m 0 c).after 9 t = (outs m c t.val t.isLt).o9 := by dsimp only [dats]
theorem after_10 (c : Dev nD) (t : Fin cfg0.N) :
    (dats m 0 c).after 10 t = (outs m c t.val t.isLt).o10 := by dsimp only [dats]
theorem after_11 (c : Dev nD) (t : Fin cfg0.N) :
    (dats m 0 c).after 11 t = (outs m c t.val t.isLt).o11 := by dsimp only [dats]
theorem after_12 (c : Dev nD) (t : Fin cfg0.N) :
    (dats m 0 c).after 12 t = (outs m c t.val t.isLt).o12 := by dsimp only [dats]
theorem after_13 (c : Dev nD) (t : Fin cfg0.N) :
    (dats m 0 c).after 13 t = (outs m c t.val t.isLt).o13 := by dsimp only [dats]
theorem after_14 (c : Dev nD) (t : Fin cfg0.N) :
    (dats m 0 c).after 14 t = (outs m c t.val t.isLt).o14 := by dsimp only [dats]
theorem after_15 (c : Dev nD) (t : Fin cfg0.N) :
    (dats m 0 c).after 15 t = (outs m c t.val t.isLt).o15 := by dsimp only [dats]
theorem after_16 (c : Dev nD) (t : Fin cfg0.N) :
    (dats m 0 c).after 16 t = (outs m c t.val t.isLt).o16 := by dsimp only [dats]
theorem after_17 (c : Dev nD) (t : Fin cfg0.N) :
    (dats m 0 c).after 17 t = (outs m c t.val t.isLt).o17 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The tap gradient's buffer keeps between points what the point before left. -/
theorem before_14 (c : Dev nD) (t : Fin cfg0.N) (h0 : ¬t.val % 16 = 0) (d) :
    (dats m 0 c).before 14 t d = (outs m c (t.val - 1) (Nat.lt_of_le_of_lt (Nat.sub_le _ _) t.isLt)).o14 := by
  have hN : t.val < 16 := lt_of_lt_of_eq t.isLt (show cfg0.N = 16 from N_0)
  rw [Dat.before_out_kept _ 14 rfl t (by omega)
    (Bool.eq_false_iff.mpr fun h => by have := (flush0_14 _).mp h; dsimp only at this; omega)
    (fun _ => rfl) (fun _ _ => rfl)]
  dsimp only [dats]

theorem leaves_0 (c : Dev nD) (t : Fin cfg0.N) : (dats m 0 c).leavesExact 0 t
    = owns (c : Thread nD τ) (ms0_0 t) fullShare (iblk m c 0 t) := by
  unfold Dat.leavesExact; rw [liveAt0_0 t, after_0]
theorem leaves_1 (c : Dev nD) (t : Fin cfg0.N) : (dats m 0 c).leavesExact 1 t
    = owns (c : Thread nD τ) (ms0_1 t) fullShare (iblk m c 1 t) := by
  unfold Dat.leavesExact; rw [liveAt0_1 t, after_1]
theorem leaves_2 (c : Dev nD) (t : Fin cfg0.N) : (dats m 0 c).leavesExact 2 t
    = owns (c : Thread nD τ) (ms0_2 t) fullShare (iblk m c 2 t) := by
  unfold Dat.leavesExact; rw [liveAt0_2 t, after_2]
theorem leaves_3 (c : Dev nD) (t : Fin cfg0.N) : (dats m 0 c).leavesExact 3 t
    = owns (c : Thread nD τ) (ms0_3 t) fullShare (iblk m c 3 t) := by
  unfold Dat.leavesExact; rw [liveAt0_3 t, after_3]
theorem leaves_4 (c : Dev nD) (t : Fin cfg0.N) : (dats m 0 c).leavesExact 4 t
    = owns (c : Thread nD τ) (ms0_4 t) fullShare (iblk m c 4 t) := by
  unfold Dat.leavesExact; rw [liveAt0_4 t, after_4]
theorem leaves_5 (c : Dev nD) (t : Fin cfg0.N) : (dats m 0 c).leavesExact 5 t
    = owns (c : Thread nD τ) (ms0_5 t) fullShare (iblk m c 5 t) := by
  unfold Dat.leavesExact; rw [liveAt0_5 t, after_5]
theorem leaves_6 (c : Dev nD) (t : Fin cfg0.N) : (dats m 0 c).leavesExact 6 t
    = owns (c : Thread nD τ) (ms0_6 t) fullShare (iblk m c 6 t) := by
  unfold Dat.leavesExact; rw [liveAt0_6 t, after_6]
theorem leaves_7 (c : Dev nD) (t : Fin cfg0.N) : (dats m 0 c).leavesExact 7 t
    = owns (c : Thread nD τ) (ms0_7 t) fullShare (iblk m c 7 t) := by
  unfold Dat.leavesExact; rw [liveAt0_7 t, after_7]
theorem leaves_8 (c : Dev nD) (t : Fin cfg0.N) : (dats m 0 c).leavesExact 8 t
    = owns (c : Thread nD τ) (ms0_8 t) fullShare (iblk m c 8 t) := by
  unfold Dat.leavesExact; rw [liveAt0_8 t, after_8]
theorem leaves_9 (c : Dev nD) (t : Fin cfg0.N) : (dats m 0 c).leavesExact 9 t
    = owns (c : Thread nD τ) (ms0_9 t) fullShare ((outs m c t.val t.isLt).o9) := by
  unfold Dat.leavesExact; rw [liveAt0_9 t, after_9]
theorem leaves_10 (c : Dev nD) (t : Fin cfg0.N) : (dats m 0 c).leavesExact 10 t
    = owns (c : Thread nD τ) (ms0_10 t) fullShare ((outs m c t.val t.isLt).o10) := by
  unfold Dat.leavesExact; rw [liveAt0_10 t, after_10]
theorem leaves_11 (c : Dev nD) (t : Fin cfg0.N) : (dats m 0 c).leavesExact 11 t
    = owns (c : Thread nD τ) (ms0_11 t) fullShare ((outs m c t.val t.isLt).o11) := by
  unfold Dat.leavesExact; rw [liveAt0_11 t, after_11]
theorem leaves_12 (c : Dev nD) (t : Fin cfg0.N) : (dats m 0 c).leavesExact 12 t
    = owns (c : Thread nD τ) (ms0_12 t) fullShare ((outs m c t.val t.isLt).o12) := by
  unfold Dat.leavesExact; rw [liveAt0_12 t, after_12]
theorem leaves_13 (c : Dev nD) (t : Fin cfg0.N) : (dats m 0 c).leavesExact 13 t
    = owns (c : Thread nD τ) (ms0_13 t) fullShare ((outs m c t.val t.isLt).o13) := by
  unfold Dat.leavesExact; rw [liveAt0_13 t, after_13]
theorem leaves_14 (c : Dev nD) (t : Fin cfg0.N) : (dats m 0 c).leavesExact 14 t
    = owns (c : Thread nD τ) (ms0_14 t) fullShare ((outs m c t.val t.isLt).o14) := by
  unfold Dat.leavesExact; rw [liveAt0_14 t, after_14]
theorem leaves_15 (c : Dev nD) (t : Fin cfg0.N) (h0 : ¬t.val % 16 = 0) (h1 : t.val % 16 = 15) : (dats m 0 c).leavesExact 15 t
    = owns (c : Thread nD τ) (ms0_15 t) fullShare ((outs m c t.val t.isLt).o15) := by
  unfold Dat.leavesExact; rw [liveAt0_15_C t (fun h => h0 ((hcond0_0 t).mp h)) ((hcond0_1 t).mpr h1), after_15]
theorem leaves_16 (c : Dev nD) (t : Fin cfg0.N) (h0 : ¬t.val % 16 = 0) (h1 : t.val % 16 = 15) : (dats m 0 c).leavesExact 16 t
    = owns (c : Thread nD τ) (ms0_16 t) fullShare ((outs m c t.val t.isLt).o16) := by
  unfold Dat.leavesExact; rw [liveAt0_16_C t (fun h => h0 ((hcond0_0 t).mp h)) ((hcond0_1 t).mpr h1), after_16]
theorem leaves_17 (c : Dev nD) (t : Fin cfg0.N) (h0 : ¬t.val % 16 = 0) (h1 : t.val % 16 = 15) : (dats m 0 c).leavesExact 17 t
    = owns (c : Thread nD τ) (ms0_17 t) fullShare ((outs m c t.val t.isLt).o17) := by
  unfold Dat.leavesExact; rw [liveAt0_17_C t (fun h => h0 ((hcond0_0 t).mp h)) ((hcond0_1 t).mpr h1), after_17]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

end Cert.MixFrame

end
-- ==== Proof.MixBodyA.lean ====
module

public import proofs.«01_k».proof.Proof.MixDat
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.MixFrame

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- The body's triple at the first point. -/
theorem bodyA (c : Dev nD) (t : Fin cfg0.N) (h0 : t.val % 16 = 0) (h1 : ¬t.val % 16 = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before_0, before_1, before_2, before_3, before_4, before_5, before_6, before_7, before_8]
  rw [show (dats m 0 c).owesAt () t.succ = (dats m 0 c).owesAt () t.castSucc from rfl,
    show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14]
  rw [Dat.leavesExact_idle (dats m 0 c) 15 t (idleAt0_15_A t ((hcond0_0 t).mpr h0) (fun h => h1 ((hcond0_1 t).mp h)))
    (noFlush0_15_A t ((hcond0_0 t).mpr h0) (fun h => h1 ((hcond0_1 t).mp h)))]
  rw [Dat.leavesExact_idle (dats m 0 c) 16 t (idleAt0_16_A t ((hcond0_0 t).mpr h0) (fun h => h1 ((hcond0_1 t).mp h)))
    (noFlush0_16_A t ((hcond0_0 t).mpr h0) (fun h => h1 ((hcond0_1 t).mp h)))]
  rw [Dat.leavesExact_idle (dats m 0 c) 17 t (idleAt0_17_A t ((hcond0_0 t).mpr h0) (fun h => h1 ((hcond0_1 t).mp h)))
    (noFlush0_17_A t ((hcond0_0 t).mpr h0) (fun h => h1 ((hcond0_1 t).mp h)))]
  rw [PhiS_castSucc m c t, PhiS_zero m c _ _ (by omega), PhiA0_eq, outs_A m c t h0 h1]
  unfold outA; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runA m c t h0 h1).2.2.2.2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, ⟨%e10, H10⟩, ⟨%e11, H11⟩, ⟨%e12, H12⟩, ⟨%e13, H13⟩, ⟨%e14, H14⟩, H15, H16, H17, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covA_s0 m c t h0 h1)
      isplitl [HS1]
      · unfold owns; iexists _; isplitr
        swap; · iexact HS1
        ipureintro; exact View.read_writes_of_cover _ _ _ _ _ (covA_s1 m c t h0 h1)
      isplitl [HS2]
      · unfold owns; iexists _; isplitr
        swap; · iexact HS2
        ipureintro; exact View.read_writes_of_cover _ _ _ _ _ (covA_s2 m c t h0 h1)
      unfold owns; iexists _; isplitr
      swap; · iexact HS3
      ipureintro; exact View.read_writes_of_cover _ _ _ _ _ (covA_s3 m c t h0 h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (covA_o9 m c t h0 h1)
  isplitl [H10]
  · unfold owns; iexists _; isplitr
    swap; · iexact H10
    ipureintro; exact View.read_writes_of_cover _ _ _ _ _ (covA_o10 m c t h0 h1)
  isplitl [H11]
  · unfold owns; iexists _; isplitr
    swap; · iexact H11
    ipureintro; exact View.read_writes_of_cover _ _ _ _ _ (covA_o11 m c t h0 h1)
  isplitl [H12]
  · unfold owns; iexists _; isplitr
    swap; · iexact H12
    ipureintro; exact View.read_writes_of_cover _ _ _ _ _ (covA_o12 m c t h0 h1)
  isplitl [H13]
  · unfold owns; iexists _; isplitr
    swap; · iexact H13
    ipureintro; exact View.read_writes_of_cover _ _ _ _ _ (covA_o13 m c t h0 h1)
  isplitl [H14]
  · unfold owns; iexists _; isplitr
    swap; · iexact H14
    ipureintro; exact View.read_writes_of_cover _ _ _ _ _ (covA_o14 m c t h0 h1)
  isplitl [H15]; · iexists _; iexact H15
  isplitl [H16]; · iexists _; iexact H16
  iexists _; iexact H17

end Cert.MixFrame

end
-- ==== Proof.MixBodyB.lean ====
module

public import proofs.«01_k».proof.Proof.MixDat
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.MixFrame

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- The body's triple at a middle point. -/
theorem bodyB (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before_0, before_1, before_2, before_3, before_4, before_5, before_6, before_7, before_8]
  rw [show (dats m 0 c).owesAt () t.succ = (dats m 0 c).owesAt () t.castSucc from rfl,
    show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14]
  rw [Dat.leavesExact_idle (dats m 0 c) 15 t (idleAt0_15_B t (fun h => h0 ((hcond0_0 t).mp h)) (fun h => h1 ((hcond0_1 t).mp h)))
    (noFlush0_15_B t (fun h => h0 ((hcond0_0 t).mp h)) (fun h => h1 ((hcond0_1 t).mp h)))]
  rw [Dat.leavesExact_idle (dats m 0 c) 16 t (idleAt0_16_B t (fun h => h0 ((hcond0_0 t).mp h)) (fun h => h1 ((hcond0_1 t).mp h)))
    (noFlush0_16_B t (fun h => h0 ((hcond0_0 t).mp h)) (fun h => h1 ((hcond0_1 t).mp h)))]
  rw [Dat.leavesExact_idle (dats m 0 c) 17 t (idleAt0_17_B t (fun h => h0 ((hcond0_0 t).mp h)) (fun h => h1 ((hcond0_1 t).mp h)))
    (noFlush0_17_B t (fun h => h0 ((hcond0_0 t).mp h)) (fun h => h1 ((hcond0_1 t).mp h)))]
  rw [PhiS_castSucc m c t, PhiS_pos m c _ _ (by omega), outs_B m c t h0 h1]
  simp only [before_14 m c t h0]
  generalize outs m c (t.val - 1) (Nat.lt_of_le_of_lt (Nat.sub_le _ _) t.isLt) = p
  unfold outB; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runB m c t h0 h1 p).2.2.2.2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, ⟨%e10, H10⟩, ⟨%e11, H11⟩, ⟨%e12, H12⟩, ⟨%e13, H13⟩, ⟨%e14, H14⟩, H15, H16, H17, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covB_s0 m c t h0 h1 p)
      isplitl [HS1]
      · unfold owns; iexists _; isplitr
        swap; · iexact HS1
        ipureintro; exact View.read_writes_of_cover _ _ _ _ _ (covB_s1 m c t h0 h1 p)
      isplitl [HS2]
      · unfold owns; iexists _; isplitr
        swap; · iexact HS2
        ipureintro; exact View.read_writes_of_cover _ _ _ _ _ (covB_s2 m c t h0 h1 p)
      unfold owns; iexists _; isplitr
      swap; · iexact HS3
      ipureintro; exact View.read_writes_of_cover _ _ _ _ _ (covB_s3 m c t h0 h1 p)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (covB_o9 m c t h0 h1 p)
  isplitl [H10]
  · unfold owns; iexists _; isplitr
    swap; · iexact H10
    ipureintro; exact View.read_writes_of_cover _ _ _ _ _ (covB_o10 m c t h0 h1 p)
  isplitl [H11]
  · unfold owns; iexists _; isplitr
    swap; · iexact H11
    ipureintro; exact View.read_writes_of_cover _ _ _ _ _ (covB_o11 m c t h0 h1 p)
  isplitl [H12]
  · unfold owns; iexists _; isplitr
    swap; · iexact H12
    ipureintro; exact View.read_writes_of_cover _ _ _ _ _ (covB_o12 m c t h0 h1 p)
  isplitl [H13]
  · unfold owns; iexists _; isplitr
    swap; · iexact H13
    ipureintro; exact View.read_writes_of_cover _ _ _ _ _ (covB_o13 m c t h0 h1 p)
  isplitl [H14]
  · unfold owns; iexists _; isplitr
    swap; · iexact H14
    ipureintro; exact View.read_writes_of_cover _ _ _ _ _ (covB_o14 m c t h0 h1 p)
  isplitl [H15]; · iexists _; iexact H15
  isplitl [H16]; · iexists _; iexact H16
  iexists _; iexact H17

end Cert.MixFrame

end
-- ==== Proof.MixBodyC.lean ====
module

public import proofs.«01_k».proof.Proof.MixDat
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.MixFrame

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- The body's triple at the last point. -/
theorem bodyC (c : Dev nD) (t : Fin cfg0.N) (h0 : ¬t.val % 16 = 0) (h1 : t.val % 16 = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before_0, before_1, before_2, before_3, before_4, before_5, before_6, before_7, before_8]
  rw [show (dats m 0 c).owesAt () t.succ = (dats m 0 c).owesAt () t.castSucc from rfl,
    show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14]
  rw [leaves_15 m c t h0 h1, leaves_16 m c t h0 h1, leaves_17 m c t h0 h1]
  rw [PhiS_castSucc m c t, PhiS_pos m c _ _ (by omega), outs_C m c t h0 h1]
  simp only [before_14 m c t h0]
  generalize outs m c (t.val - 1) (Nat.lt_of_le_of_lt (Nat.sub_le _ _) t.isLt) = p
  unfold outC; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runC m c t h0 h1 p).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexists _; iexact H15
  isplitl [H16]; · iexists _; iexact H16
  isplitl [H17]; · iexists _; iexact H17
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covC_s0 m c t h0 h1 p)
      isplitl [HS1]
      · unfold owns; iexists _; isplitr
        swap; · iexact HS1
        ipureintro; exact View.read_writes_of_cover _ _ _ _ _ (covC_s1 m c t h0 h1 p)
      isplitl [HS2]
      · unfold owns; iexists _; isplitr
        swap; · iexact HS2
        ipureintro; exact View.read_writes_of_cover _ _ _ _ _ (covC_s2 m c t h0 h1 p)
      unfold owns; iexists _; isplitr
      swap; · iexact HS3
      ipureintro; exact View.read_writes_of_cover _ _ _ _ _ (covC_s3 m c t h0 h1 p)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (covC_o9 m c t h0 h1 p)
  isplitl [H10]
  · unfold owns; iexists _; isplitr
    swap; · iexact H10
    ipureintro; exact View.read_writes_of_cover _ _ _ _ _ (covC_o10 m c t h0 h1 p)
  isplitl [H11]
  · unfold owns; iexists _; isplitr
    swap; · iexact H11
    ipureintro; exact View.read_writes_of_cover _ _ _ _ _ (covC_o11 m c t h0 h1 p)
  isplitl [H12]
  · unfold owns; iexists _; isplitr
    swap; · iexact H12
    ipureintro; exact View.read_writes_of_cover _ _ _ _ _ (covC_o12 m c t h0 h1 p)
  isplitl [H13]
  · unfold owns; iexists _; isplitr
    swap; · iexact H13
    ipureintro; exact View.read_writes_of_cover _ _ _ _ _ (covC_o13 m c t h0 h1 p)
  isplitl [H14]
  · unfold owns; iexists _; isplitr
    swap; · iexact H14
    ipureintro; exact View.read_writes_of_cover _ _ _ _ _ (covC_o14 m c t h0 h1 p)
  isplitl [H15]
  · unfold owns; iexists _; isplitr
    swap; · iexact H15
    ipureintro; exact View.read_writes_of_cover _ _ _ _ _ (covC_o15 m c t h0 h1 p)
  isplitl [H16]
  · unfold owns; iexists _; isplitr
    swap; · iexact H16
    ipureintro; exact View.read_writes_of_cover _ _ _ _ _ (covC_o16 m c t h0 h1 p)
  unfold owns; iexists _; isplitr
  swap; · iexact H17
  ipureintro; exact View.read_writes_of_cover _ _ _ _ _ (covC_o17 m c t h0 h1 p)

end Cert.MixFrame

end
-- ==== Proof.MixFrame.lean ====
module

public import proofs.«01_k».proof.Proof.MixBodyA
public import proofs.«01_k».proof.Proof.MixBodyB
public import proofs.«01_k».proof.Proof.MixBodyC
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.MixFrame

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem body (c : Dev nD) (t : Fin cfg0.N) :
    bodyPre m c t ⊢ wp frame (wpE (defs₀ (F := F)) Variants.none c none) Set.univ (bodyAt0 t) (fun _ => bodyPost m c t) := by
  by_cases h0 : t.val % 16 = 0
  · exact bodyA m c t h0 (by omega)
  · by_cases h1 : t.val % 16 = 15
    · exact bodyC m c t h0 h1
    · exact bodyB m c t h0 h1

/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends with every array at what the proof data says. -/
theorem run : θ_run defs (onTc (τ := τ) (main (F := F))) (s₀ m ρ) (Pipeline.FramePost cfgs (dats m) 0 (V m)) :=
  (θ_run defs _ _).mono (fun _ h => h.1) (run_quiescent m ρ)

/-- The frame: every run ends with the arguments unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run m ρ)) ((θ_run defs _ _).mono (fun _ h => h.2) (run_quiescent m ρ))

end Cert.MixFrame

end
-- ==== Proof.MixVals.lean ====
module

public import proofs.«01_k».proof.Proof.MixPiece
public import proofs.«01_k».proof.Proof.MixRun

@[expose] public section

set_option maxRecDepth 16384

/-!
# The values of one point

At a point whose blocks hold the rows from `b` on, every value the body stores is the specification's row or
sum.
-/

noncomputable section

open Idealize.ShloMosaic Idealize.ShloMosaic.TcCoe Idealize.ShloMosaic.Tactic
open Cert.KernelIdeal Cert.KernelIdeal.Gen
open Cert.MixSpec Cert.MixFrame

namespace Cert.MixBlock

variable {X : Args} {b : ℕ} {m : (ℓ : Loc nD τ sig) → Buf (Elt Ideal) ℓ} {c : Dev nD} {t : Fin cfg0.N}

/-- The point's blocks hold the rows from `b` on of the arrays. -/
structure Blk (X : Args) (b : ℕ) (m : (ℓ : Loc nD τ sig) → Buf (Elt Ideal) ℓ) (c : Dev nD) (t : Fin cfg0.N) : Prop where
  d0 : Rows (n := 256) (m := 1024) b (iblk m c 0 t) X.dh
  d1 : Rows (n := 1024) (m := 1024) 0 (iblk m c 1 t) X.wo
  d2 : Rows (n := 256) (m := 2048) b (iblk m c 2 t) X.g
  d3 : Rows (n := 256) (m := 512) b (iblk m c 3 t) X.at'
  d4 : Rows (n := 512) (m := 1024) 0 (iblk m c 4 t) X.wa
  d5 : Rows (n := 512) (m := 1024) 0 (iblk m c 5 t) X.wc
  d6 : Rows (n := 256) (m := 1536) b (iblk m c 6 t) X.bx
  d7 : (grid0.coords t 0).val ≠ 15 → Rows (n := 16) (m := 1536) (b - 16) (iblk m c 7 t) X.bx
  d8 : Rows (n := 3) (m := 512) 0 (iblk m c 8 t) X.cw
  first : (grid0.coords t 0).val = 15 → b = 0
  later : (grid0.coords t 0).val ≠ 15 → 16 ≤ b

variable (m c t)

abbrev l0 : Vec Ideal S256x1024 .f32 :=
  View.ld (iblk m c 0 t) (Rect.unit ![0, 0] ![256, 1024] inb_S256x1024_S256x1024_0_0)
abbrev l1 : Vec Ideal S1024x1024 .bf16 :=
  View.ld (iblk m c 1 t) (Rect.unit ![0, 0] ![1024, 1024] inb_S1024x1024_S1024x1024_0_0)
abbrev l2 : Vec Ideal S256x1024 .bf16 :=
  View.ld (iblk m c 2 t) (Rect.unit ![0, 0] ![256, 1024] inb_S256x2048_S256x1024_0_0)
abbrev l2b : Vec Ideal S256x1024 .bf16 :=
  View.ld (iblk m c 2 t) (Rect.unit ![0, 1024] ![256, 1024] inb_S256x2048_S256x1024_0_1024)
abbrev l3 : Vec Ideal S256x512 .bf16 :=
  View.ld (iblk m c 3 t) (Rect.unit ![0, 0] ![256, 512] inb_S256x512_S256x512_0_0)
abbrev l4 : Vec Ideal S512x1024 .bf16 :=
  View.ld (iblk m c 4 t) (Rect.unit ![0, 0] ![512, 1024] inb_S512x1024_S512x1024_0_0)
abbrev l5 : Vec Ideal S512x1024 .bf16 :=
  View.ld (iblk m c 5 t) (Rect.unit ![0, 0] ![512, 1024] inb_S512x1024_S512x1024_0_0)
abbrev l6 : Vec Ideal S256x512 .bf16 :=
  View.ld (iblk m c 6 t) (Rect.unit ![0, 0] ![256, 512] inb_S256x1536_S256x512_0_0)
abbrev l6b : Vec Ideal S256x512 .bf16 :=
  View.ld (iblk m c 6 t) (Rect.unit ![0, 512] ![256, 512] inb_S256x1536_S256x512_0_512)
abbrev l6c : Vec Ideal S256x512 .bf16 :=
  View.ld (iblk m c 6 t) (Rect.unit ![0, 1024] ![256, 512] inb_S256x1536_S256x512_0_1024)
abbrev l7b : Vec Ideal S16x512 .bf16 :=
  View.ld (iblk m c 7 t) (Rect.unit ![0, 512] ![16, 512] inb_S16x1536_S16x512_0_512)
abbrev l7c : Vec Ideal S16x512 .bf16 :=
  View.ld (iblk m c 7 t) (Rect.unit ![0, 1024] ![16, 512] inb_S16x1536_S16x512_0_1024)
abbrev l80 : Vec Ideal S1x512 .f32 :=
  View.ld (iblk m c 8 t) (Rect.unit ![0, 0] ![1, 512] inb_S3x512_S1x512_0_0)
abbrev l81 : Vec Ideal S1x512 .f32 :=
  View.ld (iblk m c 8 t) (Rect.unit ![1, 0] ![1, 512] inb_S3x512_S1x512_1_0)
abbrev l82 : Vec Ideal S1x512 .f32 :=
  View.ld (iblk m c 8 t) (Rect.unit ![2, 0] ![1, 512] inb_S3x512_S1x512_2_0)
abbrev q5 := k0_pay13 (F := Ideal) (l6 m c t)
abbrev q10 := k0_pay16 (F := Ideal) (l6b m c t) (l6c m c t)
abbrev q33 := k0_pay17 (F := Ideal) (grid0.coords t) (l6b m c t) (l6c m c t) (l7b m c t) (l7c m c t) (l80 m c t) (l81 m c t) (l82 m c t)
abbrev q66 := k0_pay25 (F := Ideal) (q5 m c t) (q33 m c t) (l3 m c t) (l4 m c t) (l5 m c t) (l2 m c t) (l2b m c t)
abbrev q68 := k0_pay26 (F := Ideal) (l0 m c t) (l1 m c t) (l2 m c t)
abbrev q70 := k0_pay27 (F := Ideal) (l0 m c t) (l1 m c t) (l2b m c t)
abbrev q94 := k0_pay34 (F := Ideal) (q5 m c t) (q70 m c t) (l5 m c t)
abbrev q102 (v : Vec Ideal S16x512 .f32) := k0_pay37 (F := Ideal) (q5 m c t) (q70 m c t) (l5 m c t) v
abbrev q104 (v : Vec Ideal S16x512 .f32) := k0_pay38 (F := Ideal) (q5 m c t) (q70 m c t) (l5 m c t) v

variable {m c t}

namespace Blk

variable (B : Blk X b m c t)
include B

theorem r0 : Rows b (l0 m c t) X.dh := rows_all32 _ B.d0
theorem r1 : Rows 0 (l1 m c t) X.wo := rows_all16 _ B.d1
theorem r2 : Rows b (l2 m c t) X.g := rows_all16 _ B.d2
theorem r2b : Rows b (l2b m c t) (fun t d => X.g t (1024 + d)) := rows_ld16 0 1024 _ B.d2
theorem r3 : Rows b (l3 m c t) X.at' := rows_all16 _ B.d3
theorem r4 : Rows 0 (l4 m c t) X.wa := rows_all16 _ B.d4
theorem r5 : Rows 0 (l5 m c t) X.wc := rows_all16 _ B.d5
theorem r6 : Rows b (l6 m c t) X.bx := rows_all16 _ B.d6
theorem r6b : Rows b (l6b m c t) (fun t c => X.bx t (512 + c)) := rows_ld16 0 512 _ B.d6
theorem r6c : Rows b (l6c m c t) (fun t c => X.bx t (1024 + c)) := rows_ld16 0 1024 _ B.d6
theorem r80 : Rows 0 (l80 m c t) X.cw := rows_all32 _ B.d8
theorem r81 : Rows 1 (l81 m c t) X.cw := by
  have := rows_ld32 (n' := 1) (m' := 512) 1 0 inb_S3x512_S1x512_1_0 B.d8
  simp only [Nat.zero_add] at this
  exact this
theorem r82 : Rows 2 (l82 m c t) X.cw := by
  have := rows_ld32 (n' := 1) (m' := 512) 2 0 inb_S3x512_S1x512_2_0 B.d8
  simp only [Nat.zero_add] at this
  exact this
theorem p5 : Rows b (q5 m c t) X.bx := rows13 B.r6
theorem p10 : Rows b (q10 m c t) X.u := rows16 B.r6b B.r6c
theorem p33 : Rows b (q33 m c t) X.cv :=
  rows17 B.r6b B.r6c B.first B.later (fun h => rows_ld16 0 512 _ (B.d7 h)) (fun h => rows_ld16 0 1024 _ (B.d7 h))
    B.r80 B.r81 B.r82
theorem p66 : Rows b (q66 m c t) X.mg := rows25 B.p5 B.p33 B.r3 B.r4 B.r5 B.r2 B.r2b
theorem p68 : Rows b (q68 m c t) X.da := rows26 B.r0 B.r1 B.r2
theorem p70 : Rows b (q70 m c t) X.dc := rows27 B.r0 B.r1 B.r2b
theorem p94 : Rows b (q94 m c t) X.dd := rows34 B.p5 B.p70 B.r5

variable {v : Vec Ideal S16x512 .f32} (hv : Rows (b + 256) v X.dd)

theorem p102 {v : Vec Ideal S16x512 .f32} (hv : Rows (b + 256) v X.dd) :
    Rows b (q102 m c t v) (fun t c => X.dd (t + 1) c) := rows37 B.p5 B.p70 B.r5 hv
theorem p104 {v : Vec Ideal S16x512 .f32} (hv : Rows (b + 256) v X.dd) :
    Rows b (q104 m c t v) (fun t c => X.dd (t + 2) c) := rows38 B.p5 B.p70 B.r5 hv

end Blk

/-- The gate's gradient, written as two halves. -/
theorem rows_halves {w1 w2 : Vec Ideal S256x1024 .bf16} {f g : ℕ → ℕ → EReal} (h1 : Rows b w1 f) (h2 : Rows b w2 g) :
    Rows (n := 256) (m := 2048) b (View.canon (Val := Elt Ideal) (s := S256x2048) (e := .bf16)
      [⟨Rect.unit ![0, 1024] ![256, 1024] inb_S256x2048_S256x1024_0_1024, w2⟩,
        ⟨Rect.unit ![0, 0] ![256, 1024] inb_S256x2048_S256x1024_0_0, w1⟩])
      (fun t d => if d < 1024 then f t d else g t (d - 1024)) := by
  intro r d
  have hr := r.isLt
  have hd := d.isLt
  by_cases h : d.val < 1024
  · refine (canon_off 0 1024 inb_S256x2048_S256x1024_0_1024 w2 _ r d (by omega)).trans ?_
    refine (canon_on 0 0 inb_S256x2048_S256x1024_0_0 w1 _ r d r ⟨d.val, h⟩ (by simp) (by simp)).trans ?_
    refine (h1 r ⟨d.val, h⟩).trans ?_
    dsimp only
    rw [if_pos h]
  · refine (canon_on 0 1024 inb_S256x2048_S256x1024_0_1024 w2 _ r d r ⟨d.val - 1024, by omega⟩ (by simp)
      (by dsimp only; omega)).trans ?_
    refine (h2 r ⟨d.val - 1024, by omega⟩).trans ?_
    dsimp only
    rw [if_neg h]

/-- The taps' gradient, written row by row. -/
theorem sums_taps {w0 w1 w2 : Vec Ideal S1x512 .f32} (L : List (View.Piece (Elt Ideal) S3x512 .f32))
    (h0 : Sums b w0 (fun _ c t => X.wk 0 t c)) (h1 : Sums b w1 (fun _ c t => X.wk 1 t c))
    (h2 : Sums b w2 (fun _ c t => X.wk 2 t c)) :
    Sums (m := 3) (n := 512) b (View.canon (Val := Elt Ideal) (s := S3x512) (e := .f32)
      (⟨Rect.unit ![2, 0] ![1, 512] inb_S3x512_S1x512_2_0, w2⟩ ::
        ⟨Rect.unit ![1, 0] ![1, 512] inb_S3x512_S1x512_1_0, w1⟩ ::
        ⟨Rect.unit ![0, 0] ![1, 512] inb_S3x512_S1x512_0_0, w0⟩ :: L))
      (fun k c t => X.wk k t c) := by
  intro r c
  have hr : r.val = 0 ∨ r.val = 1 ∨ r.val = 2 := by omega
  have hc := c.isLt
  rcases hr with h | h | h
  · refine (canon_off 2 0 inb_S3x512_S1x512_2_0 w2 _ r c (by omega)).trans ?_
    refine (canon_off 1 0 inb_S3x512_S1x512_1_0 w1 _ r c (by omega)).trans ?_
    refine (canon_on 0 0 inb_S3x512_S1x512_0_0 w0 _ r c 0 c (by simp [h]) (by simp)).trans ?_
    rw [h]
    exact h0 0 c
  · refine (canon_off 2 0 inb_S3x512_S1x512_2_0 w2 _ r c (by omega)).trans ?_
    refine (canon_on 1 0 inb_S3x512_S1x512_1_0 w1 _ r c 0 c (by simp [h]) (by simp)).trans ?_
    rw [h]
    exact h1 0 c
  · refine (canon_on 2 0 inb_S3x512_S1x512_2_0 w2 _ r c 0 c (by simp [h]) (by simp)).trans ?_
    rw [h]
    exact h2 0 c

/-- A row of the taps' gradient read from what the point before left. -/
theorem sums_row (k : ℕ) (hk : k < 3) {v : Vec Ideal S3x512 .f32} (h : ∀ a, (![k, 0] : Fin 2 → ℕ) a + (![1, 512] : Fin 2 → ℕ) a ≤ (![3, 512] : Fin 2 → ℕ) a)
    (hv : Sums b v (fun k c t => X.wk k t c)) :
    Sums (m := 1) (n := 512) b (View.ld v (Rect.unit (s := S3x512) ![k, 0] ![1, 512] h)) (fun _ c t => X.wk k t c) := by
  intro r c
  have hr := r.isLt
  have hc := c.isLt
  refine (ld_ix2 v k 0 h r c (by omega) (by omega)).trans ((hv _ _).trans ?_)
  dsimp only
  rw [show k + r.val = k by omega, Nat.zero_add]

/-- A row of the taps' gradient read from what the point has written so far. -/
theorem sums_cov (k : ℕ) (hk : k < 3) {κ : Kind} {sp : Space} (v : View sig κ sp S3x512 .f32) (L : List (View.Piece (Elt Ideal) S3x512 .f32))
    (h : ∀ a, (![k, 0] : Fin 2 → ℕ) a + (![1, 512] : Fin 2 → ℕ) a ≤ (![3, 512] : Fin 2 → ℕ) a)
    (hL : ∀ c : Fin 512, View.canon L (ix2 ⟨k, hk⟩ c) = tail b (fun t => X.wk k t c)) :
    Sums (m := 1) (n := 512) b (v.readCov L (Rect.unit (s := S3x512) ![k, 0] ![1, 512] h).toLoadRect) (fun _ c t => X.wk k t c) := by
  intro r c
  rw [View.readCov_eq_canon']
  refine (congrArg (View.canon L) ?_).trans (hL c)
  exact emb_ix2 k 0 h ⟨k, hk⟩ c r c (by have := r.isLt; dsimp only; omega) (by simp)

/-- The zeros the first point writes. -/
theorem taps_zero (hb : b = 4096) (k : ℕ) (hk : k < 3) (c : Fin 512) :
    View.canon (Val := Elt Ideal) (s := S3x512) (e := .f32) [⟨Rect.unit ![0, 0] ![3, 512] inb_S3x512_S3x512_0_0, k0_pay8 (F := Ideal)⟩] (ix2 ⟨k, hk⟩ c)
      = tail b (fun t => X.wk k t c) := by
  rw [View.canon_unit_zero hz, hb]
  exact sums_zero8 (fun k c t => X.wk k t c) ⟨k, hk⟩ c

/-- A whole accumulator read. -/
theorem sums_all {n m : ℕ} {v : Vec Ideal ⟨2, ![n, m]⟩ .f32} {f : ℕ → ℕ → ℕ → EReal}
    (h : ∀ a, (![0, 0] : Fin 2 → ℕ) a + (![n, m] : Fin 2 → ℕ) a ≤ (![n, m] : Fin 2 → ℕ) a) (hv : Sums b v f) :
    Sums (m := n) (n := m) b (View.ld v (Rect.unit (s := ⟨2, ![n, m]⟩) ![0, 0] ![n, m] h)) f := by
  rw [View.ld_unit_zero hz]
  exact hv

/-- What a point leaves: the block's rows, the sums from the block on, and the block's first rows carried. -/
structure Inv (X : Args) (b : ℕ) (o : Out Ideal) : Prop where
  i9 : Rows b o.o9 (fun t d => if d < 1024 then X.dga t d else X.dgc t (d - 1024))
  i10 : Rows b o.o10 X.dat
  i11 : Rows b o.o11 X.dcb
  i12 : Rows b o.o12 X.dcc
  i13 : Rows b o.o13 X.dcx
  i14 : Sums b o.o14 (fun k c t => X.wk k t c)
  j0 : Sums b o.s0 X.wo'
  j1 : Sums b o.s1 X.wa'
  j2 : Sums b o.s2 X.wc'
  j3 : Rows b o.s3 X.dd

end Cert.MixBlock
-- ==== Proof.MixInvA.lean ====
module

public import proofs.«01_k».proof.Proof.MixVals

@[expose] public section

set_option maxRecDepth 16384

/-!
# What the first point leaves
-/

noncomputable section

open Idealize.ShloMosaic Idealize.ShloMosaic.TcCoe Idealize.ShloMosaic.Tactic
open Cert.KernelIdeal Cert.KernelIdeal.Gen
open Cert.MixSpec Cert.MixFrame

namespace Cert.MixBlock

variable {X : Args} {b : ℕ} {m : (ℓ : Loc nD τ sig) → Buf (Elt Ideal) ℓ} {c : Dev nD} {t : Fin cfg0.N}

set_option maxHeartbeats 1000000 in
theorem o9A (B : Blk X b m c t) (h0 : t.val % 16 = 0) (h1 : ¬t.val % 16 = 15) (hb : b + 256 = 4096) (hx : ∀ t c, 4096 ≤ t → X.dd t c = 0) :
    Rows b (outA m c t h0 h1).o9 (fun t d => if d < 1024 then X.dga t d else X.dgc t (d - 1024)) := by
  unfold outA
  dsimp only
  rw [View.read_writes_eq_canon _ _ _ (covA_o9 m c t h0 h1)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  exact rows_halves (rows29 B.r3 B.r4 B.r0 B.r1 B.r2) (rows30 B.p5 B.p33 B.r5 B.r0 B.r1 B.r2b)

set_option maxHeartbeats 1000000 in
theorem o10A (B : Blk X b m c t) (h0 : t.val % 16 = 0) (h1 : ¬t.val % 16 = 15) (hb : b + 256 = 4096) (hx : ∀ t c, 4096 ≤ t → X.dd t c = 0) :
    Rows b (outA m c t h0 h1).o10 X.dat := by
  unfold outA
  dsimp only
  rw [View.read_writes_eq_canon _ _ _ (covA_o10 m c t h0 h1)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows31 B.p68 B.r4

set_option maxHeartbeats 1000000 in
theorem o11A (B : Blk X b m c t) (h0 : t.val % 16 = 0) (h1 : ¬t.val % 16 = 15) (hb : b + 256 = 4096) (hx : ∀ t c, 4096 ≤ t → X.dd t c = 0) :
    Rows b (outA m c t h0 h1).o11 X.dcb := by
  unfold outA
  dsimp only
  rw [View.read_writes_eq_canon _ _ _ (covA_o11 m c t h0 h1)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows33 B.p33 B.p70 B.r5

set_option maxHeartbeats 1000000 in
theorem o12A (B : Blk X b m c t) (h0 : t.val % 16 = 0) (h1 : ¬t.val % 16 = 15) (hb : b + 256 = 4096) (hx : ∀ t c, 4096 ≤ t → X.dd t c = 0) :
    Rows b (outA m c t h0 h1).o12 X.dcc := by
  unfold outA
  dsimp only
  rw [View.read_writes_eq_canon _ _ _ (covA_o12 m c t h0 h1)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows40 (rows15 B.r6c) B.p94 (B.p102 (by rw [View.readCov_unit_zero _ hz, hb]; exact rows12 hx)) (B.p104 (by rw [View.readCov_unit_zero _ hz, hb]; exact rows12 hx)) B.r82 B.r81 B.r80

set_option maxHeartbeats 1000000 in
theorem o13A (B : Blk X b m c t) (h0 : t.val % 16 = 0) (h1 : ¬t.val % 16 = 15) (hb : b + 256 = 4096) (hx : ∀ t c, 4096 ≤ t → X.dd t c = 0) :
    Rows b (outA m c t h0 h1).o13 X.dcx := by
  unfold outA
  dsimp only
  rw [View.read_writes_eq_canon _ _ _ (covA_o13 m c t h0 h1)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows41 (rows14 B.r6b) B.p94 (B.p102 (by rw [View.readCov_unit_zero _ hz, hb]; exact rows12 hx)) (B.p104 (by rw [View.readCov_unit_zero _ hz, hb]; exact rows12 hx)) B.r82 B.r81 B.r80

set_option maxHeartbeats 1000000 in
theorem o14A (B : Blk X b m c t) (h0 : t.val % 16 = 0) (h1 : ¬t.val % 16 = 15) (hb : b + 256 = 4096) (hx : ∀ t c, 4096 ≤ t → X.dd t c = 0) :
    Sums b (outA m c t h0 h1).o14 (fun k c t => X.wk k t c) := by
  unfold outA
  dsimp only
  rw [View.read_writes_eq_canon _ _ _ (covA_o14 m c t h0 h1)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  refine sums_taps _ (sums42 (by omega) B.p10 (B.p104 (by rw [View.readCov_unit_zero _ hz, hb]; exact rows12 hx)) ?_) (sums43 (by omega) B.p10 (B.p102 (by rw [View.readCov_unit_zero _ hz, hb]; exact rows12 hx)) ?_) (sums45 (by omega) B.p10 B.p94 ?_)
  · exact sums_cov 0 (by decide) _ _ _ fun c => taps_zero hb 0 (by decide) c
  · exact sums_cov 1 (by decide) _ _ _ fun c =>
      (canon_off 0 0 inb_S3x512_S1x512_0_0 _ _ _ c (by dsimp only; omega)).trans (taps_zero hb 1 (by decide) c)
  · exact sums_cov 2 (by decide) _ _ _ fun c =>
      (canon_off 1 0 inb_S3x512_S1x512_1_0 _ _ _ c (by dsimp only; omega)).trans
        ((canon_off 0 0 inb_S3x512_S1x512_0_0 _ _ _ c (by dsimp only; omega)).trans (taps_zero hb 2 (by decide) c))

set_option maxHeartbeats 1000000 in
theorem s0A (B : Blk X b m c t) (h0 : t.val % 16 = 0) (h1 : ¬t.val % 16 = 15) (hb : b + 256 = 4096) (hx : ∀ t c, 4096 ≤ t → X.dd t c = 0) :
    Sums b (outA m c t h0 h1).s0 X.wo' := by
  unfold outA
  dsimp only
  rw [View.read_writes_eq_canon _ _ _ (covA_s0 m c t h0 h1)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_cons_unit_zero hz]
  exact sums2 (by omega) (rows21 B.r0) B.p66 (by rw [View.readCov_unit_zero _ hz, hb]; exact sums_zero9 _)

set_option maxHeartbeats 1000000 in
theorem s1A (B : Blk X b m c t) (h0 : t.val % 16 = 0) (h1 : ¬t.val % 16 = 15) (hb : b + 256 = 4096) (hx : ∀ t c, 4096 ≤ t → X.dd t c = 0) :
    Sums b (outA m c t h0 h1).s1 X.wa' := by
  unfold outA
  dsimp only
  rw [View.read_writes_eq_canon _ _ _ (covA_s1 m c t h0 h1)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_cons_unit_zero hz]
  exact sums3 (by omega) B.r3 B.p68 (by rw [View.readCov_unit_zero _ hz, hb]; exact sums_zero10 _)

set_option maxHeartbeats 1000000 in
theorem s2A (B : Blk X b m c t) (h0 : t.val % 16 = 0) (h1 : ¬t.val % 16 = 15) (hb : b + 256 = 4096) (hx : ∀ t c, 4096 ≤ t → X.dd t c = 0) :
    Sums b (outA m c t h0 h1).s2 X.wc' := by
  unfold outA
  dsimp only
  rw [View.read_writes_eq_canon _ _ _ (covA_s2 m c t h0 h1)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_cons_unit_zero hz]
  exact sums4 (by omega) (rows18 B.p5 B.p33) B.p70 (by rw [View.readCov_unit_zero _ hz, hb]; exact sums_zero11 _)

set_option maxHeartbeats 1000000 in
theorem s3A (B : Blk X b m c t) (h0 : t.val % 16 = 0) (h1 : ¬t.val % 16 = 15) (hb : b + 256 = 4096) (hx : ∀ t c, 4096 ≤ t → X.dd t c = 0) :
    Rows b (outA m c t h0 h1).s3 X.dd := by
  unfold outA
  dsimp only
  rw [View.read_writes_eq_canon _ _ _ (covA_s3 m c t h0 h1)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_cons_unit_zero hz]
  exact rows35 B.p5 B.p70 B.r5

theorem invA (B : Blk X b m c t) (h0 : t.val % 16 = 0) (h1 : ¬t.val % 16 = 15) (hb : b + 256 = 4096) (hx : ∀ t c, 4096 ≤ t → X.dd t c = 0) :
    Inv X b (outA m c t h0 h1) :=
  ⟨o9A B h0 h1 hb hx,
    o10A B h0 h1 hb hx,
    o11A B h0 h1 hb hx,
    o12A B h0 h1 hb hx,
    o13A B h0 h1 hb hx,
    o14A B h0 h1 hb hx,
    s0A B h0 h1 hb hx,
    s1A B h0 h1 hb hx,
    s2A B h0 h1 hb hx,
    s3A B h0 h1 hb hx⟩

end Cert.MixBlock
-- ==== Proof.MixInvB.lean ====
module

public import proofs.«01_k».proof.Proof.MixVals

@[expose] public section

set_option maxRecDepth 16384

/-!
# What a middle point leaves
-/

noncomputable section

open Idealize.ShloMosaic Idealize.ShloMosaic.TcCoe Idealize.ShloMosaic.Tactic
open Cert.KernelIdeal Cert.KernelIdeal.Gen
open Cert.MixSpec Cert.MixFrame

namespace Cert.MixBlock

variable {X : Args} {b : ℕ} {m : (ℓ : Loc nD τ sig) → Buf (Elt Ideal) ℓ} {c : Dev nD} {t : Fin cfg0.N}

set_option maxHeartbeats 1000000 in
theorem o9B (B : Blk X b m c t) (h0 : ¬t.val % 16 = 0) (h1 : ¬t.val % 16 = 15) (p : Out Ideal) (hb : b + 256 ≤ 4096) (I : Inv X (b + 256) p) :
    Rows b (outB m c t h0 h1 p).o9 (fun t d => if d < 1024 then X.dga t d else X.dgc t (d - 1024)) := by
  unfold outB
  dsimp only
  rw [View.read_writes_eq_canon _ _ _ (covB_o9 m c t h0 h1 p)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  exact rows_halves (rows29 B.r3 B.r4 B.r0 B.r1 B.r2) (rows30 B.p5 B.p33 B.r5 B.r0 B.r1 B.r2b)

set_option maxHeartbeats 1000000 in
theorem o10B (B : Blk X b m c t) (h0 : ¬t.val % 16 = 0) (h1 : ¬t.val % 16 = 15) (p : Out Ideal) (hb : b + 256 ≤ 4096) (I : Inv X (b + 256) p) :
    Rows b (outB m c t h0 h1 p).o10 X.dat := by
  unfold outB
  dsimp only
  rw [View.read_writes_eq_canon _ _ _ (covB_o10 m c t h0 h1 p)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows31 B.p68 B.r4

set_option maxHeartbeats 1000000 in
theorem o11B (B : Blk X b m c t) (h0 : ¬t.val % 16 = 0) (h1 : ¬t.val % 16 = 15) (p : Out Ideal) (hb : b + 256 ≤ 4096) (I : Inv X (b + 256) p) :
    Rows b (outB m c t h0 h1 p).o11 X.dcb := by
  unfold outB
  dsimp only
  rw [View.read_writes_eq_canon _ _ _ (covB_o11 m c t h0 h1 p)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows33 B.p33 B.p70 B.r5

set_option maxHeartbeats 1000000 in
theorem o12B (B : Blk X b m c t) (h0 : ¬t.val % 16 = 0) (h1 : ¬t.val % 16 = 15) (p : Out Ideal) (hb : b + 256 ≤ 4096) (I : Inv X (b + 256) p) :
    Rows b (outB m c t h0 h1 p).o12 X.dcc := by
  unfold outB
  dsimp only
  rw [View.read_writes_eq_canon _ _ _ (covB_o12 m c t h0 h1 p)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows40 (rows15 B.r6c) B.p94 (B.p102 (rows_all32 _ I.j3)) (B.p104 (rows_all32 _ I.j3)) B.r82 B.r81 B.r80

set_option maxHeartbeats 1000000 in
theorem o13B (B : Blk X b m c t) (h0 : ¬t.val % 16 = 0) (h1 : ¬t.val % 16 = 15) (p : Out Ideal) (hb : b + 256 ≤ 4096) (I : Inv X (b + 256) p) :
    Rows b (outB m c t h0 h1 p).o13 X.dcx := by
  unfold outB
  dsimp only
  rw [View.read_writes_eq_canon _ _ _ (covB_o13 m c t h0 h1 p)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows41 (rows14 B.r6b) B.p94 (B.p102 (rows_all32 _ I.j3)) (B.p104 (rows_all32 _ I.j3)) B.r82 B.r81 B.r80

set_option maxHeartbeats 1000000 in
theorem o14B (B : Blk X b m c t) (h0 : ¬t.val % 16 = 0) (h1 : ¬t.val % 16 = 15) (p : Out Ideal) (hb : b + 256 ≤ 4096) (I : Inv X (b + 256) p) :
    Sums b (outB m c t h0 h1 p).o14 (fun k c t => X.wk k t c) := by
  unfold outB
  dsimp only
  rw [View.read_writes_eq_canon _ _ _ (covB_o14 m c t h0 h1 p)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  exact sums_taps _ (sums42 (by omega) B.p10 (B.p104 (rows_all32 _ I.j3)) (sums_row 0 (by decide) _ I.i14))
    (sums43 (by omega) B.p10 (B.p102 (rows_all32 _ I.j3)) (sums_row 1 (by decide) _ I.i14))
    (sums45 (by omega) B.p10 B.p94 (sums_row 2 (by decide) _ I.i14))

set_option maxHeartbeats 1000000 in
theorem s0B (B : Blk X b m c t) (h0 : ¬t.val % 16 = 0) (h1 : ¬t.val % 16 = 15) (p : Out Ideal) (hb : b + 256 ≤ 4096) (I : Inv X (b + 256) p) :
    Sums b (outB m c t h0 h1 p).s0 X.wo' := by
  unfold outB
  dsimp only
  rw [View.read_writes_eq_canon _ _ _ (covB_s0 m c t h0 h1 p)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact sums2 (by omega) (rows21 B.r0) B.p66 (sums_all _ I.j0)

set_option maxHeartbeats 1000000 in
theorem s1B (B : Blk X b m c t) (h0 : ¬t.val % 16 = 0) (h1 : ¬t.val % 16 = 15) (p : Out Ideal) (hb : b + 256 ≤ 4096) (I : Inv X (b + 256) p) :
    Sums b (outB m c t h0 h1 p).s1 X.wa' := by
  unfold outB
  dsimp only
  rw [View.read_writes_eq_canon _ _ _ (covB_s1 m c t h0 h1 p)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact sums3 (by omega) B.r3 B.p68 (sums_all _ I.j1)

set_option maxHeartbeats 1000000 in
theorem s2B (B : Blk X b m c t) (h0 : ¬t.val % 16 = 0) (h1 : ¬t.val % 16 = 15) (p : Out Ideal) (hb : b + 256 ≤ 4096) (I : Inv X (b + 256) p) :
    Sums b (outB m c t h0 h1 p).s2 X.wc' := by
  unfold outB
  dsimp only
  rw [View.read_writes_eq_canon _ _ _ (covB_s2 m c t h0 h1 p)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact sums4 (by omega) (rows18 B.p5 B.p33) B.p70 (sums_all _ I.j2)

set_option maxHeartbeats 1000000 in
theorem s3B (B : Blk X b m c t) (h0 : ¬t.val % 16 = 0) (h1 : ¬t.val % 16 = 15) (p : Out Ideal) (hb : b + 256 ≤ 4096) (I : Inv X (b + 256) p) :
    Rows b (outB m c t h0 h1 p).s3 X.dd := by
  unfold outB
  dsimp only
  rw [View.read_writes_eq_canon _ _ _ (covB_s3 m c t h0 h1 p)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows35 B.p5 B.p70 B.r5

theorem invB (B : Blk X b m c t) (h0 : ¬t.val % 16 = 0) (h1 : ¬t.val % 16 = 15) (p : Out Ideal) (hb : b + 256 ≤ 4096) (I : Inv X (b + 256) p) :
    Inv X b (outB m c t h0 h1 p) :=
  ⟨o9B B h0 h1 p hb I,
    o10B B h0 h1 p hb I,
    o11B B h0 h1 p hb I,
    o12B B h0 h1 p hb I,
    o13B B h0 h1 p hb I,
    o14B B h0 h1 p hb I,
    s0B B h0 h1 p hb I,
    s1B B h0 h1 p hb I,
    s2B B h0 h1 p hb I,
    s3B B h0 h1 p hb I⟩

end Cert.MixBlock
-- ==== Proof.MixInvC.lean ====
module

public import proofs.«01_k».proof.Proof.MixVals

@[expose] public section

set_option maxRecDepth 16384

/-!
# What the last point leaves
-/

noncomputable section

open Idealize.ShloMosaic Idealize.ShloMosaic.TcCoe Idealize.ShloMosaic.Tactic
open Cert.KernelIdeal Cert.KernelIdeal.Gen
open Cert.MixSpec Cert.MixFrame

namespace Cert.MixBlock

variable {X : Args} {b : ℕ} {m : (ℓ : Loc nD τ sig) → Buf (Elt Ideal) ℓ} {c : Dev nD} {t : Fin cfg0.N}

set_option maxHeartbeats 1000000 in
theorem o9C (B : Blk X b m c t) (h0 : ¬t.val % 16 = 0) (h1 : t.val % 16 = 15) (p : Out Ideal) (hb : b + 256 ≤ 4096) (I : Inv X (b + 256) p) :
    Rows b (outC m c t h0 h1 p).o9 (fun t d => if d < 1024 then X.dga t d else X.dgc t (d - 1024)) := by
  unfold outC
  dsimp only
  rw [View.read_writes_eq_canon _ _ _ (covC_o9 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  exact rows_halves (rows29 B.r3 B.r4 B.r0 B.r1 B.r2) (rows30 B.p5 B.p33 B.r5 B.r0 B.r1 B.r2b)

set_option maxHeartbeats 1000000 in
theorem o10C (B : Blk X b m c t) (h0 : ¬t.val % 16 = 0) (h1 : t.val % 16 = 15) (p : Out Ideal) (hb : b + 256 ≤ 4096) (I : Inv X (b + 256) p) :
    Rows b (outC m c t h0 h1 p).o10 X.dat := by
  unfold outC
  dsimp only
  rw [View.read_writes_eq_canon _ _ _ (covC_o10 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows31 B.p68 B.r4

set_option maxHeartbeats 1000000 in
theorem o11C (B : Blk X b m c t) (h0 : ¬t.val % 16 = 0) (h1 : t.val % 16 = 15) (p : Out Ideal) (hb : b + 256 ≤ 4096) (I : Inv X (b + 256) p) :
    Rows b (outC m c t h0 h1 p).o11 X.dcb := by
  unfold outC
  dsimp only
  rw [View.read_writes_eq_canon _ _ _ (covC_o11 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows33 B.p33 B.p70 B.r5

set_option maxHeartbeats 1000000 in
theorem o12C (B : Blk X b m c t) (h0 : ¬t.val % 16 = 0) (h1 : t.val % 16 = 15) (p : Out Ideal) (hb : b + 256 ≤ 4096) (I : Inv X (b + 256) p) :
    Rows b (outC m c t h0 h1 p).o12 X.dcc := by
  unfold outC
  dsimp only
  rw [View.read_writes_eq_canon _ _ _ (covC_o12 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows40 (rows15 B.r6c) B.p94 (B.p102 (rows_all32 _ I.j3)) (B.p104 (rows_all32 _ I.j3)) B.r82 B.r81 B.r80

set_option maxHeartbeats 1000000 in
theorem o13C (B : Blk X b m c t) (h0 : ¬t.val % 16 = 0) (h1 : t.val % 16 = 15) (p : Out Ideal) (hb : b + 256 ≤ 4096) (I : Inv X (b + 256) p) :
    Rows b (outC m c t h0 h1 p).o13 X.dcx := by
  unfold outC
  dsimp only
  rw [View.read_writes_eq_canon _ _ _ (covC_o13 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows41 (rows14 B.r6b) B.p94 (B.p102 (rows_all32 _ I.j3)) (B.p104 (rows_all32 _ I.j3)) B.r82 B.r81 B.r80

set_option maxHeartbeats 1000000 in
theorem o14C (B : Blk X b m c t) (h0 : ¬t.val % 16 = 0) (h1 : t.val % 16 = 15) (p : Out Ideal) (hb : b + 256 ≤ 4096) (I : Inv X (b + 256) p) :
    Sums b (outC m c t h0 h1 p).o14 (fun k c t => X.wk k t c) := by
  unfold outC
  dsimp only
  rw [View.read_writes_eq_canon _ _ _ (covC_o14 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  exact sums_taps _ (sums42 (by omega) B.p10 (B.p104 (rows_all32 _ I.j3)) (sums_row 0 (by decide) _ I.i14))
    (sums43 (by omega) B.p10 (B.p102 (rows_all32 _ I.j3)) (sums_row 1 (by decide) _ I.i14))
    (sums45 (by omega) B.p10 B.p94 (sums_row 2 (by decide) _ I.i14))

set_option maxHeartbeats 1000000 in
theorem s0C (B : Blk X b m c t) (h0 : ¬t.val % 16 = 0) (h1 : t.val % 16 = 15) (p : Out Ideal) (hb : b + 256 ≤ 4096) (I : Inv X (b + 256) p) :
    Sums b (outC m c t h0 h1 p).s0 X.wo' := by
  unfold outC
  dsimp only
  rw [View.read_writes_eq_canon _ _ _ (covC_s0 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact sums2 (by omega) (rows21 B.r0) B.p66 (sums_all _ I.j0)

set_option maxHeartbeats 1000000 in
theorem s1C (B : Blk X b m c t) (h0 : ¬t.val % 16 = 0) (h1 : t.val % 16 = 15) (p : Out Ideal) (hb : b + 256 ≤ 4096) (I : Inv X (b + 256) p) :
    Sums b (outC m c t h0 h1 p).s1 X.wa' := by
  unfold outC
  dsimp only
  rw [View.read_writes_eq_canon _ _ _ (covC_s1 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact sums3 (by omega) B.r3 B.p68 (sums_all _ I.j1)

set_option maxHeartbeats 1000000 in
theorem s2C (B : Blk X b m c t) (h0 : ¬t.val % 16 = 0) (h1 : t.val % 16 = 15) (p : Out Ideal) (hb : b + 256 ≤ 4096) (I : Inv X (b + 256) p) :
    Sums b (outC m c t h0 h1 p).s2 X.wc' := by
  unfold outC
  dsimp only
  rw [View.read_writes_eq_canon _ _ _ (covC_s2 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact sums4 (by omega) (rows18 B.p5 B.p33) B.p70 (sums_all _ I.j2)

set_option maxHeartbeats 1000000 in
theorem s3C (B : Blk X b m c t) (h0 : ¬t.val % 16 = 0) (h1 : t.val % 16 = 15) (p : Out Ideal) (hb : b + 256 ≤ 4096) (I : Inv X (b + 256) p) :
    Rows b (outC m c t h0 h1 p).s3 X.dd := by
  unfold outC
  dsimp only
  rw [View.read_writes_eq_canon _ _ _ (covC_s3 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz]
  exact rows35 B.p5 B.p70 B.r5

set_option maxHeartbeats 1000000 in
theorem o15C (B : Blk X b m c t) (h0 : ¬t.val % 16 = 0) (h1 : t.val % 16 = 15) (p : Out Ideal) (hb : b + 256 ≤ 4096) (I : Inv X (b + 256) p) :
    Sums b (outC m c t h0 h1 p).o15 X.wo' := by
  unfold outC
  dsimp only
  rw [View.read_writes_eq_canon _ _ _ (covC_o15 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz, View.readCov_unit_zero _ hz]
  exact sums5 (sums2 (by omega) (rows21 B.r0) B.p66 (sums_all _ I.j0))

set_option maxHeartbeats 1000000 in
theorem o16C (B : Blk X b m c t) (h0 : ¬t.val % 16 = 0) (h1 : t.val % 16 = 15) (p : Out Ideal) (hb : b + 256 ≤ 4096) (I : Inv X (b + 256) p) :
    Sums b (outC m c t h0 h1 p).o16 X.wa' := by
  unfold outC
  dsimp only
  rw [View.read_writes_eq_canon _ _ _ (covC_o16 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz, View.readCov_unit_zero _ hz]
  exact sums6 (sums3 (by omega) B.r3 B.p68 (sums_all _ I.j1))

set_option maxHeartbeats 1000000 in
theorem o17C (B : Blk X b m c t) (h0 : ¬t.val % 16 = 0) (h1 : t.val % 16 = 15) (p : Out Ideal) (hb : b + 256 ≤ 4096) (I : Inv X (b + 256) p) :
    Sums b (outC m c t h0 h1 p).o17 X.wc' := by
  unfold outC
  dsimp only
  rw [View.read_writes_eq_canon _ _ _ (covC_o17 m c t h0 h1 p)]
  unfold runC kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    (hs0_7 t).read_unread, (hs0_8 t).read_unread, (hs0_14 t).read_unread, (Memref.isWhole_whole _).read_unread]
  rw [View.canon_unit_zero hz, View.readCov_unit_zero _ hz]
  exact sums7 (sums4 (by omega) (rows18 B.p5 B.p33) B.p70 (sums_all _ I.j2))

theorem invC (B : Blk X b m c t) (h0 : ¬t.val % 16 = 0) (h1 : t.val % 16 = 15) (p : Out Ideal) (hb : b + 256 ≤ 4096) (I : Inv X (b + 256) p) :
    Inv X b (outC m c t h0 h1 p) :=
  ⟨o9C B h0 h1 p hb I,
    o10C B h0 h1 p hb I,
    o11C B h0 h1 p hb I,
    o12C B h0 h1 p hb I,
    o13C B h0 h1 p hb I,
    o14C B h0 h1 p hb I,
    s0C B h0 h1 p hb I,
    s1C B h0 h1 p hb I,
    s2C B h0 h1 p hb I,
    s3C B h0 h1 p hb I⟩

end Cert.MixBlock
-- ==== Proof.MixInv.lean ====
module

public import proofs.«01_k».proof.Proof.MixInvA
public import proofs.«01_k».proof.Proof.MixInvB
public import proofs.«01_k».proof.Proof.MixInvC
public import proofs.«01_k».proof.Proof.MixRef

@[expose] public section

set_option maxRecDepth 16384

/-!
# The blocks the points read, and the invariant at every point

Point `t` reads the rows from `256 (15 - t)` on, so going over the points means going back through the
rows; after each point the accumulators hold the sums over all rows from there to the end.
-/

noncomputable section

open Idealize.ShloMosaic Idealize.ShloMosaic.TcCoe Idealize.ShloMosaic.Tactic
open Cert.KernelIdeal Cert.KernelIdeal.Gen
open Cert.MixSpec Cert.MixFrame

namespace Cert.MixBlock

variable (m : (ℓ : Loc nD τ sig) → Buf (Elt Ideal) ℓ) (c : Dev nD)

/-- The kernel's arguments as matrices read at numbers. -/
abbrev X : Args := Cert.MixRef.args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

theorem pt_lt (t : Fin cfg0.N) : t.val < 16 := lt_of_lt_of_eq t.isLt N_0

theorem coord : ∀ t : Fin cfg0.N, (grid0.coords t 0).val = t.val :=
  (by decide +kernel : ∀ t : Fin grid0.N, (grid0.coords t 0).val = t.val)

theorem index0 : ∀ t : Fin cfg0.N, win0_0.index t 0 = 15 - t.val ∧ win0_0.index t 1 = 0 :=
  (by decide +kernel : ∀ t : Fin grid0.N, win0_0.index t 0 = 15 - t.val ∧ win0_0.index t 1 = 0)

theorem block0 (t : Fin cfg0.N) : Rows (n := 256) (m := 1024) (256 * (15 - t.val)) (iblk m c 0 t) (X m c).dh := by
  intro r k
  have hi := index0 t
  have ht := pt_lt t
  refine Eq.trans ?_ (rd_ix2 (a := 4096) (b := 1024) (m ((c.tc : Thread nD τ).loc main_arg0)) ⟨256 * (15 - t.val) + r.val, by have := r.isLt; omega⟩ k)
  unfold iblk
  rw [View.read_apply]
  show V m c main_arg0 _ = m (c.tc.loc main_arg0) _
  unfold V
  congr 1
  funext a
  apply Fin.ext
  match a with
  | ⟨0, _⟩ =>
    show win0_0.index t 0 * 256 + 1 * r.val = 256 * (15 - t.val) + r.val
    rw [hi.1]; omega
  | ⟨1, _⟩ =>
    show win0_0.index t 1 * 1024 + 1 * k.val = k.val
    rw [hi.2]; omega

theorem index1 : ∀ t : Fin cfg0.N, win0_1.index t 0 = 0 ∧ win0_1.index t 1 = 0 :=
  (by decide +kernel : ∀ t : Fin grid0.N, win0_1.index t 0 = 0 ∧ win0_1.index t 1 = 0)

theorem block1 (t : Fin cfg0.N) : Rows (n := 1024) (m := 1024) (0) (iblk m c 1 t) (X m c).wo := by
  intro r k
  have hi := index1 t
  have ht := pt_lt t
  refine Eq.trans ?_ (rd_ix2 (a := 1024) (b := 1024) (m ((c.tc : Thread nD τ).loc main_arg1)) ⟨0 + r.val, by have := r.isLt; omega⟩ k)
  unfold iblk
  rw [View.read_apply]
  show V m c main_arg1 _ = m (c.tc.loc main_arg1) _
  unfold V
  congr 1
  funext a
  apply Fin.ext
  match a with
  | ⟨0, _⟩ =>
    show win0_1.index t 0 * 1024 + 1 * r.val = 0 + r.val
    rw [hi.1]; omega
  | ⟨1, _⟩ =>
    show win0_1.index t 1 * 1024 + 1 * k.val = k.val
    rw [hi.2]; omega

theorem index2 : ∀ t : Fin cfg0.N, win0_2.index t 0 = 15 - t.val ∧ win0_2.index t 1 = 0 :=
  (by decide +kernel : ∀ t : Fin grid0.N, win0_2.index t 0 = 15 - t.val ∧ win0_2.index t 1 = 0)

theorem block2 (t : Fin cfg0.N) : Rows (n := 256) (m := 2048) (256 * (15 - t.val)) (iblk m c 2 t) (X m c).g := by
  intro r k
  have hi := index2 t
  have ht := pt_lt t
  refine Eq.trans ?_ (rd_ix2 (a := 4096) (b := 2048) (m ((c.tc : Thread nD τ).loc main_arg2)) ⟨256 * (15 - t.val) + r.val, by have := r.isLt; omega⟩ k)
  unfold iblk
  rw [View.read_apply]
  show V m c main_arg2 _ = m (c.tc.loc main_arg2) _
  unfold V
  congr 1
  funext a
  apply Fin.ext
  match a with
  | ⟨0, _⟩ =>
    show win0_2.index t 0 * 256 + 1 * r.val = 256 * (15 - t.val) + r.val
    rw [hi.1]; omega
  | ⟨1, _⟩ =>
    show win0_2.index t 1 * 2048 + 1 * k.val = k.val
    rw [hi.2]; omega

theorem index3 : ∀ t : Fin cfg0.N, win0_3.index t 0 = 15 - t.val ∧ win0_3.index t 1 = 0 :=
  (by decide +kernel : ∀ t : Fin grid0.N, win0_3.index t 0 = 15 - t.val ∧ win0_3.index t 1 = 0)

theorem block3 (t : Fin cfg0.N) : Rows (n := 256) (m := 512) (256 * (15 - t.val)) (iblk m c 3 t) (X m c).at' := by
  intro r k
  have hi := index3 t
  have ht := pt_lt t
  refine Eq.trans ?_ (rd_ix2 (a := 4096) (b := 512) (m ((c.tc : Thread nD τ).loc main_arg3)) ⟨256 * (15 - t.val) + r.val, by have := r.isLt; omega⟩ k)
  unfold iblk
  rw [View.read_apply]
  show V m c main_arg3 _ = m (c.tc.loc main_arg3) _
  unfold V
  congr 1
  funext a
  apply Fin.ext
  match a with
  | ⟨0, _⟩ =>
    show win0_3.index t 0 * 256 + 1 * r.val = 256 * (15 - t.val) + r.val
    rw [hi.1]; omega
  | ⟨1, _⟩ =>
    show win0_3.index t 1 * 512 + 1 * k.val = k.val
    rw [hi.2]; omega

theorem index4 : ∀ t : Fin cfg0.N, win0_4.index t 0 = 0 ∧ win0_4.index t 1 = 0 :=
  (by decide +kernel : ∀ t : Fin grid0.N, win0_4.index t 0 = 0 ∧ win0_4.index t 1 = 0)

theorem block4 (t : Fin cfg0.N) : Rows (n := 512) (m := 1024) (0) (iblk m c 4 t) (X m c).wa := by
  intro r k
  have hi := index4 t
  have ht := pt_lt t
  refine Eq.trans ?_ (rd_ix2 (a := 512) (b := 1024) (m ((c.tc : Thread nD τ).loc main_arg4)) ⟨0 + r.val, by have := r.isLt; omega⟩ k)
  unfold iblk
  rw [View.read_apply]
  show V m c main_arg4 _ = m (c.tc.loc main_arg4) _
  unfold V
  congr 1
  funext a
  apply Fin.ext
  match a with
  | ⟨0, _⟩ =>
    show win0_4.index t 0 * 512 + 1 * r.val = 0 + r.val
    rw [hi.1]; omega
  | ⟨1, _⟩ =>
    show win0_4.index t 1 * 1024 + 1 * k.val = k.val
    rw [hi.2]; omega

theorem index5 : ∀ t : Fin cfg0.N, win0_5.index t 0 = 0 ∧ win0_5.index t 1 = 0 :=
  (by decide +kernel : ∀ t : Fin grid0.N, win0_5.index t 0 = 0 ∧ win0_5.index t 1 = 0)

theorem block5 (t : Fin cfg0.N) : Rows (n := 512) (m := 1024) (0) (iblk m c 5 t) (X m c).wc := by
  intro r k
  have hi := index5 t
  have ht := pt_lt t
  refine Eq.trans ?_ (rd_ix2 (a := 512) (b := 1024) (m ((c.tc : Thread nD τ).loc main_arg5)) ⟨0 + r.val, by have := r.isLt; omega⟩ k)
  unfold iblk
  rw [View.read_apply]
  show V m c main_arg5 _ = m (c.tc.loc main_arg5) _
  unfold V
  congr 1
  funext a
  apply Fin.ext
  match a with
  | ⟨0, _⟩ =>
    show win0_5.index t 0 * 512 + 1 * r.val = 0 + r.val
    rw [hi.1]; omega
  | ⟨1, _⟩ =>
    show win0_5.index t 1 * 1024 + 1 * k.val = k.val
    rw [hi.2]; omega

theorem index6 : ∀ t : Fin cfg0.N, win0_6.index t 0 = 15 - t.val ∧ win0_6.index t 1 = 0 :=
  (by decide +kernel : ∀ t : Fin grid0.N, win0_6.index t 0 = 15 - t.val ∧ win0_6.index t 1 = 0)

theorem block6 (t : Fin cfg0.N) : Rows (n := 256) (m := 1536) (256 * (15 - t.val)) (iblk m c 6 t) (X m c).bx := by
  intro r k
  have hi := index6 t
  have ht := pt_lt t
  refine Eq.trans ?_ (rd_ix2 (a := 4096) (b := 1536) (m ((c.tc : Thread nD τ).loc main_arg6)) ⟨256 * (15 - t.val) + r.val, by have := r.isLt; omega⟩ k)
  unfold iblk
  rw [View.read_apply]
  show V m c main_arg6 _ = m (c.tc.loc main_arg6) _
  unfold V
  congr 1
  funext a
  apply Fin.ext
  match a with
  | ⟨0, _⟩ =>
    show win0_6.index t 0 * 256 + 1 * r.val = 256 * (15 - t.val) + r.val
    rw [hi.1]; omega
  | ⟨1, _⟩ =>
    show win0_6.index t 1 * 1536 + 1 * k.val = k.val
    rw [hi.2]; omega

theorem index7 : ∀ t : Fin cfg0.N, win0_7.index t 0 = 16 * (15 - t.val) - 1 ∧ win0_7.index t 1 = 0 :=
  (by decide +kernel : ∀ t : Fin grid0.N, win0_7.index t 0 = 16 * (15 - t.val) - 1 ∧ win0_7.index t 1 = 0)

theorem block7 (t : Fin cfg0.N) (h : t.val ≠ 15) : Rows (n := 16) (m := 1536) (256 * (15 - t.val) - 16) (iblk m c 7 t) (X m c).bx := by
  intro r k
  have hi := index7 t
  have ht := pt_lt t
  refine Eq.trans ?_ (rd_ix2 (a := 4096) (b := 1536) (m ((c.tc : Thread nD τ).loc main_arg6)) ⟨256 * (15 - t.val) - 16 + r.val, by have := r.isLt; omega⟩ k)
  unfold iblk
  rw [View.read_apply]
  show V m c main_arg6 _ = m (c.tc.loc main_arg6) _
  unfold V
  congr 1
  funext a
  apply Fin.ext
  match a with
  | ⟨0, _⟩ =>
    show win0_7.index t 0 * 16 + 1 * r.val = 256 * (15 - t.val) - 16 + r.val
    rw [hi.1]; omega
  | ⟨1, _⟩ =>
    show win0_7.index t 1 * 1536 + 1 * k.val = k.val
    rw [hi.2]; omega

theorem index8 : ∀ t : Fin cfg0.N, win0_8.index t 0 = 0 ∧ win0_8.index t 1 = 0 :=
  (by decide +kernel : ∀ t : Fin grid0.N, win0_8.index t 0 = 0 ∧ win0_8.index t 1 = 0)

theorem block8 (t : Fin cfg0.N) : Rows (n := 3) (m := 512) (0) (iblk m c 8 t) (X m c).cw := by
  intro r k
  have hi := index8 t
  have ht := pt_lt t
  refine Eq.trans ?_ (rd_ix2 (a := 3) (b := 512) (m ((c.tc : Thread nD τ).loc main_arg7)) ⟨0 + r.val, by have := r.isLt; omega⟩ k)
  unfold iblk
  rw [View.read_apply]
  show V m c main_arg7 _ = m (c.tc.loc main_arg7) _
  unfold V
  congr 1
  funext a
  apply Fin.ext
  match a with
  | ⟨0, _⟩ =>
    show win0_8.index t 0 * 3 + 1 * r.val = 0 + r.val
    rw [hi.1]; omega
  | ⟨1, _⟩ =>
    show win0_8.index t 1 * 512 + 1 * k.val = k.val
    rw [hi.2]; omega

/-- Every point's blocks hold the rows from its base on. -/
theorem blk (t : Fin cfg0.N) : Blk (X m c) (256 * (15 - t.val)) m c t where
  d0 := block0 m c t
  d1 := block1 m c t
  d2 := block2 m c t
  d3 := block3 m c t
  d4 := block4 m c t
  d5 := block5 m c t
  d6 := block6 m c t
  d7 := fun h => block7 m c t fun e => h ((coord t).trans e)
  d8 := block8 m c t
  first := fun h => by have := (coord t).symm.trans h; omega
  later := fun h => by
    have h' : t.val ≠ 15 := fun e => h ((coord t).trans e)
    have := pt_lt t
    omega

theorem dd_past (t k : ℕ) (h : 4096 ≤ t) : (X m c).dd t k = 0 := Cert.MixRef.dd_out _ _ _ _ _ _ _ _ t k h

/-- After every point the blocks and the sums are the specification's. -/
theorem inv : ∀ (n : ℕ) (hn : n < cfg0.N), Inv (X m c) (256 * (15 - n)) (outs m c n hn)
  | 0, hn => by
    have e := outs_A m c ⟨0, hn⟩ rfl (by decide : ¬0 % 16 = 15)
    dsimp only at e
    rw [e]
    exact invA (blk m c ⟨0, hn⟩) _ _ rfl (dd_past m c)
  | n + 1, hn => by
    have I := inv n (Nat.lt_of_succ_lt hn)
    have hN : n + 1 < 16 := lt_of_lt_of_eq hn N_0
    have hb : 256 * (15 - n) = 256 * (15 - (n + 1)) + 256 := by omega
    rw [hb] at I
    have h0 : ¬(n + 1) % 16 = 0 := by omega
    by_cases h1 : (n + 1) % 16 = 15
    · have e := outs_C m c ⟨n + 1, hn⟩ h0 h1
      dsimp only at e
      rw [e]
      exact invC (blk m c ⟨n + 1, hn⟩) _ _ _ (by omega) I
    · have e := outs_B m c ⟨n + 1, hn⟩ h0 h1
      dsimp only at e
      rw [e]
      exact invB (blk m c ⟨n + 1, hn⟩) _ _ _ (by omega) I

/-- At the last point the three weight gradients are written out whole. -/
theorem last (t : Fin cfg0.N) (ht : t.val = 15) : Sums 0 (outs m c t.val t.isLt).o15 (X m c).wo'
    ∧ Sums 0 (outs m c t.val t.isLt).o16 (X m c).wa' ∧ Sums 0 (outs m c t.val t.isLt).o17 (X m c).wc' := by
  have h0 : ¬t.val % 16 = 0 := by omega
  have h1 : t.val % 16 = 15 := by omega
  have I := inv m c (t.val - 1) (lt_of_le_of_lt (Nat.sub_le _ _) t.isLt)
  have hb : 256 * (15 - (t.val - 1)) = 256 * (15 - t.val) + 256 := by omega
  rw [hb] at I
  have e := outs_C m c t h0 h1
  rw [e]
  have B := blk m c t
  have z : 256 * (15 - t.val) = 0 := by omega
  rw [← z]
  exact ⟨o15C B h0 h1 _ (by omega) I, o16C B h0 h1 _ (by omega) I, o17C B h0 h1 _ (by omega) I⟩

end Cert.MixBlock
-- ==== Proof.MixFinal.lean ====
module

public import proofs.«01_k».proof.Proof.MixInv
public import proofs.«01_k».proof.Proof.MixFrame

@[expose] public section

set_option maxRecDepth 16384

/-!
# What the result arrays hold at the end
-/

noncomputable section

open Idealize.ShloMosaic Idealize.ShloMosaic.TcCoe Idealize.ShloMosaic.Tactic
open Cert.KernelIdeal Cert.KernelIdeal.Gen
open Cert.MixSpec Cert.MixFrame

namespace Cert.MixBlock

variable (m : (ℓ : Loc nD τ sig) → Buf (Elt Ideal) ℓ) (c : Dev nD)

open Cert.MixRef (Holds)

theorem ix_eta {n k : ℕ} (j : (⟨2, ![n, k]⟩ : Shape).Idx) : j = ix2 (j 0) (j 1) :=
  funext fun a => by match a with | ⟨0, _⟩ => rfl | ⟨1, _⟩ => rfl

theorem index9 : ∀ t : Fin cfg0.N, win0_9.index t 0 = 15 - t.val ∧ win0_9.index t 1 = 0 :=
  (by decide +kernel : ∀ t : Fin grid0.N, win0_9.index t 0 = 15 - t.val ∧ win0_9.index t 1 = 0)

theorem emb9 (t : Fin cfg0.N) (r : Fin 256) (k : Fin 2048) (h : 256 * (15 - t.val) + r.val < 4096) :
    ((View.whole main_v0_0).slice (win0_9.rect t)).emb (ix2 r k) = ix2 ⟨256 * (15 - t.val) + r.val, h⟩ k := by
  have hi := index9 t
  funext a
  apply Fin.ext
  match a with
  | ⟨0, _⟩ =>
    show win0_9.index t 0 * 256 + 1 * r.val = 256 * (15 - t.val) + r.val
    rw [hi.1]; omega
  | ⟨1, _⟩ =>
    show win0_9.index t 1 * 2048 + 1 * k.val = k.val
    rw [hi.2]; omega

theorem flushed9 (v : S4096x2048.Idx → EReal) (hv : Holds v (fun t d => if d < 1024 then (X m c).dga t d else (X m c).dgc t (d - 1024))) (t : Fin cfg0.N) :
    (dats m 0 c).flushed 9 t = ((cfg0.win 9).blk t).view.read (Elt Ideal) v := by
  have ht := pt_lt t
  show (cfg0.win 9).cut (grid0.coords t) ((dats m 0 c).after 9 t) = _
  rw [after_9]
  funext j
  rw [View.read_apply]
  obtain ⟨r, k, rfl⟩ : ∃ (r : Fin 256) (k : Fin 2048), j = ix2 r k := ⟨j 0, j 1, ix_eta j⟩
  have hr := r.isLt
  refine ((inv m c t.val t.isLt).i9 r k).trans ?_
  refine ((hv ⟨256 * (15 - t.val) + r.val, by omega⟩ k).symm.trans (congrArg v ?_))
  exact (emb9 t r k (by omega)).symm

theorem final9 (v : S4096x2048.Idx → EReal) (hv : Holds v (fun t d => if d < 1024 then (X m c).dga t d else (X m c).dgc t (d - 1024))) : (dats m 0 c).arrAt 9 cfg0.N = v :=
  (dats m 0 c).arrAt_eq_of_cover 9 v (fun t _ => flushed9 m c v hv t) fun i => by
    have h0 : (i 0 : Nat) < 4096 := (i 0).isLt
    have h1 : (i 1 : Nat) < 2048 := (i 1).isLt
    obtain ⟨t, ht⟩ : ∃ t : Fin cfg0.N, t.val = 15 - (i 0 : Nat) / 256 :=
      ⟨⟨15 - (i 0 : Nat) / 256, by show _ < grid0.N; rw [N_0]; omega⟩, rfl⟩
    refine ⟨t, flush0_9 _, ?_⟩
    show i ∈ ((View.whole main_v0_0).slice (win0_9.rect t)).set
    rw [View.set_slice_whole, Rect.mem_set_unit]
    have hi := index9 t
    intro a
    match a with
    | ⟨0, _⟩ =>
      show win0_9.index t 0 * 256 ≤ (i 0 : Nat) ∧ (i 0 : Nat) < win0_9.index t 0 * 256 + 256
      rw [hi.1]; omega
    | ⟨1, _⟩ =>
      show win0_9.index t 1 * 2048 ≤ (i 1 : Nat) ∧ (i 1 : Nat) < win0_9.index t 1 * 2048 + 2048
      rw [hi.2]; omega

theorem index10 : ∀ t : Fin cfg0.N, win0_10.index t 0 = 15 - t.val ∧ win0_10.index t 1 = 0 :=
  (by decide +kernel : ∀ t : Fin grid0.N, win0_10.index t 0 = 15 - t.val ∧ win0_10.index t 1 = 0)

theorem emb10 (t : Fin cfg0.N) (r : Fin 256) (k : Fin 512) (h : 256 * (15 - t.val) + r.val < 4096) :
    ((View.whole main_v0_1).slice (win0_10.rect t)).emb (ix2 r k) = ix2 ⟨256 * (15 - t.val) + r.val, h⟩ k := by
  have hi := index10 t
  funext a
  apply Fin.ext
  match a with
  | ⟨0, _⟩ =>
    show win0_10.index t 0 * 256 + 1 * r.val = 256 * (15 - t.val) + r.val
    rw [hi.1]; omega
  | ⟨1, _⟩ =>
    show win0_10.index t 1 * 512 + 1 * k.val = k.val
    rw [hi.2]; omega

theorem flushed10 (v : S4096x512.Idx → EReal) (hv : Holds v (X m c).dat) (t : Fin cfg0.N) :
    (dats m 0 c).flushed 10 t = ((cfg0.win 10).blk t).view.read (Elt Ideal) v := by
  have ht := pt_lt t
  show (cfg0.win 10).cut (grid0.coords t) ((dats m 0 c).after 10 t) = _
  rw [after_10]
  funext j
  rw [View.read_apply]
  obtain ⟨r, k, rfl⟩ : ∃ (r : Fin 256) (k : Fin 512), j = ix2 r k := ⟨j 0, j 1, ix_eta j⟩
  have hr := r.isLt
  refine ((inv m c t.val t.isLt).i10 r k).trans ?_
  refine ((hv ⟨256 * (15 - t.val) + r.val, by omega⟩ k).symm.trans (congrArg v ?_))
  exact (emb10 t r k (by omega)).symm

theorem final10 (v : S4096x512.Idx → EReal) (hv : Holds v (X m c).dat) : (dats m 0 c).arrAt 10 cfg0.N = v :=
  (dats m 0 c).arrAt_eq_of_cover 10 v (fun t _ => flushed10 m c v hv t) fun i => by
    have h0 : (i 0 : Nat) < 4096 := (i 0).isLt
    have h1 : (i 1 : Nat) < 512 := (i 1).isLt
    obtain ⟨t, ht⟩ : ∃ t : Fin cfg0.N, t.val = 15 - (i 0 : Nat) / 256 :=
      ⟨⟨15 - (i 0 : Nat) / 256, by show _ < grid0.N; rw [N_0]; omega⟩, rfl⟩
    refine ⟨t, flush0_10 _, ?_⟩
    show i ∈ ((View.whole main_v0_1).slice (win0_10.rect t)).set
    rw [View.set_slice_whole, Rect.mem_set_unit]
    have hi := index10 t
    intro a
    match a with
    | ⟨0, _⟩ =>
      show win0_10.index t 0 * 256 ≤ (i 0 : Nat) ∧ (i 0 : Nat) < win0_10.index t 0 * 256 + 256
      rw [hi.1]; omega
    | ⟨1, _⟩ =>
      show win0_10.index t 1 * 512 ≤ (i 1 : Nat) ∧ (i 1 : Nat) < win0_10.index t 1 * 512 + 512
      rw [hi.2]; omega

theorem index11 : ∀ t : Fin cfg0.N, win0_11.index t 0 = 15 - t.val ∧ win0_11.index t 1 = 0 :=
  (by decide +kernel : ∀ t : Fin grid0.N, win0_11.index t 0 = 15 - t.val ∧ win0_11.index t 1 = 0)

theorem emb11 (t : Fin cfg0.N) (r : Fin 256) (k : Fin 512) (h : 256 * (15 - t.val) + r.val < 4096) :
    ((View.whole main_v0_2).slice (win0_11.rect t)).emb (ix2 r k) = ix2 ⟨256 * (15 - t.val) + r.val, h⟩ k := by
  have hi := index11 t
  funext a
  apply Fin.ext
  match a with
  | ⟨0, _⟩ =>
    show win0_11.index t 0 * 256 + 1 * r.val = 256 * (15 - t.val) + r.val
    rw [hi.1]; omega
  | ⟨1, _⟩ =>
    show win0_11.index t 1 * 512 + 1 * k.val = k.val
    rw [hi.2]; omega

theorem flushed11 (v : S4096x512.Idx → EReal) (hv : Holds v (X m c).dcb) (t : Fin cfg0.N) :
    (dats m 0 c).flushed 11 t = ((cfg0.win 11).blk t).view.read (Elt Ideal) v := by
  have ht := pt_lt t
  show (cfg0.win 11).cut (grid0.coords t) ((dats m 0 c).after 11 t) = _
  rw [after_11]
  funext j
  rw [View.read_apply]
  obtain ⟨r, k, rfl⟩ : ∃ (r : Fin 256) (k : Fin 512), j = ix2 r k := ⟨j 0, j 1, ix_eta j⟩
  have hr := r.isLt
  refine ((inv m c t.val t.isLt).i11 r k).trans ?_
  refine ((hv ⟨256 * (15 - t.val) + r.val, by omega⟩ k).symm.trans (congrArg v ?_))
  exact (emb11 t r k (by omega)).symm

theorem final11 (v : S4096x512.Idx → EReal) (hv : Holds v (X m c).dcb) : (dats m 0 c).arrAt 11 cfg0.N = v :=
  (dats m 0 c).arrAt_eq_of_cover 11 v (fun t _ => flushed11 m c v hv t) fun i => by
    have h0 : (i 0 : Nat) < 4096 := (i 0).isLt
    have h1 : (i 1 : Nat) < 512 := (i 1).isLt
    obtain ⟨t, ht⟩ : ∃ t : Fin cfg0.N, t.val = 15 - (i 0 : Nat) / 256 :=
      ⟨⟨15 - (i 0 : Nat) / 256, by show _ < grid0.N; rw [N_0]; omega⟩, rfl⟩
    refine ⟨t, flush0_11 _, ?_⟩
    show i ∈ ((View.whole main_v0_2).slice (win0_11.rect t)).set
    rw [View.set_slice_whole, Rect.mem_set_unit]
    have hi := index11 t
    intro a
    match a with
    | ⟨0, _⟩ =>
      show win0_11.index t 0 * 256 ≤ (i 0 : Nat) ∧ (i 0 : Nat) < win0_11.index t 0 * 256 + 256
      rw [hi.1]; omega
    | ⟨1, _⟩ =>
      show win0_11.index t 1 * 512 ≤ (i 1 : Nat) ∧ (i 1 : Nat) < win0_11.index t 1 * 512 + 512
      rw [hi.2]; omega

theorem index12 : ∀ t : Fin cfg0.N, win0_12.index t 0 = 15 - t.val ∧ win0_12.index t 1 = 0 :=
  (by decide +kernel : ∀ t : Fin grid0.N, win0_12.index t 0 = 15 - t.val ∧ win0_12.index t 1 = 0)

theorem emb12 (t : Fin cfg0.N) (r : Fin 256) (k : Fin 512) (h : 256 * (15 - t.val) + r.val < 4096) :
    ((View.whole main_v0_3).slice (win0_12.rect t)).emb (ix2 r k) = ix2 ⟨256 * (15 - t.val) + r.val, h⟩ k := by
  have hi := index12 t
  funext a
  apply Fin.ext
  match a with
  | ⟨0, _⟩ =>
    show win0_12.index t 0 * 256 + 1 * r.val = 256 * (15 - t.val) + r.val
    rw [hi.1]; omega
  | ⟨1, _⟩ =>
    show win0_12.index t 1 * 512 + 1 * k.val = k.val
    rw [hi.2]; omega

theorem flushed12 (v : S4096x512.Idx → EReal) (hv : Holds v (X m c).dcc) (t : Fin cfg0.N) :
    (dats m 0 c).flushed 12 t = ((cfg0.win 12).blk t).view.read (Elt Ideal) v := by
  have ht := pt_lt t
  show (cfg0.win 12).cut (grid0.coords t) ((dats m 0 c).after 12 t) = _
  rw [after_12]
  funext j
  rw [View.read_apply]
  obtain ⟨r, k, rfl⟩ : ∃ (r : Fin 256) (k : Fin 512), j = ix2 r k := ⟨j 0, j 1, ix_eta j⟩
  have hr := r.isLt
  refine ((inv m c t.val t.isLt).i12 r k).trans ?_
  refine ((hv ⟨256 * (15 - t.val) + r.val, by omega⟩ k).symm.trans (congrArg v ?_))
  exact (emb12 t r k (by omega)).symm

theorem final12 (v : S4096x512.Idx → EReal) (hv : Holds v (X m c).dcc) : (dats m 0 c).arrAt 12 cfg0.N = v :=
  (dats m 0 c).arrAt_eq_of_cover 12 v (fun t _ => flushed12 m c v hv t) fun i => by
    have h0 : (i 0 : Nat) < 4096 := (i 0).isLt
    have h1 : (i 1 : Nat) < 512 := (i 1).isLt
    obtain ⟨t, ht⟩ : ∃ t : Fin cfg0.N, t.val = 15 - (i 0 : Nat) / 256 :=
      ⟨⟨15 - (i 0 : Nat) / 256, by show _ < grid0.N; rw [N_0]; omega⟩, rfl⟩
    refine ⟨t, flush0_12 _, ?_⟩
    show i ∈ ((View.whole main_v0_3).slice (win0_12.rect t)).set
    rw [View.set_slice_whole, Rect.mem_set_unit]
    have hi := index12 t
    intro a
    match a with
    | ⟨0, _⟩ =>
      show win0_12.index t 0 * 256 ≤ (i 0 : Nat) ∧ (i 0 : Nat) < win0_12.index t 0 * 256 + 256
      rw [hi.1]; omega
    | ⟨1, _⟩ =>
      show win0_12.index t 1 * 512 ≤ (i 1 : Nat) ∧ (i 1 : Nat) < win0_12.index t 1 * 512 + 512
      rw [hi.2]; omega

theorem index13 : ∀ t : Fin cfg0.N, win0_13.index t 0 = 15 - t.val ∧ win0_13.index t 1 = 0 :=
  (by decide +kernel : ∀ t : Fin grid0.N, win0_13.index t 0 = 15 - t.val ∧ win0_13.index t 1 = 0)

theorem emb13 (t : Fin cfg0.N) (r : Fin 256) (k : Fin 512) (h : 256 * (15 - t.val) + r.val < 4096) :
    ((View.whole main_v0_4).slice (win0_13.rect t)).emb (ix2 r k) = ix2 ⟨256 * (15 - t.val) + r.val, h⟩ k := by
  have hi := index13 t
  funext a
  apply Fin.ext
  match a with
  | ⟨0, _⟩ =>
    show win0_13.index t 0 * 256 + 1 * r.val = 256 * (15 - t.val) + r.val
    rw [hi.1]; omega
  | ⟨1, _⟩ =>
    show win0_13.index t 1 * 512 + 1 * k.val = k.val
    rw [hi.2]; omega

theorem flushed13 (v : S4096x512.Idx → EReal) (hv : Holds v (X m c).dcx) (t : Fin cfg0.N) :
    (dats m 0 c).flushed 13 t = ((cfg0.win 13).blk t).view.read (Elt Ideal) v := by
  have ht := pt_lt t
  show (cfg0.win 13).cut (grid0.coords t) ((dats m 0 c).after 13 t) = _
  rw [after_13]
  funext j
  rw [View.read_apply]
  obtain ⟨r, k, rfl⟩ : ∃ (r : Fin 256) (k : Fin 512), j = ix2 r k := ⟨j 0, j 1, ix_eta j⟩
  have hr := r.isLt
  refine ((inv m c t.val t.isLt).i13 r k).trans ?_
  refine ((hv ⟨256 * (15 - t.val) + r.val, by omega⟩ k).symm.trans (congrArg v ?_))
  exact (emb13 t r k (by omega)).symm

theorem final13 (v : S4096x512.Idx → EReal) (hv : Holds v (X m c).dcx) : (dats m 0 c).arrAt 13 cfg0.N = v :=
  (dats m 0 c).arrAt_eq_of_cover 13 v (fun t _ => flushed13 m c v hv t) fun i => by
    have h0 : (i 0 : Nat) < 4096 := (i 0).isLt
    have h1 : (i 1 : Nat) < 512 := (i 1).isLt
    obtain ⟨t, ht⟩ : ∃ t : Fin cfg0.N, t.val = 15 - (i 0 : Nat) / 256 :=
      ⟨⟨15 - (i 0 : Nat) / 256, by show _ < grid0.N; rw [N_0]; omega⟩, rfl⟩
    refine ⟨t, flush0_13 _, ?_⟩
    show i ∈ ((View.whole main_v0_4).slice (win0_13.rect t)).set
    rw [View.set_slice_whole, Rect.mem_set_unit]
    have hi := index13 t
    intro a
    match a with
    | ⟨0, _⟩ =>
      show win0_13.index t 0 * 256 ≤ (i 0 : Nat) ∧ (i 0 : Nat) < win0_13.index t 0 * 256 + 256
      rw [hi.1]; omega
    | ⟨1, _⟩ =>
      show win0_13.index t 1 * 512 ≤ (i 1 : Nat) ∧ (i 1 : Nat) < win0_13.index t 1 * 512 + 512
      rw [hi.2]; omega

theorem index14 : ∀ t : Fin cfg0.N, win0_14.index t 0 = 0 ∧ win0_14.index t 1 = 0 :=
  (by decide +kernel : ∀ t : Fin grid0.N, win0_14.index t 0 = 0 ∧ win0_14.index t 1 = 0)

theorem flushed14 (v : S3x512.Idx → EReal) (hv : Holds v (fun r k => ∑ t ∈ Finset.range 4096, (X m c).wk r t k)) (t : Fin cfg0.N)
    (hf : (cfg0.win 14).flush t = true) :
    (dats m 0 c).flushed 14 t = ((cfg0.win 14).blk t).view.read (Elt Ideal) v := by
  have ht : t.val = 15 := by have := (flush0_14 t).mp hf; have := pt_lt t; omega
  have z : 256 * (15 - t.val) = 0 := by omega
  have S : Sums (m := 3) (n := 512) 0 (outs m c t.val t.isLt).o14 (fun r k t => (X m c).wk r t k) := (by have I := (inv m c t.val t.isLt).i14; rw [z] at I; exact I)
  show (cfg0.win 14).cut (grid0.coords t) ((dats m 0 c).after 14 t) = _
  rw [after_14]
  funext j
  rw [View.read_apply]
  obtain ⟨r, k, rfl⟩ : ∃ (r : Fin 3) (k : Fin 512), j = ix2 r k := ⟨j 0, j 1, ix_eta j⟩
  refine (S r k).trans ((tail_zero _).trans ?_)
  refine ((hv r k).symm.trans (congrArg v ?_))
  have hi := index14 t
  funext a
  apply Fin.ext
  match a with
  | ⟨0, _⟩ =>
    show r.val = win0_14.index t 0 * 3 + 1 * r.val
    rw [hi.1]; omega
  | ⟨1, _⟩ =>
    show k.val = win0_14.index t 1 * 512 + 1 * k.val
    rw [hi.2]; omega

theorem final14 (v : S3x512.Idx → EReal) (hv : Holds v (fun r k => ∑ t ∈ Finset.range 4096, (X m c).wk r t k)) :
    (dats m 0 c).arrAt 14 cfg0.N = v :=
  (dats m 0 c).arrAt_eq_of_cover 14 v (fun t hf => flushed14 m c v hv t hf) fun i => by
    have h0 : (i 0 : Nat) < 3 := (i 0).isLt
    have h1 : (i 1 : Nat) < 512 := (i 1).isLt
    obtain ⟨t, ht⟩ : ∃ t : Fin cfg0.N, t.val = 15 := ⟨⟨15, by decide⟩, rfl⟩
    refine ⟨t, (flush0_14 t).mpr (by omega), ?_⟩
    show i ∈ ((View.whole main_v0_5).slice (win0_14.rect t)).set
    rw [View.set_slice_whole, Rect.mem_set_unit]
    have hi := index14 t
    intro a
    match a with
    | ⟨0, _⟩ =>
      show win0_14.index t 0 * 3 ≤ (i 0 : Nat) ∧ (i 0 : Nat) < win0_14.index t 0 * 3 + 3
      rw [hi.1]; omega
    | ⟨1, _⟩ =>
      show win0_14.index t 1 * 512 ≤ (i 1 : Nat) ∧ (i 1 : Nat) < win0_14.index t 1 * 512 + 512
      rw [hi.2]; omega

theorem index15 : ∀ t : Fin cfg0.N, win0_15.index t 0 = 0 ∧ win0_15.index t 1 = 0 :=
  (by decide +kernel : ∀ t : Fin grid0.N, win0_15.index t 0 = 0 ∧ win0_15.index t 1 = 0)

theorem flushed15 (v : S1024x1024.Idx → EReal) (hv : Holds v (fun r k => ∑ t ∈ Finset.range 4096, (X m c).wo' r k t)) (t : Fin cfg0.N)
    (hf : (cfg0.win 15).flush t = true) :
    (dats m 0 c).flushed 15 t = ((cfg0.win 15).blk t).view.read (Elt Ideal) v := by
  have ht : t.val = 15 := by have := (flush0_15 t).mp hf; have := pt_lt t; omega
  have z : 256 * (15 - t.val) = 0 := by omega
  have S : Sums (m := 1024) (n := 1024) 0 (outs m c t.val t.isLt).o15 (fun r k t => (X m c).wo' r k t) := (last m c t ht).1
  show (cfg0.win 15).cut (grid0.coords t) ((dats m 0 c).after 15 t) = _
  rw [after_15]
  funext j
  rw [View.read_apply]
  obtain ⟨r, k, rfl⟩ : ∃ (r : Fin 1024) (k : Fin 1024), j = ix2 r k := ⟨j 0, j 1, ix_eta j⟩
  refine (S r k).trans ((tail_zero _).trans ?_)
  refine ((hv r k).symm.trans (congrArg v ?_))
  have hi := index15 t
  funext a
  apply Fin.ext
  match a with
  | ⟨0, _⟩ =>
    show r.val = win0_15.index t 0 * 1024 + 1 * r.val
    rw [hi.1]; omega
  | ⟨1, _⟩ =>
    show k.val = win0_15.index t 1 * 1024 + 1 * k.val
    rw [hi.2]; omega

theorem final15 (v : S1024x1024.Idx → EReal) (hv : Holds v (fun r k => ∑ t ∈ Finset.range 4096, (X m c).wo' r k t)) :
    (dats m 0 c).arrAt 15 cfg0.N = v :=
  (dats m 0 c).arrAt_eq_of_cover 15 v (fun t hf => flushed15 m c v hv t hf) fun i => by
    have h0 : (i 0 : Nat) < 1024 := (i 0).isLt
    have h1 : (i 1 : Nat) < 1024 := (i 1).isLt
    obtain ⟨t, ht⟩ : ∃ t : Fin cfg0.N, t.val = 15 := ⟨⟨15, by decide⟩, rfl⟩
    refine ⟨t, (flush0_15 t).mpr (by omega), ?_⟩
    show i ∈ ((View.whole main_v0_6).slice (win0_15.rect t)).set
    rw [View.set_slice_whole, Rect.mem_set_unit]
    have hi := index15 t
    intro a
    match a with
    | ⟨0, _⟩ =>
      show win0_15.index t 0 * 1024 ≤ (i 0 : Nat) ∧ (i 0 : Nat) < win0_15.index t 0 * 1024 + 1024
      rw [hi.1]; omega
    | ⟨1, _⟩ =>
      show win0_15.index t 1 * 1024 ≤ (i 1 : Nat) ∧ (i 1 : Nat) < win0_15.index t 1 * 1024 + 1024
      rw [hi.2]; omega

theorem index16 : ∀ t : Fin cfg0.N, win0_16.index t 0 = 0 ∧ win0_16.index t 1 = 0 :=
  (by decide +kernel : ∀ t : Fin grid0.N, win0_16.index t 0 = 0 ∧ win0_16.index t 1 = 0)

theorem flushed16 (v : S512x1024.Idx → EReal) (hv : Holds v (fun r k => ∑ t ∈ Finset.range 4096, (X m c).wa' r k t)) (t : Fin cfg0.N)
    (hf : (cfg0.win 16).flush t = true) :
    (dats m 0 c).flushed 16 t = ((cfg0.win 16).blk t).view.read (Elt Ideal) v := by
  have ht : t.val = 15 := by have := (flush0_16 t).mp hf; have := pt_lt t; omega
  have z : 256 * (15 - t.val) = 0 := by omega
  have S : Sums (m := 512) (n := 1024) 0 (outs m c t.val t.isLt).o16 (fun r k t => (X m c).wa' r k t) := (last m c t ht).2.1
  show (cfg0.win 16).cut (grid0.coords t) ((dats m 0 c).after 16 t) = _
  rw [after_16]
  funext j
  rw [View.read_apply]
  obtain ⟨r, k, rfl⟩ : ∃ (r : Fin 512) (k : Fin 1024), j = ix2 r k := ⟨j 0, j 1, ix_eta j⟩
  refine (S r k).trans ((tail_zero _).trans ?_)
  refine ((hv r k).symm.trans (congrArg v ?_))
  have hi := index16 t
  funext a
  apply Fin.ext
  match a with
  | ⟨0, _⟩ =>
    show r.val = win0_16.index t 0 * 512 + 1 * r.val
    rw [hi.1]; omega
  | ⟨1, _⟩ =>
    show k.val = win0_16.index t 1 * 1024 + 1 * k.val
    rw [hi.2]; omega

theorem final16 (v : S512x1024.Idx → EReal) (hv : Holds v (fun r k => ∑ t ∈ Finset.range 4096, (X m c).wa' r k t)) :
    (dats m 0 c).arrAt 16 cfg0.N = v :=
  (dats m 0 c).arrAt_eq_of_cover 16 v (fun t hf => flushed16 m c v hv t hf) fun i => by
    have h0 : (i 0 : Nat) < 512 := (i 0).isLt
    have h1 : (i 1 : Nat) < 1024 := (i 1).isLt
    obtain ⟨t, ht⟩ : ∃ t : Fin cfg0.N, t.val = 15 := ⟨⟨15, by decide⟩, rfl⟩
    refine ⟨t, (flush0_16 t).mpr (by omega), ?_⟩
    show i ∈ ((View.whole main_v0_7).slice (win0_16.rect t)).set
    rw [View.set_slice_whole, Rect.mem_set_unit]
    have hi := index16 t
    intro a
    match a with
    | ⟨0, _⟩ =>
      show win0_16.index t 0 * 512 ≤ (i 0 : Nat) ∧ (i 0 : Nat) < win0_16.index t 0 * 512 + 512
      rw [hi.1]; omega
    | ⟨1, _⟩ =>
      show win0_16.index t 1 * 1024 ≤ (i 1 : Nat) ∧ (i 1 : Nat) < win0_16.index t 1 * 1024 + 1024
      rw [hi.2]; omega

theorem index17 : ∀ t : Fin cfg0.N, win0_17.index t 0 = 0 ∧ win0_17.index t 1 = 0 :=
  (by decide +kernel : ∀ t : Fin grid0.N, win0_17.index t 0 = 0 ∧ win0_17.index t 1 = 0)

theorem flushed17 (v : S512x1024.Idx → EReal) (hv : Holds v (fun r k => ∑ t ∈ Finset.range 4096, (X m c).wc' r k t)) (t : Fin cfg0.N)
    (hf : (cfg0.win 17).flush t = true) :
    (dats m 0 c).flushed 17 t = ((cfg0.win 17).blk t).view.read (Elt Ideal) v := by
  have ht : t.val = 15 := by have := (flush0_17 t).mp hf; have := pt_lt t; omega
  have z : 256 * (15 - t.val) = 0 := by omega
  have S : Sums (m := 512) (n := 1024) 0 (outs m c t.val t.isLt).o17 (fun r k t => (X m c).wc' r k t) := (last m c t ht).2.2
  show (cfg0.win 17).cut (grid0.coords t) ((dats m 0 c).after 17 t) = _
  rw [after_17]
  funext j
  rw [View.read_apply]
  obtain ⟨r, k, rfl⟩ : ∃ (r : Fin 512) (k : Fin 1024), j = ix2 r k := ⟨j 0, j 1, ix_eta j⟩
  refine (S r k).trans ((tail_zero _).trans ?_)
  refine ((hv r k).symm.trans (congrArg v ?_))
  have hi := index17 t
  funext a
  apply Fin.ext
  match a with
  | ⟨0, _⟩ =>
    show r.val = win0_17.index t 0 * 512 + 1 * r.val
    rw [hi.1]; omega
  | ⟨1, _⟩ =>
    show k.val = win0_17.index t 1 * 1024 + 1 * k.val
    rw [hi.2]; omega

theorem final17 (v : S512x1024.Idx → EReal) (hv : Holds v (fun r k => ∑ t ∈ Finset.range 4096, (X m c).wc' r k t)) :
    (dats m 0 c).arrAt 17 cfg0.N = v :=
  (dats m 0 c).arrAt_eq_of_cover 17 v (fun t hf => flushed17 m c v hv t hf) fun i => by
    have h0 : (i 0 : Nat) < 512 := (i 0).isLt
    have h1 : (i 1 : Nat) < 1024 := (i 1).isLt
    obtain ⟨t, ht⟩ : ∃ t : Fin cfg0.N, t.val = 15 := ⟨⟨15, by decide⟩, rfl⟩
    refine ⟨t, (flush0_17 t).mpr (by omega), ?_⟩
    show i ∈ ((View.whole main_v0_8).slice (win0_17.rect t)).set
    rw [View.set_slice_whole, Rect.mem_set_unit]
    have hi := index17 t
    intro a
    match a with
    | ⟨0, _⟩ =>
      show win0_17.index t 0 * 512 ≤ (i 0 : Nat) ∧ (i 0 : Nat) < win0_17.index t 0 * 512 + 512
      rw [hi.1]; omega
    | ⟨1, _⟩ =>
      show win0_17.index t 1 * 1024 ≤ (i 1 : Nat) ∧ (i 1 : Nat) < win0_17.index t 1 * 1024 + 1024
      rw [hi.2]; omega

end Cert.MixBlock
-- ==== Proof.MixEq.lean ====
module

public import proofs.«01_k».proof.Proof.MixFinal
public import proofs.«01_k».proof.Defs
public import proofs.«01_k».proof.Proof.Gen.ReferenceIdeal.Run
public import proofs.«01_k».proof.Proof.Gen.ReferenceIdeal.Read

@[expose] public section

set_option maxRecDepth 16384

/-!
# The kernel and the reference compute the same nine gradients
-/

noncomputable section

open Idealize.ShloMosaic Idealize.ShloMosaic.TcCoe Idealize.ShloMosaic.Tactic
open Cert.KernelIdeal Cert.KernelIdeal.Gen
open Cert.MixSpec Cert.MixFrame

namespace Cert.MixBlock

variable (m : (ℓ : Loc nD τ sig) → Buf (Elt Ideal) ℓ) (c : Dev nD)

/-- Result 0, as the reference's value at the kernel's arguments. -/
def r0 := Cert.ReferenceIdeal.Read.val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem k0 : (dats m 0 c).arrAt 9 cfg0.N = r0 m c :=
  final9 m c _ (Cert.MixRef.h113 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))

/-- Result 1, as the reference's value at the kernel's arguments. -/
def r1 := Cert.ReferenceIdeal.Read.val_main_v114 (F := Ideal) (m ((c.tc : Thread nD τ).loc main_arg0)) (m ((c.tc : Thread nD τ).loc main_arg1)) (m ((c.tc : Thread nD τ).loc main_arg2)) (m ((c.tc : Thread nD τ).loc main_arg4))

theorem k1 : (dats m 0 c).arrAt 10 cfg0.N = r1 m c :=
  final10 m c _ (Cert.MixRef.h114 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))

/-- Result 2, as the reference's value at the kernel's arguments. -/
def r2 := Cert.ReferenceIdeal.Read.val_main_v115 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7))

theorem k2 : (dats m 0 c).arrAt 11 cfg0.N = r2 m c :=
  final11 m c _ (Cert.MixRef.h115 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))

/-- Result 3, as the reference's value at the kernel's arguments. -/
def r3 := Cert.ReferenceIdeal.Read.val_main_v116 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7))

theorem k3 : (dats m 0 c).arrAt 12 cfg0.N = r3 m c :=
  final12 m c _ (Cert.MixRef.h111 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))

/-- Result 4, as the reference's value at the kernel's arguments. -/
def r4 := Cert.ReferenceIdeal.Read.val_main_v117 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7))

theorem k4 : (dats m 0 c).arrAt 13 cfg0.N = r4 m c :=
  final13 m c _ (Cert.MixRef.h117 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))

/-- Result 5, as the reference's value at the kernel's arguments. -/
def r5 := Cert.ReferenceIdeal.Read.val_main_v107 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))

theorem k5 : (dats m 0 c).arrAt 14 cfg0.N = r5 m c :=
  final14 m c _ (Cert.MixRef.h107 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))

/-- Result 6, as the reference's value at the kernel's arguments. -/
def r6 := Cert.ReferenceIdeal.Read.val_main_v118 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem k6 : (dats m 0 c).arrAt 15 cfg0.N = r6 m c :=
  final15 m c _ (Cert.MixRef.h118 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))

/-- Result 7, as the reference's value at the kernel's arguments. -/
def r7 := Cert.ReferenceIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3))

theorem k7 : (dats m 0 c).arrAt 16 cfg0.N = r7 m c :=
  final16 m c _ (Cert.MixRef.h119 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))

/-- Result 8, as the reference's value at the kernel's arguments. -/
def r8 := Cert.ReferenceIdeal.Read.val_main_v120 (F := Ideal) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))

theorem k8 : (dats m 0 c).arrAt 17 cfg0.N = r8 m c :=
  final17 m c _ (Cert.MixRef.h120 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))

theorem kernel_run (g : Dev nD → PrngReg) : θ_run defs (onTc (τ := τ) (main (F := Ideal))) ⟨m, fun _ => 0, g⟩ fun r => ∀ c : Dev nD,
      r.2.mem ((c.tc : Thread nD τ).loc main_v0_0) = r0 m c
      ∧ r.2.mem ((c.tc : Thread nD τ).loc main_v0_1) = r1 m c
      ∧ r.2.mem ((c.tc : Thread nD τ).loc main_v0_2) = r2 m c
      ∧ r.2.mem ((c.tc : Thread nD τ).loc main_v0_3) = r3 m c
      ∧ r.2.mem ((c.tc : Thread nD τ).loc main_v0_4) = r4 m c
      ∧ r.2.mem ((c.tc : Thread nD τ).loc main_v0_5) = r5 m c
      ∧ r.2.mem ((c.tc : Thread nD τ).loc main_v0_6) = r6 m c
      ∧ r.2.mem ((c.tc : Thread nD τ).loc main_v0_7) = r7 m c
      ∧ r.2.mem ((c.tc : Thread nD τ).loc main_v0_8) = r8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 9).trans (k0 m c),
      ((h c).1 10).trans (k1 m c),
      ((h c).1 11).trans (k2 m c),
      ((h c).1 12).trans (k3 m c),
      ((h c).1 13).trans (k4 m c),
      ((h c).1 14).trans (k5 m c),
      ((h c).1 15).trans (k6 m c),
      ((h c).1 16).trans (k7 m c),
      ((h c).1 17).trans (k8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c)))⟩)
    (run m g)

/-- The value claim: on the extended reals the kernel's nine results are the reference's. -/
theorem algebraic : @Cert.algebraic_KernelIdeal_ReferenceIdeal Cert.KernelIdeal.Gen.facts Cert.ReferenceIdeal.Gen.facts := by
  intro m g m' g' _ hm
  refine ⟨r0 m, r1 m, r2 m, r3 m, r4 m, r5 m, r6 m, r7 m, r8 m, kernel_run m g, ?_⟩
  refine (θ_run Cert.ReferenceIdeal.defs _ _).mono (fun r h c => ?_) (Cert.ReferenceIdeal.Value.run m' g')
  obtain ⟨e0, e1, e2, e3, e4, e5, e6, e7⟩ := hm c
  obtain ⟨a0, a1, a2, a3, a4, a5, a6, a7, a8, rest⟩ := h c
  refine ⟨a0.trans ?_, a1.trans ?_, a2.trans ?_, a3.trans ?_, a4.trans ?_, a5.trans ?_, a6.trans ?_, a7.trans ?_, a8.trans ?_, rest⟩
  · rw [Cert.ReferenceIdeal.Read.val_main_v113_eq m' c]; unfold r0; rw [← e0, ← e1, ← e2, ← e3, ← e4, ← e5, ← e6, ← e7]
  · unfold r1; rw [← e0, ← e1, ← e2, ← e4]; exact Cert.ReferenceIdeal.Read.val_main_v114_eq _ _ _ _
  · unfold r2; rw [← e0, ← e1, ← e2, ← e5, ← e6, ← e7]; exact Cert.ReferenceIdeal.Read.val_main_v115_eq _ _ _ _ _ _
  · unfold r3; rw [← e0, ← e1, ← e2, ← e5, ← e6, ← e7]; exact Cert.ReferenceIdeal.Read.val_main_v116_eq _ _ _ _ _ _
  · unfold r4; rw [← e0, ← e1, ← e2, ← e5, ← e6, ← e7]; exact Cert.ReferenceIdeal.Read.val_main_v117_eq _ _ _ _ _ _
  · rw [Cert.ReferenceIdeal.Read.val_main_v107_eq m' c]; unfold r5; rw [← e0, ← e1, ← e2, ← e5, ← e6]
  · unfold r6; rw [← e0, ← e2, ← e3, ← e4, ← e5, ← e6, ← e7]; exact Cert.ReferenceIdeal.Read.val_main_v118_eq _ _ _ _ _ _ _
  · unfold r7; rw [← e0, ← e1, ← e2, ← e3]; exact Cert.ReferenceIdeal.Read.val_main_v119_eq _ _ _ _
  · unfold r8; rw [← e0, ← e1, ← e2, ← e6, ← e7]; exact Cert.ReferenceIdeal.Read.val_main_v120_eq _ _ _ _ _

end Cert.MixBlock
-- ==== Proof.lean ====
module

public import proofs.«01_k».proof.Defs
public import proofs.«01_k».proof.Proof.Gen.Kernel
public import proofs.«01_k».proof.Proof.BitFrame
public import proofs.«01_k».proof.Proof.Gen.KernelIdeal
public import proofs.«01_k».proof.Proof.Gen.ReferenceIdeal
public import proofs.«01_k».proof.Proof.Gen.ReferenceIdeal.Run
public import proofs.«01_k».proof.Proof.Gen.GradUp
public import proofs.«01_k».proof.Proof.Gen.GradUp.Frame
public import proofs.«01_k».proof.Proof.Gen.GradUpIdeal
public import proofs.«01_k».proof.Proof.Gen.GradUpIdeal.Value
public import proofs.«01_k».proof.Proof.Gen.GradUpRefIdeal
public import proofs.«01_k».proof.Proof.Gen.GradUpRefIdeal.Run
public import proofs.«01_k».proof.Proof.GradUpEq
public import proofs.«01_k».proof.Proof.Gen.GradDown
public import proofs.«01_k».proof.Proof.Gen.GradDown.Frame
public import proofs.«01_k».proof.Proof.Gen.GradDownIdeal
public import proofs.«01_k».proof.Proof.Gen.GradDownIdeal.Value
public import proofs.«01_k».proof.Proof.Gen.GradDownRefIdeal
public import proofs.«01_k».proof.Proof.Gen.GradDownRefIdeal.Run
public import proofs.«01_k».proof.Proof.GradDownEq
public import proofs.«01_k».proof.Proof.Gen.InBwd
public import proofs.«01_k».proof.Proof.Gen.InBwd.Frame
public import proofs.«01_k».proof.Proof.Gen.InBwdIdeal
public import proofs.«01_k».proof.Proof.Gen.InBwdIdeal.Value
public import proofs.«01_k».proof.Proof.Gen.InBwdRefIdeal
public import proofs.«01_k».proof.Proof.Gen.InBwdRefIdeal.Run
public import proofs.«01_k».proof.Proof.InBwdEq
public import proofs.«01_k».proof.Proof.Gen.InFwd
public import proofs.«01_k».proof.Proof.Gen.InFwd.Frame
public import proofs.«01_k».proof.Proof.Gen.InFwdIdeal
public import proofs.«01_k».proof.Proof.Gen.InFwdIdeal.Value
public import proofs.«01_k».proof.Proof.Gen.InFwdRefIdeal
public import proofs.«01_k».proof.Proof.Gen.InFwdRefIdeal.Run
public import proofs.«01_k».proof.Proof.InFwdEq
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.MixFwdEq
public import proofs.«01_k».proof.Proof.Gen.GradIn
public import proofs.«01_k».proof.Proof.Gen.GradIn.Frame
public import proofs.«01_k».proof.Proof.Gen.GradInIdeal
public import proofs.«01_k».proof.Proof.Gen.GradInRefIdeal
public import proofs.«01_k».proof.Proof.Gen.GradInRefIdeal.Run
public import proofs.«01_k».proof.Proof.GradInEq
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.FfnUpEq
public import proofs.«01_k».proof.Proof.MixFrame
public import proofs.«01_k».proof.Proof.MixEq

@[expose] public section

noncomputable section

namespace Cert.Proof

open Idealize.ShloMosaic Idealize.SL.Sem

/-- The reference keeps its arguments, and declares no semaphore. -/
theorem reference_frame : @Cert.quiescent_ReferenceIdeal Cert.ReferenceIdeal.Gen.facts := fun m ρ _ =>
  (θ_run Cert.ReferenceIdeal.defs _ _).mono (fun r h => ⟨fun c => (h c).2.2.2.2.2.2.2.2.2,
      Idealize.ShloMosaic.sem_eq_zero_of_no_sems (by decide) r.2⟩)
    (Cert.ReferenceIdeal.Value.run m ρ)

/-- Everything stated in the statement. -/
theorem claim : Cert.Claim := ⟨Cert.Kernel.Gen.facts, Cert.KernelIdeal.Gen.facts, Cert.ReferenceIdeal.Gen.facts,
  Cert.GradUp.Gen.facts, Cert.GradUpIdeal.Gen.facts, Cert.GradUpRefIdeal.Gen.facts, Cert.GradDown.Gen.facts, Cert.GradDownIdeal.Gen.facts, Cert.GradDownRefIdeal.Gen.facts,
  Cert.InBwd.Gen.facts, Cert.InBwdIdeal.Gen.facts, Cert.InBwdRefIdeal.Gen.facts,
  Cert.InFwd.Gen.facts, Cert.InFwdIdeal.Gen.facts, Cert.InFwdRefIdeal.Gen.facts,
  Cert.MixFwd.Gen.facts, Cert.MixFwdIdeal.Gen.facts, Cert.MixFwdRefIdeal.Gen.facts,
  Cert.GradIn.Gen.facts, Cert.GradInIdeal.Gen.facts, Cert.GradInRefIdeal.Gen.facts,
  Cert.FfnUp.Gen.facts, Cert.FfnUpIdeal.Gen.facts, Cert.FfnUpRefIdeal.Gen.facts,
  fun m ρ _ => Cert.BitFrame.frame m ρ, fun m ρ _ => Cert.MixFrame.frame m ρ, reference_frame,
  fun m ρ _ => Cert.GradUp.Gen.frame m ρ, fun m ρ _ => Cert.GradUpIdeal.Gen.frame m ρ, Cert.GradUpRef.frame,
  fun m ρ _ => Cert.GradDown.Gen.frame m ρ, fun m ρ _ => Cert.GradDownIdeal.Gen.frame m ρ, Cert.GradDownRef.frame,
  fun m ρ _ => Cert.InBwd.Gen.frame m ρ, fun m ρ _ => Cert.InBwdIdeal.Gen.frame m ρ, Cert.InBwdRef.frame,
  fun m ρ _ => Cert.InFwd.Gen.frame m ρ, fun m ρ _ => Cert.InFwdIdeal.Gen.frame m ρ, Cert.InFwdRef.frame,
  fun m ρ _ => Cert.MixFwd.Gen.frame m ρ, fun m ρ _ => Cert.MixFwdIdeal.Gen.frame m ρ, Cert.MixFwdRef.frame,
  fun m ρ _ => Cert.GradIn.Gen.frame m ρ, Cert.GradInEq.frame, Cert.GradInRef.frame,
  fun m ρ _ => Cert.FfnUp.Gen.frame m ρ, fun m ρ _ => Cert.FfnUpIdeal.Gen.frame m ρ, Cert.FfnUpRef.frame,
  trivial, Cert.MixBlock.algebraic, trivial, Cert.GradUpEq.algebraic, trivial, Cert.GradDownEq.algebraic,
  trivial, Cert.InBwdEq.algebraic,
  trivial, Cert.InFwdEq.algebraic,
  trivial, Cert.MixFwdEq.algebraic,
  trivial, Cert.GradInEq.algebraic,
  trivial, Cert.FfnUpEq.algebraic⟩

end Cert.Proof

end
